-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v75) = v0 c
          ∧ r.2.mem ((c.tc : Thread Cert.Reference8Ideal.nD Cert.Reference8Ideal.τ).loc Cert.Reference8Ideal.main_v76) = v1 c
          ∧ r.2.mem ((c.tc : Thread Cert.Reference8Ideal.nD Cert.Reference8Ideal.τ).loc Cert.Reference8Ideal.main_v77) = v2 c
          ∧ r.2.mem ((c.tc : Thread Cert.Reference8Ideal.nD Cert.Reference8Ideal.τ).loc Cert.Reference8Ideal.main_v78) = v3 c
          ∧ r.2.mem ((c.tc : Thread Cert.Reference8Ideal.nD Cert.Reference8Ideal.τ).loc Cert.Reference8Ideal.main_v79) = v4 c
          ∧ r.2.mem ((c.tc : Thread Cert.Reference8Ideal.nD Cert.Reference8Ideal.τ).loc Cert.Reference8Ideal.main_v80) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v58) = v0 c
          ∧ r.2.mem ((c.tc : Thread Cert.Reference15Ideal.nD Cert.Reference15Ideal.τ).loc Cert.Reference15Ideal.main_v62) = v1 c
          ∧ r.2.mem ((c.tc : Thread Cert.Reference15Ideal.nD Cert.Reference15Ideal.τ).loc Cert.Reference15Ideal.main_v56) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v168) = v0 c
          ∧ r.2.mem ((c.tc : Thread Cert.Reference16Ideal.nD Cert.Reference16Ideal.τ).loc Cert.Reference16Ideal.main_v157) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v164) = v0 c
          ∧ r.2.mem ((c.tc : Thread Cert.Reference17Ideal.nD Cert.Reference17Ideal.τ).loc Cert.Reference17Ideal.main_v153) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v141) = v0 c
          ∧ r.2.mem ((c.tc : Thread Cert.Reference18Ideal.nD Cert.Reference18Ideal.τ).loc Cert.Reference18Ideal.main_v130) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v43) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v43) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v7) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_v12) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8x2304x128 : Shape := ⟨3, ![8, 2304, 128]⟩
abbrev S2x2304x128 : Shape := ⟨3, ![2, 2304, 128]⟩
abbrev S2048x1024 : Shape := ⟨2, ![2048, 1024]⟩
abbrev S_ : Shape := ⟨0, ![]⟩

class Facts : Prop where
  bitsLt_bf16_f32 : FTy.bits .bf16 < FTy.bits .f32
  bcast_S_S8x2304x128 : S_.BroadcastsInDim S8x2304x128 (![] : Fin 0 → Fin S8x2304x128.rank)
  reducesTo_S8x2304x128_S_d0_1_2 : S8x2304x128.ReducesTo [0, 1, 2] S_
  h_S_ : 0 < S_.numel
  bcast_S_S2x2304x128 : S_.BroadcastsInDim S2x2304x128 (![] : Fin 0 → Fin S2x2304x128.rank)
  reducesTo_S2x2304x128_S_d0_1_2 : S2x2304x128.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v16 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v16 main_v20
  main_v21

def fn {F : FTy → Type} [FloatOps F] (main_arg0 : FVec F S8x2304x128 .bf16) (main_arg1 : FVec F S2x2304x128 .bf16) (main_arg2 : FVec F S2x2304x128 .bf16) (main_arg3 : FVec F S2048x1024 .f32) : IVec S_ 1 :=
  let main_v0 : FVec F S8x2304x128 .f32 := (extf .f32 · bitsLt_bf16_f32) main_arg0
  let main_v1 : FVec F S8x2304x128 .f32 := Host.absf main_v0
  let main_cst : FVec F S_ .f32 := constant S_ .f32 0x7F800000#32
  let main_v2 : FVec F S8x2304x128 .f32 := broadcastInDim S8x2304x128 ![] bcast_S_S8x2304x128 main_cst
  let main_v3 : IVec S8x2304x128 1 := cmpf .olt main_v1 main_v2
  let main_c : IVec S_ 1 := constantI S_ 1 1#1
  let main_v4 : IVec S_ 1 := (fun x v => Host.reduce IntOp.andi x v reducesTo_S8x2304x128_S_d0_1_2 h_S_) main_v3 main_c
  let main_v5 : FVec F S2x2304x128 .f32 := (extf .f32 · bitsLt_bf16_f32) main_arg1
  let main_v6 : FVec F S2x2304x128 .f32 := Host.absf main_v5
  let main_cst_0 : FVec F S_ .f32 := constant S_ .f32 0x7F800000#32
  let main_v7 : FVec F S2x2304x128 .f32 := broadcastInDim S2x2304x128 ![] bcast_S_S2x2304x128 main_cst_0
  let main_v8 : IVec S2x2304x128 1 := cmpf .olt main_v6 main_v7
  let main_c_1 : IVec S_ 1 := constantI S_ 1 1#1
  let main_v9 : IVec S_ 1 := (fun x v => Host.reduce IntOp.andi x v reducesTo_S2x2304x128_S_d0_1_2 h_S_) main_v8 main_c_1
  let main_v10 : IVec S_ 1 := andi main_v4 main_v9
  let main_v11 : FVec F S2x2304x128 .f32 := (extf .f32 · bitsLt_bf16_f32) main_arg2
  let main_v12 : FVec F S2x2304x128 .f32 := Host.absf main_v11
  let main_cst_2 : FVec F S_ .f32 := constant S_ .f32 0x7F800000#32
  let main_v13 : FVec F S2x2304x128 .f32 := broadcastInDim S2x2304x128 ![] bcast_S_S2x2304x128 main_cst_2
  let main_v14 : IVec S2x2304x128 1 := cmpf .olt main_v12 main_v13
  let main_c_3 : IVec S_ 1 := constantI S_ 1 1#1
  let main_v15 : IVec S_ 1 := (fun x v => Host.reduce IntOp.andi x v reducesTo_S2x2304x128_S_d0_1_2 h_S_) main_v14 main_c_3
  let main_v16 : IVec S_ 1 := andi main_v10 main_v15
  let main_v17 : FVec F S2048x1024 .f32 := Host.absf main_arg3
  fn_part1 (F := F) main_v16 main_v17
-- ==== Kernel.lean ====
abbrev S8x2304x128 : Shape := ⟨3, ![8, 2304, 128]⟩
abbrev S2x2304x128 : Shape := ⟨3, ![2, 2304, 128]⟩
abbrev S2048x1024 : Shape := ⟨2, ![2048, 1024]⟩
abbrev S8x2048x128 : Shape := ⟨3, ![8, 2048, 128]⟩
abbrev S2x4x2048x128 : Shape := ⟨4, ![2, 4, 2048, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2048x2x4x128 : Shape := ⟨4, ![2048, 2, 4, 128]⟩
abbrev S4x128x128 : Shape := ⟨3, ![4, 128, 128]⟩
abbrev S1x2304x128 : Shape := ⟨3, ![1, 2304, 128]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S2304x128 : Shape := ⟨2, ![2304, 128]⟩
abbrev S128x128 : Shape := ⟨2, ![128, 128]⟩
abbrev S512x2304 : Shape := ⟨2, ![512, 2304]⟩

abbrev nBuf : Space → Nat
  | .hbm => 38
  | .vmem => 18
  | .smem => 0
  | _ => 0

abbrev bufTy : (tb : Table) → Fin (tcTables nBuf tb) → BufTy
  | .hbm, ⟨0, _⟩ => ⟨S8x2304x128, .bf16⟩
  | .hbm, ⟨1, _⟩ => ⟨S2x2304x128, .bf16⟩
  | .hbm, ⟨2, _⟩ => ⟨S2x2304x128, .bf16⟩
  | .hbm, ⟨3, _⟩ => ⟨S2048x1024, .f32⟩
  | .hbm, ⟨4, _⟩ => ⟨S8x2048x128, .bf16⟩
  | .hbm, ⟨5, _⟩ => ⟨S8x2048x128, .f32⟩
  | .hbm, ⟨6, _⟩ => ⟨S2x4x2048x128, .f32⟩
  | .hbm, ⟨7, _⟩ => ⟨S2x2304x128, .f32⟩
  | .hbm, ⟨8, _⟩ => ⟨S2x4x2048x2304, .f32⟩
  | .hbm, ⟨9, _⟩ => ⟨S_, .f32⟩
  | .hbm, ⟨10, _⟩ => ⟨S2x4x2048x2304, .f32⟩
  | .hbm, ⟨11, _⟩ => ⟨S2x4x2048x2304, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x2304, .f32⟩
  | .hbm, ⟨16, _⟩ => ⟨S2x4x2048x2304, .f32⟩
  | .hbm, ⟨17, _⟩ => ⟨S2x4x2048x2304, .f32⟩
  | .hbm, ⟨18, _⟩ => ⟨S_, .f32⟩
  | .hbm, ⟨19, _⟩ => ⟨S2x4x2048, .f32⟩
  | .hbm, ⟨20, _⟩ => ⟨S2x4x2048x1, .f32⟩
  | .hbm, ⟨21, _⟩ => ⟨S2x4x2048x2304, .f32⟩
  | .hbm, ⟨22, _⟩ => ⟨S2x4x2048x2304, .f32⟩
  | .hbm, ⟨23, _⟩ => ⟨S2x2304x128, .f32⟩
  | .hbm, ⟨24, _⟩ => ⟨S2x4x2048x128, .f32⟩
  | .hbm, ⟨25, _⟩ => ⟨S2048x2x4x128, .f32⟩
  | .hbm, ⟨26, _⟩ => ⟨S2048x1024, .f32⟩
  | .hbm, ⟨27, _⟩ => ⟨S2x4x2048x1, .f32⟩
  | .hbm, ⟨28, _⟩ => ⟨S2x4x2048x1, .f32⟩
  | .hbm, ⟨29, _⟩ => ⟨S_, .f32⟩
  | .hbm, ⟨30, _⟩ => ⟨S_, .f32⟩
  | .hbm, ⟨31, _⟩ => ⟨S2x4x2048x1, .f32⟩
  | .hbm, ⟨32, _⟩ => ⟨S2x4x2048x1, .f32⟩
  | .hbm, ⟨33, _⟩ => ⟨S2x4x2048x128, .f32⟩
  | .hbm, ⟨34, _⟩ => ⟨S8x2048x128, .f32⟩
  | .hbm, ⟨35, _⟩ => ⟨S8x2048x128, .f32⟩
  | .hbm, ⟨36, _⟩ => ⟨S2x2304x128, .f32⟩
  | .hbm, ⟨37, _⟩ => ⟨S2x2304x128, .f32⟩
  | .local _ .vmem, ⟨0, _⟩ => ⟨S4x128x128, .bf16⟩
  | .local _ .vmem, ⟨1, _⟩ => ⟨S4x128x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S128x512, .f32⟩
  | .local _ .vmem, ⟨7, _⟩ => ⟨S128x512, .f32⟩
  | .local _ .vmem, ⟨8, _⟩ => ⟨S4x128x128, .f32⟩
  | .local _ .vmem, ⟨9, _⟩ => ⟨S4x128x128, .f32⟩
  | .local _ .vmem, ⟨10, _⟩ => ⟨S128x512, .f32⟩
  | .local _ .vmem, ⟨11, _⟩ => ⟨S128x512, .f32⟩
  | .local _ .vmem, ⟨12, _⟩ => ⟨S4x128x128, .f32⟩
  | .local _ .vmem, ⟨13, _⟩ => ⟨S4x128x128, .f32⟩
  | .local _ .vmem, ⟨14, _⟩ => ⟨S1x2304x128, .f32⟩
  | .local _ .vmem, ⟨15, _⟩ => ⟨S1x2304x128, .f32⟩
  | .local _ .vmem, ⟨16, _⟩ => ⟨S1x2304x128, .f32⟩
  | .local _ .vmem, ⟨17, _⟩ => ⟨S1x2304x128, .f32⟩
  | _, _ => ⟨S8x2304x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S8x2304x128 : Shape := ⟨3, ![8, 2304, 128]⟩
abbrev S2x2304x128 : Shape := ⟨3, ![2, 2304, 128]⟩
abbrev S2048x1024 : Shape := ⟨2, ![2048, 1024]⟩
abbrev S8x2048x128 : Shape := ⟨3, ![8, 2048, 128]⟩
abbrev S2x4x2048x128 : Shape := ⟨4, ![2, 4, 2048, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S2048x2x4x128 : Shape := ⟨4, ![2048, 2, 4, 128]⟩
abbrev S2x128x2304 : Shape := ⟨3, ![2, 128, 2304]⟩

abbrev nBuf : Space → Nat
  | .hbm => 82
  | .vmem => 0
  | .smem => 0
  | _ => 0

abbrev bufTy : (tb : Table) → Fin (tcTables nBuf tb) → BufTy
  | .hbm, ⟨0, _⟩ => ⟨S8x2304x128, .bf16⟩
  | .hbm, ⟨1, _⟩ => ⟨S2x2304x128, .bf16⟩
  | .hbm, ⟨2, _⟩ => ⟨S2x2304x128, .bf16⟩
  | .hbm, ⟨3, _⟩ => ⟨S2048x1024, .f32⟩
  | .hbm, ⟨4, _⟩ => ⟨S8x2304x128, .f32⟩
  | .hbm, ⟨5, _⟩ => ⟨S2x2304x128, .f32⟩
  | .hbm, ⟨6, _⟩ => ⟨S2x2304x128, .f32⟩
  | .hbm, ⟨7, _⟩ => ⟨S8x2048x128, .f32⟩
  | .hbm, ⟨8, _⟩ => ⟨S2x4x2048x128, .f32⟩
  | .hbm, ⟨9, _⟩ => ⟨S2x4x2048x2304, .f32⟩
  | .hbm, ⟨10, _⟩ => ⟨S_, .f32⟩
  | .hbm, ⟨11, _⟩ => ⟨S2x4x2048x2304, .f32⟩
  | .hbm, ⟨12, _⟩ => ⟨S2x4x2048x2304, .f32⟩
  | .hbm, ⟨13, _⟩ => ⟨S_, .f32⟩
  | .hbm, ⟨14, _⟩ => ⟨S2x4x2048, .f32⟩
  | .hbm, ⟨15, _⟩ => ⟨S2x4x2048x1, .f32⟩
  | .hbm, ⟨16, _⟩ => ⟨S2x4x2048x2304, .f32⟩
  | .hbm, ⟨17, _⟩ => ⟨S2x4x2048x2304, .i1⟩
  | .hbm, ⟨18, _⟩ => ⟨S2x4x2048x2304, .f32⟩
  | .hbm, ⟨19, _⟩ => ⟨S_, .f32⟩
  | .hbm, ⟨20, _⟩ => ⟨S2x4x2048, .f32⟩
  | .hbm, ⟨21, _⟩ => ⟨S_, .f32⟩
  | .hbm, ⟨22, _⟩ => ⟨S2x4x2048, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .i1⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048, .f32⟩
  | .hbm, ⟨38, _⟩ => ⟨S2x4x2048x1, .f32⟩
  | .hbm, ⟨39, _⟩ => ⟨S2x4x2048x2304, .f32⟩
  | .hbm, ⟨40, _⟩ => ⟨S2x4x2048x2304, .f32⟩
  | .hbm, ⟨41, _⟩ => ⟨S2x4x2048x2304, .f32⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S2x4x2048x2304, .f32⟩
  | .hbm, ⟨46, _⟩ => ⟨S2x4x2048x2304, .f32⟩
  | .hbm, ⟨47, _⟩ => ⟨S2x4x2048x1, .f32⟩
  | .hbm, ⟨48, _⟩ => ⟨S_, .f32⟩
  | .hbm, ⟨49, _⟩ => ⟨S2x4x2048x1, .f32⟩
  | .hbm, ⟨50, _⟩ => ⟨S2x4x2048x1, .f32⟩
  | .hbm, ⟨51, _⟩ => ⟨S2x128x4x2048, .f32⟩
  | .hbm, ⟨52, _⟩ => ⟨S2048x2x4x128, .f32⟩
  | .hbm, ⟨53, _⟩ => ⟨S2048x1024, .f32⟩
  | .hbm, ⟨54, _⟩ => ⟨S2048x2x4x128, .f32⟩
  | .hbm, ⟨55, _⟩ => ⟨S2x128x4x2048, .f32⟩
  | .hbm, ⟨56, _⟩ => ⟨S2x4x2048x2304, .f32⟩
  | .hbm, ⟨57, _⟩ => ⟨S2x128x2304, .f32⟩
  | .hbm, ⟨58, _⟩ => ⟨S2x2304x128, .f32⟩
  | .hbm, ⟨59, _⟩ => ⟨S2x4x2048x2304, .f32⟩
  | .hbm, ⟨60, _⟩ => ⟨S2x4x2048x2304, .f32⟩
  | .hbm, ⟨61, _⟩ => ⟨S2x4x2048x2304, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x1, .f32⟩
  | .hbm, ⟨66, _⟩ => ⟨S2x4x2048x2304, .f32⟩
  | .hbm, ⟨67, _⟩ => ⟨S2x4x2048x2304, .f32⟩
  | .hbm, ⟨68, _⟩ => ⟨S_, .f32⟩
  | .hbm, ⟨69, _⟩ => ⟨S2x4x2048, .f32⟩
  | .hbm, ⟨70, _⟩ => ⟨S2x4x2048x2304, .f32⟩
  | .hbm, ⟨71, _⟩ => ⟨S2x4x2048x2304, .f32⟩
  | .hbm, ⟨72, _⟩ => ⟨S2x4x2048x2304, .f32⟩
  | .hbm, ⟨73, _⟩ => ⟨S_, .f32⟩
  | .hbm, ⟨74, _⟩ => ⟨S2x4x2048x2304, .f32⟩
  | .hbm, ⟨75, _⟩ => ⟨S2x4x2048x2304, .f32⟩
  | .hbm, ⟨76, _⟩ => ⟨S2x2304x128, .f32⟩
  | .hbm, ⟨77, _⟩ => ⟨S2x4x2048x128, .f32⟩
  | .hbm, ⟨78, _⟩ => ⟨S8x2048x128, .f32⟩
  | .hbm, ⟨79, _⟩ => ⟨S_, .f32⟩
  | .hbm, ⟨80, _⟩ => ⟨S8x2304x128, .f32⟩
  | .hbm, ⟨81, _⟩ => ⟨S8x2048x128, .f32⟩
  | _, _ => ⟨S8x2304x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel2.lean ====
abbrev S2304x8192 : Shape := ⟨2, ![2304, 8192]⟩
abbrev S2304x1024 : Shape := ⟨2, ![2304, 1024]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x8192, .bf16⟩
  | .hbm, ⟨1, _⟩ => ⟨S2304x1024, .bf16⟩
  | .hbm, ⟨2, _⟩ => ⟨S8192x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1024x1024, .bf16⟩
  | .local _ .vmem, ⟨4, _⟩ => ⟨S1024x1024, .bf16⟩
  | _, _ => ⟨S2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2304x8192 : Shape := ⟨2, ![2304, 8192]⟩
abbrev S2304x1024 : Shape := ⟨2, ![2304, 1024]⟩
abbrev S_ : Shape := ⟨0, ![]⟩
abbrev S8192x1024 : Shape := ⟨2, ![8192, 1024]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S2304x8192, .bf16⟩
  | .hbm, ⟨1, _⟩ => ⟨S2304x1024, .bf16⟩
  | .hbm, ⟨2, _⟩ => ⟨S_, .f32⟩
  | .hbm, ⟨3, _⟩ => ⟨S8192x1024, .f32⟩
  | .hbm, ⟨4, _⟩ => ⟨S2304x1024, .f32⟩
  | .hbm, ⟨5, _⟩ => ⟨S1024x8192, .f32⟩
  | .hbm, ⟨6, _⟩ => ⟨S2304x8192, .f32⟩
  | .hbm, ⟨7, _⟩ => ⟨S2304x8192, .f32⟩
  | .hbm, ⟨8, _⟩ => ⟨S8192x1024, .f32⟩
  | .hbm, ⟨9, _⟩ => ⟨S1024x8192, .f32⟩
  | .hbm, ⟨10, _⟩ => ⟨S8192x1024, .f32⟩
  | .hbm, ⟨11, _⟩ => ⟨S8192x1024, .bf16⟩
  | _, _ => ⟨S2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2304x8192 : Shape := ⟨2, ![2304, 8192]⟩
abbrev S8192x1024 : Shape := ⟨2, ![8192, 1024]⟩
abbrev S8x128 : Shape := ⟨2, ![8, 128]⟩
abbrev S2304x1024 : Shape := ⟨2, ![2304, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2304x8192, .bf16⟩
  | .hbm, ⟨1, _⟩ => ⟨S8192x1024, .bf16⟩
  | .hbm, ⟨2, _⟩ => ⟨S8x128, .f32⟩
  | .hbm, ⟨3, _⟩ => ⟨S2304x1024, .f32⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2304x1024, .f32⟩
  | .local _ .vmem, ⟨5, _⟩ => ⟨S2304x1024, .f32⟩
  | _, _ => ⟨S2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S2304x8192 : Shape := ⟨2, ![2304, 8192]⟩
abbrev S8192x1024 : Shape := ⟨2, ![8192, 1024]⟩
abbrev S8x128 : Shape := ⟨2, ![8, 128]⟩
abbrev S_ : Shape := ⟨0, ![]⟩
abbrev S2304x1024 : Shape := ⟨2, ![2304, 1024]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2304x8192, .bf16⟩
  | .hbm, ⟨1, _⟩ => ⟨S8192x1024, .bf16⟩
  | .hbm, ⟨2, _⟩ => ⟨S8x128, .f32⟩
  | .hbm, ⟨3, _⟩ => ⟨S_, .f32⟩
  | .hbm, ⟨4, _⟩ => ⟨S2304x1024, .f32⟩
  | .hbm, ⟨5, _⟩ => ⟨S8192x1024, .f32⟩
  | .hbm, ⟨6, _⟩ => ⟨S1024x8192, .f32⟩
  | .hbm, ⟨7, _⟩ => ⟨S2304x8192, .f32⟩
  | .hbm, ⟨8, _⟩ => ⟨S2304x8192, .f32⟩
  | .hbm, ⟨9, _⟩ => ⟨S2304x1024, .f32⟩
  | _, _ => ⟨S2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S2048x5632 : Shape := ⟨2, ![2048, 5632]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S2048x1024 : Shape := ⟨2, ![2048, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S_, .f32⟩
  | .hbm, ⟨3, _⟩ => ⟨S5632x1024, .f32⟩
  | .hbm, ⟨4, _⟩ => ⟨S2048x1024, .f32⟩
  | .hbm, ⟨5, _⟩ => ⟨S1024x5632, .f32⟩
  | .hbm, ⟨6, _⟩ => ⟨S2048x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x5632 : Shape := ⟨2, ![2048, 5632]⟩
abbrev S5632x1024 : Shape := ⟨2, ![5632, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S5632x1024 : Shape := ⟨2, ![5632, 1024]⟩
abbrev S_ : Shape := ⟨0, ![]⟩
abbrev S2048x1024 : Shape := ⟨2, ![2048, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S_, .f32⟩
  | .hbm, ⟨3, _⟩ => ⟨S2048x1024, .f32⟩
  | .hbm, ⟨4, _⟩ => ⟨S5632x1024, .f32⟩
  | .hbm, ⟨5, _⟩ => ⟨S1024x5632, .f32⟩
  | .hbm, ⟨6, _⟩ => ⟨S2048x5632, .f32⟩
  | .hbm, ⟨7, _⟩ => ⟨S2048x5632, .f32⟩
  | .hbm, ⟨8, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩
abbrev S2x256 : Shape := ⟨2, ![2, 256]⟩

abbrev nBuf : Space → Nat
  | .hbm => 10
  | .vmem => 26
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S2048x2816, .bf16⟩
  | .hbm, ⟨5, _⟩ => ⟨S2048x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S5632 : Shape := ⟨1, ![5632]⟩
abbrev S_ : Shape := ⟨0, ![]⟩
abbrev S2050x5632 : Shape := ⟨2, ![2050, 5632]⟩
abbrev S3x2816 : Shape := ⟨2, ![3, 2816]⟩
abbrev S1x2816 : Shape := ⟨2, ![1, 2816]⟩

abbrev nBuf : Space → Nat
  | .hbm => 117
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S5632, .f32⟩
  | .hbm, ⟨5, _⟩ => ⟨S_, .f32⟩
  | .hbm, ⟨6, _⟩ => ⟨S1x5632, .f32⟩
  | .hbm, ⟨7, _⟩ => ⟨S2050x5632, .f32⟩
  | .hbm, ⟨8, _⟩ => ⟨S_, .f32⟩
  | .hbm, ⟨9, _⟩ => ⟨S1x5632, .f32⟩
  | .hbm, ⟨10, _⟩ => ⟨S_, .f32⟩
  | .hbm, ⟨11, _⟩ => ⟨S1x5632, .f32⟩
  | .hbm, ⟨12, _⟩ => ⟨S2048x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S1x5632, .f32⟩
  | .hbm, ⟨33, _⟩ => ⟨S2048x5632, .f32⟩
  | .hbm, ⟨34, _⟩ => ⟨S2048x5632, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S_, .f32⟩
  | .hbm, ⟨62, _⟩ => ⟨S5632, .f32⟩
  | .hbm, ⟨63, _⟩ => ⟨S2048x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S2048x5632, .f32⟩
  | .hbm, ⟨68, _⟩ => ⟨S2048x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S2050x5632, .f32⟩
  | .hbm, ⟨76, _⟩ => ⟨S2048x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S2048x5632, .f32⟩
  | .hbm, ⟨81, _⟩ => ⟨S2048x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S2050x5632, .f32⟩
  | .hbm, ⟨90, _⟩ => ⟨S2050x5632, .f32⟩
  | .hbm, ⟨91, _⟩ => ⟨S2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S2048x5632, .f32⟩
  | .hbm, ⟨96, _⟩ => ⟨S2048x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S_, .f32⟩
  | .hbm, ⟨104, _⟩ => ⟨S2050x5632, .f32⟩
  | .hbm, ⟨105, _⟩ => ⟨S2050x5632, .f32⟩
  | .hbm, ⟨106, _⟩ => ⟨S1x5632, .f32⟩
  | .hbm, ⟨107, _⟩ => ⟨S2048x5632, .f32⟩
  | .hbm, ⟨108, _⟩ => ⟨S1x5632, .f32⟩
  | .hbm, ⟨109, _⟩ => ⟨S1x5632, .f32⟩
  | .hbm, ⟨110, _⟩ => ⟨S2048x5632, .bf16⟩
  | .hbm, ⟨111, _⟩ => ⟨S2048x2816, .bf16⟩
  | .hbm, ⟨112, _⟩ => ⟨S2048x2816, .bf16⟩
  | .hbm, ⟨113, _⟩ => ⟨S3x2816, .f32⟩
  | .hbm, ⟨114, _⟩ => ⟨S3x2816, .f32⟩
  | .hbm, ⟨115, _⟩ => ⟨S1x2816, .f32⟩
  | .hbm, ⟨116, _⟩ => ⟨S1x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2304x1024 : Shape := ⟨2, ![2304, 1024]⟩
abbrev S8192x1024 : Shape := ⟨2, ![8192, 1024]⟩
abbrev S2304x8192 : Shape := ⟨2, ![2304, 8192]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S8192x1024, .bf16⟩
  | .hbm, ⟨2, _⟩ => ⟨S2304x8192, .f32⟩
  | .local _ .vmem, ⟨0, _⟩ => ⟨S2304x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2304x1024, .f32⟩
  | .local _ .vmem, ⟨4, _⟩ => ⟨S2304x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2304x1024 : Shape := ⟨2, ![2304, 1024]⟩
abbrev S8192x1024 : Shape := ⟨2, ![8192, 1024]⟩
abbrev S1024x8192 : Shape := ⟨2, ![1024, 8192]⟩
abbrev S2304x8192 : Shape := ⟨2, ![2304, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S8192x1024, .bf16⟩
  | .hbm, ⟨2, _⟩ => ⟨S2304x1024, .f32⟩
  | .hbm, ⟨3, _⟩ => ⟨S8192x1024, .f32⟩
  | .hbm, ⟨4, _⟩ => ⟨S1024x8192, .f32⟩
  | .hbm, ⟨5, _⟩ => ⟨S2304x8192, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x1024 : Shape := ⟨2, ![2048, 1024]⟩
abbrev S5632x1024 : Shape := ⟨2, ![5632, 1024]⟩
abbrev S2048x5632 : Shape := ⟨2, ![2048, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2x8x2304x128 : Shape := ⟨4, ![2, 8, 2304, 128]⟩
abbrev S2304x8192 : Shape := ⟨2, ![2304, 8192]⟩
abbrev S1x128 : Shape := ⟨2, ![1, 128]⟩
abbrev S2048x1024 : Shape := ⟨2, ![2048, 1024]⟩
abbrev S8x2304x128 : Shape := ⟨3, ![8, 2304, 128]⟩
abbrev S2x1x2304x128 : Shape := ⟨4, ![2, 1, 2304, 128]⟩
abbrev S2304x128 : Shape := ⟨2, ![2304, 128]⟩
abbrev S2048x128 : Shape := ⟨2, ![2048, 128]⟩
abbrev S1x2304x128 : Shape := ⟨3, ![1, 2304, 128]⟩
abbrev S1x1x2048x128 : Shape := ⟨4, ![1, 1, 2048, 128]⟩
abbrev S2048 : Shape := ⟨1, ![2048]⟩
abbrev S2048x1 : Shape := ⟨2, ![2048, 1]⟩
abbrev S128 : Shape := ⟨1, ![128]⟩
abbrev S256x128 : Shape := ⟨2, ![256, 128]⟩
abbrev S1x256x128 : Shape := ⟨3, ![1, 256, 128]⟩
abbrev S1x2048x128 : Shape := ⟨3, ![1, 2048, 128]⟩

abbrev nBuf : Space → Nat
  | .hbm => 8
  | .vmem => 12
  | .smem => 0
  | _ => 0

abbrev bufTy : (tb : Table) → Fin (tcTables nBuf tb) → BufTy
  | .hbm, ⟨0, _⟩ => ⟨S2x8x2304x128, .f32⟩
  | .hbm, ⟨1, _⟩ => ⟨S2304x8192, .f32⟩
  | .hbm, ⟨2, _⟩ => ⟨S1x128, .f32⟩
  | .hbm, ⟨3, _⟩ => ⟨S2048x1024, .f32⟩
  | .hbm, ⟨4, _⟩ => ⟨S2304x8192, .bf16⟩
  | .hbm, ⟨5, _⟩ => ⟨S8x2304x128, .f32⟩
  | .hbm, ⟨6, _⟩ => ⟨S2304x8192, .bf16⟩
  | .hbm, ⟨7, _⟩ => ⟨S1x128, .f32⟩
  | .local _ .vmem, ⟨0, _⟩ => ⟨S2x1x2304x128, .f32⟩
  | .local _ .vmem, ⟨1, _⟩ => ⟨S2x1x2304x128, .f32⟩
  | .local _ .vmem, ⟨2, _⟩ => ⟨S2304x128, .f32⟩
  | .local _ .vmem, ⟨3, _⟩ => ⟨S2304x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S1x2304x128, .f32⟩
  | .local _ .vmem, ⟨8, _⟩ => ⟨S1x2304x128, .f32⟩
  | .local _ .vmem, ⟨9, _⟩ => ⟨S2304x128, .bf16⟩
  | .local _ .vmem, ⟨10, _⟩ => ⟨S2304x128, .bf16⟩
  | .local _ .vmem, ⟨11, _⟩ => ⟨S1x128, .f32⟩
  | _, _ => ⟨S2x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S2x8x2304x128 : Shape := ⟨4, ![2, 8, 2304, 128]⟩
abbrev S2304x8192 : Shape := ⟨2, ![2304, 8192]⟩
abbrev S1x128 : Shape := ⟨2, ![1, 128]⟩
abbrev S2048x1024 : Shape := ⟨2, ![2048, 1024]⟩
abbrev S1x8x2304x128 : Shape := ⟨4, ![1, 8, 2304, 128]⟩
abbrev S8x2304x128 : Shape := ⟨3, ![8, 2304, 128]⟩
abbrev S2304x1024 : Shape := ⟨2, ![2304, 1024]⟩
abbrev S8x2048x128 : Shape := ⟨3, ![8, 2048, 128]⟩
abbrev S2048x8x128 : Shape := ⟨3, ![2048, 8, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2304x5120 : Shape := ⟨2, ![2304, 5120]⟩
abbrev S2304x2048 : Shape := ⟨2, ![2304, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x8x2304x128, .f32⟩
  | .hbm, ⟨1, _⟩ => ⟨S2304x8192, .f32⟩
  | .hbm, ⟨2, _⟩ => ⟨S1x128, .f32⟩
  | .hbm, ⟨3, _⟩ => ⟨S2048x1024, .f32⟩
  | .hbm, ⟨4, _⟩ => ⟨S2304x8192, .bf16⟩
  | .hbm, ⟨5, _⟩ => ⟨S1x8x2304x128, .f32⟩
  | .hbm, ⟨6, _⟩ => ⟨S8x2304x128, .f32⟩
  | .hbm, ⟨7, _⟩ => ⟨S1x8x2304x128, .f32⟩
  | .hbm, ⟨8, _⟩ => ⟨S8x2304x128, .f32⟩
  | .hbm, ⟨9, _⟩ => ⟨S8x2304x128, .f32⟩
  | .hbm, ⟨10, _⟩ => ⟨S2304x1024, .f32⟩
  | .hbm, ⟨11, _⟩ => ⟨S8x2048x128, .f32⟩
  | .hbm, ⟨12, _⟩ => ⟨S2048x8x128, .f32⟩
  | .hbm, ⟨13, _⟩ => ⟨S128, .f32⟩
  | .hbm, ⟨14, _⟩ => ⟨S2048x8x128, .f32⟩
  | .hbm, ⟨15, _⟩ => ⟨S_, .f32⟩
  | .hbm, ⟨16, _⟩ => ⟨S2048x8, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S_, .f32⟩
  | .hbm, ⟨22, _⟩ => ⟨S2048x8x1, .f32⟩
  | .hbm, ⟨23, _⟩ => ⟨S2048x8x1, .f32⟩
  | .hbm, ⟨24, _⟩ => ⟨S2048x8x1, .f32⟩
  | .hbm, ⟨25, _⟩ => ⟨S2048x8x1, .f32⟩
  | .hbm, ⟨26, _⟩ => ⟨S_, .f32⟩
  | .hbm, ⟨27, _⟩ => ⟨S2048x8x1, .f32⟩
  | .hbm, ⟨28, _⟩ => ⟨S2048x8x1, .f32⟩
  | .hbm, ⟨29, _⟩ => ⟨S2048x8x128, .f32⟩
  | .hbm, ⟨30, _⟩ => ⟨S2048x8x128, .f32⟩
  | .hbm, ⟨31, _⟩ => ⟨S1x1x128, .f32⟩
  | .hbm, ⟨32, _⟩ => ⟨S2048x8x128, .f32⟩
  | .hbm, ⟨33, _⟩ => ⟨S2048x8x128, .f32⟩
  | .hbm, ⟨34, _⟩ => ⟨S2048x1024, .f32⟩
  | .hbm, ⟨35, _⟩ => ⟨S2048x8x128, .f32⟩
  | .hbm, ⟨36, _⟩ => ⟨S2048x8x128, .f32⟩
  | .hbm, ⟨37, _⟩ => ⟨S2048x8x128, .f32⟩
  | .hbm, ⟨38, _⟩ => ⟨S_, .f32⟩
  | .hbm, ⟨39, _⟩ => ⟨S2048x8x128, .f32⟩
  | .hbm, ⟨40, _⟩ => ⟨S2048x8x128, .f32⟩
  | .hbm, ⟨41, _⟩ => ⟨S_, .f32⟩
  | .hbm, ⟨42, _⟩ => ⟨S2048x8x128, .f32⟩
  | .hbm, ⟨43, _⟩ => ⟨S2048x8x128, .f32⟩
  | .hbm, ⟨44, _⟩ => ⟨S_, .f32⟩
  | .hbm, ⟨45, _⟩ => ⟨S2048x8x128, .f32⟩
  | .hbm, ⟨46, _⟩ => ⟨S2048x8x128, .f32⟩
  | .hbm, ⟨47, _⟩ => ⟨S2048x8x128, .f32⟩
  | .hbm, ⟨48, _⟩ => ⟨S2048x8x128, .f32⟩
  | .hbm, ⟨49, _⟩ => ⟨S2048x8x128, .f32⟩
  | .hbm, ⟨50, _⟩ => ⟨S2048x1024, .f32⟩
  | .hbm, ⟨51, _⟩ => ⟨S2048x8x128, .f32⟩
  | .hbm, ⟨52, _⟩ => ⟨S2048x8x128, .f32⟩
  | .hbm, ⟨53, _⟩ => ⟨S2048x8x128, .f32⟩
  | .hbm, ⟨54, _⟩ => ⟨S2048x8x128, .f32⟩
  | .hbm, ⟨55, _⟩ => ⟨S2048x8x128, .f32⟩
  | .hbm, ⟨56, _⟩ => ⟨S2048x8x128, .f32⟩
  | .hbm, ⟨57, _⟩ => ⟨S2048x8x128, .f32⟩
  | .hbm, ⟨58, _⟩ => ⟨S2048x1024, .f32⟩
  | .hbm, ⟨59, _⟩ => ⟨S_, .f32⟩
  | .hbm, ⟨60, _⟩ => ⟨S2304x1024, .f32⟩
  | .hbm, ⟨61, _⟩ => ⟨S2048x8x128, .f32⟩
  | .hbm, ⟨62, _⟩ => ⟨S_, .f32⟩
  | .hbm, ⟨63, _⟩ => ⟨S128, .f32⟩
  | .hbm, ⟨64, _⟩ => ⟨S1x1x128, .f32⟩
  | .hbm, ⟨65, _⟩ => ⟨S2048x8x128, .f32⟩
  | .hbm, ⟨66, _⟩ => ⟨S2048x8x128, .f32⟩
  | .hbm, ⟨67, _⟩ => ⟨S_, .f32⟩
  | .hbm, ⟨68, _⟩ => ⟨S128, .f32⟩
  | .hbm, ⟨69, _⟩ => ⟨S2048x8x128, .f32⟩
  | .hbm, ⟨70, _⟩ => ⟨S_, .f32⟩
  | .hbm, ⟨71, _⟩ => ⟨S2048x8, .f32⟩
  | .hbm, ⟨72, _⟩ => ⟨S2048x8x1, .f32⟩
  | .hbm, ⟨73, _⟩ => ⟨S2048x8x128, .f32⟩
  | .hbm, ⟨74, _⟩ => ⟨S2048x8x128, .f32⟩
  | .hbm, ⟨75, _⟩ => ⟨S2048x8x1, .f32⟩
  | .hbm, ⟨76, _⟩ => ⟨S_, .f32⟩
  | .hbm, ⟨77, _⟩ => ⟨S2048x8x1, .f32⟩
  | .hbm, ⟨78, _⟩ => ⟨S2048x8x1, .f32⟩
  | .hbm, ⟨79, _⟩ => ⟨S_, .f32⟩
  | .hbm, ⟨80, _⟩ => ⟨S2048x8, .f32⟩
  | .hbm, ⟨81, _⟩ => ⟨S2048x8x128, .f32⟩
  | .hbm, ⟨82, _⟩ => ⟨S2048x8x128, .f32⟩
  | .hbm, ⟨83, _⟩ => ⟨S2048x8x128, .f32⟩
  | .hbm, ⟨84, _⟩ => ⟨S2048x8x128, .f32⟩
  | .hbm, ⟨85, _⟩ => ⟨S2048x8x128, .f32⟩
  | .hbm, ⟨86, _⟩ => ⟨S1x128, .f32⟩
  | .hbm, ⟨87, _⟩ => ⟨S8x2048x128, .f32⟩
  | .hbm, ⟨88, _⟩ => ⟨S_, .f32⟩
  | .hbm, ⟨89, _⟩ => ⟨S8x2304x128, .f32⟩
  | .hbm, ⟨90, _⟩ => ⟨S2304x5120, .bf16⟩
  | .hbm, ⟨91, _⟩ => ⟨S2304x1024, .bf16⟩
  | .hbm, ⟨92, _⟩ => ⟨S2304x2048, .bf16⟩
  | .hbm, ⟨93, _⟩ => ⟨S2304x8192, .bf16⟩
  | _, _ => ⟨S2x8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v27_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v27_1 : Ref sig .tc := ⟨.hbm, 47, rfl⟩
abbrev main_v27_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel16.lean ====
abbrev S2304x8192 : Shape := ⟨2, ![2304, 8192]⟩
abbrev S3x3072 : Shape := ⟨2, ![3, 3072]⟩
abbrev S2x8x2304x128 : Shape := ⟨4, ![2, 8, 2304, 128]⟩
abbrev S3x1024 : Shape := ⟨2, ![3, 1024]⟩
abbrev S2304x128 : Shape := ⟨2, ![2304, 128]⟩
abbrev S3x128 : Shape := ⟨2, ![3, 128]⟩
abbrev S2x1x2304x128 : Shape := ⟨4, ![2, 1, 2304, 128]⟩
abbrev S1x128 : Shape := ⟨2, ![1, 128]⟩
abbrev S2304 : Shape := ⟨1, ![2304]⟩
abbrev S2304x1 : Shape := ⟨2, ![2304, 1]⟩
abbrev S1x1x2304x128 : Shape := ⟨4, ![1, 1, 2304, 128]⟩
abbrev S128 : Shape := ⟨1, ![128]⟩
abbrev S2x128 : Shape := ⟨2, ![2, 128]⟩

abbrev nBuf : Space → Nat
  | .hbm => 6
  | .vmem => 10
  | .smem => 0
  | _ => 0

abbrev bufTy : (tb : Table) → Fin (tcTables nBuf tb) → BufTy
  | .hbm, ⟨0, _⟩ => ⟨S2304x8192, .f32⟩
  | .hbm, ⟨1, _⟩ => ⟨S3x3072, .f32⟩
  | .hbm, ⟨2, _⟩ => ⟨S2x8x2304x128, .f32⟩
  | .hbm, ⟨3, _⟩ => ⟨S2304x8192, .bf16⟩
  | .hbm, ⟨4, _⟩ => ⟨S2304x8192, .bf16⟩
  | .hbm, ⟨5, _⟩ => ⟨S3x1024, .f32⟩
  | .local _ .vmem, ⟨0, _⟩ => ⟨S2304x128, .f32⟩
  | .local _ .vmem, ⟨1, _⟩ => ⟨S2304x128, .f32⟩
  | .local _ .vmem, ⟨2, _⟩ => ⟨S3x128, .f32⟩
  | .local _ .vmem, ⟨3, _⟩ => ⟨S3x128, .f32⟩
  | .local _ .vmem, ⟨4, _⟩ => ⟨S2x1x2304x128, .f32⟩
  | .local _ .vmem, ⟨5, _⟩ => ⟨S2x1x2304x128, .f32⟩
  | .local _ .vmem, ⟨6, _⟩ => ⟨S2304x128, .bf16⟩
  | .local _ .vmem, ⟨7, _⟩ => ⟨S2304x128, .bf16⟩
  | .local _ .vmem, ⟨8, _⟩ => ⟨S3x128, .f32⟩
  | .local _ .vmem, ⟨9, _⟩ => ⟨S3x128, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S2304x8192 : Shape := ⟨2, ![2304, 8192]⟩
abbrev S3x3072 : Shape := ⟨2, ![3, 3072]⟩
abbrev S2x8x2304x128 : Shape := ⟨4, ![2, 8, 2304, 128]⟩
abbrev S2304x1024 : Shape := ⟨2, ![2304, 1024]⟩
abbrev S3x1024 : Shape := ⟨2, ![3, 1024]⟩
abbrev S256x1024 : Shape := ⟨2, ![256, 1024]⟩
abbrev S_ : Shape := ⟨0, ![]⟩
abbrev S1x1024 : Shape := ⟨2, ![1, 1024]⟩
abbrev S258x1024 : Shape := ⟨2, ![258, 1024]⟩
abbrev S1024 : Shape := ⟨1, ![1024]⟩
abbrev S2048x1024 : Shape := ⟨2, ![2048, 1024]⟩
abbrev S2050x1024 : Shape := ⟨2, ![2050, 1024]⟩
abbrev S2304x8x128 : Shape := ⟨3, ![2304, 8, 128]⟩
abbrev S2304x8 : Shape := ⟨2, ![2304, 8]⟩
abbrev S2304x8x1 : Shape := ⟨3, ![2304, 8, 1]⟩
abbrev S8x2304x128 : Shape := ⟨3, ![8, 2304, 128]⟩
abbrev S1x8x2304x128 : Shape := ⟨4, ![1, 8, 2304, 128]⟩
abbrev S2304x1536 : Shape := ⟨2, ![2304, 1536]⟩
abbrev S2304x5632 : Shape := ⟨2, ![2304, 5632]⟩

abbrev nBuf : Space → Nat
  | .hbm => 227
  | .vmem => 0
  | .smem => 0
  | _ => 0

abbrev hbmTy0_0 (i : Nat) : BufTy := match i % 128 with
  | 0 => ⟨S2304x8192, .f32⟩
  | 1 => ⟨S3x3072, .f32⟩
  | 2 => ⟨S2x8x2304x128, .f32⟩
  | 3 => ⟨S2304x8192, .bf16⟩
  | 4 => ⟨S2304x1024, .f32⟩
  | 5 => ⟨S3x1024, .f32⟩
  | 6 => ⟨S256x1024, .f32⟩
  | 7 => ⟨S_, .f32⟩
  | 8 => ⟨S1x1024, .f32⟩
  | 9 => ⟨S258x1024, .f32⟩
  | 10 => ⟨S_, .f32⟩
  | 11 => ⟨S1x1024, .f32⟩
  | 12 => ⟨S_, .f32⟩
  | 13 => ⟨S1x1024, .f32⟩
  | 14 => ⟨S256x1024, .f32⟩
  | 15 => ⟨S1x1024, .f32⟩
  | 16 => ⟨S1024, .f32⟩
  | 17 => ⟨S1x1024, .f32⟩
  | 18 => ⟨S256x1024, .f32⟩
  | 19 => ⟨S256x1024, .f32⟩
  | 20 => ⟨S256x1024, .f32⟩
  | 21 => ⟨S1x1024, .f32⟩
  | 22 => ⟨S1024, .f32⟩
  | 23 => ⟨S1x1024, .f32⟩
  | 24 => ⟨S256x1024, .f32⟩
  | 25 => ⟨S256x1024, .f32⟩
  | 26 => ⟨S256x1024, .f32⟩
  | 27 => ⟨S256x1024, .f32⟩
  | 28 => ⟨S1x1024, .f32⟩
  | 29 => ⟨S1024, .f32⟩
  | 30 => ⟨S1x1024, .f32⟩
  | 31 => ⟨S256x1024, .f32⟩
  | 32 => ⟨S256x1024, .f32⟩
  | 33 => ⟨S256x1024, .f32⟩
  | 34 => ⟨S2048x1024, .f32⟩
  | 35 => ⟨S_, .f32⟩
  | 36 => ⟨S1x1024, .f32⟩
  | 37 => ⟨S2050x1024, .f32⟩
  | 38 => ⟨S_, .f32⟩
  | 39 => ⟨S1x1024, .f32⟩
  | 40 => ⟨S_, .f32⟩
  | 41 => ⟨S1x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S2048x1024, .f32⟩
  | 62 => ⟨S2304x1024, .f32⟩
  | 63 => ⟨S2304x1024, .f32⟩
  | 64 => ⟨S2304x1024, .f32⟩
  | 65 => ⟨S_, .f32⟩
  | 66 => ⟨S2304x1024, .f32⟩
  | 67 => ⟨S2304x1024, .f32⟩
  | 68 => ⟨S_, .f32⟩
  | 69 => ⟨S2304x1024, .f32⟩
  | 70 => ⟨S2304x1024, .f32⟩
  | 71 => ⟨S_, .f32⟩
  | 72 => ⟨S2304x1024, .f32⟩
  | 73 => ⟨S2304x1024, .f32⟩
  | 74 => ⟨S2304x1024, .f32⟩
  | 75 => ⟨S2304x1024, .f32⟩
  | 76 => ⟨S2304x8x128, .f32⟩
  | 77 => ⟨S2304x8x128, .f32⟩
  | 78 => ⟨S_, .f32⟩
  | 79 => ⟨S2304x8, .f32⟩
  | 80 => ⟨S2304x8x1, .f32⟩
  | 81 => ⟨S_, .f32⟩
  | 82 => ⟨S2304x8x1, .f32⟩
  | 83 => ⟨S2304x8x1, .f32⟩
  | 84 => ⟨S2304x8x1, .f32⟩
  | 85 => ⟨S2304x8x1, .f32⟩
  | 86 => ⟨S_, .f32⟩
  | 87 => ⟨S2304x8x1, .f32⟩
  | 88 => ⟨S2304x8x1, .f32⟩
  | 89 => ⟨S2304x8x128, .f32⟩
  | 90 => ⟨S2304x8x128, .f32⟩
  | 91 => ⟨S_, .f32⟩
  | 92 => ⟨S2304x8x128, .f32⟩
  | 93 => ⟨S2304x8x128, .f32⟩
  | 94 => ⟨S8x2304x128, .f32⟩
  | 95 => ⟨S1x8x2304x128, .f32⟩
  | 96 => ⟨S8x2304x128, .f32⟩
  | 97 => ⟨S1x8x2304x128, .f32⟩
  | 98 => ⟨S8x2304x128, .f32⟩
  | 99 => ⟨S8x2304x128, .f32⟩
  | 100 => ⟨S2304x8x128, .f32⟩
  | 101 => ⟨S_, .f32⟩
  | 102 => ⟨S2304x8x128, .f32⟩
  | 103 => ⟨S2304x8x128, .f32⟩
  | 104 => ⟨S2304x8x128, .f32⟩
  | 105 => ⟨S_, .f32⟩
  | 106 => ⟨S2304x8, .f32⟩
  | 107 => ⟨S2304x8x1, .f32⟩
  | 108 => ⟨S2304x8x128, .f32⟩
  | 109 => ⟨S2304x8x128, .f32⟩
  | 110 => ⟨S2304x8x1, .f32⟩
  | 111 => ⟨S_, .f32⟩
  | 112 => ⟨S2304x8, .f32⟩
  | 113 => ⟨S2304x8x128, .f32⟩
  | 114 => ⟨S2304x8x128, .f32⟩
  | 115 => ⟨S2304x8x128, .f32⟩
  | 116 => ⟨S2304x8x128, .f32⟩
  | 117 => ⟨S2304x8x128, .f32⟩
  | 118 => ⟨S2304x1024, .f32⟩
  | 119 => ⟨S2304x1024, .f32⟩
  | 120 => ⟨S2304x1024, .f32⟩
  | 121 => ⟨S2304x1024, .f32⟩
  | 122 => ⟨S2304x1024, .f32⟩
  | 123 => ⟨S256x1024, .f32⟩
  | 124 => ⟨S2048x1024, .f32⟩
  | 125 => ⟨S2048x1024, .f32⟩
  | 126 => ⟨S_, .f32⟩
  | 127 => ⟨S1024, .f32⟩
  | _ => ⟨S2304x8192, .f32⟩

abbrev hbmTy0_1 (i : Nat) : BufTy := match i % 128 with
  | 0 => ⟨S1x1024, .f32⟩
  | 1 => ⟨S2048x1024, .f32⟩
  | 2 => ⟨S2048x1024, .f32⟩
  | 3 => ⟨S_, .f32⟩
  | 4 => ⟨S1024, .f32⟩
  | 5 => ⟨S1x1024, .f32⟩
  | 6 => ⟨S_, .f32⟩
  | 7 => ⟨S3x1024, .f32⟩
  | 8 => ⟨S_, .f32⟩
  | 9 => ⟨S2050x1024, .f32⟩
  | 10 => ⟨S2048x1024, .f32⟩
  | 11 => ⟨S_, .f32⟩
  | 12 => ⟨S1024, .f32⟩
  | 13 => ⟨S1x1024, .f32⟩
  | 14 => ⟨S2048x1024, .f32⟩
  | 15 => ⟨S2048x1024, .f32⟩
  | 16 => ⟨S_, .f32⟩
  | 17 => ⟨S1024, .f32⟩
  | 18 => ⟨S1x1024, .f32⟩
  | 19 => ⟨S_, .f32⟩
  | 20 => ⟨S3x1024, .f32⟩
  | 21 => ⟨S3x1024, .f32⟩
  | 22 => ⟨S_, .f32⟩
  | 23 => ⟨S2050x1024, .f32⟩
  | 24 => ⟨S2050x1024, .f32⟩
  | 25 => ⟨S2048x1024, .f32⟩
  | 26 => ⟨S_, .f32⟩
  | 27 => ⟨S1024, .f32⟩
  | 28 => ⟨S1x1024, .f32⟩
  | 29 => ⟨S2048x1024, .f32⟩
  | 30 => ⟨S2048x1024, .f32⟩
  | 31 => ⟨S_, .f32⟩
  | 32 => ⟨S1024, .f32⟩
  | 33 => ⟨S1x1024, .f32⟩
  | 34 => ⟨S_, .f32⟩
  | 35 => ⟨S3x1024, .f32⟩
  | 36 => ⟨S3x1024, .f32⟩
  | 37 => ⟨S_, .f32⟩
  | 38 => ⟨S2050x1024, .f32⟩
  | 39 => ⟨S2050x1024, .f32⟩
  | 40 => ⟨S1x1024, .f32⟩
  | 41 => ⟨S2048x1024, .f32⟩
  | 42 => ⟨S1x1024, .f32⟩
  | 43 => ⟨S_, .f32⟩
  | 44 => ⟨S2304x1024, .f32⟩
  | 45 => ⟨S256x1024, .f32⟩
  | 46 => ⟨S_, .f32⟩
  | 47 => ⟨S1024, .f32⟩
  | 48 => ⟨S1x1024, .f32⟩
  | 49 => ⟨S256x1024, .f32⟩
  | 50 => ⟨S256x1024, .f32⟩
  | 51 => ⟨S_, .f32⟩
  | 52 => ⟨S1024, .f32⟩
  | 53 => ⟨S1x1024, .f32⟩
  | 54 => ⟨S_, .f32⟩
  | 55 => ⟨S3x1024, .f32⟩
  | 56 => ⟨S3x1024, .f32⟩
  | 57 => ⟨S_, .f32⟩
  | 58 => ⟨S258x1024, .f32⟩
  | 59 => ⟨S256x1024, .f32⟩
  | 60 => ⟨S_, .f32⟩
  | 61 => ⟨S1024, .f32⟩
  | 62 => ⟨S1x1024, .f32⟩
  | 63 => ⟨S256x1024, .f32⟩
  | 64 => ⟨S256x1024, .f32⟩
  | 65 => ⟨S_, .f32⟩
  | 66 => ⟨S1024, .f32⟩
  | 67 => ⟨S1x1024, .f32⟩
  | 68 => ⟨S_, .f32⟩
  | 69 => ⟨S3x1024, .f32⟩
  | 70 => ⟨S3x1024, .f32⟩
  | 71 => ⟨S_, .f32⟩
  | 72 => ⟨S258x1024, .f32⟩
  | 73 => ⟨S258x1024, .f32⟩
  | 74 => ⟨S256x1024, .f32⟩
  | 75 => ⟨S_, .f32⟩
  | 76 => ⟨S1024, .f32⟩
  | 77 => ⟨S1x1024, .f32⟩
  | 78 => ⟨S256x1024, .f32⟩
  | 79 => ⟨S256x1024, .f32⟩
  | 80 => ⟨S_, .f32⟩
  | 81 => ⟨S1024, .f32⟩
  | 82 => ⟨S1x1024, .f32⟩
  | 83 => ⟨S_, .f32⟩
  | 84 => ⟨S3x1024, .f32⟩
  | 85 => ⟨S3x1024, .f32⟩
  | 86 => ⟨S_, .f32⟩
  | 87 => ⟨S258x1024, .f32⟩
  | 88 => ⟨S258x1024, .f32⟩
  | 89 => ⟨S1x1024, .f32⟩
  | 90 => ⟨S256x1024, .f32⟩
  | 91 => ⟨S1x1024, .f32⟩
  | 92 => ⟨S_, .f32⟩
  | 93 => ⟨S2304x1024, .f32⟩
  | 94 => ⟨S2304x1024, .f32⟩
  | 95 => ⟨S2304x1536, .bf16⟩
  | 96 => ⟨S2304x1024, .bf16⟩
  | 97 => ⟨S2304x5632, .bf16⟩
  | 98 => ⟨S2304x8192, .bf16⟩
  | _ => ⟨S2304x8192, .f32⟩

abbrev hbmTy (i : Nat) : BufTy := match i / 128 with
  | 0 => hbmTy0_0 i
  | 1 => hbmTy0_1 i
  | _ => ⟨S2304x8192, .f32⟩

abbrev bufTy : (tb : Table) → Fin (tcTables nBuf tb) → BufTy
  | .hbm, ⟨i, _⟩ => hbmTy i
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v53_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v53_1 : Ref sig .tc := ⟨.hbm, 74, rfl⟩
abbrev main_v53_0 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_9 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_cst_14 : Ref sig .tc := ⟨.hbm, 134, rfl⟩
abbrev main_v100 : Ref sig .tc := ⟨.hbm, 135, rfl⟩
abbrev main_cst_15 : Ref sig .tc := ⟨.hbm, 136, rfl⟩
abbrev main_v101 : Ref sig .tc := ⟨.hbm, 137, rfl⟩
abbrev main_v102 : Ref sig .tc := ⟨.hbm, 138, rfl⟩
abbrev main_cst_16 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_cst_18 : Ref sig .tc := ⟨.hbm, 147, rfl⟩
abbrev main_v109 : Ref sig .tc := ⟨.hbm, 148, rfl⟩
abbrev main_v110 : Ref sig .tc := ⟨.hbm, 149, rfl⟩
abbrev main_cst_19 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_20 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_cst_22 : Ref sig .tc := ⟨.hbm, 162, rfl⟩
abbrev main_v120 : Ref sig .tc := ⟨.hbm, 163, rfl⟩
abbrev main_v121 : Ref sig .tc := ⟨.hbm, 164, rfl⟩
abbrev main_cst_23 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_cst_25 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_26 : Ref sig .tc := ⟨.hbm, 179, rfl⟩
abbrev main_v133 : Ref sig .tc := ⟨.hbm, 180, rfl⟩
abbrev main_v134 : Ref sig .tc := ⟨.hbm, 181, rfl⟩
abbrev main_cst_27 : Ref sig .tc := ⟨.hbm, 182, rfl⟩
abbrev main_v135 : Ref sig .tc := ⟨.hbm, 183, rfl⟩
abbrev main_v136 : Ref sig .tc := ⟨.hbm, 184, rfl⟩
abbrev main_cst_28 : Ref sig .tc := ⟨.hbm, 185, rfl⟩
abbrev main_v137 : Ref sig .tc := ⟨.hbm, 186, rfl⟩
abbrev main_v138 : Ref sig .tc := ⟨.hbm, 187, rfl⟩
abbrev main_cst_29 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_30 : Ref sig .tc := ⟨.hbm, 193, rfl⟩
abbrev main_v143 : Ref sig .tc := ⟨.hbm, 194, rfl⟩
abbrev main_v144 : Ref sig .tc := ⟨.hbm, 195, rfl⟩
abbrev main_cst_31 : Ref sig .tc := ⟨.hbm, 196, rfl⟩
abbrev main_v145 : Ref sig .tc := ⟨.hbm, 197, rfl⟩
abbrev main_v146 : Ref sig .tc := ⟨.hbm, 198, rfl⟩
abbrev main_cst_32 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_33 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_34 : Ref sig .tc := ⟨.hbm, 208, rfl⟩
abbrev main_v154 : Ref sig .tc := ⟨.hbm, 209, rfl⟩
abbrev main_v155 : Ref sig .tc := ⟨.hbm, 210, rfl⟩
abbrev main_cst_35 : Ref sig .tc := ⟨.hbm, 211, rfl⟩
abbrev main_v156 : Ref sig .tc := ⟨.hbm, 212, rfl⟩
abbrev main_v157 : Ref sig .tc := ⟨.hbm, 213, rfl⟩
abbrev main_cst_36 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_37 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩

abbrev nD : Nat := 1
abbrev τ : Topo := Topo.v7x

variable {F : FTy → Type} [FloatOps F]
-- ==== Kernel17.lean ====
abbrev S2304x8192 : Shape := ⟨2, ![2304, 8192]⟩
abbrev S3x3072 : Shape := ⟨2, ![3, 3072]⟩
abbrev S2x8x2304x128 : Shape := ⟨4, ![2, 8, 2304, 128]⟩
abbrev S3x1024 : Shape := ⟨2, ![3, 1024]⟩
abbrev S2304x128 : Shape := ⟨2, ![2304, 128]⟩
abbrev S3x128 : Shape := ⟨2, ![3, 128]⟩
abbrev S2x1x2304x128 : Shape := ⟨4, ![2, 1, 2304, 128]⟩
abbrev S1x128 : Shape := ⟨2, ![1, 128]⟩
abbrev S2304 : Shape := ⟨1, ![2304]⟩
abbrev S2304x1 : Shape := ⟨2, ![2304, 1]⟩
abbrev S1x1x2304x128 : Shape := ⟨4, ![1, 1, 2304, 128]⟩
abbrev S128 : Shape := ⟨1, ![128]⟩
abbrev S2x128 : Shape := ⟨2, ![2, 128]⟩

abbrev nBuf : Space → Nat
  | .hbm => 6
  | .vmem => 10
  | .smem => 0
  | _ => 0

abbrev bufTy : (tb : Table) → Fin (tcTables nBuf tb) → BufTy
  | .hbm, ⟨0, _⟩ => ⟨S2304x8192, .f32⟩
  | .hbm, ⟨1, _⟩ => ⟨S3x3072, .f32⟩
  | .hbm, ⟨2, _⟩ => ⟨S2x8x2304x128, .f32⟩
  | .hbm, ⟨3, _⟩ => ⟨S2304x8192, .bf16⟩
  | .hbm, ⟨4, _⟩ => ⟨S2304x8192, .bf16⟩
  | .hbm, ⟨5, _⟩ => ⟨S3x1024, .f32⟩
  | .local _ .vmem, ⟨0, _⟩ => ⟨S2304x128, .f32⟩
  | .local _ .vmem, ⟨1, _⟩ => ⟨S2304x128, .f32⟩
  | .local _ .vmem, ⟨2, _⟩ => ⟨S3x128, .f32⟩
  | .local _ .vmem, ⟨3, _⟩ => ⟨S3x128, .f32⟩
  | .local _ .vmem, ⟨4, _⟩ => ⟨S2x1x2304x128, .f32⟩
  | .local _ .vmem, ⟨5, _⟩ => ⟨S2x1x2304x128, .f32⟩
  | .local _ .vmem, ⟨6, _⟩ => ⟨S2304x128, .bf16⟩
  | .local _ .vmem, ⟨7, _⟩ => ⟨S2304x128, .bf16⟩
  | .local _ .vmem, ⟨8, _⟩ => ⟨S3x128, .f32⟩
  | .local _ .vmem, ⟨9, _⟩ => ⟨S3x128, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S2304x8192 : Shape := ⟨2, ![2304, 8192]⟩
abbrev S3x3072 : Shape := ⟨2, ![3, 3072]⟩
abbrev S2x8x2304x128 : Shape := ⟨4, ![2, 8, 2304, 128]⟩
abbrev S2304x1024 : Shape := ⟨2, ![2304, 1024]⟩
abbrev S3x1024 : Shape := ⟨2, ![3, 1024]⟩
abbrev S256x1024 : Shape := ⟨2, ![256, 1024]⟩
abbrev S_ : Shape := ⟨0, ![]⟩
abbrev S1x1024 : Shape := ⟨2, ![1, 1024]⟩
abbrev S258x1024 : Shape := ⟨2, ![258, 1024]⟩
abbrev S1024 : Shape := ⟨1, ![1024]⟩
abbrev S2048x1024 : Shape := ⟨2, ![2048, 1024]⟩
abbrev S2050x1024 : Shape := ⟨2, ![2050, 1024]⟩
abbrev S2304x8x128 : Shape := ⟨3, ![2304, 8, 128]⟩
abbrev S2304x8 : Shape := ⟨2, ![2304, 8]⟩
abbrev S2304x8x1 : Shape := ⟨3, ![2304, 8, 1]⟩
abbrev S8x2304x128 : Shape := ⟨3, ![8, 2304, 128]⟩
abbrev S1x8x2304x128 : Shape := ⟨4, ![1, 8, 2304, 128]⟩
abbrev S2304x2560 : Shape := ⟨2, ![2304, 2560]⟩
abbrev S2304x4608 : Shape := ⟨2, ![2304, 4608]⟩

abbrev nBuf : Space → Nat
  | .hbm => 221
  | .vmem => 0
  | .smem => 0
  | _ => 0

abbrev hbmTy0_0 (i : Nat) : BufTy := match i % 128 with
  | 0 => ⟨S2304x8192, .f32⟩
  | 1 => ⟨S3x3072, .f32⟩
  | 2 => ⟨S2x8x2304x128, .f32⟩
  | 3 => ⟨S2304x8192, .bf16⟩
  | 4 => ⟨S2304x1024, .f32⟩
  | 5 => ⟨S3x1024, .f32⟩
  | 6 => ⟨S256x1024, .f32⟩
  | 7 => ⟨S_, .f32⟩
  | 8 => ⟨S1x1024, .f32⟩
  | 9 => ⟨S258x1024, .f32⟩
  | 10 => ⟨S_, .f32⟩
  | 11 => ⟨S1x1024, .f32⟩
  | 12 => ⟨S_, .f32⟩
  | 13 => ⟨S1x1024, .f32⟩
  | 14 => ⟨S256x1024, .f32⟩
  | 15 => ⟨S1x1024, .f32⟩
  | 16 => ⟨S1024, .f32⟩
  | 17 => ⟨S1x1024, .f32⟩
  | 18 => ⟨S256x1024, .f32⟩
  | 19 => ⟨S256x1024, .f32⟩
  | 20 => ⟨S256x1024, .f32⟩
  | 21 => ⟨S1x1024, .f32⟩
  | 22 => ⟨S1024, .f32⟩
  | 23 => ⟨S1x1024, .f32⟩
  | 24 => ⟨S256x1024, .f32⟩
  | 25 => ⟨S256x1024, .f32⟩
  | 26 => ⟨S256x1024, .f32⟩
  | 27 => ⟨S256x1024, .f32⟩
  | 28 => ⟨S1x1024, .f32⟩
  | 29 => ⟨S1024, .f32⟩
  | 30 => ⟨S1x1024, .f32⟩
  | 31 => ⟨S256x1024, .f32⟩
  | 32 => ⟨S256x1024, .f32⟩
  | 33 => ⟨S256x1024, .f32⟩
  | 34 => ⟨S2048x1024, .f32⟩
  | 35 => ⟨S_, .f32⟩
  | 36 => ⟨S1x1024, .f32⟩
  | 37 => ⟨S2050x1024, .f32⟩
  | 38 => ⟨S_, .f32⟩
  | 39 => ⟨S1x1024, .f32⟩
  | 40 => ⟨S_, .f32⟩
  | 41 => ⟨S1x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S2048x1024, .f32⟩
  | 62 => ⟨S2304x1024, .f32⟩
  | 63 => ⟨S2304x1024, .f32⟩
  | 64 => ⟨S2304x1024, .f32⟩
  | 65 => ⟨S_, .f32⟩
  | 66 => ⟨S2304x1024, .f32⟩
  | 67 => ⟨S2304x1024, .f32⟩
  | 68 => ⟨S_, .f32⟩
  | 69 => ⟨S2304x1024, .f32⟩
  | 70 => ⟨S2304x1024, .f32⟩
  | 71 => ⟨S_, .f32⟩
  | 72 => ⟨S2304x1024, .f32⟩
  | 73 => ⟨S2304x1024, .f32⟩
  | 74 => ⟨S2304x1024, .f32⟩
  | 75 => ⟨S2304x1024, .f32⟩
  | 76 => ⟨S2304x8x128, .f32⟩
  | 77 => ⟨S2304x8x128, .f32⟩
  | 78 => ⟨S_, .f32⟩
  | 79 => ⟨S2304x8, .f32⟩
  | 80 => ⟨S2304x8x1, .f32⟩
  | 81 => ⟨S_, .f32⟩
  | 82 => ⟨S2304x8x1, .f32⟩
  | 83 => ⟨S2304x8x1, .f32⟩
  | 84 => ⟨S2304x8x1, .f32⟩
  | 85 => ⟨S2304x8x1, .f32⟩
  | 86 => ⟨S_, .f32⟩
  | 87 => ⟨S2304x8x1, .f32⟩
  | 88 => ⟨S2304x8x1, .f32⟩
  | 89 => ⟨S2304x8x128, .f32⟩
  | 90 => ⟨S2304x8x128, .f32⟩
  | 91 => ⟨S8x2304x128, .f32⟩
  | 92 => ⟨S1x8x2304x128, .f32⟩
  | 93 => ⟨S8x2304x128, .f32⟩
  | 94 => ⟨S1x8x2304x128, .f32⟩
  | 95 => ⟨S8x2304x128, .f32⟩
  | 96 => ⟨S8x2304x128, .f32⟩
  | 97 => ⟨S2304x8x128, .f32⟩
  | 98 => ⟨S2304x8x128, .f32⟩
  | 99 => ⟨S_, .f32⟩
  | 100 => ⟨S2304x8, .f32⟩
  | 101 => ⟨S2304x8x1, .f32⟩
  | 102 => ⟨S2304x8x128, .f32⟩
  | 103 => ⟨S2304x8x128, .f32⟩
  | 104 => ⟨S2304x8x1, .f32⟩
  | 105 => ⟨S_, .f32⟩
  | 106 => ⟨S2304x8, .f32⟩
  | 107 => ⟨S2304x8x128, .f32⟩
  | 108 => ⟨S2304x8x128, .f32⟩
  | 109 => ⟨S2304x8x128, .f32⟩
  | 110 => ⟨S2304x8x128, .f32⟩
  | 111 => ⟨S2304x8x128, .f32⟩
  | 112 => ⟨S2304x1024, .f32⟩
  | 113 => ⟨S2304x1024, .f32⟩
  | 114 => ⟨S2304x1024, .f32⟩
  | 115 => ⟨S2304x1024, .f32⟩
  | 116 => ⟨S2304x1024, .f32⟩
  | 117 => ⟨S256x1024, .f32⟩
  | 118 => ⟨S2048x1024, .f32⟩
  | 119 => ⟨S2048x1024, .f32⟩
  | 120 => ⟨S_, .f32⟩
  | 121 => ⟨S1024, .f32⟩
  | 122 => ⟨S1x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2304x8192, .f32⟩

abbrev hbmTy0_1 (i : Nat) : BufTy := match i % 128 with
  | 0 => ⟨S_, .f32⟩
  | 1 => ⟨S3x1024, .f32⟩
  | 2 => ⟨S_, .f32⟩
  | 3 => ⟨S2050x1024, .f32⟩
  | 4 => ⟨S2048x1024, .f32⟩
  | 5 => ⟨S_, .f32⟩
  | 6 => ⟨S1024, .f32⟩
  | 7 => ⟨S1x1024, .f32⟩
  | 8 => ⟨S2048x1024, .f32⟩
  | 9 => ⟨S2048x1024, .f32⟩
  | 10 => ⟨S_, .f32⟩
  | 11 => ⟨S1024, .f32⟩
  | 12 => ⟨S1x1024, .f32⟩
  | 13 => ⟨S_, .f32⟩
  | 14 => ⟨S3x1024, .f32⟩
  | 15 => ⟨S3x1024, .f32⟩
  | 16 => ⟨S_, .f32⟩
  | 17 => ⟨S2050x1024, .f32⟩
  | 18 => ⟨S2050x1024, .f32⟩
  | 19 => ⟨S2048x1024, .f32⟩
  | 20 => ⟨S_, .f32⟩
  | 21 => ⟨S1024, .f32⟩
  | 22 => ⟨S1x1024, .f32⟩
  | 23 => ⟨S2048x1024, .f32⟩
  | 24 => ⟨S2048x1024, .f32⟩
  | 25 => ⟨S_, .f32⟩
  | 26 => ⟨S1024, .f32⟩
  | 27 => ⟨S1x1024, .f32⟩
  | 28 => ⟨S_, .f32⟩
  | 29 => ⟨S3x1024, .f32⟩
  | 30 => ⟨S3x1024, .f32⟩
  | 31 => ⟨S_, .f32⟩
  | 32 => ⟨S2050x1024, .f32⟩
  | 33 => ⟨S2050x1024, .f32⟩
  | 34 => ⟨S1x1024, .f32⟩
  | 35 => ⟨S2048x1024, .f32⟩
  | 36 => ⟨S1x1024, .f32⟩
  | 37 => ⟨S_, .f32⟩
  | 38 => ⟨S2304x1024, .f32⟩
  | 39 => ⟨S256x1024, .f32⟩
  | 40 => ⟨S_, .f32⟩
  | 41 => ⟨S1024, .f32⟩
  | 42 => ⟨S1x1024, .f32⟩
  | 43 => ⟨S256x1024, .f32⟩
  | 44 => ⟨S256x1024, .f32⟩
  | 45 => ⟨S_, .f32⟩
  | 46 => ⟨S1024, .f32⟩
  | 47 => ⟨S1x1024, .f32⟩
  | 48 => ⟨S_, .f32⟩
  | 49 => ⟨S3x1024, .f32⟩
  | 50 => ⟨S3x1024, .f32⟩
  | 51 => ⟨S_, .f32⟩
  | 52 => ⟨S258x1024, .f32⟩
  | 53 => ⟨S256x1024, .f32⟩
  | 54 => ⟨S_, .f32⟩
  | 55 => ⟨S1024, .f32⟩
  | 56 => ⟨S1x1024, .f32⟩
  | 57 => ⟨S256x1024, .f32⟩
  | 58 => ⟨S256x1024, .f32⟩
  | 59 => ⟨S_, .f32⟩
  | 60 => ⟨S1024, .f32⟩
  | 61 => ⟨S1x1024, .f32⟩
  | 62 => ⟨S_, .f32⟩
  | 63 => ⟨S3x1024, .f32⟩
  | 64 => ⟨S3x1024, .f32⟩
  | 65 => ⟨S_, .f32⟩
  | 66 => ⟨S258x1024, .f32⟩
  | 67 => ⟨S258x1024, .f32⟩
  | 68 => ⟨S256x1024, .f32⟩
  | 69 => ⟨S_, .f32⟩
  | 70 => ⟨S1024, .f32⟩
  | 71 => ⟨S1x1024, .f32⟩
  | 72 => ⟨S256x1024, .f32⟩
  | 73 => ⟨S256x1024, .f32⟩
  | 74 => ⟨S_, .f32⟩
  | 75 => ⟨S1024, .f32⟩
  | 76 => ⟨S1x1024, .f32⟩
  | 77 => ⟨S_, .f32⟩
  | 78 => ⟨S3x1024, .f32⟩
  | 79 => ⟨S3x1024, .f32⟩
  | 80 => ⟨S_, .f32⟩
  | 81 => ⟨S258x1024, .f32⟩
  | 82 => ⟨S258x1024, .f32⟩
  | 83 => ⟨S1x1024, .f32⟩
  | 84 => ⟨S256x1024, .f32⟩
  | 85 => ⟨S1x1024, .f32⟩
  | 86 => ⟨S_, .f32⟩
  | 87 => ⟨S2304x1024, .f32⟩
  | 88 => ⟨S2304x1024, .f32⟩
  | 89 => ⟨S2304x2560, .bf16⟩
  | 90 => ⟨S2304x1024, .bf16⟩
  | 91 => ⟨S2304x4608, .bf16⟩
  | 92 => ⟨S2304x8192, .bf16⟩
  | _ => ⟨S2304x8192, .f32⟩

abbrev hbmTy (i : Nat) : BufTy := match i / 128 with
  | 0 => hbmTy0_0 i
  | 1 => hbmTy0_1 i
  | _ => ⟨S2304x8192, .f32⟩

abbrev bufTy : (tb : Table) → Fin (tcTables nBuf tb) → BufTy
  | .hbm, ⟨i, _⟩ => hbmTy i
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v53_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v53_1 : Ref sig .tc := ⟨.hbm, 74, rfl⟩
abbrev main_v53_0 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_9 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_10 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_11 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_cst_13 : Ref sig .tc := ⟨.hbm, 130, rfl⟩
abbrev main_v97 : Ref sig .tc := ⟨.hbm, 131, rfl⟩
abbrev main_v98 : Ref sig .tc := ⟨.hbm, 132, rfl⟩
abbrev main_cst_14 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_15 : Ref sig .tc := ⟨.hbm, 138, rfl⟩
abbrev main_v103 : Ref sig .tc := ⟨.hbm, 139, rfl⟩
abbrev main_v104 : Ref sig .tc := ⟨.hbm, 140, rfl⟩
abbrev main_cst_16 : Ref sig .tc := ⟨.hbm, 141, rfl⟩
abbrev main_v105 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_18 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_19 : Ref sig .tc := ⟨.hbm, 153, rfl⟩
abbrev main_v114 : Ref sig .tc := ⟨.hbm, 154, rfl⟩
abbrev main_v115 : Ref sig .tc := ⟨.hbm, 155, rfl⟩
abbrev main_cst_20 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_22 : Ref sig .tc := ⟨.hbm, 165, rfl⟩
abbrev main_v123 : Ref sig .tc := ⟨.hbm, 166, rfl⟩
abbrev main_v124 : Ref sig .tc := ⟨.hbm, 167, rfl⟩
abbrev main_cst_23 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_24 : Ref sig .tc := ⟨.hbm, 173, rfl⟩
abbrev main_v129 : Ref sig .tc := ⟨.hbm, 174, rfl⟩
abbrev main_v130 : Ref sig .tc := ⟨.hbm, 175, rfl⟩
abbrev main_cst_25 : Ref sig .tc := ⟨.hbm, 176, rfl⟩
abbrev main_v131 : Ref sig .tc := ⟨.hbm, 177, rfl⟩
abbrev main_v132 : Ref sig .tc := ⟨.hbm, 178, rfl⟩
abbrev main_cst_26 : Ref sig .tc := ⟨.hbm, 179, rfl⟩
abbrev main_v133 : Ref sig .tc := ⟨.hbm, 180, rfl⟩
abbrev main_v134 : Ref sig .tc := ⟨.hbm, 181, rfl⟩
abbrev main_cst_27 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_28 : Ref sig .tc := ⟨.hbm, 187, rfl⟩
abbrev main_v139 : Ref sig .tc := ⟨.hbm, 188, rfl⟩
abbrev main_v140 : Ref sig .tc := ⟨.hbm, 189, rfl⟩
abbrev main_cst_29 : Ref sig .tc := ⟨.hbm, 190, rfl⟩
abbrev main_v141 : Ref sig .tc := ⟨.hbm, 191, rfl⟩
abbrev main_v142 : Ref sig .tc := ⟨.hbm, 192, rfl⟩
abbrev main_cst_30 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_31 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_32 : Ref sig .tc := ⟨.hbm, 202, rfl⟩
abbrev main_v150 : Ref sig .tc := ⟨.hbm, 203, rfl⟩
abbrev main_v151 : Ref sig .tc := ⟨.hbm, 204, rfl⟩
abbrev main_cst_33 : Ref sig .tc := ⟨.hbm, 205, rfl⟩
abbrev main_v152 : Ref sig .tc := ⟨.hbm, 206, rfl⟩
abbrev main_v153 : Ref sig .tc := ⟨.hbm, 207, rfl⟩
abbrev main_cst_34 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_35 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩

abbrev nD : Nat := 1
abbrev τ : Topo := Topo.v7x

variable {F : FTy → Type} [FloatOps F]
-- ==== Kernel18.lean ====
abbrev S2304x8192 : Shape := ⟨2, ![2304, 8192]⟩
abbrev S3x3072 : Shape := ⟨2, ![3, 3072]⟩
abbrev S2x8x2304x128 : Shape := ⟨4, ![2, 8, 2304, 128]⟩
abbrev S3x1024 : Shape := ⟨2, ![3, 1024]⟩
abbrev S2304x128 : Shape := ⟨2, ![2304, 128]⟩
abbrev S3x128 : Shape := ⟨2, ![3, 128]⟩
abbrev S2x1x2304x128 : Shape := ⟨4, ![2, 1, 2304, 128]⟩
abbrev S1x128 : Shape := ⟨2, ![1, 128]⟩
abbrev S1x1x2304x128 : Shape := ⟨4, ![1, 1, 2304, 128]⟩
abbrev S128 : Shape := ⟨1, ![128]⟩
abbrev S2x128 : Shape := ⟨2, ![2, 128]⟩

abbrev nBuf : Space → Nat
  | .hbm => 6
  | .vmem => 10
  | .smem => 0
  | _ => 0

abbrev bufTy : (tb : Table) → Fin (tcTables nBuf tb) → BufTy
  | .hbm, ⟨0, _⟩ => ⟨S2304x8192, .f32⟩
  | .hbm, ⟨1, _⟩ => ⟨S3x3072, .f32⟩
  | .hbm, ⟨2, _⟩ => ⟨S2x8x2304x128, .f32⟩
  | .hbm, ⟨3, _⟩ => ⟨S2304x8192, .bf16⟩
  | .hbm, ⟨4, _⟩ => ⟨S2304x8192, .bf16⟩
  | .hbm, ⟨5, _⟩ => ⟨S3x1024, .f32⟩
  | .local _ .vmem, ⟨0, _⟩ => ⟨S2304x128, .f32⟩
  | .local _ .vmem, ⟨1, _⟩ => ⟨S2304x128, .f32⟩
  | .local _ .vmem, ⟨2, _⟩ => ⟨S3x128, .f32⟩
  | .local _ .vmem, ⟨3, _⟩ => ⟨S3x128, .f32⟩
  | .local _ .vmem, ⟨4, _⟩ => ⟨S2x1x2304x128, .f32⟩
  | .local _ .vmem, ⟨5, _⟩ => ⟨S2x1x2304x128, .f32⟩
  | .local _ .vmem, ⟨6, _⟩ => ⟨S2304x128, .bf16⟩
  | .local _ .vmem, ⟨7, _⟩ => ⟨S2304x128, .bf16⟩
  | .local _ .vmem, ⟨8, _⟩ => ⟨S3x128, .f32⟩
  | .local _ .vmem, ⟨9, _⟩ => ⟨S3x128, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S2304x8192 : Shape := ⟨2, ![2304, 8192]⟩
abbrev S3x3072 : Shape := ⟨2, ![3, 3072]⟩
abbrev S2x8x2304x128 : Shape := ⟨4, ![2, 8, 2304, 128]⟩
abbrev S2304x1024 : Shape := ⟨2, ![2304, 1024]⟩
abbrev S3x1024 : Shape := ⟨2, ![3, 1024]⟩
abbrev S256x1024 : Shape := ⟨2, ![256, 1024]⟩
abbrev S_ : Shape := ⟨0, ![]⟩
abbrev S1x1024 : Shape := ⟨2, ![1, 1024]⟩
abbrev S258x1024 : Shape := ⟨2, ![258, 1024]⟩
abbrev S1024 : Shape := ⟨1, ![1024]⟩
abbrev S2048x1024 : Shape := ⟨2, ![2048, 1024]⟩
abbrev S2050x1024 : Shape := ⟨2, ![2050, 1024]⟩
abbrev S2304x8x128 : Shape := ⟨3, ![2304, 8, 128]⟩
abbrev S8x2304x128 : Shape := ⟨3, ![8, 2304, 128]⟩
abbrev S1x8x2304x128 : Shape := ⟨4, ![1, 8, 2304, 128]⟩
abbrev S2304x3584 : Shape := ⟨2, ![2304, 3584]⟩

abbrev nBuf : Space → Nat
  | .hbm => 193
  | .vmem => 0
  | .smem => 0
  | _ => 0

abbrev hbmTy0_0 (i : Nat) : BufTy := match i % 128 with
  | 0 => ⟨S2304x8192, .f32⟩
  | 1 => ⟨S3x3072, .f32⟩
  | 2 => ⟨S2x8x2304x128, .f32⟩
  | 3 => ⟨S2304x8192, .bf16⟩
  | 4 => ⟨S2304x1024, .f32⟩
  | 5 => ⟨S3x1024, .f32⟩
  | 6 => ⟨S256x1024, .f32⟩
  | 7 => ⟨S_, .f32⟩
  | 8 => ⟨S1x1024, .f32⟩
  | 9 => ⟨S258x1024, .f32⟩
  | 10 => ⟨S_, .f32⟩
  | 11 => ⟨S1x1024, .f32⟩
  | 12 => ⟨S_, .f32⟩
  | 13 => ⟨S1x1024, .f32⟩
  | 14 => ⟨S256x1024, .f32⟩
  | 15 => ⟨S1x1024, .f32⟩
  | 16 => ⟨S1024, .f32⟩
  | 17 => ⟨S1x1024, .f32⟩
  | 18 => ⟨S256x1024, .f32⟩
  | 19 => ⟨S256x1024, .f32⟩
  | 20 => ⟨S256x1024, .f32⟩
  | 21 => ⟨S1x1024, .f32⟩
  | 22 => ⟨S1024, .f32⟩
  | 23 => ⟨S1x1024, .f32⟩
  | 24 => ⟨S256x1024, .f32⟩
  | 25 => ⟨S256x1024, .f32⟩
  | 26 => ⟨S256x1024, .f32⟩
  | 27 => ⟨S256x1024, .f32⟩
  | 28 => ⟨S1x1024, .f32⟩
  | 29 => ⟨S1024, .f32⟩
  | 30 => ⟨S1x1024, .f32⟩
  | 31 => ⟨S256x1024, .f32⟩
  | 32 => ⟨S256x1024, .f32⟩
  | 33 => ⟨S256x1024, .f32⟩
  | 34 => ⟨S2048x1024, .f32⟩
  | 35 => ⟨S_, .f32⟩
  | 36 => ⟨S1x1024, .f32⟩
  | 37 => ⟨S2050x1024, .f32⟩
  | 38 => ⟨S_, .f32⟩
  | 39 => ⟨S1x1024, .f32⟩
  | 40 => ⟨S_, .f32⟩
  | 41 => ⟨S1x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S2048x1024, .f32⟩
  | 62 => ⟨S2304x1024, .f32⟩
  | 63 => ⟨S2304x1024, .f32⟩
  | 64 => ⟨S2304x1024, .f32⟩
  | 65 => ⟨S_, .f32⟩
  | 66 => ⟨S2304x1024, .f32⟩
  | 67 => ⟨S2304x1024, .f32⟩
  | 68 => ⟨S_, .f32⟩
  | 69 => ⟨S2304x1024, .f32⟩
  | 70 => ⟨S2304x1024, .f32⟩
  | 71 => ⟨S_, .f32⟩
  | 72 => ⟨S2304x1024, .f32⟩
  | 73 => ⟨S2304x1024, .f32⟩
  | 74 => ⟨S2304x1024, .f32⟩
  | 75 => ⟨S2304x1024, .f32⟩
  | 76 => ⟨S2304x8x128, .f32⟩
  | 77 => ⟨S8x2304x128, .f32⟩
  | 78 => ⟨S1x8x2304x128, .f32⟩
  | 79 => ⟨S8x2304x128, .f32⟩
  | 80 => ⟨S1x8x2304x128, .f32⟩
  | 81 => ⟨S8x2304x128, .f32⟩
  | 82 => ⟨S8x2304x128, .f32⟩
  | 83 => ⟨S2304x8x128, .f32⟩
  | 84 => ⟨S2304x1024, .f32⟩
  | 85 => ⟨S2304x1024, .f32⟩
  | 86 => ⟨S2304x1024, .f32⟩
  | 87 => ⟨S2304x1024, .f32⟩
  | 88 => ⟨S2304x1024, .f32⟩
  | 89 => ⟨S256x1024, .f32⟩
  | 90 => ⟨S2048x1024, .f32⟩
  | 91 => ⟨S2048x1024, .f32⟩
  | 92 => ⟨S_, .f32⟩
  | 93 => ⟨S1024, .f32⟩
  | 94 => ⟨S1x1024, .f32⟩
  | 95 => ⟨S2048x1024, .f32⟩
  | 96 => ⟨S2048x1024, .f32⟩
  | 97 => ⟨S_, .f32⟩
  | 98 => ⟨S1024, .f32⟩
  | 99 => ⟨S1x1024, .f32⟩
  | 100 => ⟨S_, .f32⟩
  | 101 => ⟨S3x1024, .f32⟩
  | 102 => ⟨S_, .f32⟩
  | 103 => ⟨S2050x1024, .f32⟩
  | 104 => ⟨S2048x1024, .f32⟩
  | 105 => ⟨S_, .f32⟩
  | 106 => ⟨S1024, .f32⟩
  | 107 => ⟨S1x1024, .f32⟩
  | 108 => ⟨S2048x1024, .f32⟩
  | 109 => ⟨S2048x1024, .f32⟩
  | 110 => ⟨S_, .f32⟩
  | 111 => ⟨S1024, .f32⟩
  | 112 => ⟨S1x1024, .f32⟩
  | 113 => ⟨S_, .f32⟩
  | 114 => ⟨S3x1024, .f32⟩
  | 115 => ⟨S3x1024, .f32⟩
  | 116 => ⟨S_, .f32⟩
  | 117 => ⟨S2050x1024, .f32⟩
  | 118 => ⟨S2050x1024, .f32⟩
  | 119 => ⟨S2048x1024, .f32⟩
  | 120 => ⟨S_, .f32⟩
  | 121 => ⟨S1024, .f32⟩
  | 122 => ⟨S1x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2304x8192, .f32⟩

abbrev hbmTy0_1 (i : Nat) : BufTy := match i % 128 with
  | 0 => ⟨S_, .f32⟩
  | 1 => ⟨S3x1024, .f32⟩
  | 2 => ⟨S3x1024, .f32⟩
  | 3 => ⟨S_, .f32⟩
  | 4 => ⟨S2050x1024, .f32⟩
  | 5 => ⟨S2050x1024, .f32⟩
  | 6 => ⟨S1x1024, .f32⟩
  | 7 => ⟨S2048x1024, .f32⟩
  | 8 => ⟨S1x1024, .f32⟩
  | 9 => ⟨S_, .f32⟩
  | 10 => ⟨S2304x1024, .f32⟩
  | 11 => ⟨S256x1024, .f32⟩
  | 12 => ⟨S_, .f32⟩
  | 13 => ⟨S1024, .f32⟩
  | 14 => ⟨S1x1024, .f32⟩
  | 15 => ⟨S256x1024, .f32⟩
  | 16 => ⟨S256x1024, .f32⟩
  | 17 => ⟨S_, .f32⟩
  | 18 => ⟨S1024, .f32⟩
  | 19 => ⟨S1x1024, .f32⟩
  | 20 => ⟨S_, .f32⟩
  | 21 => ⟨S3x1024, .f32⟩
  | 22 => ⟨S3x1024, .f32⟩
  | 23 => ⟨S_, .f32⟩
  | 24 => ⟨S258x1024, .f32⟩
  | 25 => ⟨S256x1024, .f32⟩
  | 26 => ⟨S_, .f32⟩
  | 27 => ⟨S1024, .f32⟩
  | 28 => ⟨S1x1024, .f32⟩
  | 29 => ⟨S256x1024, .f32⟩
  | 30 => ⟨S256x1024, .f32⟩
  | 31 => ⟨S_, .f32⟩
  | 32 => ⟨S1024, .f32⟩
  | 33 => ⟨S1x1024, .f32⟩
  | 34 => ⟨S_, .f32⟩
  | 35 => ⟨S3x1024, .f32⟩
  | 36 => ⟨S3x1024, .f32⟩
  | 37 => ⟨S_, .f32⟩
  | 38 => ⟨S258x1024, .f32⟩
  | 39 => ⟨S258x1024, .f32⟩
  | 40 => ⟨S256x1024, .f32⟩
  | 41 => ⟨S_, .f32⟩
  | 42 => ⟨S1024, .f32⟩
  | 43 => ⟨S1x1024, .f32⟩
  | 44 => ⟨S256x1024, .f32⟩
  | 45 => ⟨S256x1024, .f32⟩
  | 46 => ⟨S_, .f32⟩
  | 47 => ⟨S1024, .f32⟩
  | 48 => ⟨S1x1024, .f32⟩
  | 49 => ⟨S_, .f32⟩
  | 50 => ⟨S3x1024, .f32⟩
  | 51 => ⟨S3x1024, .f32⟩
  | 52 => ⟨S_, .f32⟩
  | 53 => ⟨S258x1024, .f32⟩
  | 54 => ⟨S258x1024, .f32⟩
  | 55 => ⟨S1x1024, .f32⟩
  | 56 => ⟨S256x1024, .f32⟩
  | 57 => ⟨S1x1024, .f32⟩
  | 58 => ⟨S_, .f32⟩
  | 59 => ⟨S2304x1024, .f32⟩
  | 60 => ⟨S2304x1024, .f32⟩
  | 61 => ⟨S2304x3584, .bf16⟩
  | 62 => ⟨S2304x1024, .bf16⟩
  | 63 => ⟨S2304x3584, .bf16⟩
  | 64 => ⟨S2304x8192, .bf16⟩
  | _ => ⟨S2304x8192, .f32⟩

abbrev hbmTy (i : Nat) : BufTy := match i / 128 with
  | 0 => hbmTy0_0 i
  | 1 => hbmTy0_1 i
  | _ => ⟨S2304x8192, .f32⟩

abbrev bufTy : (tb : Table) → Fin (tcTables nBuf tb) → BufTy
  | .hbm, ⟨i, _⟩ => hbmTy i
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v53_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v53_1 : Ref sig .tc := ⟨.hbm, 74, rfl⟩
abbrev main_v53_0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_5 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_cst_8 : Ref sig .tc := ⟨.hbm, 102, rfl⟩
abbrev main_v74 : Ref sig .tc := ⟨.hbm, 103, rfl⟩
abbrev main_v75 : Ref sig .tc := ⟨.hbm, 104, rfl⟩
abbrev main_cst_9 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_10 : Ref sig .tc := ⟨.hbm, 110, rfl⟩
abbrev main_v80 : Ref sig .tc := ⟨.hbm, 111, rfl⟩
abbrev main_v81 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_13 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_14 : Ref sig .tc := ⟨.hbm, 125, rfl⟩
abbrev main_v91 : Ref sig .tc := ⟨.hbm, 126, rfl⟩
abbrev main_v92 : Ref sig .tc := ⟨.hbm, 127, rfl⟩
abbrev main_cst_15 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_17 : Ref sig .tc := ⟨.hbm, 137, rfl⟩
abbrev main_v100 : Ref sig .tc := ⟨.hbm, 138, rfl⟩
abbrev main_v101 : Ref sig .tc := ⟨.hbm, 139, rfl⟩
abbrev main_cst_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_cst_20 : Ref sig .tc := ⟨.hbm, 148, rfl⟩
abbrev main_v108 : Ref sig .tc := ⟨.hbm, 149, rfl⟩
abbrev main_v109 : Ref sig .tc := ⟨.hbm, 150, rfl⟩
abbrev main_cst_21 : Ref sig .tc := ⟨.hbm, 151, rfl⟩
abbrev main_v110 : Ref sig .tc := ⟨.hbm, 152, rfl⟩
abbrev main_v111 : Ref sig .tc := ⟨.hbm, 153, rfl⟩
abbrev main_cst_22 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_23 : Ref sig .tc := ⟨.hbm, 159, rfl⟩
abbrev main_v116 : Ref sig .tc := ⟨.hbm, 160, rfl⟩
abbrev main_v117 : Ref sig .tc := ⟨.hbm, 161, rfl⟩
abbrev main_cst_24 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_27 : Ref sig .tc := ⟨.hbm, 174, rfl⟩
abbrev main_v127 : Ref sig .tc := ⟨.hbm, 175, rfl⟩
abbrev main_v128 : Ref sig .tc := ⟨.hbm, 176, rfl⟩
abbrev main_cst_28 : Ref sig .tc := ⟨.hbm, 177, rfl⟩
abbrev main_v129 : Ref sig .tc := ⟨.hbm, 178, rfl⟩
abbrev main_v130 : Ref sig .tc := ⟨.hbm, 179, rfl⟩
abbrev main_cst_29 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_30 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩

abbrev nD : Nat := 1
abbrev τ : Topo := Topo.v7x

variable {F : FTy → Type} [FloatOps F]
-- ==== Kernel19.lean ====
abbrev S2048x1024 : Shape := ⟨2, ![2048, 1024]⟩
abbrev S6x1024 : Shape := ⟨2, ![6, 1024]⟩
abbrev S2304x1024 : Shape := ⟨2, ![2304, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2304x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S6x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S2048x1024 : Shape := ⟨2, ![2048, 1024]⟩
abbrev S6x1024 : Shape := ⟨2, ![6, 1024]⟩
abbrev S2304x1024 : Shape := ⟨2, ![2304, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2304x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel20.lean ====
abbrev S2048x1024 : Shape := ⟨2, ![2048, 1024]⟩
abbrev S6x1024 : Shape := ⟨2, ![6, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S6x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S2048x1024 : Shape := ⟨2, ![2048, 1024]⟩
abbrev S6x1024 : Shape := ⟨2, ![6, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel21.lean ====
abbrev S256x1024 : Shape := ⟨2, ![256, 1024]⟩
abbrev S6x1024 : Shape := ⟨2, ![6, 1024]⟩
abbrev S2304x1024 : Shape := ⟨2, ![2304, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S6x1024, .f32⟩
  | .hbm, ⟨2, _⟩ => ⟨S2304x1024, .f32⟩
  | .hbm, ⟨3, _⟩ => ⟨S256x1024, .f32⟩
  | .hbm, ⟨4, _⟩ => ⟨S1x1024, .f32⟩
  | .hbm, ⟨5, _⟩ => ⟨S1x1024, .f32⟩
  | .local _ .vmem, ⟨0, _⟩ => ⟨S256x1024, .f32⟩
  | .local _ .vmem, ⟨1, _⟩ => ⟨S6x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S256x1024 : Shape := ⟨2, ![256, 1024]⟩
abbrev S6x1024 : Shape := ⟨2, ![6, 1024]⟩
abbrev S2304x1024 : Shape := ⟨2, ![2304, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S6x1024, .f32⟩
  | .hbm, ⟨2, _⟩ => ⟨S2304x1024, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S256x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S_, .f32⟩
  | .hbm, ⟨50, _⟩ => ⟨S256, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel22.lean ====
abbrev S2048x1024 : Shape := ⟨2, ![2048, 1024]⟩
abbrev S6x1024 : Shape := ⟨2, ![6, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S2048x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S2048x1024 : Shape := ⟨2, ![2048, 1024]⟩
abbrev S6x1024 : Shape := ⟨2, ![6, 1024]⟩
abbrev S1x1024 : Shape := ⟨2, ![1, 1024]⟩
abbrev S_ : Shape := ⟨0, ![]⟩
abbrev S1024 : Shape := ⟨1, ![1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel23.lean ====
abbrev S128x1024 : Shape := ⟨2, ![128, 1024]⟩
abbrev S8x128x1024 : Shape := ⟨3, ![8, 128, 1024]⟩
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x256, .f32⟩
  | .local _ .vmem, ⟨1, _⟩ => ⟨S128x256, .f32⟩
  | .local _ .vmem, ⟨2, _⟩ => ⟨S8x128x256, .bf16⟩
  | .local _ .vmem, ⟨3, _⟩ => ⟨S8x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S704x1024 : Shape := ⟨2, ![704, 1024]⟩
abbrev S8x704x1024 : Shape := ⟨3, ![8, 704, 1024]⟩
abbrev S704x256 : Shape := ⟨2, ![704, 256]⟩
abbrev S8x704x256 : Shape := ⟨3, ![8, 704, 256]⟩
abbrev S1x704x256 : Shape := ⟨3, ![1, 704, 256]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S704x256, .f32⟩
  | .local _ .vmem, ⟨1, _⟩ => ⟨S704x256, .f32⟩
  | .local _ .vmem, ⟨2, _⟩ => ⟨S8x704x256, .bf16⟩
  | .local _ .vmem, ⟨3, _⟩ => ⟨S8x704x256, .bf16⟩
  | .local _ .vmem, ⟨4, _⟩ => ⟨S704x256, .f32⟩
  | .local _ .vmem, ⟨5, _⟩ => ⟨S704x256, .f32⟩
  | .local _ .vmem, ⟨6, _⟩ => ⟨S704x256, .f32⟩
  | .local _ .vmem, ⟨7, _⟩ => ⟨S704x256, .f32⟩
  | .local _ .vmem, ⟨8, _⟩ => ⟨S704x256, .f32⟩
  | .local _ .vmem, ⟨9, _⟩ => ⟨S704x256, .f32⟩
  | .local _ .vmem, ⟨10, _⟩ => ⟨S704x256, .f32⟩
  | .local _ .vmem, ⟨11, _⟩ => ⟨S704x256, .f32⟩
  | .local _ .vmem, ⟨12, _⟩ => ⟨S704x256, .f32⟩
  | .local _ .vmem, ⟨13, _⟩ => ⟨S704x256, .f32⟩
  | .local _ .vmem, ⟨14, _⟩ => ⟨S704x256, .f32⟩
  | .local _ .vmem, ⟨15, _⟩ => ⟨S704x256, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S704x1024 : Shape := ⟨2, ![704, 1024]⟩
abbrev S8x704x1024 : Shape := ⟨3, ![8, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S352x1024 : Shape := ⟨2, ![352, 1024]⟩
abbrev S8x352x1024 : Shape := ⟨3, ![8, 352, 1024]⟩
abbrev S352x256 : Shape := ⟨2, ![352, 256]⟩
abbrev S8x352x256 : Shape := ⟨3, ![8, 352, 256]⟩
abbrev S1x352x256 : Shape := ⟨3, ![1, 352, 256]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S352x256, .f32⟩
  | .local _ .vmem, ⟨1, _⟩ => ⟨S352x256, .f32⟩
  | .local _ .vmem, ⟨2, _⟩ => ⟨S8x352x256, .bf16⟩
  | .local _ .vmem, ⟨3, _⟩ => ⟨S8x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S352x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S964x1024 : Shape := ⟨2, ![964, 1024]⟩
abbrev S8x964x1024 : Shape := ⟨3, ![8, 964, 1024]⟩
abbrev S964x256 : Shape := ⟨2, ![964, 256]⟩
abbrev S8x964x256 : Shape := ⟨3, ![8, 964, 256]⟩
abbrev S1x964x256 : Shape := ⟨3, ![1, 964, 256]⟩

abbrev nBuf : Space → Nat
  | .hbm => 9
  | .vmem => 18
  | .smem => 0
  | _ => 0

abbrev bufTy : (tb : Table) → Fin (tcTables nBuf tb) → BufTy
  | .hbm, ⟨0, _⟩ => ⟨S964x1024, .f32⟩
  | .hbm, ⟨1, _⟩ => ⟨S8x964x1024, .bf16⟩
  | .hbm, ⟨2, _⟩ => ⟨S964x1024, .f32⟩
  | .hbm, ⟨3, _⟩ => ⟨S964x1024, .f32⟩
  | .hbm, ⟨4, _⟩ => ⟨S964x1024, .bf16⟩
  | .hbm, ⟨5, _⟩ => ⟨S964x1024, .f32⟩
  | .hbm, ⟨6, _⟩ => ⟨S964x1024, .f32⟩
  | .hbm, ⟨7, _⟩ => ⟨S964x1024, .f32⟩
  | .hbm, ⟨8, _⟩ => ⟨S964x1024, .f32⟩
  | .local _ .vmem, ⟨0, _⟩ => ⟨S964x256, .f32⟩
  | .local _ .vmem, ⟨1, _⟩ => ⟨S964x256, .f32⟩
  | .local _ .vmem, ⟨2, _⟩ => ⟨S8x964x256, .bf16⟩
  | .local _ .vmem, ⟨3, _⟩ => ⟨S8x964x256, .bf16⟩
  | .local _ .vmem, ⟨4, _⟩ => ⟨S964x256, .f32⟩
  | .local _ .vmem, ⟨5, _⟩ => ⟨S964x256, .f32⟩
  | .local _ .vmem, ⟨6, _⟩ => ⟨S964x256, .f32⟩
  | .local _ .vmem, ⟨7, _⟩ => ⟨S964x256, .f32⟩
  | .local _ .vmem, ⟨8, _⟩ => ⟨S964x256, .bf16⟩
  | .local _ .vmem, ⟨9, _⟩ => ⟨S964x256, .bf16⟩
  | .local _ .vmem, ⟨10, _⟩ => ⟨S964x256, .f32⟩
  | .local _ .vmem, ⟨11, _⟩ => ⟨S964x256, .f32⟩
  | .local _ .vmem, ⟨12, _⟩ => ⟨S964x256, .f32⟩
  | .local _ .vmem, ⟨13, _⟩ => ⟨S964x256, .f32⟩
  | .local _ .vmem, ⟨14, _⟩ => ⟨S964x256, .f32⟩
  | .local _ .vmem, ⟨15, _⟩ => ⟨S964x256, .f32⟩
  | .local _ .vmem, ⟨16, _⟩ => ⟨S964x256, .f32⟩
  | .local _ .vmem, ⟨17, _⟩ => ⟨S964x256, .f32⟩
  | _, _ => ⟨S964x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S964x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x964x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S964x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S964x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S964x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S964x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S964x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S964x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S964x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S964x1024 : Shape := ⟨2, ![964, 1024]⟩
abbrev S8x964x1024 : Shape := ⟨3, ![8, 964, 1024]⟩
abbrev S1x964x1024 : Shape := ⟨3, ![1, 964, 1024]⟩
abbrev S7x964x1024 : Shape := ⟨3, ![7, 964, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S964x1024, .f32⟩
  | .hbm, ⟨1, _⟩ => ⟨S8x964x1024, .bf16⟩
  | .hbm, ⟨2, _⟩ => ⟨S964x1024, .f32⟩
  | .hbm, ⟨3, _⟩ => ⟨S964x1024, .f32⟩
  | .hbm, ⟨4, _⟩ => ⟨S964x1024, .bf16⟩
  | .hbm, ⟨5, _⟩ => ⟨S1x964x1024, .bf16⟩
  | .hbm, ⟨6, _⟩ => ⟨S7x964x1024, .bf16⟩
  | .hbm, ⟨7, _⟩ => ⟨S8x964x1024, .bf16⟩
  | .hbm, ⟨8, _⟩ => ⟨S8x964x1024, .f32⟩
  | .hbm, ⟨9, _⟩ => ⟨S_, .f32⟩
  | .hbm, ⟨10, _⟩ => ⟨S964x1024, .f32⟩
  | .hbm, ⟨11, _⟩ => ⟨S_, .f32⟩
  | .hbm, ⟨12, _⟩ => ⟨S964x1024, .f32⟩
  | .hbm, ⟨13, _⟩ => ⟨S964x1024, .f32⟩
  | .hbm, ⟨14, _⟩ => ⟨S_, .f32⟩
  | .hbm, ⟨15, _⟩ => ⟨S964x1024, .f32⟩
  | .hbm, ⟨16, _⟩ => ⟨S964x1024, .f32⟩
  | .hbm, ⟨17, _⟩ => ⟨S964x1024, .f32⟩
  | .hbm, ⟨18, _⟩ => ⟨S_, .f32⟩
  | .hbm, ⟨19, _⟩ => ⟨S964x1024, .f32⟩
  | .hbm, ⟨20, _⟩ => ⟨S964x1024, .f32⟩
  | .hbm, ⟨21, _⟩ => ⟨S964x1024, .f32⟩
  | .hbm, ⟨22, _⟩ => ⟨S_, .f32⟩
  | .hbm, ⟨23, _⟩ => ⟨S964x1024, .f32⟩
  | .hbm, ⟨24, _⟩ => ⟨S964x1024, .f32⟩
  | .hbm, ⟨25, _⟩ => ⟨S964x1024, .f32⟩
  | .hbm, ⟨26, _⟩ => ⟨S_, .f32⟩
  | .hbm, ⟨27, _⟩ => ⟨S964x1024, .f32⟩
  | .hbm, ⟨28, _⟩ => ⟨S964x1024, .f32⟩
  | .hbm, ⟨29, _⟩ => ⟨S_, .f32⟩
  | .hbm, ⟨30, _⟩ => ⟨S964x1024, .f32⟩
  | .hbm, ⟨31, _⟩ => ⟨S964x1024, .f32⟩
  | .hbm, ⟨32, _⟩ => ⟨S964x1024, .f32⟩
  | .hbm, ⟨33, _⟩ => ⟨S_, .f32⟩
  | .hbm, ⟨34, _⟩ => ⟨S964x1024, .f32⟩
  | .hbm, ⟨35, _⟩ => ⟨S964x1024, .f32⟩
  | .hbm, ⟨36, _⟩ => ⟨S964x1024, .f32⟩
  | .hbm, ⟨37, _⟩ => ⟨S_, .f32⟩
  | .hbm, ⟨38, _⟩ => ⟨S964x1024, .f32⟩
  | .hbm, ⟨39, _⟩ => ⟨S964x1024, .f32⟩
  | .hbm, ⟨40, _⟩ => ⟨S964x1024, .f32⟩
  | .hbm, ⟨41, _⟩ => ⟨S_, .f32⟩
  | .hbm, ⟨42, _⟩ => ⟨S964x1024, .f32⟩
  | .hbm, ⟨43, _⟩ => ⟨S964x1024, .f32⟩
  | _, _ => ⟨S964x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel27.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S16x1024 : Shape := ⟨2, ![16, 1024]⟩
abbrev S16x768 : Shape := ⟨2, ![16, 768]⟩
abbrev S16x6144 : Shape := ⟨2, ![16, 6144]⟩
abbrev S1024x768 : Shape := ⟨2, ![1024, 768]⟩
abbrev S1x6144 : Shape := ⟨2, ![1, 6144]⟩
abbrev S1x1024 : Shape := ⟨2, ![1, 1024]⟩
abbrev S16x1 : Shape := ⟨2, ![16, 1]⟩
abbrev S6144 : Shape := ⟨1, ![6144]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S16x6144, .f32⟩
  | .hbm, ⟨3, _⟩ => ⟨S1024x768, .f32⟩
  | .hbm, ⟨4, _⟩ => ⟨S1024x768, .f32⟩
  | .hbm, ⟨5, _⟩ => ⟨S1x6144, .f32⟩
  | .hbm, ⟨6, _⟩ => ⟨S1x1024, .f32⟩
  | .local _ .vmem, ⟨0, _⟩ => ⟨S16x1024, .f32⟩
  | .local _ .vmem, ⟨1, _⟩ => ⟨S16x768, .f32⟩
  | .local _ .vmem, ⟨2, _⟩ => ⟨S16x6144, .f32⟩
  | .local _ .vmem, ⟨3, _⟩ => ⟨S1024x768, .f32⟩
  | .local _ .vmem, ⟨4, _⟩ => ⟨S1024x768, .f32⟩
  | .local _ .vmem, ⟨5, _⟩ => ⟨S1x6144, .f32⟩
  | .local _ .vmem, ⟨6, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference29Ideal.lean ====
abbrev S16x1024 : Shape := ⟨2, ![16, 1024]⟩
abbrev S16x768 : Shape := ⟨2, ![16, 768]⟩
abbrev S16x6144 : Shape := ⟨2, ![16, 6144]⟩
abbrev S1024x768 : Shape := ⟨2, ![1024, 768]⟩
abbrev S9x1024 : Shape := ⟨2, ![9, 1024]⟩
abbrev S9x768 : Shape := ⟨2, ![9, 768]⟩
abbrev S_ : Shape := ⟨0, ![]⟩
abbrev S768x1024 : Shape := ⟨2, ![768, 1024]⟩
abbrev S1x1024 : Shape := ⟨2, ![1, 1024]⟩
abbrev S1x768 : Shape := ⟨2, ![1, 768]⟩
abbrev S6144 : Shape := ⟨1, ![6144]⟩
abbrev S1x6144 : Shape := ⟨2, ![1, 6144]⟩

abbrev nBuf : Space → Nat
  | .hbm => 34
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S16x6144, .f32⟩
  | .hbm, ⟨3, _⟩ => ⟨S1024x768, .f32⟩
  | .hbm, ⟨4, _⟩ => ⟨S9x1024, .f32⟩
  | .hbm, ⟨5, _⟩ => ⟨S9x768, .f32⟩
  | .hbm, ⟨6, _⟩ => ⟨S9x1024, .f32⟩
  | .hbm, ⟨7, _⟩ => ⟨S9x1024, .f32⟩
  | .hbm, ⟨8, _⟩ => ⟨S_, .f32⟩
  | .hbm, ⟨9, _⟩ => ⟨S9x1024, .f32⟩
  | .hbm, ⟨10, _⟩ => ⟨S9x1024, .f32⟩
  | .hbm, ⟨11, _⟩ => ⟨S_, .f32⟩
  | .hbm, ⟨12, _⟩ => ⟨S9x1024, .f32⟩
  | .hbm, ⟨13, _⟩ => ⟨S9x1024, .f32⟩
  | .hbm, ⟨14, _⟩ => ⟨S9x1024, .f32⟩
  | .hbm, ⟨15, _⟩ => ⟨S9x768, .f32⟩
  | .hbm, ⟨16, _⟩ => ⟨S768x1024, .f32⟩
  | .hbm, ⟨17, _⟩ => ⟨S1024x768, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x768, .f32⟩
  | .hbm, ⟨29, _⟩ => ⟨S1x768, .f32⟩
  | .hbm, ⟨30, _⟩ => ⟨S1x1024, .f32⟩
  | .hbm, ⟨31, _⟩ => ⟨S_, .f32⟩
  | .hbm, ⟨32, _⟩ => ⟨S6144, .f32⟩
  | .hbm, ⟨33, _⟩ => ⟨S1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel30.lean ====
abbrev S8x1x1024 : Shape := ⟨3, ![8, 1, 1024]⟩
abbrev S1x1024 : Shape := ⟨2, ![1, 1024]⟩
abbrev S8x128 : Shape := ⟨2, ![8, 128]⟩
abbrev S1x1x1024 : Shape := ⟨3, ![1, 1, 1024]⟩

abbrev nBuf : Space → Nat
  | .hbm => 4
  | .vmem => 3
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S8x128, .f32⟩
  | .hbm, ⟨3, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference30Ideal.lean ====
abbrev S8x1x1024 : Shape := ⟨3, ![8, 1, 1024]⟩
abbrev S1x1024 : Shape := ⟨2, ![1, 1024]⟩
abbrev S8x128 : Shape := ⟨2, ![8, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_cst : Ref sig .tc := ⟨.hbm, 16, rfl⟩
abbrev main_v1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v2 : Ref sig .tc := ⟨.hbm, 21, rfl⟩

abbrev nD : Nat := 1
abbrev τ : Topo := Topo.v7x

variable {F : FTy → Type} [FloatOps F]
-- ==== Kernel31.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference31Ideal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Soft.lean ====
/- Softmax attention and its gradient over the reals, and the steps that carry extended-real sums, maxima and exponentials of
   finite values back to the reals. -/
module

public import Idealize.ShloMosaic.Lib.IdealHost
public import Idealize.ShloMosaic.Lib.Pipeline.ValueKit
public import Mathlib.Analysis.SpecialFunctions.Pow.Real

@[expose] public section

noncomputable section

namespace Cert.Soft

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem sum_mul_coe {ι : Type} [Fintype ι] (f g : ι → ℝ) :
    ∑ i, (f i : EReal) * (g i : EReal) = ((∑ i, f i * g i : ℝ) : EReal) := by
  rw [coe_sum]; exact Finset.sum_congr rfl fun i _ => (EReal.coe_mul _ _).symm

/-- A number whose absolute value is below infinity is a real. -/
theorem exists_coe {x : EReal} (h : max x (-x) < ⊤) : ∃ r : ℝ, x = (r : EReal) := by
  induction x using EReal.rec with
  | bot => simp at h
  | top => simp at h
  | coe r => exact ⟨r, rfl⟩

/-- The greatest of finitely many reals, started from minus infinity, is a real. -/
theorem fold_max_coe {ι : Type} [Fintype ι] [Nonempty ι] (f : ι → ℝ) :
    ∃ r : ℝ, (Finset.univ : Finset ι).fold max (⊥ : EReal) (fun i => (f i : EReal)) = (r : EReal) := by
  classical
  have h : ∀ s : Finset ι, (s = ∅ ∧ s.fold max (⊥ : EReal) (fun i => (f i : EReal)) = ⊥)
      ∨ ∃ r : ℝ, s.fold max (⊥ : EReal) (fun i => (f i : EReal)) = (r : EReal) := by
    intro s
    induction s using Finset.induction_on with
    | empty => exact .inl ⟨rfl, Finset.fold_empty⟩
    | insert a s ha ih =>
      refine .inr ?_
      rw [Finset.fold_insert ha]
      rcases ih with ⟨_, e⟩ | ⟨r, e⟩
      · exact ⟨f a, by rw [e]; exact max_eq_left bot_le⟩
      · exact ⟨max (f a) r, by rw [e]; exact (EReal.coe_strictMono.monotone.map_max).symm⟩
  rcases h Finset.univ with ⟨e, _⟩ | h
  · exact absurd e Finset.univ_nonempty.ne_empty
  · exact h

/-- The greatest of equal reals is that real. -/
theorem fold_max_const {ι : Type} [Fintype ι] [Nonempty ι] (r : ℝ) :
    (Finset.univ : Finset ι).fold max (⊥ : EReal) (fun _ => (r : EReal)) = (r : EReal) := by
  classical
  have h : ∀ s : Finset ι, s.Nonempty → s.fold max (⊥ : EReal) (fun _ => (r : EReal)) = (r : EReal) := by
    intro s hs
    induction hs using Finset.Nonempty.cons_induction with
    | singleton a => rw [Finset.fold_singleton]; exact max_eq_left bot_le
    | cons a s ha hs ih => rw [Finset.fold_cons, ih, max_self]
  exact h _ Finset.univ_nonempty

/-! ## One row of the softmax -/

section Row

variable {ι : Type} [Fintype ι]

/-- The softmax of a row of scores. -/
def prob (s : ι → ℝ) (k : ι) : ℝ := Real.exp (s k) / ∑ j, Real.exp (s j)

theorem sum_exp_pos [Nonempty ι] (s : ι → ℝ) : 0 < ∑ j, Real.exp (s j) :=
  Finset.sum_pos (fun _ _ => Real.exp_pos _) Finset.univ_nonempty

/-- The softmax does not change when one number is taken from every score. -/
theorem prob_shift [Nonempty ι] (s : ι → ℝ) (m : ℝ) (k : ι) :
    Real.exp (s k - m) / ∑ j, Real.exp (s j - m) = prob s k := by
  have e : ∀ j, Real.exp (s j - m) = Real.exp (s j) * Real.exp (-m) := fun j => by rw [← Real.exp_add]; rfl
  unfold prob
  rw [e k, Finset.sum_congr rfl fun j _ => e j, ← Finset.sum_mul, mul_div_mul_right _ _ (Real.exp_pos _).ne']

/-- The softmax from a row's log-sum in base two. -/
theorem prob_log [Nonempty ι] (s : ι → ℝ) (m : ℝ) (k : ι) :
    Real.rpow 2 (s k * (Real.log 2)⁻¹ - (m + Real.log (∑ j, Real.exp (s j - m))) * (1 / Real.log 2)) = prob s k := by
  have h2 : Real.log 2 ≠ 0 := (Real.log_pos one_lt_two).ne'
  have hl := sum_exp_pos fun j => s j - m
  rw [← prob_shift s m k]
  rw [Real.rpow_eq_pow, Real.rpow_def_of_pos two_pos]
  have e : Real.log 2 * (s k * (Real.log 2)⁻¹ - (m + Real.log (∑ j, Real.exp (s j - m))) * (1 / Real.log 2))
      = s k - m - Real.log (∑ j, Real.exp (s j - m)) := by field_simp; ring
  rw [e, Real.exp_sub, Real.exp_log hl]

/-- The gradient of the scores as the derivative of a quotient gives it, the exponentials left unnormalised. -/
theorem grad_quotient [Nonempty ι] (s dp : ι → ℝ) (m : ℝ) (k : ι) :
    (dp k * (1 / ∑ j, Real.exp (s j - m))
        + -∑ j, dp j * (1 / ((∑ j, Real.exp (s j - m)) * ∑ j, Real.exp (s j - m))) * Real.exp (s j - m)) * Real.exp (s k - m)
      = prob s k * (dp k - ∑ j, prob s j * dp j) := by
  have hl := (sum_exp_pos fun j => s j - m).ne'
  simp only [← prob_shift s m]
  set l := ∑ j, Real.exp (s j - m)
  have e : ∑ j, dp j * (1 / (l * l)) * Real.exp (s j - m) = (∑ j, Real.exp (s j - m) / l * dp j) / l := by
    rw [Finset.sum_div]; refine Finset.sum_congr rfl fun j _ => ?_; field_simp
  rw [e]; field_simp; ring

end Row

/-! ## Grouped attention: key head `g`, query head `a` of its group, query `n`, key `j` -/

/-- The scale, the f32 nearest one over the root of the head's width. -/
def scale : ℝ := 11863283 / 134217728

variable (q dout : Fin 2 → Fin 4 → Fin 2048 → Fin 128 → ℝ) (k v : Fin 2 → Fin 2304 → Fin 128 → ℝ)

def dot (x : Fin 128 → ℝ) (y : Fin 128 → ℝ) : ℝ := ∑ d, x d * y d

def score (g : Fin 2) (a : Fin 4) (n : Fin 2048) (j : Fin 2304) : ℝ := dot (q g a n) (k g j) * scale
def prb (g : Fin 2) (a : Fin 4) (n : Fin 2048) (j : Fin 2304) : ℝ := prob (score q k g a n) j
def out (g : Fin 2) (a : Fin 4) (n : Fin 2048) (d : Fin 128) : ℝ := ∑ j, prb q k g a n j * v g j d
def dprb (g : Fin 2) (a : Fin 4) (n : Fin 2048) (j : Fin 2304) : ℝ := dot (dout g a n) (v g j)
def dscore (g : Fin 2) (a : Fin 4) (n : Fin 2048) (j : Fin 2304) : ℝ :=
  prb q k g a n j * (dprb dout v g a n j - ∑ i, prb q k g a n i * dprb dout v g a n i) * scale
def dq (g : Fin 2) (a : Fin 4) (n : Fin 2048) (d : Fin 128) : ℝ := ∑ j, dscore q dout k v g a n j * k g j d
def dk (g : Fin 2) (j : Fin 2304) (d : Fin 128) : ℝ := ∑ a, ∑ n, dscore q dout k v g a n j * q g a n d
def dv (g : Fin 2) (j : Fin 2304) (d : Fin 128) : ℝ := ∑ a, ∑ n, prb q k g a n j * dout g a n d

/-- The inner product of the output's gradient with the output is the mean of the probabilities' gradients. -/
theorem dot_out (g : Fin 2) (a : Fin 4) (n : Fin 2048) :
    ∑ d, dout g a n d * out q k v g a n d = ∑ i, prb q k g a n i * dprb dout v g a n i := by
  simp only [out, dprb, dot, Finset.mul_sum]
  rw [Finset.sum_comm]
  exact Finset.sum_congr rfl fun i _ => Finset.sum_congr rfl fun d _ => by ring

/-! ## Finite arguments -/

/-- The four arguments hold the reals `q` (its latent rows), `k`, `v` and `dout`. -/
structure Holds (x0 : (⟨3, ![8, 2304, 128]⟩ : Shape).Idx → EReal) (x1 x2 : (⟨3, ![2, 2304, 128]⟩ : Shape).Idx → EReal)
    (x3 : (⟨2, ![2048, 1024]⟩ : Shape).Idx → EReal) : Prop where
  q : ∀ (g : Fin 2) (a : Fin 4) (n : Fin 2048) (d : Fin 128),
    x0 (ix3 ⟨4 * g.val + a.val, by omega⟩ ⟨256 + n.val, by omega⟩ d) = (q g a n d : EReal)
  k : ∀ (g : Fin 2) (j : Fin 2304) (d : Fin 128), x1 (ix3 g j d) = (k g j d : EReal)
  v : ∀ (g : Fin 2) (j : Fin 2304) (d : Fin 128), x2 (ix3 g j d) = (v g j d : EReal)
  dout : ∀ (g : Fin 2) (a : Fin 4) (n : Fin 2048) (d : Fin 128),
    x3 (ix2 n ⟨512 * g.val + (128 * a.val + d.val), by omega⟩) = (dout g a n d : EReal)

end Cert.Soft

end
-- ==== Proof.Saved.lean ====
/- What the host computes before the call: the attention's output and each row's log-sum in base two, read at an index. -/
module

public import proofs.«01_k».proof.Proof.Gen.KernelIdeal.Frame
public import proofs.«01_k».proof.Proof.Soft
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-! ## The host's stages -/

section Stages

variable (x0 : FVec Ideal S8x2304x128 .bf16) (x1 x2 : FVec Ideal S2x2304x128 .bf16)

def hScore : FVec Ideal S2x4x2048x2304 .f32 :=
  mulf (Host.dotGeneral dot_S2x4x2048x128_S2x2304x128_S2x4x2048x2304_3_2_12_1_0_0 none
      (shapeCast S2x4x2048x128 (extf .f32 (extractStridedSlice S8x2048x128 ![0, 256, 0] x0 slices_S8x2304x128_S8x2048x128_0_256_0)
        bitsLt_bf16_f32) shapeCasts_S8x2048x128_S2x4x2048x128) (extf .f32 x1 bitsLt_bf16_f32))
    (broadcastInDim S2x4x2048x2304 ![] bcast_S_S2x4x2048x2304 (constant S_ .f32 0x3DB504F3#32))

def hMax : FVec Ideal S2x4x2048x1 .f32 :=
  broadcastInDim S2x4x2048x1 ![0, 1, 2] bcast_S2x4x2048_S2x4x2048x1_0_1_2
    (Host.reduce FloatOps.maximumf (hScore x0 x1) (constant S_ .f32 0xFF800000#32) reducesTo_S2x4x2048x2304_S2x4x2048_d3 h_S_)

def hExp : FVec Ideal S2x4x2048x2304 .f32 :=
  Host.exp (subf (hScore x0 x1) (broadcastInDim S2x4x2048x2304 ![0, 1, 2, 3] bcast_S2x4x2048x1_S2x4x2048x2304_0_1_2_3 (hMax x0 x1)))

def hSum : FVec Ideal S2x4x2048x1 .f32 :=
  broadcastInDim S2x4x2048x1 ![0, 1, 2] bcast_S2x4x2048_S2x4x2048x1_0_1_2
    (Host.reduceAdd (hExp x0 x1) (constant S_ .f32 0x00000000#32) reducesTo_S2x4x2048x2304_S2x4x2048_d3 h_S_)

def hOut : FVec Ideal S2x4x2048x128 .f32 :=
  Host.dotGeneral dot_S2x4x2048x2304_S2x2304x128_S2x4x2048x128_3_1_12_2_0_0 none
    (Host.divf (hExp x0 x1) (broadcastInDim S2x4x2048x2304 ![0, 1, 2, 3] bcast_S2x4x2048x1_S2x4x2048x2304_0_1_2_3 (hSum x0 x1)))
    (extf .f32 x2 bitsLt_bf16_f32)

def hO32 : FVec Ideal S2048x1024 .f32 :=
  shapeCast S2048x1024 (transpose S2048x2x4x128 [2, 0, 1, 3] (hOut x0 x1 x2) transposes_S2x4x2048x128_S2048x2x4x128_2_0_1_3)
    shapeCasts_S2048x2x4x128_S2048x1024

def hLn2 : FVec Ideal S_ .f32 := Host.log (constant S_ .f32 0x40000000#32)

def hLog : FVec Ideal S2x4x2048x1 .f32 :=
  Host.divf (addf (hMax x0 x1) (Host.log (hSum x0 x1))) (broadcastInDim S2x4x2048x1 ![] bcast_S_S2x4x2048x1 hLn2)

def hWide : FVec Ideal S2x4x2048x128 .f32 :=
  broadcastInDim S2x4x2048x128 ![0, 1, 2, 3] bcast_S2x4x2048x1_S2x4x2048x128_0_1_2_3 (hLog x0 x1)

def hLse : FVec Ideal S8x2048x128 .f32 :=
  shapeCast S8x2048x128 (hWide x0 x1) shapeCasts_S2x4x2048x128_S8x2048x128

end Stages

theorem V_o32 (m : (ℓ : Loc nD τ sig) → Buf (Elt Ideal) ℓ) (c : Dev nD) :
    V m c main_v19 = hO32 (m ((c : Thread nD τ).loc main_arg0)) (m ((c : Thread nD τ).loc main_arg1)) (m ((c : Thread nD τ).loc main_arg2)) := by
  entry_read
  rfl

theorem V_lse (m : (ℓ : Loc nD τ sig) → Buf (Elt Ideal) ℓ) (c : Dev nD) :
    V m c main_v26 = hLse (m ((c : Thread nD τ).loc main_arg0)) (m ((c : Thread nD τ).loc main_arg1)) := by
  entry_read
  rfl

/-! ## Their values -/

theorem ofBits_scale : Ideal.ofBits .f32 0x3DB504F3#32 = ((Soft.scale : ℝ) : EReal) := by
  simp [Ideal.ofBits, Ideal.ieee, Soft.scale]; rw [← EReal.coe_mul]; norm_num

theorem ofBits_two : Ideal.ofBits .f32 0x40000000#32 = ((2 : ℝ) : EReal) := by
  simp [Ideal.ofBits, Ideal.ieee]; rw [← EReal.coe_mul]; norm_num

theorem ofBits_bot : Ideal.ofBits .f32 0xFF800000#32 = (⊥ : EReal) := by
  simp [Ideal.ofBits, Ideal.ieee]

theorem log_read (u w : FVec Ideal S2x4x2048x1 .f32) (y : FVec Ideal S_ .f32) (r s t : ℝ) (i : S2x4x2048x1.Idx) (hu : u i = (r : EReal)) (hw : w i = (s : EReal)) (hy : ∀ i, y i = (t : EReal))
   (ht : t ≠ 0) (hs : 0 < s) : Host.divf (addf u (Host.log w)) (broadcastInDim S2x4x2048x1 ![] bcast_S_S2x4x2048x1 y) i = (((r + Real.log s) * (1 / t) : ℝ) : EReal) := by
  show Ideal.div (u i + Ideal.log (w i)) (broadcastInDim S2x4x2048x1 ![] bcast_S_S2x4x2048x1 y i) = _
  rw [hu, hw, broadcastInDim_apply ![] bcast_S_S2x4x2048x1 y i (fun a => a.elim0) (fun a => a.elim0), hy, Ideal.log_coe,
    if_neg (not_le.2 hs), Ideal.div_coe ht, ← EReal.coe_add, ← EReal.coe_mul]

section Values

variable {x0 : FVec Ideal S8x2304x128 .bf16} {x1 x2 : FVec Ideal S2x2304x128 .bf16} {x3 : FVec Ideal S2048x1024 .f32}
variable {q dout : Fin 2 → Fin 4 → Fin 2048 → Fin 128 → ℝ} {k v : Fin 2 → Fin 2304 → Fin 128 → ℝ}
variable (hx : Soft.Holds q dout k v x0 x1 x2 x3)

include hx

theorem hScore_at (g : Fin 2) (a : Fin 4) (n : Fin 2048) (j : Fin 2304) :
    hScore x0 x1 (ix4 g a n j) = (Soft.score q k g a n j : EReal) := by
  pointwise [hScore]
  have e : ∀ d, x0 (ix3 ⟨g.val * 4 + a.val, by omega⟩ ⟨256 + n.val, by omega⟩ d) = (q g a n d : EReal) := fun d => by
    rw [← hx.q g a n d]; congr 2; exact Fin.ext (Nat.add_right_cancel_iff.2 (Nat.mul_comm _ _))
  simp only [e, hx.k]
  rw [ofBits_scale, Soft.sum_mul_coe, ← EReal.coe_mul]
  rfl

theorem hMax_at (g : Fin 2) (a : Fin 4) (n : Fin 2048) : ∃ r : ℝ, hMax x0 x1 (ix4 g a n 0) = (r : EReal) := by
  pointwise [hMax]
  simp only [hScore_at hx, ofBits_bot]
  exact Soft.fold_max_coe _

theorem hExp_at (g : Fin 2) (a : Fin 4) (n : Fin 2048) (j : Fin 2304) (r : ℝ) (hr : hMax x0 x1 (ix4 g a n 0) = (r : EReal)) :
    hExp x0 x1 (ix4 g a n j) = (Real.exp (Soft.score q k g a n j - r) : EReal) := by
  pointwise [hExp]
  rw [hScore_at hx, hr, ← EReal.coe_sub, Ideal.exp_coe]

theorem hSum_at (g : Fin 2) (a : Fin 4) (n : Fin 2048) (r : ℝ) (hr : hMax x0 x1 (ix4 g a n 0) = (r : EReal)) :
    hSum x0 x1 (ix4 g a n 0) = ((∑ j, Real.exp (Soft.score q k g a n j - r) : ℝ) : EReal) := by
  pointwise [hSum]
  rw [Soft.coe_sum]
  exact Finset.sum_congr rfl fun j _ => hExp_at hx g a n j r hr

theorem hOut_at (g : Fin 2) (a : Fin 4) (n : Fin 2048) (d : Fin 128) :
    hOut x0 x1 x2 (ix4 g a n d) = (Soft.out q k v g a n d : EReal) := by
  obtain ⟨r, hr⟩ := hMax_at hx g a n
  pointwise [hOut]
  have hl := (Soft.sum_exp_pos fun j => Soft.score q k g a n j - r).ne'
  rw [Soft.out, ← Soft.sum_mul_coe]
  refine Finset.sum_congr rfl fun j _ => ?_
  rw [hExp_at hx g a n j r hr, hSum_at hx g a n r hr, Ideal.div_coe hl, ← EReal.coe_mul, hx.v, mul_one_div,
    Soft.prob_shift (fun j => Soft.score q k g a n j)]
  rfl

theorem hO32_at (g : Fin 2) (a : Fin 4) (n : Fin 2048) (d : Fin 128) :
    hO32 x0 x1 x2 (ix2 n ⟨512 * g.val + (128 * a.val + d.val), by omega⟩) = (Soft.out q k v g a n d : EReal) := by
  pointwise [hO32]
  exact hOut_at hx g a n d

omit hx in
theorem hLn2_at (i : S_.Idx) : hLn2 i = ((Real.log 2 : ℝ) : EReal) := by
  unfold hLn2
  rw [show (constant S_ .f32 0x40000000#32 : FVec Ideal S_ .f32) = fun _ => ((2 : ℝ) : EReal) from funext fun _ => ofBits_two]
  show Ideal.log ((2 : ℝ) : EReal) = _
  rw [Ideal.log_coe, if_neg (not_le.2 two_pos)]

theorem hLog_at (g : Fin 2) (a : Fin 4) (n : Fin 2048) (r : ℝ) (hr : hMax x0 x1 (ix4 g a n 0) = (r : EReal)) :
    hLog x0 x1 (ix4 g a n 0)
      = (((r + Real.log (∑ j, Real.exp (Soft.score q k g a n j - r))) * (1 / Real.log 2) : ℝ) : EReal) := by
  unfold hLog
  exact log_read _ _ _ r _ _ _ hr (hSum_at hx g a n r hr) hLn2_at (Real.log_pos one_lt_two).ne' (Soft.sum_exp_pos _)

omit hx in
theorem hWide_at (g : Fin 2) (a : Fin 4) (n : Fin 2048) (d : Fin 128) :
    hWide x0 x1 (ix4 g a n d) = hLog x0 x1 (ix4 g a n 0) := by
  unfold hWide
  generalize hLog x0 x1 = y
  pointwise

omit hx in
theorem hLse_wide (g : Fin 2) (a : Fin 4) (n : Fin 2048) (d : Fin 128) :
    hLse x0 x1 (ix3 ⟨4 * g.val + a.val, by omega⟩ n d) = hWide x0 x1 (ix4 g a n d) := by
  unfold hLse
  generalize hWide x0 x1 = y
  refine shapeCast_apply y shapeCasts_S2x4x2048x128_S8x2048x128 _ (ix4 g a n d) ?_
  rw [Shape.rowMajor_val_three, Shape.rowMajor_val_four]
  show ((g.val * 4 + a.val) * 2048 + n.val) * 128 + d.val = ((4 * g.val + a.val) * 2048 + n.val) * 128 + d.val
  omega

theorem hLse_at (g : Fin 2) (a : Fin 4) (n : Fin 2048) (d : Fin 128) (r : ℝ) (hr : hMax x0 x1 (ix4 g a n 0) = (r : EReal)) :
    hLse x0 x1 (ix3 ⟨4 * g.val + a.val, by omega⟩ n d)
      = (((r + Real.log (∑ j, Real.exp (Soft.score q k g a n j - r))) * (1 / Real.log 2) : ℝ) : EReal) := by
  rw [hLse_wide, hWide_at]
  exact hLog_at hx g a n r hr

end Values

end Cert.KernelIdeal.Value

end
-- ==== Proof.PayAt.lean ====
/- What one grid point computes, read at an index: the row block's probabilities, the gradients of its scores, and its part of
   each of the three results. -/
module

public import proofs.«01_k».proof.Proof.Saved

@[expose] public section

set_option maxRecDepth 16384

noncomputable section

namespace Cert.KernelIdeal.Value

open Cert.KernelIdeal Cert.KernelIdeal.Gen Idealize.ShloMosaic Idealize.ShloMosaic.TcCoe Idealize.SL.Sem

/-- The query head of row `r` of a row block. -/
abbrev hd (r : Fin 512) : Fin 4 := ⟨r.val / 128, by omega⟩
/-- The query of row `r` of a row block. -/
abbrev rw' (r : Fin 512) : Fin 128 := ⟨r.val % 128, by omega⟩

/-- The blocks of one grid point hold the attention's arguments and saved values: key head `G`, the block's queries `nn`. -/
structure Blk (q dout : Fin 2 → Fin 4 → Fin 2048 → Fin 128 → ℝ) (k v : Fin 2 → Fin 2304 → Fin 128 → ℝ) (G : Fin 2)
    (nn : Fin 128 → Fin 2048) (x0 : Vec Ideal S4x128x128 .bf16) (x1 x2 : Vec Ideal S1x2304x128 .bf16)
    (x3 : Vec Ideal S128x512 .f32) (x4 : Vec Ideal S4x128x128 .f32) (x5 : Vec Ideal S128x512 .f32) : Prop where
  hq : ∀ (a : Fin 4) (t d : Fin 128), x0 (ix3 a t d) = (q G a (nn t) d : EReal)
  hk : ∀ (j : Fin 2304) (d : Fin 128), x1 (ix3 0 j d) = (k G j d : EReal)
  hv : ∀ (j : Fin 2304) (d : Fin 128), x2 (ix3 0 j d) = (v G j d : EReal)
  ho : ∀ (a : Fin 4) (t d : Fin 128), x3 (ix2 t ⟨128 * a.val + d.val, by omega⟩) = (Soft.out q k v G a (nn t) d : EReal)
  hlse : ∀ (a : Fin 4) (t : Fin 128), ∃ r : ℝ, ∀ e : Fin 128, x4 (ix3 a t e)
    = (((r + Real.log (∑ j, Real.exp (Soft.score q k G a (nn t) j - r))) * (1 / Real.log 2) : ℝ) : EReal)
  hdout : ∀ (a : Fin 4) (t d : Fin 128), x5 (ix2 t ⟨128 * a.val + d.val, by omega⟩) = (dout G a (nn t) d : EReal)

/-- Four column blocks set under each other. -/
theorem pay7_ld (x : Vec Ideal S128x512 .f32) (r : Fin 512) (d : Fin 128) :
    k0_pay7 (View.ld x (Rect.unit (s := S128x512) ![0, 0] ![128, 128] inb_S128x512_S128x128_0_0))
      (View.ld x (Rect.unit (s := S128x512) ![0, 128] ![128, 128] inb_S128x512_S128x128_0_128))
      (View.ld x (Rect.unit (s := S128x512) ![0, 256] ![128, 128] inb_S128x512_S128x128_0_256))
      (View.ld x (Rect.unit (s := S128x512) ![0, 384] ![128, 128] inb_S128x512_S128x128_0_384)) (ix2 r d)
    = x (ix2 (rw' r) ⟨128 * (hd r).val + d.val, by have := (hd r).isLt; omega⟩) := by
  pointwise [k0_pay7]
  split_ifs with h1 h2 h3 <;> refine congrArg x (congrArg₂ ix2 (Fin.ext ?_) (Fin.ext ?_)) <;> simp only <;> omega

theorem pay6_ld (x : Vec Ideal S128x512 .f32) (r : Fin 512) (d : Fin 128) :
    k0_pay6 (View.ld x (Rect.unit (s := S128x512) ![0, 0] ![128, 128] inb_S128x512_S128x128_0_0))
      (View.ld x (Rect.unit (s := S128x512) ![0, 128] ![128, 128] inb_S128x512_S128x128_0_128))
      (View.ld x (Rect.unit (s := S128x512) ![0, 256] ![128, 128] inb_S128x512_S128x128_0_256))
      (View.ld x (Rect.unit (s := S128x512) ![0, 384] ![128, 128] inb_S128x512_S128x128_0_384)) (ix2 r d)
    = x (ix2 (rw' r) ⟨128 * (hd r).val + d.val, by have := (hd r).isLt; omega⟩) := by
  pointwise [k0_pay6]
  split_ifs with h1 h2 h3 <;> refine congrArg x (congrArg₂ ix2 (Fin.ext ?_) (Fin.ext ?_)) <;> simp only <;> omega

/-! ## Reads over any operands -/

theorem pay2_at (x4 : Vec Ideal S4x128x128 .f32) (r : Fin 512) :
    k0_pay2 x4 (ix2 r 0) = Finset.univ.fold max (Ideal.ofBits .f32 0xFF800000#32) fun e => x4 (ix3 (hd r) (rw' r) e) := by
  pointwise [k0_pay2]

theorem pay8_at (x0 : Vec Ideal S4x128x128 .bf16) (x1 : Vec Ideal S1x2304x128 .bf16) (r : Fin 512) (j : Fin 2304) :
    k0_pay8 x0 x1 (ix2 r j) = ∑ d, x0 (ix3 (hd r) (rw' r) d) * x1 (ix3 0 j d) := by
  pointwise [k0_pay8, k0_pay3, k0_pay4]

theorem pay3_at (x0 : Vec Ideal S4x128x128 .bf16) (r : Fin 512) (d : Fin 128) : k0_pay3 x0 (ix2 r d) = x0 (ix3 (hd r) (rw' r) d) := by
  pointwise [k0_pay3]

theorem pay4_at (x1 : Vec Ideal S1x2304x128 .bf16) (j : Fin 2304) (d : Fin 128) : k0_pay4 x1 (ix2 j d) = x1 (ix3 0 j d) := by
  pointwise [k0_pay4]

theorem pay5_at (x2 : Vec Ideal S1x2304x128 .bf16) (j : Fin 2304) (d : Fin 128) : k0_pay5 x2 (ix2 j d) = x2 (ix3 0 j d) := by
  pointwise [k0_pay5]

theorem pay9_at (r : Fin 512) (j : Fin 2304) :
    k0_pay9 (F := Ideal) (ix2 r j) = ((Soft.scale * (Real.log 2)⁻¹ : ℝ) : EReal) := by
  pointwise [k0_pay9]
  exact IdealRules.named_const.ideal_named_scalar _ _ _ _ rfl

theorem pay10_at (v4 : FVec Ideal S512x1 .f32) (v25 v26 : FVec Ideal S512x2304 .f32) (r : Fin 512) (j : Fin 2304) :
    k0_pay10 v4 v25 v26 (ix2 r j) = Ideal.exp2 (v25 (ix2 r j) * v26 (ix2 r j) - v4 (ix2 r 0)) := by
  pointwise [k0_pay10]
  rfl

theorem pay11_at (v4 : FVec Ideal S512x1 .f32) (v10 : FVec Ideal S2304x128 .bf16) (v19 v24 : FVec Ideal S512x128 .f32)
    (v25 v26 : FVec Ideal S512x2304 .f32) (r : Fin 512) (j : Fin 2304) :
    k0_pay11 v4 v10 v19 v24 v25 v26 (ix2 r j) = k0_pay10 v4 v25 v26 (ix2 r j)
      * (∑ d, v24 (ix2 r d) * v10 (ix2 j d) - ∑ d, v24 (ix2 r d) * v19 (ix2 r d)) * Ideal.ofBits .f32 0x3DB504F3#32 := by
  pointwise [k0_pay11]

theorem pay12_at (v4 : FVec Ideal S512x1 .f32) (v8 v10 : FVec Ideal S2304x128 .bf16) (v19 v24 : FVec Ideal S512x128 .f32)
    (v25 v26 : FVec Ideal S512x2304 .f32) (a : Fin 4) (t d : Fin 128) :
    k0_pay12 v4 v8 v10 v19 v24 v25 v26 (ix3 a t d)
      = ∑ j, k0_pay11 v4 v10 v19 v24 v25 v26 (ix2 ⟨128 * a.val + t.val, by omega⟩ j) * v8 (ix2 j d) := by
  pointwise [k0_pay12]
  refine Finset.sum_congr rfl fun j _ => ?_
  exact congrArg (fun r => k0_pay11 v4 v10 v19 v24 v25 v26 (ix2 r j) * v8 (ix2 j d))
    (Fin.ext (congrArg (fun n => n + t.val) (Nat.mul_comm _ _)))

theorem pay15_at (v4 : FVec Ideal S512x1 .f32) (v6 : FVec Ideal S512x128 .bf16) (v10 : FVec Ideal S2304x128 .bf16)
    (v19 v24 : FVec Ideal S512x128 .f32) (v25 v26 : FVec Ideal S512x2304 .f32) (v53 : Vec Ideal S1x2304x128 .f32)
    (z : Fin 1) (j : Fin 2304) (d : Fin 128) :
    k0_pay15 v4 v6 v10 v19 v24 v25 v26 v53 (ix3 z j d)
      = v53 (ix3 0 j d) + ∑ r, k0_pay11 v4 v10 v19 v24 v25 v26 (ix2 r j) * v6 (ix2 r d) := by
  pointwise [k0_pay15]

theorem pay16_at (v4 : FVec Ideal S512x1 .f32) (v24 : FVec Ideal S512x128 .f32) (v25 v26 : FVec Ideal S512x2304 .f32)
    (v59 : Vec Ideal S1x2304x128 .f32) (z : Fin 1) (j : Fin 2304) (d : Fin 128) :
    k0_pay1 (k0_pay16 v4 v24 v25 v26 v59) (ix3 z j d)
      = v59 (ix3 0 j d) + ∑ r, k0_pay10 v4 v25 v26 (ix2 r j) * v24 (ix2 r d) := by
  pointwise [k0_pay16, k0_pay1]

/-! ## Over one grid point's blocks -/

section Point

variable {q dout : Fin 2 → Fin 4 → Fin 2048 → Fin 128 → ℝ} {k v : Fin 2 → Fin 2304 → Fin 128 → ℝ} {G : Fin 2}
  {nn : Fin 128 → Fin 2048} {x0 : Vec Ideal S4x128x128 .bf16} {x1 x2 : Vec Ideal S1x2304x128 .bf16}
  {x3 : Vec Ideal S128x512 .f32} {x4 : Vec Ideal S4x128x128 .f32} {x5 : Vec Ideal S128x512 .f32}
  {v19 v24 : FVec Ideal S512x128 .f32}

/-- The probabilities. -/
theorem prb_at (hb : Blk q dout k v G nn x0 x1 x2 x3 x4 x5) (r : Fin 512) (j : Fin 2304) :
    k0_pay10 (k0_pay2 x4) (k0_pay8 x0 x1) k0_pay9 (ix2 r j) = (Soft.prb q k G (hd r) (nn (rw' r)) j : EReal) := by
  obtain ⟨s, hs⟩ := hb.hlse (hd r) (rw' r)
  rw [pay10_at, pay2_at, pay8_at, pay9_at]
  simp only [hs, hb.hq, hb.hk]
  rw [ofBits_bot, Soft.fold_max_const, Soft.sum_mul_coe, ← EReal.coe_mul, ← EReal.coe_sub, Ideal.exp2_coe,
    ← mul_assoc]
  exact congrArg _ (Soft.prob_log (Soft.score q k G (hd r) (nn (rw' r))) s j)

/-- The gradients of the scores. -/
theorem dscore_at (hb : Blk q dout k v G nn x0 x1 x2 x3 x4 x5)
    (h19 : ∀ r d, v19 (ix2 r d) = x3 (ix2 (rw' r) ⟨128 * (hd r).val + d.val, by have := (hd r).isLt; omega⟩))
    (h24 : ∀ r d, v24 (ix2 r d) = x5 (ix2 (rw' r) ⟨128 * (hd r).val + d.val, by have := (hd r).isLt; omega⟩))
    (r : Fin 512) (j : Fin 2304) :
    k0_pay11 (k0_pay2 x4) (k0_pay5 x2) v19 v24 (k0_pay8 x0 x1) k0_pay9 (ix2 r j)
      = (Soft.dscore q dout k v G (hd r) (nn (rw' r)) j : EReal) := by
  have e19 : ∀ d, v19 (ix2 r d) = (Soft.out q k v G (hd r) (nn (rw' r)) d : EReal) := fun d => (h19 r d).trans (hb.ho _ _ d)
  have e24 : ∀ d, v24 (ix2 r d) = (dout G (hd r) (nn (rw' r)) d : EReal) := fun d => (h24 r d).trans (hb.hdout _ _ d)
  rw [pay11_at, prb_at hb]
  simp only [e19, e24, pay5_at, hb.hv]
  rw [Soft.sum_mul_coe, Soft.sum_mul_coe, ofBits_scale, ← EReal.coe_sub, ← EReal.coe_mul, ← EReal.coe_mul, Soft.dot_out]
  rfl

/-- The gradient of the block's queries. -/
theorem dq_at (hb : Blk q dout k v G nn x0 x1 x2 x3 x4 x5)
    (h19 : ∀ r d, v19 (ix2 r d) = x3 (ix2 (rw' r) ⟨128 * (hd r).val + d.val, by have := (hd r).isLt; omega⟩))
    (h24 : ∀ r d, v24 (ix2 r d) = x5 (ix2 (rw' r) ⟨128 * (hd r).val + d.val, by have := (hd r).isLt; omega⟩))
    (a : Fin 4) (t d : Fin 128) :
    k0_pay12 (k0_pay2 x4) (k0_pay4 x1) (k0_pay5 x2) v19 v24 (k0_pay8 x0 x1) k0_pay9 (ix3 a t d)
      = (Soft.dq q dout k v G a (nn t) d : EReal) := by
  rw [pay12_at]
  simp only [dscore_at hb h19 h24, pay4_at, hb.hk]
  rw [Soft.sum_mul_coe]
  have e1 : hd ⟨128 * a.val + t.val, by omega⟩ = a := Fin.ext (by show (128 * a.val + t.val) / 128 = a.val; omega)
  have e2 : rw' ⟨128 * a.val + t.val, by omega⟩ = t := Fin.ext (by show (128 * a.val + t.val) % 128 = t.val; omega)
  rw [e1, e2]
  rfl

/-- The grid point's part of the gradient of the keys. -/
theorem dk_at (hb : Blk q dout k v G nn x0 x1 x2 x3 x4 x5)
    (h19 : ∀ r d, v19 (ix2 r d) = x3 (ix2 (rw' r) ⟨128 * (hd r).val + d.val, by have := (hd r).isLt; omega⟩))
    (h24 : ∀ r d, v24 (ix2 r d) = x5 (ix2 (rw' r) ⟨128 * (hd r).val + d.val, by have := (hd r).isLt; omega⟩))
    (j : Fin 2304) (d : Fin 128) :
    ∑ r, k0_pay11 (k0_pay2 x4) (k0_pay5 x2) v19 v24 (k0_pay8 x0 x1) k0_pay9 (ix2 r j) * k0_pay3 x0 (ix2 r d)
      = ((∑ r : Fin 512, Soft.dscore q dout k v G (hd r) (nn (rw' r)) j * q G (hd r) (nn (rw' r)) d : ℝ) : EReal) := by
  have e : ∀ r, k0_pay3 x0 (ix2 r d) = (q G (hd r) (nn (rw' r)) d : EReal) := fun r => (pay3_at x0 r d).trans (hb.hq _ _ _)
  simp only [dscore_at hb h19 h24, e]
  rw [Soft.sum_mul_coe]

/-- The grid point's part of the gradient of the values. -/
theorem dv_at (hb : Blk q dout k v G nn x0 x1 x2 x3 x4 x5)
    (h24 : ∀ r d, v24 (ix2 r d) = x5 (ix2 (rw' r) ⟨128 * (hd r).val + d.val, by have := (hd r).isLt; omega⟩))
    (j : Fin 2304) (d : Fin 128) :
    ∑ r, k0_pay10 (k0_pay2 x4) (k0_pay8 x0 x1) k0_pay9 (ix2 r j) * v24 (ix2 r d)
      = ((∑ r : Fin 512, Soft.prb q k G (hd r) (nn (rw' r)) j * dout G (hd r) (nn (rw' r)) d : ℝ) : EReal) := by
  have e : ∀ r, v24 (ix2 r d) = (dout G (hd r) (nn (rw' r)) d : EReal) := fun r => (h24 r d).trans (hb.hdout _ _ d)
  simp only [prb_at hb, e]
  rw [Soft.sum_mul_coe]

end Point

/-- The sixteen row blocks of 4 × 128 rows together are all rows of all query heads. -/
theorem sum_rows (f : Fin 4 → Fin 2048 → ℝ) :
    ∑ s : Fin 16, ∑ r : Fin 512, f (hd r) ⟨128 * s.val + (rw' r).val, by have := (rw' r).isLt; omega⟩ = ∑ a, ∑ n, f a n := by
  have h1 : ∀ g : Fin 4 → Fin 128 → ℝ, ∑ r : Fin 512, g (hd r) (rw' r) = ∑ a, ∑ t, g a t := fun g => by
    rw [← Fintype.sum_prod_type']
    refine Fintype.sum_equiv (finProdFinEquiv (m := 4) (n := 128)).symm _ _ fun r => ?_
    rfl
  have h2 : ∀ g : Fin 2048 → ℝ, ∑ s : Fin 16, ∑ t : Fin 128, g ⟨128 * s.val + t.val, by omega⟩ = ∑ n, g n := fun g => by
    rw [← Fintype.sum_prod_type']
    refine Fintype.sum_equiv (finProdFinEquiv (m := 16) (n := 128)) _ _ fun p => congrArg g (Fin.ext ?_)
    show 128 * p.1.val + p.2.val = p.2.val + 128 * p.1.val
    omega
  calc _ = ∑ s : Fin 16, ∑ a, ∑ t : Fin 128, f a ⟨128 * s.val + t.val, by omega⟩ :=
        Finset.sum_congr rfl fun s _ => h1 fun a t => f a ⟨128 * s.val + t.val, by omega⟩
    _ = _ := by
      rw [Finset.sum_comm]
      exact Finset.sum_congr rfl fun a _ => h2 (f a)

end Cert.KernelIdeal.Value

end
-- ==== Proof.Blocks.lean ====
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ) (ρ : Dev nD → PrngReg)

theorem idx : ∀ t : Fin cfg0.N, win0_0.index t = ![t.val / 16, t.val % 16 + 2, 0] ∧ win0_1.index t = ![t.val / 16, 0, 0]
    ∧ win0_2.index t = ![t.val / 16, 0, 0] ∧ win0_3.index t = ![t.val % 16, t.val / 16]
    ∧ win0_4.index t = ![t.val / 16, t.val % 16, 0] ∧ win0_5.index t = ![t.val % 16, t.val / 16]
    ∧ win0_6.index t = ![t.val / 16, t.val % 16, 0] ∧ win0_7.index t = ![t.val / 16, 0, 0] ∧ win0_8.index t = ![t.val / 16, 0, 0] :=
  (by decide +kernel : ∀ t : Fin grid0.N, _)

theorem iblk0 (c : Dev nD) (t : Fin cfg0.N) (a : Fin 4) (r d : Fin 128) : iblk m c 0 t (ix3 a r d)
    = m ((c : Thread nD τ).loc main_arg0) (ix3 ⟨4 * (t.val / 16) + a.val, by have := t.isLt; have : t.val < 32 := this; omega⟩ ⟨256 + (128 * (t.val % 16) + r.val), by omega⟩ d) := by
  blk_point [iblk, V, idx t]
theorem iblk1 (c : Dev nD) (t : Fin cfg0.N) (a : Fin 2304) (d : Fin 128) : iblk m c 1 t (ix3 0 a d)
    = m ((c : Thread nD τ).loc main_arg1) (ix3 ⟨t.val / 16, by have := t.isLt; have : t.val < 32 := this; omega⟩ a d) := by
  blk_point [iblk, V, idx t]
theorem iblk2 (c : Dev nD) (t : Fin cfg0.N) (a : Fin 2304) (d : Fin 128) : iblk m c 2 t (ix3 0 a d)
    = m ((c : Thread nD τ).loc main_arg2) (ix3 ⟨t.val / 16, by have := t.isLt; have : t.val < 32 := this; omega⟩ a d) := by
  blk_point [iblk, V, idx t]
theorem iblk5 (c : Dev nD) (t : Fin cfg0.N) (r : Fin 128) (e : Fin 512) : iblk m c 5 t (ix2 r e)
    = m ((c : Thread nD τ).loc main_arg3) (ix2 ⟨128 * (t.val % 16) + r.val, by omega⟩ ⟨512 * (t.val / 16) + e.val, by have := t.isLt; have : t.val < 32 := this; omega⟩) := by
  blk_point [iblk, V, idx t]
theorem iblk3 (c : Dev nD) (t : Fin cfg0.N) (r : Fin 128) (e : Fin 512) : iblk m c 3 t (ix2 r e)
    = V m c main_v19 (ix2 ⟨128 * (t.val % 16) + r.val, by omega⟩ ⟨512 * (t.val / 16) + e.val, by have := t.isLt; have : t.val < 32 := this; omega⟩) := by
  show _ = (V m c (Pipeline.arrRef spec0 3)) _
  unfold iblk
  generalize V m c (Pipeline.arrRef spec0 3) = A
  blk_point [idx t]
theorem iblk4 (c : Dev nD) (t : Fin cfg0.N) (a : Fin 4) (r d : Fin 128) : iblk m c 4 t (ix3 a r d)
    = V m c main_v26 (ix3 ⟨4 * (t.val / 16) + a.val, by have := t.isLt; have : t.val < 32 := this; omega⟩ ⟨128 * (t.val % 16) + r.val, by omega⟩ d) := by
  show _ = (V m c (Pipeline.arrRef spec0 4)) _
  unfold iblk
  generalize V m c (Pipeline.arrRef spec0 4) = A
  blk_point [idx t]

end Cert.KernelIdeal.Value
end
-- ==== Proof.Final.lean ====
/- The kernel's three results over finite arguments: the gradients of the queries, the keys and the values. -/
module

public import proofs.«01_k».proof.Proof.PayAt
public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {m : (ℓ : Loc nD τ sig) → Buf (Elt Ideal) ℓ} {c : Dev nD}
  {q dout : Fin 2 → Fin 4 → Fin 2048 → Fin 128 → ℝ} {k v : Fin 2 → Fin 2304 → Fin 128 → ℝ}

/-- The key head of a grid point. -/
abbrev gh (t : Fin cfg0.N) : Fin 2 := ⟨t.val / 16, by have := t.isLt; have : t.val < 32 := this; omega⟩
/-- The queries of a grid point. -/
abbrev nn (t : Fin cfg0.N) (r : Fin 128) : Fin 2048 := ⟨128 * (t.val % 16) + r.val, by omega⟩

/-- The four arguments of the program hold the reals. -/
abbrev HoldsAt (m : (ℓ : Loc nD τ sig) → Buf (Elt Ideal) ℓ) (c : Dev nD)
    (q dout : Fin 2 → Fin 4 → Fin 2048 → Fin 128 → ℝ) (k v : Fin 2 → Fin 2304 → Fin 128 → ℝ) : Prop :=
  Soft.Holds q dout k v (m ((c : Thread nD τ).loc main_arg0)) (m ((c : Thread nD τ).loc main_arg1))
    (m ((c : Thread nD τ).loc main_arg2)) (m ((c : Thread nD τ).loc main_arg3))

theorem blk_at (hx : HoldsAt m c q dout k v) (t : Fin cfg0.N) :
    Blk q dout k v (gh t) (nn t) (iblk m c 0 t) (iblk m c 1 t) (iblk m c 2 t) (iblk m c 3 t) (iblk m c 4 t) (iblk m c 5 t) where
  hq a r d := by rw [iblk0, ← hx.q]
  hk j d := (iblk1 m c t j d).trans (hx.k _ _ _)
  hv j d := (iblk2 m c t j d).trans (hx.v _ _ _)
  ho a r d := by rw [iblk3, V_o32]; exact hO32_at hx (gh t) a (nn t r) d
  hlse a r := by
    obtain ⟨s, hs⟩ := hMax_at hx (gh t) a (nn t r)
    exact ⟨s, fun e => by rw [iblk4, V_lse]; exact hLse_at hx (gh t) a (nn t r) e s hs⟩
  hdout a r d := by
    rw [iblk5, ← hx.dout]

/-- The gradient of the queries as an array. -/
def resQ (q dout : Fin 2 → Fin 4 → Fin 2048 → Fin 128 → ℝ) (k v : Fin 2 → Fin 2304 → Fin 128 → ℝ) : S8x2048x128.Idx → EReal := fun i =>
  (Soft.dq q dout k v ⟨(i 0).val / 4, by have : (i 0).val < 8 := (i 0).isLt; omega⟩ ⟨(i 0).val % 4, by omega⟩ (i 1) (i 2) : EReal)
/-- The gradient of the keys as an array. -/
def resK (q dout : Fin 2 → Fin 4 → Fin 2048 → Fin 128 → ℝ) (k v : Fin 2 → Fin 2304 → Fin 128 → ℝ) : S2x2304x128.Idx → EReal := fun i =>
  (Soft.dk q dout k v (i 0) (i 1) (i 2) : EReal)
/-- The gradient of the values as an array. -/
def resV (q dout : Fin 2 → Fin 4 → Fin 2048 → Fin 128 → ℝ) (k : Fin 2 → Fin 2304 → Fin 128 → ℝ) : S2x2304x128.Idx → EReal := fun i =>
  (Soft.dv q dout k (i 0) (i 1) (i 2) : EReal)

theorem resQ_at (g : Fin 2) (a : Fin 4) (n : Fin 2048) (d : Fin 128) :
    resQ q dout k v (ix3 ⟨4 * g.val + a.val, by omega⟩ n d) = (Soft.dq q dout k v g a n d : EReal) := by
  have e1 : (⟨(4 * g.val + a.val) / 4, by omega⟩ : Fin 2) = g := Fin.ext (by show (4 * g.val + a.val) / 4 = g.val; omega)
  have e2 : (⟨(4 * g.val + a.val) % 4, by omega⟩ : Fin 4) = a := Fin.ext (by show (4 * g.val + a.val) % 4 = a.val; omega)
  show ((Soft.dq q dout k v ⟨(4 * g.val + a.val) / 4, _⟩ ⟨(4 * g.val + a.val) % 4, _⟩ n d : ℝ) : EReal) = _
  rw [e1, e2]

theorem emb6 (t : Fin cfg0.N) (a : Fin 4) (r d : Fin 128) :
    ((View.whole main_v27_0).slice (win0_6.rect t)).emb (ix3 a r d) = ix3 ⟨4 * (gh t).val + a.val, by have := (gh t).isLt; omega⟩ (nn t r) d := by
  funext b
  fin_cases b <;> apply Fin.ext <;> blk_simp [idx t]
  · show t.val / 16 * 4 + a.val = 4 * (t.val / 16) + a.val
    omega
  · show t.val % 16 * 128 + r.val = 128 * (t.val % 16) + r.val
    omega
  · rfl

theorem emb7 (t : Fin cfg0.N) (j : Fin 2304) (d : Fin 128) : (win0_7.blk t).view.emb (ix3 0 j d) = ix3 (gh t) j d := by
  funext b
  fin_cases b <;> apply Fin.ext <;> blk_simp [idx t] <;> rfl

theorem emb8 (t : Fin cfg0.N) (j : Fin 2304) (d : Fin 128) : (win0_8.blk t).view.emb (ix3 0 j d) = ix3 (gh t) j d := by
  funext b
  fin_cases b <;> apply Fin.ext <;> blk_simp [idx t] <;> rfl

theorem arr6 (hx : HoldsAt m c q dout k v) : (dats m 0 c).arrAt 6 cfg0.N = resQ q dout k v := by
  refine (dats m 0 c).arrAt_eq_of_covers 6 _ (by decide +kernel) fun t hf y => ?_
  blk_simp
  rw [after0_6]
  obtain ⟨a, r, d, rfl⟩ : ∃ (a : Fin 4) (r d : Fin 128), y = ix3 a r d := ⟨y 0, y 1, y 2, (ix3_eta y).symm⟩
  rw [emb6, resQ_at]
  by_cases h0 : t.val % 16 = 0
  · rw [outsAt0_A m c t h0]
    frame_out
    exact dq_at (blk_at hx t) (pay6_ld (iblk m c 3 t)) (pay7_ld (iblk m c 5 t)) a r d
  · rw [outsAt0_B m c t h0]
    frame_out
    exact dq_at (blk_at hx t) (pay6_ld (iblk m c 3 t)) (pay7_ld (iblk m c 5 t)) a r d

theorem pay13_at (i : S1x2304x128.Idx) : k0_pay13 (F := Ideal) i = 0 := by
  pointwise [k0_pay13]

theorem pay14_at (i : S1x2304x128.Idx) : k0_pay14 (F := Ideal) i = 0 := by
  pointwise [k0_pay14]

theorem idx_unit (y : S1x2304x128.Idx) : ∃ (j : Fin 2304) (d : Fin 128), y = ix3 0 j d := by
  have e : ix3 (n0 := 1) (n1 := 2304) (n2 := 128) (y 0) (y 1) (y 2) = y := ix3_eta y
  have h : y 0 = (0 : Fin 1) := Fin.ext (by have : (y 0).val < 1 := (y 0).isLt; exact Nat.lt_one_iff.mp this)
  rw [h] at e
  exact ⟨y 1, y 2, e.symm⟩

/-- A grid point's part of the gradient of the keys. -/
abbrev partK (q dout : Fin 2 → Fin 4 → Fin 2048 → Fin 128 → ℝ) (k v : Fin 2 → Fin 2304 → Fin 128 → ℝ) (t : Fin cfg0.N) (j : Fin 2304)
    (d : Fin 128) : ℝ :=
  ∑ r : Fin 512, Soft.dscore q dout k v (gh t) (hd r) (nn t (rw' r)) j * q (gh t) (hd r) (nn t (rw' r)) d
/-- A grid point's part of the gradient of the values. -/
abbrev partV (q dout : Fin 2 → Fin 4 → Fin 2048 → Fin 128 → ℝ) (k : Fin 2 → Fin 2304 → Fin 128 → ℝ) (t : Fin cfg0.N) (j : Fin 2304)
    (d : Fin 128) : ℝ :=
  ∑ r : Fin 512, Soft.prb q k (gh t) (hd r) (nn t (rw' r)) j * dout (gh t) (hd r) (nn t (rw' r)) d

/-- The sum over the sixteen points of one key head of a function of the point's key head and queries. -/
theorem sum_points (f : Fin 2 → Fin 4 → Fin 2048 → ℝ) (t : Fin cfg0.N) (h : ∀ s : Fin 16, 16 * (t.val / 16) + s.val < cfg0.N) :
    ∑ s : Fin 16, ∑ r : Fin 512, f (gh ⟨16 * (t.val / 16) + s.val, h s⟩) (hd r) (nn ⟨16 * (t.val / 16) + s.val, h s⟩ (rw' r))
      = ∑ a, ∑ n, f (gh t) a n := by
  rw [← sum_rows]
  refine Finset.sum_congr rfl fun s _ => Finset.sum_congr rfl fun r _ => ?_
  have e1 : gh ⟨16 * (t.val / 16) + s.val, h s⟩ = gh t := Fin.ext (by show (16 * (t.val / 16) + s.val) / 16 = t.val / 16; omega)
  have e2 : nn ⟨16 * (t.val / 16) + s.val, h s⟩ (rw' r) = ⟨128 * s.val + (rw' r).val, by have := (rw' r).isLt; omega⟩ :=
    Fin.ext (by show 128 * ((16 * (t.val / 16) + s.val) % 16) + r.val % 128 = 128 * s.val + r.val % 128; omega)
  rw [e1, e2]

theorem arr7 (hx : HoldsAt m c q dout k v) : (dats m 0 c).arrAt 7 cfg0.N = resK q dout k v := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0)
    (fun t y => ((partK q dout k v t (y 1) (y 2) : ℝ) : EReal))
    (fun t h y => by
      rw [outsAt0_A m c t h]; frame_out
      obtain ⟨j, d, rfl⟩ : ∃ (j : Fin 2304) (d : Fin 128), y = ix3 0 j d := idx_unit y
      rw [pay15_at, pay13_at]
      exact congrArg (fun z => (0 : EReal) + z) (dk_at (blk_at hx t) (pay6_ld (iblk m c 3 t)) (pay7_ld (iblk m c 5 t)) j d))
    (fun t h y => by
      rw [outsAt0_B m c t h]; frame_out
      obtain ⟨j, d, rfl⟩ : ∃ (j : Fin 2304) (d : Fin 128), y = ix3 0 j d := idx_unit y
      rw [pay15_at]
      exact congrArg (fun z => _ + z) (dk_at (blk_at hx t) (pay6_ld (iblk m c 3 t)) (pay7_ld (iblk m c 5 t)) j d))
    t ((flush0_7 t).mp hf) _, zero_add]
  obtain ⟨j, d, rfl⟩ : ∃ (j : Fin 2304) (d : Fin 128), y = ix3 0 j d := idx_unit y
  rw [emb7, ← Soft.coe_sum]
  exact congrArg _ (sum_points (fun g a n => Soft.dscore q dout k v g a n j * q g a n d) t _)

theorem arr8 (hx : HoldsAt m c q dout k v) : (dats m 0 c).arrAt 8 cfg0.N = resV q dout k := by
  refine (dats m 0 c).arrAt_eq_of_covers 8 _ (by decide +kernel) fun t hf y => ?_
  blk_simp
  rw [after0_8, Pipeline.eq_sum_fin_of_reset_step_apply_of_flush (fun n h => (outsAt0 m c n h).2.2) 16 (fun _ => 0)
    (fun t y => ((partV q dout k t (y 1) (y 2) : ℝ) : EReal))
    (fun t h y => by
      rw [outsAt0_A m c t h]; frame_out
      obtain ⟨j, d, rfl⟩ : ∃ (j : Fin 2304) (d : Fin 128), y = ix3 0 j d := idx_unit y
      rw [pay16_at, pay14_at]
      exact congrArg (fun z => (0 : EReal) + z) (dv_at (blk_at hx t) (pay7_ld (iblk m c 5 t)) j d))
    (fun t h y => by
      rw [outsAt0_B m c t h]; frame_out
      obtain ⟨j, d, rfl⟩ : ∃ (j : Fin 2304) (d : Fin 128), y = ix3 0 j d := idx_unit y
      rw [pay16_at]
      exact congrArg (fun z => _ + z) (dv_at (blk_at hx t) (pay7_ld (iblk m c 5 t)) j d))
    t ((flush0_8 t).mp hf) _, zero_add]
  obtain ⟨j, d, rfl⟩ : ∃ (j : Fin 2304) (d : Fin 128), y = ix3 0 j d := idx_unit y
  rw [emb8, ← Soft.coe_sum]
  exact congrArg _ (sum_points (fun g a n => Soft.prb q k g a n j * dout g a n d) t _)

end Cert.KernelIdeal.Value

end
-- ==== Proof.RefAt.lean ====
/- The reference's three results over finite arguments: the gradients of the queries, the keys and the values. -/
module

public import proofs.«01_k».proof.Proof.Gen.ReferenceIdeal.Run
public import proofs.«01_k».proof.Proof.Gen.ReferenceIdeal.Read
public import proofs.«01_k».proof.Proof.Saved

@[expose] public section

set_option maxRecDepth 16384

noncomputable section

namespace Cert.ReferenceIdeal.Value

open Cert.ReferenceIdeal Cert.ReferenceIdeal.Gen Cert.ReferenceIdeal.Read Idealize.ShloMosaic Idealize.ShloMosaic.TcCoe Idealize.SL.Sem

open Cert.KernelIdeal.Value (ofBits_scale ofBits_bot)

variable {q dout : Fin 2 → Fin 4 → Fin 2048 → Fin 128 → ℝ} {k v : Fin 2 → Fin 2304 → Fin 128 → ℝ}
  {x0 : (⟨S8x2304x128, .bf16⟩ : BufTy).Contents (Elt Ideal)} {x1 x2 : (⟨S2x2304x128, .bf16⟩ : BufTy).Contents (Elt Ideal)}
  {x3 : (⟨S2048x1024, .f32⟩ : BufTy).Contents (Elt Ideal)}
  (hx : Soft.Holds q dout k v x0 x1 x2 x3)
include hx

theorem v4_at (g : Fin 2) (a : Fin 4) (n : Fin 2048) (d : Fin 128) :
    val_main_v4 (F := Ideal) x0 (ix4 g a n d) = (q g a n d : EReal) := by
  pointwise [val_main_v4, val_main_v3, val_main_v0]
  rw [← hx.q]
  exact congrArg (fun z => x0 (ix3 z _ d)) (Fin.ext (by show g.val * 4 + a.val = 4 * g.val + a.val; omega))
theorem v1_at (g : Fin 2) (j : Fin 2304) (d : Fin 128) : val_main_v1 (F := Ideal) x1 (ix3 g j d) = (k g j d : EReal) := by
  pointwise [val_main_v1]
  exact hx.k g j d
theorem v2_at (g : Fin 2) (j : Fin 2304) (d : Fin 128) : val_main_v2 (F := Ideal) x2 (ix3 g j d) = (v g j d : EReal) := by
  pointwise [val_main_v2]
  exact hx.v g j d

theorem v7_at (g : Fin 2) (a : Fin 4) (n : Fin 2048) (j : Fin 2304) :
    val_main_v7 (F := Ideal) x0 x1 (ix4 g a n j) = (Soft.score q k g a n j : EReal) := by
  pointwise [val_main_v7, val_main_v6, val_main_v5, val_main_cst]
  simp only [v4_at hx, v1_at hx]
  rw [Soft.sum_mul_coe, ofBits_scale, ← EReal.coe_mul]
  rfl
theorem v8_at (g : Fin 2) (a : Fin 4) (n : Fin 2048) : ∃ r : ℝ, val_main_v8 (F := Ideal) x0 x1 (ix3 g a n) = (r : EReal) := by
  pointwise [val_main_v8, val_main_cst_0]
  simp only [v7_at hx, ofBits_bot]
  exact Soft.fold_max_coe _
theorem v15_at (g : Fin 2) (a : Fin 4) (n : Fin 2048) : ∃ r : ℝ, val_main_v15 (F := Ideal) x0 x1 (ix3 g a n) = (r : EReal) := by
  obtain ⟨r, hr⟩ := v8_at hx g a n
  rw [val_main_v15_apply, val_main_v14_apply, val_main_cst_2_apply, hr]
  refine ⟨r, ?_⟩
  show max (Ideal.ofBits .f32 0xFF800000#32) (r : EReal) = r
  rw [ofBits_bot]
  exact max_eq_right bot_le
theorem v28_at (g : Fin 2) (a : Fin 4) (n : Fin 2048) (j : Fin 2304) (r : ℝ) (hr : val_main_v15 (F := Ideal) x0 x1 (ix3 g a n) = (r : EReal)) :
    val_main_v28 (F := Ideal) x0 x1 (ix4 g a n j) = (Real.exp (Soft.score q k g a n j - r) : EReal) := by
  pointwise [val_main_v28, val_main_v27, val_main_v26, val_main_v25]
  rw [v7_at hx, hr, ← EReal.coe_sub, Ideal.exp_coe]
theorem v30_at (g : Fin 2) (a : Fin 4) (n : Fin 2048) (r : ℝ) (hr : val_main_v15 (F := Ideal) x0 x1 (ix3 g a n) = (r : EReal)) :
    val_main_v30 (F := Ideal) x0 x1 (ix4 g a n 0) = ((∑ j, Real.exp (Soft.score q k g a n j - r) : ℝ) : EReal) := by
  pointwise [val_main_v30, val_main_v29, val_main_cst_8]
  simp only [v28_at hx g a n _ r hr]
  rw [Soft.coe_sum]
theorem v32_at (g : Fin 2) (a : Fin 4) (n : Fin 2048) (j : Fin 2304) :
    val_main_v32 (F := Ideal) x0 x1 (ix4 g a n j) = (Soft.prb q k g a n j : EReal) := by
  obtain ⟨r, hr⟩ := v15_at hx g a n
  pointwise [val_main_v32, val_main_v31]
  rw [v28_at hx g a n j r hr, v30_at hx g a n r hr, Ideal.div_coe (Soft.sum_exp_pos _).ne', ← EReal.coe_mul]
  exact congrArg _ ((mul_one_div _ _).trans (Soft.prob_shift (Soft.score q k g a n) r j))
theorem v40_at (g : Fin 2) (d : Fin 128) (a : Fin 4) (n : Fin 2048) :
    val_main_v40 (F := Ideal) x3 (ix4 g d a n) = (dout g a n d : EReal) := by
  pointwise [val_main_v40, val_main_v39]
  rw [← hx.dout]
  exact congrArg x3 (congrArg (ix2 n) (Fin.ext (by show g.val * 512 + a.val * 128 + d.val = 512 * g.val + (128 * a.val + d.val); omega)))
theorem v41_at (g : Fin 2) (a : Fin 4) (n : Fin 2048) (j : Fin 2304) :
    val_main_v41 (F := Ideal) x2 x3 (ix4 g a n j) = (Soft.dprb dout v g a n j : EReal) := by
  pointwise [val_main_v41]
  simp only [v40_at hx, v2_at hx]
  rw [Soft.sum_mul_coe]
  rfl
theorem v43_at (g : Fin 2) (j : Fin 2304) (d : Fin 128) :
    val_main_v43 (F := Ideal) x0 x1 x3 (ix3 g j d) = (Soft.dv q dout k g j d : EReal) := by
  pointwise [val_main_v43, val_main_v42]
  simp only [v40_at hx, v32_at hx]
  simp only [Soft.sum_mul_coe]
  rw [← Soft.coe_sum]
  exact congrArg _ (Finset.sum_congr rfl fun a _ => Finset.sum_congr rfl fun n _ => mul_comm _ _)

theorem v57_at (g : Fin 2) (a : Fin 4) (n : Fin 2048) (j : Fin 2304) :
    val_main_v57 (F := Ideal) x0 x1 x2 x3 (ix4 g a n j) = (Soft.dscore q dout k v g a n j : EReal) := by
  obtain ⟨r, hr⟩ := v15_at hx g a n
  pointwise [val_main_v57, val_main_v56, val_main_cst_12, val_main_v55, val_main_v54, val_main_v53, val_main_v52, val_main_v51, val_main_v50, val_main_v49, val_main_v48, val_main_v47, val_main_v46, val_main_v45, val_main_v44, val_main_v35, val_main_v33, val_main_v34, val_main_cst_9, val_main_cst_10, val_main_cst_11]
  have hl := (Soft.sum_exp_pos fun j => Soft.score q k g a n j - r).ne'
  simp only [v28_at hx g a n _ r hr, v30_at hx g a n r hr, v41_at hx, ofBits_scale, Ideal.div_coe hl, ← EReal.coe_mul,
    Ideal.div_coe (mul_ne_zero hl hl), ← EReal.coe_one, ← Soft.coe_sum, ← EReal.coe_neg, ← EReal.coe_add]
  refine congrArg _ (congrArg (· * _) ?_)
  refine Eq.trans ?_ (Soft.grad_quotient (Soft.score q k g a n) (Soft.dprb dout v g a n) r j)
  simp only [one_mul, Finset.sum_const, Finset.card_univ, Fintype.card_fin, one_smul]

theorem v58_at (g : Fin 2) (j : Fin 2304) (d : Fin 128) :
    val_main_v58 (F := Ideal) x0 x1 x2 x3 (ix3 g j d) = (Soft.dk q dout k v g j d : EReal) := by
  pointwise [val_main_v58]
  simp only [v57_at hx, v4_at hx]
  simp only [Soft.sum_mul_coe]
  rw [← Soft.coe_sum]
  rfl

theorem v62_at (g : Fin 2) (a : Fin 4) (n : Fin 2048) (d : Fin 128) :
    val_main_v62 (F := Ideal) x0 x1 x2 x3 (ix3 ⟨4 * g.val + a.val, by omega⟩ n d) = (Soft.dq q dout k v g a n d : EReal) := by
  pointwise [val_main_v62, val_main_v61, val_main_v60, val_main_v59, val_main_cst_13]
  rw [dif_pos (by omega)]
  simp only [v57_at hx, v1_at hx]
  rw [Soft.sum_mul_coe]
  rfl

end Cert.ReferenceIdeal.Value

end
-- ==== Proof.Pre.lean ====
/- What the precondition says of the four arguments: every element is a real. -/
module

public import proofs.«01_k».proof.Proof.Gen.Pre_finite
public import proofs.«01_k».proof.Proof.Soft
public import Idealize.ShloMosaic.Lib.ReduceAll

@[expose] public section

set_option maxRecDepth 16384

noncomputable section

namespace Cert.Pre_finite

open Idealize.ShloMosaic

/-- An element whose magnitude compares below infinity is a real. -/
theorem real_of_lt {x : EReal} (h : Ideal.cmp .olt (max x (-x)) (Ideal.ofBits .f32 0x7F800000#32) = 1#1) : ∃ r : ℝ, x = (r : EReal) := by
  refine Soft.exists_coe ?_
  have e : Ideal.ofBits .f32 0x7F800000#32 = (⊤ : EReal) := by simp [Ideal.ofBits, Ideal.ieee]
  rw [e] at h
  by_contra hn
  have : Ideal.cmp .olt (max x (-x)) ⊤ = 0#1 := by
    show BitVec.ofBool (decide (max x (-x) < ⊤)) = 0#1
    rw [decide_eq_false hn]; rfl
  rw [this] at h
  exact absurd h (by decide)

theorem split (a b : IVec ⟨0, ![]⟩ 1) (i : (⟨0, ![]⟩ : Shape).Idx) (h : andi a b i = 1#1) : a i = 1#1 ∧ b i = 1#1 := by
  have h' : a i &&& b i = 1#1 := h
  revert h'
  generalize a i = p; generalize b i = r
  revert p r
  decide

variable [Facts]

theorem reals (x0 : FVec Ideal S8x2304x128 .bf16) (x1 x2 : FVec Ideal S2x2304x128 .bf16) (x3 : FVec Ideal S2048x1024 .f32)
    (i : S_.Idx) (h : fn (F := Ideal) x0 x1 x2 x3 i = 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  unfold fn fn_part1 at h
  obtain ⟨h, h3⟩ := split _ _ _ h
  obtain ⟨h, h2⟩ := split _ _ _ h
  obtain ⟨h0, h1⟩ := split _ _ _ h
  haveI : Subsingleton S_.Idx := ⟨fun a b => funext fun k => k.elim0⟩
  refine ⟨fun j => real_of_lt ?_, fun j => real_of_lt ?_, fun j => real_of_lt ?_, fun j => real_of_lt ?_⟩
  · exact Host.reduce_andi_all _ _ _ _ _ h0 j
  · exact Host.reduce_andi_all _ _ _ _ _ h1 j
  · exact Host.reduce_andi_all _ _ _ _ _ h2 j
  · exact Host.reduce_andi_all _ _ _ _ _ h3 j

/-- Arguments the precondition admits hold reals. -/
theorem holds (x0 : FVec Ideal S8x2304x128 .bf16) (x1 x2 : FVec Ideal S2x2304x128 .bf16) (x3 : FVec Ideal S2048x1024 .f32)
    (i : S_.Idx) (h : fn (F := Ideal) x0 x1 x2 x3 i = 1#1) : ∃ q dout k v, Soft.Holds q dout k v x0 x1 x2 x3 := by
  obtain ⟨h0, h1, h2, h3⟩ := reals x0 x1 x2 x3 i h
  choose f0 e0 using h0
  choose f1 e1 using h1
  choose f2 e2 using h2
  choose f3 e3 using h3
  exact ⟨fun g a n d => f0 (ix3 ⟨4 * g.val + a.val, by omega⟩ ⟨256 + n.val, by omega⟩ d),
    fun g a n d => f3 (ix2 n ⟨512 * g.val + (128 * a.val + d.val), by omega⟩), fun g j d => f1 (ix3 g j d),
    fun g j d => f2 (ix3 g j d), ⟨fun _ _ _ _ => e0 _, fun _ _ _ => e1 _, fun _ _ _ => e2 _, fun _ _ _ _ => e3 _⟩⟩

end Cert.Pre_finite

end
-- ==== Proof.InDw.lean ====
/- The gradient of the input projection's weights: the blocked product against the derivative of the product. -/
module

public import proofs.«01_k».proof.Defs
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2304x8192.Idx → EReal) (B : S2304x1024.Idx → EReal) : S8192x1024.Idx → EReal := fun i =>
  ∑ x : Fin 2304, A (ix2 x (i 0)) * B (ix2 x (i 1))

theorem idx : ∀ t : Fin cfg0.N, win0_0.index t = ![0, t.val] ∧ win0_1.index t = ![0, 0] ∧ win0_2.index t = ![t.val, 0] :=
  (by decide +kernel : ∀ t : Fin grid0.N, _)

theorem iblk0 (t : Fin cfg0.N) (r : Fin 1024) (x : Fin 2304) : iblk m c 0 t (ix2 x r)
    = m ((c : Thread nD τ).loc main_arg0) (ix2 x ⟨1024 * (t.val) + r.val, by have := t.isLt; have : t.val < 8 := this; omega⟩) := by
  blk_point [iblk, V, idx t]
theorem iblk1 (t : Fin cfg0.N) (d : Fin 1024) (x : Fin 2304) : iblk m c 1 t (ix2 x d)
    = m ((c : Thread nD τ).loc main_arg1) (ix2 x d) := by
  blk_point [iblk, V, idx t]

theorem pay1_at (a : Vec Ideal S2304x1024 .bf16) (b : Vec Ideal S2304x1024 .bf16) (r : Fin 1024) (d : Fin 1024) :
    k0_pay1 (F := Ideal) a b (ix2 r d) = ∑ x : Fin 2304, a (ix2 x r) * b (ix2 x d) := by
  pointwise [k0_pay1]

theorem embOut (t : Fin cfg0.N) (r : Fin 1024) (d : Fin 1024) :
    ((View.whole main_v0).slice (win0_2.rect t)).emb (ix2 r d) = ix2 ⟨1024 * (t.val) + r.val, by have := t.isLt; have : t.val < 8 := this; omega⟩ d := by
  funext b
  fin_cases b <;> apply Fin.ext <;> blk_simp [idx t]
  · show t.val * 1024 + r.val = 1024 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel2Ideal.Value

namespace Cert.Reference2Ideal.Value

open Cert.Reference2Ideal Cert.Reference2Ideal.Gen Cert.Reference2Ideal.Read Idealize.ShloMosaic Idealize.SL.Sem

/-- The derivative of the product is the same sum. -/
theorem v8_at (A : S2304x8192.Idx → EReal) (B : S2304x1024.Idx → EReal) :
    val_main_v8 (F := Ideal) A B = Cert.Kernel2Ideal.Value.res A B := by
  funext i
  obtain ⟨r, d, rfl⟩ : ∃ (r : Fin 8192) (d : Fin 1024), i = ix2 r d := ⟨i 0, i 1, (ix2_eta i).symm⟩
  pointwise [val_main_v8, val_main_v7, val_main_v6, val_main_v5, val_main_v4, val_main_v1]; rfl

end Cert.Reference2Ideal.Value

namespace Cert.Proof

open Idealize.ShloMosaic

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 2 Cert.Kernel2Ideal.cfg0.N, Cert.Kernel2Ideal.Value.run_blocks m g,
    θ_run_mono (Cert.Reference2Ideal.Value.run m' g') fun r hr c => ?_⟩
  obtain ⟨h, hargs⟩ := hr c
  obtain ⟨e0, e1⟩ := hagree c
  refine ⟨?_, hargs⟩
  rw [h, Cert.Reference2Ideal.Read.val_main_v8_eq, Cert.Reference2Ideal.Value.v8_at, e0, e1]
  exact (Cert.Kernel2Ideal.Value.arr2 m c).symm

/-- The reference runs and leaves its arguments. -/
theorem ref_frame2 : Cert.quiescent_Reference2Ideal (hReference2Ideal := Cert.Reference2Ideal.Gen.facts) := by
  intro m g _
  refine θ_run_mono (Cert.Reference2Ideal.Value.run m g) fun r h => ⟨fun c => (h c).2, ?_⟩
  exact sem_eq_zero_of_no_sems (by decide) r.2

end Cert.Proof

end
-- ==== Proof.Tiles.lean ====
/- A sum over a long axis as the sum over its blocks. -/
module

public import Mathlib.Algebra.BigOperators.Fin

@[expose] public section

namespace Cert.Tiles

/-- The blocks of a long axis, summed one by one, are the whole axis summed. -/
theorem sum_tiles {M : Type*} [AddCommMonoid M] (J b n : ℕ) (hn : J * b = n) (f : Fin n → M)
    (h : ∀ (s : Fin J) (x : Fin b), b * s.val + x.val < n) :
    ∑ s : Fin J, ∑ x : Fin b, f ⟨b * s.val + x.val, h s x⟩ = ∑ k : Fin n, f k := by
  subst hn
  rw [← Fintype.sum_prod_type', ← finProdFinEquiv.sum_comp]
  exact Finset.sum_congr rfl fun p _ => congrArg f (Fin.ext (Nat.add_comm _ _))

end Cert.Tiles

end
-- ==== Proof.InDx.lean ====
/- The gradient of the input projection's input: the product, accumulated block by block, against the derivative of the product. -/
module

public import proofs.«01_k».proof.Defs
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.IdealHost
public import Idealize.ShloMosaic.Lib.Pipeline.ValueKit
public import proofs.«01_k».proof.Proof.Tiles
public import Idealize.ShloMosaic.Lib.Claim

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2304x8192.Idx → EReal) (B : S8192x1024.Idx → EReal) : S2304x1024.Idx → EReal := fun i =>
  ∑ x : Fin 8192, A (ix2 (i 0) x) * B (ix2 x (i 1))

theorem idx : ∀ t : Fin cfg0.N, win0_0.index t = ![0, t.val % 8] ∧ win0_1.index t = ![t.val % 8, 0] ∧ win0_2.index t = ![0, 0] :=
  (by decide +kernel : ∀ t : Fin grid0.N, _)

theorem iblk0 (t : Fin cfg0.N) (r : Fin 2304) (x : Fin 1024) : iblk m c 0 t (ix2 r x)
    = m ((c : Thread nD τ).loc main_arg0) (ix2 r ⟨1024 * (t.val % 8) + x.val, by omega⟩) := by
  blk_point [iblk, V, idx t]
theorem iblk1 (t : Fin cfg0.N) (d : Fin 1024) (x : Fin 1024) : iblk m c 1 t (ix2 x d)
    = m ((c : Thread nD τ).loc main_arg1) (ix2 ⟨1024 * (t.val % 8) + x.val, by omega⟩ d) := by
  blk_point [iblk, V, idx t]

theorem pay1_at (a : Vec Ideal S2304x1024 .bf16) (b : Vec Ideal S1024x1024 .bf16) (r : Fin 2304) (d : Fin 1024) :
    k0_pay1 (F := Ideal) a b (ix2 r d) = ∑ x : Fin 1024, a (ix2 r x) * b (ix2 x d) := by
  pointwise [k0_pay1]
theorem pay2_at (a : Vec Ideal S2304x1024 .bf16) (b : Vec Ideal S1024x1024 .bf16) (r : Fin 2304) (d : Fin 1024) :
    k0_pay2 (F := Ideal) a b (ix2 r d) = ∑ x : Fin 1024, a (ix2 r x) * b (ix2 x d) := by
  pointwise [k0_pay2, k0_pay1]
theorem pay3_at (a : Vec Ideal S2304x1024 .bf16) (b : Vec Ideal S1024x1024 .bf16) (v : Vec Ideal S2304x1024 .f32) (r : Fin 2304) (d : Fin 1024) :
    k0_pay3 (F := Ideal) a b v (ix2 r d) = v (ix2 r d) + ∑ x : Fin 1024, a (ix2 r x) * b (ix2 x d) := by
  pointwise [k0_pay3, k0_pay1]

theorem embOut (t : Fin cfg0.N) (r : Fin 2304) (d : Fin 1024) :
    ((View.whole main_v0).slice (win0_2.rect t)).emb (ix2 r d) = ix2 r d := by
  funext b
  fin_cases b <;> apply Fin.ext <;> blk_simp [idx t]

/-- One term of the product. -/
abbrev term (A : S2304x8192.Idx → EReal) (B : S8192x1024.Idx → EReal) (r : Fin 2304) (d : Fin 1024) (k : Fin 8192) : EReal :=
  A (ix2 r k) * B (ix2 k d)

/-- The product of two blocks at an index. -/
abbrev blockDot (a : Vec Ideal S2304x1024 .bf16) (b : Vec Ideal S1024x1024 .bf16) (r : Fin 2304) (d : Fin 1024) : EReal :=
  ∑ x : Fin 1024, a (ix2 r x) * b (ix2 x d)

/-- A grid point's part of the product: its block of the long axis. -/
def part (t : Fin cfg0.N) (y : S2304x1024.Idx) : EReal :=
  blockDot (iblk m c 0 t) (iblk m c 1 t) (y 0) (y 1)

theorem first (t : Fin cfg0.N) (h : t.val % 8 = 0) (y : S2304x1024.Idx) :
    (outsAt0 m c t.val t.isLt).2 y = 0 + part m c t y := by
  have : t.val < 8 := t.isLt
  obtain ⟨r, d, rfl⟩ : ∃ (r : Fin 2304) (d : Fin 1024), y = ix2 r d := ⟨y 0, y 1, (ix2_eta y).symm⟩
  rw [outsAt0_A m c t h (by omega) (by omega), zero_add]
  frame_out
  exact pay2_at _ _ r d

theorem later (t : Fin cfg0.N) (h : ¬t.val % 8 = 0) (y : S2304x1024.Idx) :
    (outsAt0 m c t.val t.isLt).2 y = (outsAt0 m c (t.val - 1) (Nat.lt_of_le_of_lt (Nat.sub_le _ _) t.isLt)).2 y + part m c t y := by
  have : t.val < 8 := t.isLt
  obtain ⟨r, d, rfl⟩ : ∃ (r : Fin 2304) (d : Fin 1024), y = ix2 r d := ⟨y 0, y 1, (ix2_eta y).symm⟩
  by_cases h2 : t.val % 8 = 7
  · rw [outsAt0_C m c t h (by omega) h2]
    frame_out
    rw [(Memref.isWhole_whole _).read_unread]
    exact pay3_at _ _ _ r d
  · rw [outsAt0_B m c t h (by omega) h2]
    frame_out
    rw [(Memref.isWhole_whole _).read_unread]
    exact pay3_at _ _ _ r d

/-- The last point of a run writes back what it accumulated. -/
theorem last (t : Fin cfg0.N) (h : t.val % 8 = 7) (y : S2304x1024.Idx) :
    (outsAt0 m c t.val t.isLt).1 y = (outsAt0 m c t.val t.isLt).2 y := by
  have : t.val < 8 := t.isLt
  rw [outsAt0_C m c t (by omega) (by omega) h]
  frame_out

/-- The parts of one run of grid points, summed, are the product. -/
theorem sum_parts (t : Fin cfg0.N) (h : ∀ s : Fin 8, 8 * (t.val / 8) + s.val < cfg0.N) (r : Fin 2304) (d : Fin 1024) :
    ∑ s : Fin 8, part m c ⟨8 * (t.val / 8) + s.val, h s⟩ (ix2 r d)
      = res (m ((c : Thread nD τ).loc main_arg0)) (m ((c : Thread nD τ).loc main_arg1)) (ix2 r d) := by
  have hN : t.val < 8 := t.isLt
  refine Eq.trans ?_ (Tiles.sum_tiles 8 1024 8192 rfl
    (term (m ((c : Thread nD τ).loc main_arg0)) (m ((c : Thread nD τ).loc main_arg1)) r d) (fun s x => by omega))
  refine Finset.sum_congr rfl fun s _ => Finset.sum_congr rfl fun x _ => ?_
  refine congrArg₂ (fun p q : EReal => p * q) ((iblk0 m c _ r x).trans ?_) ((iblk1 m c _ d x).trans ?_)
  · refine congrArg _ (congrArg₂ (fun p q => ix2 p q) rfl (Fin.ext ?_))
    show 1024 * ((8 * (t.val / 8) + s.val) % 8) + x.val = 1024 * s.val + x.val
    omega
  · refine congrArg _ (congrArg₂ (fun p q => ix2 p q) (Fin.ext ?_) rfl)
    show 1024 * ((8 * (t.val / 8) + s.val) % 8) + x.val = 1024 * s.val + x.val
    omega

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  have hN : t.val < 8 := t.isLt
  rw [after0_2, last m c t hl, Pipeline.eq_sum_fin_of_reset_step_apply_of_flush (fun n h => (outsAt0 m c n h).2) 8 (fun _ => 0)
    (part m c) (first m c) (later m c) t hl y, zero_add]
  obtain ⟨r, d, rfl⟩ : ∃ (r : Fin 2304) (d : Fin 1024), y = ix2 r d := ⟨y 0, y 1, (ix2_eta y).symm⟩
  rw [embOut]
  exact sum_parts m c t _ r d

end Cert.Kernel3Ideal.Value

namespace Cert.Reference3Ideal.Value

open Cert.Reference3Ideal Cert.Reference3Ideal.Gen Cert.Reference3Ideal.Read Idealize.ShloMosaic Idealize.SL.Sem

/-- The derivative of the product is the same sum. -/
theorem v5_at (A : S2304x8192.Idx → EReal) (B : S8192x1024.Idx → EReal) :
    val_main_v5 (F := Ideal) A B = Cert.Kernel3Ideal.Value.res A B := by
  funext i
  obtain ⟨r, d, rfl⟩ : ∃ (r : Fin 2304) (d : Fin 1024), i = ix2 r d := ⟨i 0, i 1, (ix2_eta i).symm⟩
  pointwise [val_main_v5, val_main_v4, val_main_v2, val_main_v1]
  rfl

end Cert.Reference3Ideal.Value

namespace Cert.Proof

open Idealize.ShloMosaic

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 2 Cert.Kernel3Ideal.cfg0.N, Cert.Kernel3Ideal.Value.run_blocks m g,
    θ_run_mono (Cert.Reference3Ideal.Value.run m' g') fun r hr c => ?_⟩
  obtain ⟨h, hargs⟩ := hr c
  obtain ⟨e0, e1, _⟩ := hagree c
  refine ⟨?_, hargs⟩
  rw [h, Cert.Reference3Ideal.Read.val_main_v5_eq, Cert.Reference3Ideal.Value.v5_at, e0, e1]
  exact (Cert.Kernel3Ideal.Value.arr2 m c).symm

/-- The reference runs and leaves its arguments. -/
theorem ref_frame3 : Cert.quiescent_Reference3Ideal (hReference3Ideal := Cert.Reference3Ideal.Gen.facts) := by
  intro m g _
  refine θ_run_mono (Cert.Reference3Ideal.Value.run m g) fun r h => ⟨fun c => (h c).2, ?_⟩
  exact sem_eq_zero_of_no_sems (by decide) r.2

end Cert.Proof

end
-- ==== Proof.UpDw.lean ====
/- The gradient of the up-projection's weights: the blocked product against the derivative of the product. -/
module

public import proofs.«01_k».proof.Defs
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x5632.Idx → EReal) (B : S2048x1024.Idx → EReal) : S5632x1024.Idx → EReal := fun i =>
  ∑ x : Fin 2048, A (ix2 x (i 0)) * B (ix2 x (i 1))

theorem idx : ∀ t : Fin cfg0.N, win0_0.index t = ![0, t.val] ∧ win0_1.index t = ![0, 0] ∧ win0_2.index t = ![t.val, 0] :=
  (by decide +kernel : ∀ t : Fin grid0.N, _)

theorem iblk0 (t : Fin cfg0.N) (r : Fin 1408) (x : Fin 2048) : iblk m c 0 t (ix2 x r)
    = m ((c : Thread nD τ).loc main_arg0) (ix2 x ⟨1408 * (t.val) + r.val, by have := t.isLt; have : t.val < 4 := this; omega⟩) := by
  blk_point [iblk, V, idx t]
theorem iblk1 (t : Fin cfg0.N) (d : Fin 1024) (x : Fin 2048) : iblk m c 1 t (ix2 x d)
    = m ((c : Thread nD τ).loc main_arg1) (ix2 x d) := by
  blk_point [iblk, V, idx t]

theorem pay1_at (a : Vec Ideal S2048x1408 .bf16) (b : Vec Ideal S2048x1024 .bf16) (r : Fin 1408) (d : Fin 1024) :
    k0_pay1 (F := Ideal) a b (ix2 r d) = ∑ x : Fin 2048, a (ix2 x r) * b (ix2 x d) := by
  pointwise [k0_pay1]

theorem embOut (t : Fin cfg0.N) (r : Fin 1408) (d : Fin 1024) :
    ((View.whole main_v0).slice (win0_2.rect t)).emb (ix2 r d) = ix2 ⟨1408 * (t.val) + r.val, by have := t.isLt; have : t.val < 4 := this; omega⟩ d := by
  funext b
  fin_cases b <;> apply Fin.ext <;> blk_simp [idx t]
  · show t.val * 1408 + r.val = 1408 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1408) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel4Ideal.Value

namespace Cert.Reference4Ideal.Value

open Cert.Reference4Ideal Cert.Reference4Ideal.Gen Cert.Reference4Ideal.Read Idealize.ShloMosaic Idealize.SL.Sem

/-- The derivative of the product is the same sum. -/
theorem v8_at (A : S2048x5632.Idx → EReal) (B : S2048x1024.Idx → EReal) :
    val_main_v8 (F := Ideal) A B = Cert.Kernel4Ideal.Value.res A B := by
  funext i
  obtain ⟨r, d, rfl⟩ : ∃ (r : Fin 5632) (d : Fin 1024), i = ix2 r d := ⟨i 0, i 1, (ix2_eta i).symm⟩
  pointwise [val_main_v8, val_main_v7, val_main_v6, val_main_v5, val_main_v4, val_main_v1]
  rfl

end Cert.Reference4Ideal.Value

namespace Cert.Proof

open Idealize.ShloMosaic

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, Cert.Kernel4Ideal.Value.run_blocks m g,
    θ_run_mono (Cert.Reference4Ideal.Value.run m' g') fun r hr c => ?_⟩
  obtain ⟨h, hargs⟩ := hr c
  obtain ⟨e0, e1⟩ := hagree c
  refine ⟨?_, hargs⟩
  rw [h, Cert.Reference4Ideal.Read.val_main_v8_eq, Cert.Reference4Ideal.Value.v8_at, e0, e1]
  exact (Cert.Kernel4Ideal.Value.arr2 m c).symm

/-- The reference runs and leaves its arguments. -/
theorem ref_frame4 : Cert.quiescent_Reference4Ideal (hReference4Ideal := Cert.Reference4Ideal.Gen.facts) := by
  intro m g _
  refine θ_run_mono (Cert.Reference4Ideal.Value.run m g) fun r h => ⟨fun c => (h c).2, ?_⟩
  exact sem_eq_zero_of_no_sems (by decide) r.2

end Cert.Proof

end
-- ==== Proof.UpDx.lean ====
/- The gradient of the up-projection's input: the product, accumulated block by block, against the derivative of the product. -/
module

public import proofs.«01_k».proof.Defs
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.IdealHost
public import Idealize.ShloMosaic.Lib.Pipeline.ValueKit
public import proofs.«01_k».proof.Proof.Tiles
public import Idealize.ShloMosaic.Lib.Claim

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x5632.Idx → EReal) (B : S5632x1024.Idx → EReal) : S2048x1024.Idx → EReal := fun i =>
  ∑ x : Fin 5632, A (ix2 (i 0) x) * B (ix2 x (i 1))

theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

theorem iblk0 (t : Fin cfg0.N) (r : Fin 1024) (x : Fin 1408) : iblk m c 0 t (ix2 r x)
    = m ((c : Thread nD τ).loc main_arg0) (ix2 ⟨1024 * (t.val / 4) + r.val, by have := t.isLt; have : t.val < 8 := this; omega⟩ ⟨1408 * (t.val % 4) + x.val, by omega⟩) := by
  blk_point [iblk, V, idx t]
theorem iblk1 (t : Fin cfg0.N) (d : Fin 1024) (x : Fin 1408) : iblk m c 1 t (ix2 x d)
    = m ((c : Thread nD τ).loc main_arg1) (ix2 ⟨1408 * (t.val % 4) + x.val, by omega⟩ d) := by
  blk_point [iblk, V, idx t]

theorem pay1_at (a : Vec Ideal S1024x1408 .bf16) (b : Vec Ideal S1408x1024 .bf16) (r : Fin 1024) (d : Fin 1024) :
    k0_pay1 (F := Ideal) a b (ix2 r d) = ∑ x : Fin 1408, a (ix2 r x) * b (ix2 x d) := by
  pointwise [k0_pay1]
theorem pay2_at (a : Vec Ideal S1024x1408 .bf16) (b : Vec Ideal S1408x1024 .bf16) (r : Fin 1024) (d : Fin 1024) :
    k0_pay2 (F := Ideal) a b (ix2 r d) = ∑ x : Fin 1408, a (ix2 r x) * b (ix2 x d) := by
  pointwise [k0_pay2, k0_pay1]
theorem pay3_at (a : Vec Ideal S1024x1408 .bf16) (b : Vec Ideal S1408x1024 .bf16) (v : Vec Ideal S1024x1024 .f32) (r : Fin 1024) (d : Fin 1024) :
    k0_pay3 (F := Ideal) a b v (ix2 r d) = v (ix2 r d) + ∑ x : Fin 1408, a (ix2 r x) * b (ix2 x d) := by
  pointwise [k0_pay3, k0_pay1]

theorem embOut (t : Fin cfg0.N) (r : Fin 1024) (d : Fin 1024) :
    ((View.whole main_v0).slice (win0_2.rect t)).emb (ix2 r d) = ix2 ⟨1024 * (t.val / 4) + r.val, by have := t.isLt; have : t.val < 8 := this; omega⟩ d := by
  funext b
  fin_cases b <;> apply Fin.ext <;> blk_simp [idx t]
  · show t.val / 4 * 1024 + r.val = 1024 * (t.val / 4) + r.val
    omega
  · rfl

/-- One term of the product. -/
abbrev term (A : S2048x5632.Idx → EReal) (B : S5632x1024.Idx → EReal) (r : Fin 2048) (d : Fin 1024) (k : Fin 5632) : EReal :=
  A (ix2 r k) * B (ix2 k d)

/-- The product of two blocks at an index. -/
abbrev blockDot (a : Vec Ideal S1024x1408 .bf16) (b : Vec Ideal S1408x1024 .bf16) (r : Fin 1024) (d : Fin 1024) : EReal :=
  ∑ x : Fin 1408, a (ix2 r x) * b (ix2 x d)

/-- A grid point's part of the product: its block of the long axis. -/
def part (t : Fin cfg0.N) (y : S1024x1024.Idx) : EReal :=
  blockDot (iblk m c 0 t) (iblk m c 1 t) (y 0) (y 1)

theorem first (t : Fin cfg0.N) (h : t.val % 4 = 0) (y : S1024x1024.Idx) :
    (outsAt0 m c t.val t.isLt).2 y = 0 + part m c t y := by
  have : t.val < 8 := t.isLt
  obtain ⟨r, d, rfl⟩ : ∃ (r : Fin 1024) (d : Fin 1024), y = ix2 r d := ⟨y 0, y 1, (ix2_eta y).symm⟩
  rw [outsAt0_A m c t h (by omega) (by omega), zero_add]
  frame_out
  exact pay2_at _ _ r d

theorem later (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + part m c t y := by
  have : t.val < 8 := t.isLt
  obtain ⟨r, d, rfl⟩ : ∃ (r : Fin 1024) (d : Fin 1024), y = ix2 r d := ⟨y 0, y 1, (ix2_eta y).symm⟩
  by_cases h2 : t.val % 4 = 3
  · rw [outsAt0_C m c t h (by omega) h2]
    frame_out
    rw [(Memref.isWhole_whole _).read_unread]
    exact pay3_at _ _ _ r d
  · rw [outsAt0_B m c t h (by omega) h2]
    frame_out
    rw [(Memref.isWhole_whole _).read_unread]
    exact pay3_at _ _ _ r d

/-- The last point of a run writes back what it accumulated. -/
theorem last (t : Fin cfg0.N) (h : t.val % 4 = 3) (y : S1024x1024.Idx) :
    (outsAt0 m c t.val t.isLt).1 y = (outsAt0 m c t.val t.isLt).2 y := by
  have : t.val < 8 := t.isLt
  rw [outsAt0_C m c t (by omega) (by omega) h]
  frame_out

/-- The parts of one run of grid points, summed, are the product. -/
theorem sum_parts (t : Fin cfg0.N) (h : ∀ s : Fin 4, 4 * (t.val / 4) + s.val < cfg0.N) (r : Fin 1024) (d : Fin 1024) :
    ∑ s : Fin 4, part m c ⟨4 * (t.val / 4) + s.val, h s⟩ (ix2 r d)
      = res (m ((c : Thread nD τ).loc main_arg0)) (m ((c : Thread nD τ).loc main_arg1)) (ix2 ⟨1024 * (t.val / 4) + r.val, by have := t.isLt; have : t.val < 8 := this; omega⟩ d) := by
  have hN : t.val < 8 := t.isLt
  refine Eq.trans ?_ (Tiles.sum_tiles 4 1408 5632 rfl
    (term (m ((c : Thread nD τ).loc main_arg0)) (m ((c : Thread nD τ).loc main_arg1)) ⟨1024 * (t.val / 4) + r.val, by have := t.isLt; have : t.val < 8 := this; omega⟩ d) (fun s x => by omega))
  refine Finset.sum_congr rfl fun s _ => Finset.sum_congr rfl fun x _ => ?_
  refine congrArg₂ (fun p q : EReal => p * q) ((iblk0 m c _ r x).trans ?_) ((iblk1 m c _ d x).trans ?_)
  · refine congrArg _ (congrArg₂ (fun p q => ix2 p q) (Fin.ext ?_) (Fin.ext ?_))
    · show 1024 * ((4 * (t.val / 4) + s.val) / 4) + r.val = 1024 * (t.val / 4) + r.val
      omega
    · show 1408 * ((4 * (t.val / 4) + s.val) % 4) + x.val = 1408 * s.val + x.val
      omega
  · refine congrArg _ (congrArg₂ (fun p q => ix2 p q) (Fin.ext ?_) rfl)
    show 1408 * ((4 * (t.val / 4) + s.val) % 4) + x.val = 1408 * s.val + x.val
    omega

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  have hl : t.val % 4 = 3 := (flush0_2 t).mp hf
  have hN : t.val < 8 := t.isLt
  rw [after0_2, last m c t hl, Pipeline.eq_sum_fin_of_reset_step_apply_of_flush (fun n h => (outsAt0 m c n h).2) 4 (fun _ => 0)
    (part m c) (first m c) (later m c) t hl y, zero_add]
  obtain ⟨r, d, rfl⟩ : ∃ (r : Fin 1024) (d : Fin 1024), y = ix2 r d := ⟨y 0, y 1, (ix2_eta y).symm⟩
  rw [embOut]
  exact sum_parts m c t _ r d

end Cert.Kernel5Ideal.Value

namespace Cert.Reference5Ideal.Value

open Cert.Reference5Ideal Cert.Reference5Ideal.Gen Cert.Reference5Ideal.Read Idealize.ShloMosaic Idealize.SL.Sem

/-- The derivative of the product is the same sum. -/
theorem v5_at (A : S2048x5632.Idx → EReal) (B : S5632x1024.Idx → EReal) :
    val_main_v5 (F := Ideal) A B = Cert.Kernel5Ideal.Value.res A B := by
  funext i
  obtain ⟨r, d, rfl⟩ : ∃ (r : Fin 2048) (d : Fin 1024), i = ix2 r d := ⟨i 0, i 1, (ix2_eta i).symm⟩
  pointwise [val_main_v5, val_main_v4, val_main_v2, val_main_v1]
  rfl

end Cert.Reference5Ideal.Value

namespace Cert.Proof

open Idealize.ShloMosaic

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, Cert.Kernel5Ideal.Value.run_blocks m g,
    θ_run_mono (Cert.Reference5Ideal.Value.run m' g') fun r hr c => ?_⟩
  obtain ⟨h, hargs⟩ := hr c
  obtain ⟨e0, e1⟩ := hagree c
  refine ⟨?_, hargs⟩
  rw [h, Cert.Reference5Ideal.Read.val_main_v5_eq, Cert.Reference5Ideal.Value.v5_at, e0, e1]
  exact (Cert.Kernel5Ideal.Value.arr2 m c).symm

/-- The reference runs and leaves its arguments. -/
theorem ref_frame5 : Cert.quiescent_Reference5Ideal (hReference5Ideal := Cert.Reference5Ideal.Gen.facts) := by
  intro m g _
  refine θ_run_mono (Cert.Reference5Ideal.Value.run m g) fun r h => ⟨fun c => (h c).2, ?_⟩
  exact sem_eq_zero_of_no_sems (by decide) r.2

end Cert.Proof

end
-- ==== Proof.DownDw.lean ====
/- The gradient of the down-projection's weights: the blocked product against the derivative of the product. -/
module

public import proofs.«01_k».proof.Defs
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x2816.Idx → EReal) (B : S2048x1024.Idx → EReal) : S2816x1024.Idx → EReal := fun i =>
  ∑ x : Fin 2048, A (ix2 x (i 0)) * B (ix2 x (i 1))

theorem idx : ∀ t : Fin cfg0.N, win0_0.index t = ![0, t.val] ∧ win0_1.index t = ![0, 0] ∧ win0_2.index t = ![t.val, 0] :=
  (by decide +kernel : ∀ t : Fin grid0.N, _)

theorem iblk0 (t : Fin cfg0.N) (r : Fin 1408) (x : Fin 2048) : iblk m c 0 t (ix2 x r)
    = m ((c : Thread nD τ).loc main_arg0) (ix2 x ⟨1408 * (t.val) + r.val, by have := t.isLt; have : t.val < 2 := this; omega⟩) := by
  blk_point [iblk, V, idx t]
theorem iblk1 (t : Fin cfg0.N) (d : Fin 1024) (x : Fin 2048) : iblk m c 1 t (ix2 x d)
    = m ((c : Thread nD τ).loc main_arg1) (ix2 x d) := by
  blk_point [iblk, V, idx t]

theorem pay1_at (a : Vec Ideal S2048x1408 .bf16) (b : Vec Ideal S2048x1024 .bf16) (r : Fin 1408) (d : Fin 1024) :
    k0_pay1 (F := Ideal) a b (ix2 r d) = ∑ x : Fin 2048, a (ix2 x r) * b (ix2 x d) := by
  pointwise [k0_pay1]

theorem embOut (t : Fin cfg0.N) (r : Fin 1408) (d : Fin 1024) :
    ((View.whole main_v0).slice (win0_2.rect t)).emb (ix2 r d) = ix2 ⟨1408 * (t.val) + r.val, by have := t.isLt; have : t.val < 2 := this; omega⟩ d := by
  funext b
  fin_cases b <;> apply Fin.ext <;> blk_simp [idx t]
  · show t.val * 1408 + r.val = 1408 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1408) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel6Ideal.Value

namespace Cert.Reference6Ideal.Value

open Cert.Reference6Ideal Cert.Reference6Ideal.Gen Cert.Reference6Ideal.Read Idealize.ShloMosaic Idealize.SL.Sem

/-- The derivative of the product is the same sum. -/
theorem v6_at (A : S2048x2816.Idx → EReal) (B : S2048x1024.Idx → EReal) :
    val_main_v6 (F := Ideal) A B = Cert.Kernel6Ideal.Value.res A B := by
  funext i
  obtain ⟨r, d, rfl⟩ : ∃ (r : Fin 2816) (d : Fin 1024), i = ix2 r d := ⟨i 0, i 1, (ix2_eta i).symm⟩
  refine Eq.trans ?_ (Finset.sum_congr rfl fun x _ => mul_comm _ _)
  pointwise [val_main_v6, val_main_v5, val_main_v4, val_main_v3, val_main_v1]

end Cert.Reference6Ideal.Value

namespace Cert.Proof

open Idealize.ShloMosaic

theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 Cert.Kernel6Ideal.cfg0.N, Cert.Kernel6Ideal.Value.run_blocks m g,
    θ_run_mono (Cert.Reference6Ideal.Value.run m' g') fun r hr c => ?_⟩
  obtain ⟨h, hargs⟩ := hr c
  obtain ⟨e0, e1⟩ := hagree c
  refine ⟨?_, hargs⟩
  rw [h, Cert.Reference6Ideal.Read.val_main_v6_eq, Cert.Reference6Ideal.Value.v6_at, e0, e1]
  exact (Cert.Kernel6Ideal.Value.arr2 m c).symm

/-- The reference runs and leaves its arguments. -/
theorem ref_frame6 : Cert.quiescent_Reference6Ideal (hReference6Ideal := Cert.Reference6Ideal.Gen.facts) := by
  intro m g _
  refine θ_run_mono (Cert.Reference6Ideal.Value.run m g) fun r h => ⟨fun c => (h c).2, ?_⟩
  exact sem_eq_zero_of_no_sems (by decide) r.2

end Cert.Proof

end
-- ==== Proof.DownDx.lean ====
/- The gradient of the down-projection's input: the blocked product against the derivative of the product. -/
module

public import proofs.«01_k».proof.Defs
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x1024.Idx → EReal) (B : S2816x1024.Idx → EReal) : S2048x2816.Idx → EReal := fun i =>
  ∑ x : Fin 1024, A (ix2 (i 0) x) * B (ix2 (i 1) x)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem iblk0 (t : Fin cfg0.N) (r : Fin 1024) (x : Fin 1024) : iblk m c 0 t (ix2 r x)
    = m ((c : Thread nD τ).loc main_arg0) (ix2 ⟨1024 * (t.val / 2) + r.val, by have := t.isLt; have : t.val < 4 := this; omega⟩ x) := by
  blk_point [iblk, V, idx t]
theorem iblk1 (t : Fin cfg0.N) (d : Fin 1408) (x : Fin 1024) : iblk m c 1 t (ix2 d x)
    = m ((c : Thread nD τ).loc main_arg1) (ix2 ⟨1408 * (t.val % 2) + d.val, by have := t.isLt; have : t.val < 4 := this; omega⟩ x) := by
  blk_point [iblk, V, idx t]

theorem pay1_at (a : Vec Ideal S1024x1024 .bf16) (b : Vec Ideal S1408x1024 .bf16) (r : Fin 1024) (d : Fin 1408) :
    k0_pay1 (F := Ideal) a b (ix2 r d) = ∑ x : Fin 1024, a (ix2 r x) * b (ix2 d x) := by
  pointwise [k0_pay1]

theorem embOut (t : Fin cfg0.N) (r : Fin 1024) (d : Fin 1408) :
    ((View.whole main_v0).slice (win0_2.rect t)).emb (ix2 r d) = ix2 ⟨1024 * (t.val / 2) + r.val, by have := t.isLt; have : t.val < 4 := this; omega⟩ ⟨1408 * (t.val % 2) + d.val, by have := t.isLt; have : t.val < 4 := this; omega⟩ := by
  funext b
  fin_cases b <;> apply Fin.ext <;> blk_simp [idx t]
  · show t.val / 2 * 1024 + r.val = 1024 * (t.val / 2) + r.val
    omega
  · show t.val % 2 * 1408 + d.val = 1408 * (t.val % 2) + d.val
    omega

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1408), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel7Ideal.Value

namespace Cert.Reference7Ideal.Value

open Cert.Reference7Ideal Cert.Reference7Ideal.Gen Cert.Reference7Ideal.Read Idealize.ShloMosaic Idealize.SL.Sem

/-- The derivative of the product is the same sum. -/
theorem v4_at (A : S2048x1024.Idx → EReal) (B : S2816x1024.Idx → EReal) :
    val_main_v4 (F := Ideal) A B = Cert.Kernel7Ideal.Value.res A B := by
  funext i
  obtain ⟨r, d, rfl⟩ : ∃ (r : Fin 2048) (d : Fin 2816), i = ix2 r d := ⟨i 0, i 1, (ix2_eta i).symm⟩
  pointwise [val_main_v4, val_main_v3, val_main_v1]
  rfl

end Cert.Reference7Ideal.Value

namespace Cert.Proof

open Idealize.ShloMosaic

theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 2 Cert.Kernel7Ideal.cfg0.N, Cert.Kernel7Ideal.Value.run_blocks m g,
    θ_run_mono (Cert.Reference7Ideal.Value.run m' g') fun r hr c => ?_⟩
  obtain ⟨h, hargs⟩ := hr c
  obtain ⟨e0, e1⟩ := hagree c
  refine ⟨?_, hargs⟩
  rw [h, Cert.Reference7Ideal.Read.val_main_v4_eq, Cert.Reference7Ideal.Value.v4_at, e0, e1]
  exact (Cert.Kernel7Ideal.Value.arr2 m c).symm

/-- The reference runs and leaves its arguments. -/
theorem ref_frame7 : Cert.quiescent_Reference7Ideal (hReference7Ideal := Cert.Reference7Ideal.Gen.facts) := by
  intro m g _
  refine θ_run_mono (Cert.Reference7Ideal.Value.run m g) fun r h => ⟨fun c => (h c).2, ?_⟩
  exact sem_eq_zero_of_no_sems (by decide) r.2

end Cert.Proof

end
-- ==== Proof.Conv.lean ====
/- The convolution of width three along a column, its shifted columns zero at the edges, and the two sums its derivative takes. -/
module

public import Idealize.ShloMosaic.Lib.IdealHost
public import Idealize.ShloMosaic.Lib.WordCmp
public import Idealize.ShloMosaic.Lib.Pipeline.ValueKit

@[expose] public section

noncomputable section

namespace Cert.Conv

open Idealize.ShloMosaic

variable {n : ℕ}

/-- A column moved down by one row, zero in the rows that start a segment. -/
def down (s : ℕ → Prop) [DecidablePred s] (f : Fin n → EReal) (r : Fin n) : EReal :=
  if s r.val then 0 else f ⟨(r.val + n - 1) % n, Nat.mod_lt _ (Nat.lt_of_le_of_lt (Nat.zero_le _) r.isLt)⟩

/-- A column moved up by one row, zero in the rows that end a segment. -/
def up (e : ℕ → Prop) [DecidablePred e] (f : Fin n → EReal) (r : Fin n) : EReal :=
  if e r.val then 0 else f ⟨(r.val + n - (n - 1)) % n, Nat.mod_lt _ (Nat.lt_of_le_of_lt (Nat.zero_le _) r.isLt)⟩

variable (s e : ℕ → Prop) [DecidablePred s] [DecidablePred e]

/-- The convolution of a column with three weights. -/
def conv (x : Fin n → EReal) (w : Fin 3 → EReal) (r : Fin n) : EReal := down s x r * w 0 + x r * w 1 + up e x r * w 2

/-- The gradient of the column, from the gradient `h` of the convolution. -/
def dx (w : Fin 3 → EReal) (h : Fin n → EReal) (r : Fin n) : EReal :=
  down s (fun k => h k * w 2) r + h r * w 1 + up e (fun k => h k * w 0) r

/-- The gradient of the three weights. -/
def dw (x h : Fin n → EReal) (k : Fin 3) : EReal :=
  if k.val = 0 then ∑ r, down s x r * h r else if k.val = 1 then ∑ r, x r * h r else ∑ r, up e x r * h r

/-- A choice by an equation of row numbers. -/
theorem select_eq (a b : ℕ) (ha : a < 2 ^ 32) (hb : b < 2 ^ 32) (x y : EReal) :
    Scalar.select (IntOp.cmpi CmpIPredicate.eq (BitVec.ofNat 32 a) (BitVec.ofNat 32 b)) x y = if a = b then x else y := by
  rw [WordCmp.cmpi_eq_ofNat ha hb]
  by_cases h : a = b <;> simp [h, Scalar.select]

/-- A kernel's three rows of weight gradients, laid one under another with zero rows, are `dw`. -/
theorem dw_rows (x h : Fin n → EReal) (k : Fin 3) :
    ((if k.val < 2 then (0 : EReal) else ∑ r, up e x r * h r)
      + (if k.val < 2 then (if k.val < 1 then (0 : EReal) else ∑ r, x r * h r) else 0))
      + (if k.val < 1 then ∑ r, down s x r * h r else 0) = dw s e x h k := by
  fin_cases k <;> simp [dw]

end Cert.Conv

end
-- ==== Proof.Ffn.lean ====
/- The gradient of the gated convolution between the feed-forward block's two products. -/
module

public import proofs.«01_k».proof.Defs
public import proofs.«01_k».proof.Proof.Conv
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.IdealHost
public import Idealize.ShloMosaic.Lib.Pipeline.ValueKit
public import Idealize.ShloMosaic.Lib.Claim

@[expose] public section

set_option maxRecDepth 16384

noncomputable section

namespace Cert.Ffn

open Idealize.ShloMosaic

/-- The row that starts the one segment. -/
abbrev s (r : ℕ) : Prop := r = 0
/-- The row that ends it. -/
abbrev e (r : ℕ) : Prop := r = 2047

/-- One column of the gate and of the value, with their weights and biases and the gradient of their product. -/
structure Col where
  u : Fin 2048 → EReal
  v : Fin 2048 → EReal
  wu : Fin 3 → EReal
  wv : Fin 3 → EReal
  bu : EReal
  bv : EReal
  da : Fin 2048 → EReal

namespace Col
variable (C : Col)

def cu (r : Fin 2048) : EReal := Conv.conv s e C.u C.wu r + C.bu
def cv (r : Fin 2048) : EReal := Conv.conv s e C.v C.wv r + C.bv
def sg (r : Fin 2048) : EReal := Ideal.logistic (C.cu r)
/-- The gradient of the value's convolution. -/
def hv (r : Fin 2048) : EReal := C.cu r * C.sg r * C.da r
/-- The gradient of the gate's convolution. -/
def hu (r : Fin 2048) : EReal :=
  C.da r * C.cv r * C.sg r + C.cu r * (C.da r * C.cv r) * (C.sg r * (1 - C.sg r))
end Col

/-- The column `j` of whole arrays, the gate's half first. -/
def ofArrays (A : (⟨2, ![2048, 5632]⟩ : Shape).Idx → EReal) (W : (⟨2, ![3, 5632]⟩ : Shape).Idx → EReal) (B : (⟨2, ![1, 5632]⟩ : Shape).Idx → EReal) (D : (⟨2, ![2048, 2816]⟩ : Shape).Idx → EReal)
    (j : Fin 2816) : Col where
  u r := A (ix2 r ⟨j.val, by omega⟩)
  v r := A (ix2 r ⟨2816 + j.val, by omega⟩)
  wu k := W (ix2 k ⟨j.val, by omega⟩)
  wv k := W (ix2 k ⟨2816 + j.val, by omega⟩)
  bu := B (ix2 0 ⟨j.val, by omega⟩)
  bv := B (ix2 0 ⟨2816 + j.val, by omega⟩)
  da r := D (ix2 r j)

/-- The column `d` of a grid point's blocks. -/
def ofBlocks (x0 x1 : (⟨2, ![2048, 256]⟩ : Shape).Idx → EReal) (x2 x3 : (⟨2, ![3, 256]⟩ : Shape).Idx → EReal) (x4 x5 : (⟨2, ![1, 256]⟩ : Shape).Idx → EReal) (x6 : (⟨2, ![2048, 256]⟩ : Shape).Idx → EReal)
    (d : Fin 256) : Col where
  u r := x0 (ix2 r d)
  v r := x1 (ix2 r d)
  wu k := x2 (ix2 k d)
  wv k := x3 (ix2 k d)
  bu := x4 (ix2 0 d)
  bv := x5 (ix2 0 d)
  da r := x6 (ix2 r d)

section Results
variable (A : (⟨2, ![2048, 5632]⟩ : Shape).Idx → EReal) (W : (⟨2, ![3, 5632]⟩ : Shape).Idx → EReal)
  (B : (⟨2, ![1, 5632]⟩ : Shape).Idx → EReal) (D : (⟨2, ![2048, 2816]⟩ : Shape).Idx → EReal)

/-! The six gradients as functions of the whole arrays: of the gate's and the value's columns, weights and biases. -/

def resU : (⟨2, ![2048, 2816]⟩ : Shape).Idx → EReal := fun i => Conv.dx s e (ofArrays A W B D (i 1)).wu (ofArrays A W B D (i 1)).hu (i 0)
def resV : (⟨2, ![2048, 2816]⟩ : Shape).Idx → EReal := fun i => Conv.dx s e (ofArrays A W B D (i 1)).wv (ofArrays A W B D (i 1)).hv (i 0)
def resWu : (⟨2, ![3, 2816]⟩ : Shape).Idx → EReal := fun i => Conv.dw s e (ofArrays A W B D (i 1)).u (ofArrays A W B D (i 1)).hu (i 0)
def resWv : (⟨2, ![3, 2816]⟩ : Shape).Idx → EReal := fun i => Conv.dw s e (ofArrays A W B D (i 1)).v (ofArrays A W B D (i 1)).hv (i 0)
def resBu : (⟨2, ![1, 2816]⟩ : Shape).Idx → EReal := fun i => ∑ r, (ofArrays A W B D (i 1)).hu r
def resBv : (⟨2, ![1, 2816]⟩ : Shape).Idx → EReal := fun i => ∑ r, (ofArrays A W B D (i 1)).hv r

end Results

end Cert.Ffn

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Ffn (Col ofArrays ofBlocks s e)

section Block

theorem ld0 (a : Vec Ideal S2048x256 .f32) : View.ld a r0_0 = a := by
  funext i; obtain ⟨r, d, rfl⟩ : ∃ (r : Fin 2048) (d : Fin 256), i = ix2 r d := ⟨i 0, i 1, (ix2_eta i).symm⟩
  pointwise [r0_0]
theorem ld1 (a : Vec Ideal S3x256 .f32) : View.ld a r0_1 = a := by
  funext i; obtain ⟨r, d, rfl⟩ : ∃ (r : Fin 3) (d : Fin 256), i = ix2 r d := ⟨i 0, i 1, (ix2_eta i).symm⟩
  pointwise [r0_1]
theorem ld2 (a : Vec Ideal S1x256 .f32) : View.ld a r0_2 = a := by
  funext i; obtain ⟨r, d, rfl⟩ : ∃ (r : Fin 1) (d : Fin 256), i = ix2 r d := ⟨i 0, i 1, (ix2_eta i).symm⟩
  obtain rfl : r = 0 := Subsingleton.elim _ _
  pointwise [r0_2]

variable (x0 x1 : Vec Ideal S2048x256 .f32) (x2 x3 : Vec Ideal S3x256 .f32) (x4 x5 : Vec Ideal S1x256 .f32) (x6 : Vec Ideal S2048x256 .f32)
  (d : Fin 256)

theorem down_at (a : Vec Ideal S2048x256 .f32) (r : Fin 2048) :
    Scalar.select (IntOp.cmpi CmpIPredicate.eq (BitVec.ofNat 32 r.val) 0#32) (0 : EReal)
      (a (ix2 ⟨(r.val + 2048 - 1) % 2048, Nat.mod_lt _ (by decide)⟩ d)) = Conv.down s (fun r => a (ix2 r d)) r :=
  Conv.select_eq r.val 0 (by omega) (by decide) _ _
theorem up_at (a : Vec Ideal S2048x256 .f32) (r : Fin 2048) :
    Scalar.select (IntOp.cmpi CmpIPredicate.eq (BitVec.ofNat 32 r.val) 2047#32) (0 : EReal)
      (a (ix2 ⟨(r.val + 2048 - 2047) % 2048, Nat.mod_lt _ (by decide)⟩ d)) = Conv.up e (fun r => a (ix2 r d)) r :=
  Conv.select_eq r.val 2047 (by omega) (by decide) _ _

theorem pay4_at (a : Vec Ideal S2048x256 .f32) (r : Fin 2048) : k0_pay4 (F := Ideal) a (ix2 r d) = Conv.down s (fun r => a (ix2 r d)) r := by
  refine Eq.trans ?_ (down_at d a r)
  pointwise [k0_pay4]
theorem pay7_at (a : Vec Ideal S2048x256 .f32) (r : Fin 2048) : k0_pay7 (F := Ideal) a (ix2 r d) = Conv.up e (fun r => a (ix2 r d)) r := by
  refine Eq.trans ?_ (up_at d a r)
  pointwise [k0_pay7]
theorem pay17_at (a : Vec Ideal S2048x256 .f32) (r : Fin 2048) : k0_pay17 (F := Ideal) a (ix2 r d) = Conv.up e (fun r => a (ix2 r d)) r := by
  refine Eq.trans ?_ (up_at d a r)
  pointwise [k0_pay17]
theorem pay14_at (r : Fin 2048) : k0_pay14 (F := Ideal) (k0_pay33 x0 x1 x2 x3 x4 x5 x6) (k0_pay38 x0 x1 x2 x3 x4 x5 x6) 0#32 (ix2 r d)
    = Conv.down s (fun r => x1 (ix2 r d)) r := by
  refine Eq.trans ?_ (down_at d x1 r)
  pointwise [k0_pay14, k0_pay33, k0_pay38, k0_pay13, r0_0]

theorem pay9_at (r : Fin 2048) : k0_pay9 (F := Ideal) x0 x2 x4 (ix2 r d) = (ofBlocks x0 x1 x2 x3 x4 x5 x6 d).cu r := by
  pointwise [k0_pay9, k0_pay8, k0_pay5, k0_pay6]
  rw [pay4_at, pay7_at]
  rfl
theorem pay34_at (r : Fin 2048) : k0_pay34 (F := Ideal) x0 x1 x2 x3 x4 x5 x6 (ix2 r d) = (ofBlocks x0 x1 x2 x3 x4 x5 x6 d).cu r := by
  rw [k0_pay34, ld0, ld1, ld2, pay9_at x0 x1 x2 x3 x4 x5 x6]
theorem pay10_at (r : Fin 2048) : k0_pay10 (F := Ideal) x0 x2 x4 (ix2 r d) = (ofBlocks x0 x1 x2 x3 x4 x5 x6 d).sg r := by
  pointwise [k0_pay10]
  rw [pay9_at x0 x1 x2 x3 x4 x5 x6]
  rfl
theorem pay35_at (r : Fin 2048) : k0_pay35 (F := Ideal) x0 x1 x2 x3 x4 x5 x6 (ix2 r d) = (ofBlocks x0 x1 x2 x3 x4 x5 x6 d).sg r := by
  rw [k0_pay35, ld0, ld1, ld2, pay10_at x0 x1 x2 x3 x4 x5 x6]
theorem pay36_at (r : Fin 2048) : k0_pay36 (F := Ideal) x0 x1 x2 x3 x4 x5 x6 (ix2 r d)
    = (ofBlocks x0 x1 x2 x3 x4 x5 x6 d).sg r * (1 - (ofBlocks x0 x1 x2 x3 x4 x5 x6 d).sg r) := by
  rw [k0_pay36, ld0, ld1, ld2]
  pointwise [k0_pay11]
  rw [pay10_at x0 x1 x2 x3 x4 x5 x6]
theorem pay37_at (r : Fin 2048) : k0_pay37 (F := Ideal) x0 x1 x2 x3 x4 x5 x6 (ix2 r d)
    = (ofBlocks x0 x1 x2 x3 x4 x5 x6 d).cu r * (ofBlocks x0 x1 x2 x3 x4 x5 x6 d).sg r := by
  rw [k0_pay37, ld0, ld1, ld2]
  pointwise [k0_pay12]
  rw [pay9_at x0 x1 x2 x3 x4 x5 x6, pay10_at x0 x1 x2 x3 x4 x5 x6]
/-- The gradient of the value's convolution. -/
theorem pay19_at (r : Fin 2048) : k0_pay19 (F := Ideal) (k0_pay37 x0 x1 x2 x3 x4 x5 x6) x6 (ix2 r d) = (ofBlocks x0 x1 x2 x3 x4 x5 x6 d).hv r := by
  pointwise [k0_pay19]
  rw [pay37_at]
  rfl
theorem pay40_at (r : Fin 2048) : k0_pay40 (F := Ideal) x0 x1 x2 x3 x4 x5 x6 (ix2 r d)
    = (ofBlocks x0 x1 x2 x3 x4 x5 x6 d).da r * (ofBlocks x0 x1 x2 x3 x4 x5 x6 d).cv r := by
  rw [k0_pay40, ld0, ld0, ld1, ld2]
  pointwise [k0_pay20, k0_pay15, k0_pay16, k0_pay18]
  rw [pay14_at, pay17_at]
  rfl
/-- The gradient of the gate's convolution. -/
theorem pay27_at (r : Fin 2048) : k0_pay27 (F := Ideal) (k0_pay34 x0 x1 x2 x3 x4 x5 x6) (k0_pay35 x0 x1 x2 x3 x4 x5 x6)
    (k0_pay36 x0 x1 x2 x3 x4 x5 x6) (k0_pay40 x0 x1 x2 x3 x4 x5 x6) (ix2 r d) = (ofBlocks x0 x1 x2 x3 x4 x5 x6 d).hu r := by
  pointwise [k0_pay27]
  rw [pay34_at, pay35_at, pay36_at, pay40_at]
  rfl

theorem pay39_at (r : Fin 2048) : k0_pay39 (F := Ideal) x0 x1 x2 x3 x4 x5 x6 (ix2 r d) = (ofBlocks x0 x1 x2 x3 x4 x5 x6 d).hv r := by
  rw [k0_pay39, ld0, pay19_at]
theorem pay41_at (r : Fin 2048) : k0_pay41 (F := Ideal) x0 x1 x2 x3 x4 x5 x6 (ix2 r d) = (ofBlocks x0 x1 x2 x3 x4 x5 x6 d).hu r := by
  rw [k0_pay41, pay27_at]

/-! The six blocks that a grid point leaves. -/

theorem sel_s (r : Fin 2048) (x y : EReal) :
    Scalar.select (IntOp.cmpi CmpIPredicate.eq (BitVec.ofNat 32 r.val) 0#32) x y = if s r.val then x else y :=
  Conv.select_eq r.val 0 (by omega) (by decide) x y
theorem sel_e (r : Fin 2048) (x y : EReal) :
    Scalar.select (IntOp.cmpi CmpIPredicate.eq (BitVec.ofNat 32 r.val) 2047#32) x y = if e r.val then x else y :=
  Conv.select_eq r.val 2047 (by omega) (by decide) x y

theorem out7_at (r : Fin 2048) : out0_7 (F := Ideal) x0 x1 x2 x3 x4 x5 x6 (ix2 r d)
    = Conv.dx s e (ofBlocks x0 x1 x2 x3 x4 x5 x6 d).wu (ofBlocks x0 x1 x2 x3 x4 x5 x6 d).hu r := by
  frame_out
  pointwise [k0_pay2, k0_pay31, k0_pay5, k0_pay6, k0_pay8]
  simp only [sel_s, sel_e, pay27_at, pay41_at]
  rfl
theorem out8_at (r : Fin 2048) : out0_8 (F := Ideal) x0 x1 x2 x3 x4 x5 x6 (ix2 r d)
    = Conv.dx s e (ofBlocks x0 x1 x2 x3 x4 x5 x6 d).wv (ofBlocks x0 x1 x2 x3 x4 x5 x6 d).hv r := by
  frame_out
  pointwise [k0_pay3, k0_pay24, k0_pay26, k0_pay15, k0_pay16, k0_pay18]
  simp only [sel_s, sel_e, pay19_at, pay39_at]
  rfl
theorem out9_at (k : Fin 3) : out0_9 (F := Ideal) x0 x1 x2 x3 x4 x5 x6 (ix2 k d)
    = Conv.dw s e (ofBlocks x0 x1 x2 x3 x4 x5 x6 d).u (ofBlocks x0 x1 x2 x3 x4 x5 x6 d).hu k := by
  rw [← Conv.dw_rows]
  frame_out
  pointwise [k0_pay1, k0_pay29, k0_pay30, k0_pay32]
  simp only [pay27_at, pay41_at, pay4_at, pay7_at]
  rfl
theorem out10_at (k : Fin 3) : out0_10 (F := Ideal) x0 x1 x2 x3 x4 x5 x6 (ix2 k d)
    = Conv.dw s e (ofBlocks x0 x1 x2 x3 x4 x5 x6 d).v (ofBlocks x0 x1 x2 x3 x4 x5 x6 d).hv k := by
  rw [← Conv.dw_rows]
  frame_out
  pointwise [k0_pay25, k0_pay22, k0_pay23]
  simp only [pay19_at, pay39_at, pay14_at, pay17_at]
  rfl
theorem out11_at : out0_11 (F := Ideal) x0 x1 x2 x3 x4 x5 x6 (ix2 0 d) = ∑ r, (ofBlocks x0 x1 x2 x3 x4 x5 x6 d).hu r := by
  frame_out
  pointwise [k0_pay28]
  simp only [pay27_at, pay41_at]
theorem out12_at : out0_12 (F := Ideal) x0 x1 x2 x3 x4 x5 x6 (ix2 0 d) = ∑ r, (ofBlocks x0 x1 x2 x3 x4 x5 x6 d).hv r := by
  frame_out
  pointwise [k0_pay21]
  simp only [pay19_at, pay39_at]

end Block

variable (m : (ℓ : Loc nD τ sig) → Buf (Elt Ideal) ℓ) (c : Dev nD)

theorem idx : ∀ t : Fin cfg0.N, win0_0.index t = ![0, t.val] ∧ win0_1.index t = ![0, t.val + 11] ∧ win0_2.index t = ![0, t.val]
    ∧ win0_3.index t = ![0, t.val + 11] ∧ win0_4.index t = ![0, t.val] ∧ win0_5.index t = ![0, t.val + 11] ∧ win0_6.index t = ![0, t.val]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] :=
  (by decide +kernel : ∀ t : Fin grid0.N, _)

theorem iblk0 (t : Fin cfg0.N) (r : Fin 2048) (d : Fin 256) : iblk m c 0 t (ix2 r d)
    = m ((c : Thread nD τ).loc main_arg0) (ix2 r ⟨256 * t.val + d.val, by have := t.isLt; have : t.val < 11 := this; omega⟩) := by
  blk_point [iblk, V, idx t]
theorem iblk1 (t : Fin cfg0.N) (r : Fin 2048) (d : Fin 256) : iblk m c 1 t (ix2 r d)
    = m ((c : Thread nD τ).loc main_arg0) (ix2 r ⟨2816 + (256 * t.val + d.val), by have := t.isLt; have : t.val < 11 := this; omega⟩) := by
  blk_point [iblk, V, idx t]
theorem iblk2 (t : Fin cfg0.N) (r : Fin 3) (d : Fin 256) : iblk m c 2 t (ix2 r d)
    = m ((c : Thread nD τ).loc main_arg1) (ix2 r ⟨256 * t.val + d.val, by have := t.isLt; have : t.val < 11 := this; omega⟩) := by
  blk_point [iblk, V, idx t]
theorem iblk3 (t : Fin cfg0.N) (r : Fin 3) (d : Fin 256) : iblk m c 3 t (ix2 r d)
    = m ((c : Thread nD τ).loc main_arg1) (ix2 r ⟨2816 + (256 * t.val + d.val), by have := t.isLt; have : t.val < 11 := this; omega⟩) := by
  blk_point [iblk, V, idx t]
theorem iblk4 (t : Fin cfg0.N) (d : Fin 256) : iblk m c 4 t (ix2 0 d)
    = m ((c : Thread nD τ).loc main_arg2) (ix2 0 ⟨256 * t.val + d.val, by have := t.isLt; have : t.val < 11 := this; omega⟩) := by
  blk_point [iblk, V, idx t]
theorem iblk5 (t : Fin cfg0.N) (d : Fin 256) : iblk m c 5 t (ix2 0 d)
    = m ((c : Thread nD τ).loc main_arg2) (ix2 0 ⟨2816 + (256 * t.val + d.val), by have := t.isLt; have : t.val < 11 := this; omega⟩) := by
  blk_point [iblk, V, idx t]
theorem iblk6 (t : Fin cfg0.N) (r : Fin 2048) (d : Fin 256) : iblk m c 6 t (ix2 r d)
    = m ((c : Thread nD τ).loc main_arg3) (ix2 r ⟨256 * t.val + d.val, by have := t.isLt; have : t.val < 11 := this; omega⟩) := by
  blk_point [iblk, V, idx t]

/-- The column that a grid point's blocks hold. -/
theorem cols (t : Fin cfg0.N) (d : Fin 256) :
    ofBlocks (iblk m c 0 t) (iblk m c 1 t) (iblk m c 2 t) (iblk m c 3 t) (iblk m c 4 t) (iblk m c 5 t) (iblk m c 6 t) d
      = ofArrays (m ((c : Thread nD τ).loc main_arg0)) (m ((c : Thread nD τ).loc main_arg1)) (m ((c : Thread nD τ).loc main_arg2))
        (m ((c : Thread nD τ).loc main_arg3)) ⟨256 * t.val + d.val, by have := t.isLt; have : t.val < 11 := this; omega⟩ := by
  simp only [ofBlocks, ofArrays, iblk0, iblk1, iblk2, iblk3, iblk4, iblk5, iblk6]

theorem emb7 (t : Fin cfg0.N) (r : Fin 2048) (d : Fin 256) : ((View.whole main_v0_0).slice (win0_7.rect t)).emb (ix2 r d)
    = ix2 r ⟨256 * t.val + d.val, by have := t.isLt; have : t.val < 11 := this; omega⟩ := by
  funext b
  fin_cases b <;> apply Fin.ext <;> blk_simp [idx t]
  · rfl
  show t.val * 256 + d.val = 256 * t.val + d.val
  omega
theorem arr7 : (dats m 0 c).arrAt 7 cfg0.N = Ffn.resU (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  obtain ⟨r, d, rfl⟩ : ∃ (r : Fin 2048) (d : Fin 256), y = ix2 r d := ⟨y 0, y 1, (ix2_eta y).symm⟩
  rw [emb7, out7_at, cols]
  rfl

theorem emb8 (t : Fin cfg0.N) (r : Fin 2048) (d : Fin 256) : ((View.whole main_v0_1).slice (win0_8.rect t)).emb (ix2 r d)
    = ix2 r ⟨256 * t.val + d.val, by have := t.isLt; have : t.val < 11 := this; omega⟩ := by
  funext b
  fin_cases b <;> apply Fin.ext <;> blk_simp [idx t]
  · rfl
  show t.val * 256 + d.val = 256 * t.val + d.val
  omega
theorem arr8 : (dats m 0 c).arrAt 8 cfg0.N = Ffn.resV (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  blk_simp
  rw [after0_8]
  obtain ⟨r, d, rfl⟩ : ∃ (r : Fin 2048) (d : Fin 256), y = ix2 r d := ⟨y 0, y 1, (ix2_eta y).symm⟩
  rw [emb8, out8_at, cols]
  rfl

theorem emb9 (t : Fin cfg0.N) (r : Fin 3) (d : Fin 256) : ((View.whole main_v0_2).slice (win0_9.rect t)).emb (ix2 r d)
    = ix2 r ⟨256 * t.val + d.val, by have := t.isLt; have : t.val < 11 := this; omega⟩ := by
  funext b
  fin_cases b <;> apply Fin.ext <;> blk_simp [idx t]
  · rfl
  show t.val * 256 + d.val = 256 * t.val + d.val
  omega
theorem arr9 : (dats m 0 c).arrAt 9 cfg0.N = Ffn.resWu (m ((c : Thread nD τ).loc main_arg0)) (m ((c : Thread nD τ).loc main_arg1))
    (m ((c : Thread nD τ).loc main_arg2)) (m ((c : Thread nD τ).loc main_arg3)) := by
  refine (dats m 0 c).arrAt_eq_of_covers 9 _ (by decide +kernel) fun t hf y => ?_
  blk_simp
  rw [after0_9]
  obtain ⟨r, d, rfl⟩ : ∃ (r : Fin 3) (d : Fin 256), y = ix2 r d := ⟨y 0, y 1, (ix2_eta y).symm⟩
  rw [emb9, out9_at, cols]
  rfl

theorem emb10 (t : Fin cfg0.N) (r : Fin 3) (d : Fin 256) : ((View.whole main_v0_3).slice (win0_10.rect t)).emb (ix2 r d)
    = ix2 r ⟨256 * t.val + d.val, by have := t.isLt; have : t.val < 11 := this; omega⟩ := by
  funext b
  fin_cases b <;> apply Fin.ext <;> blk_simp [idx t]
  · rfl
  show t.val * 256 + d.val = 256 * t.val + d.val
  omega
theorem arr10 : (dats m 0 c).arrAt 10 cfg0.N = Ffn.resWv (m ((c : Thread nD τ).loc main_arg0)) (m ((c : Thread nD τ).loc main_arg1))
    (m ((c : Thread nD τ).loc main_arg2)) (m ((c : Thread nD τ).loc main_arg3)) := by
  refine (dats m 0 c).arrAt_eq_of_covers 10 _ (by decide +kernel) fun t hf y => ?_
  blk_simp
  rw [after0_10]
  obtain ⟨r, d, rfl⟩ : ∃ (r : Fin 3) (d : Fin 256), y = ix2 r d := ⟨y 0, y 1, (ix2_eta y).symm⟩
  rw [emb10, out10_at, cols]
  rfl

theorem emb11 (t : Fin cfg0.N) (d : Fin 256) : ((View.whole main_v0_4).slice (win0_11.rect t)).emb (ix2 0 d)
    = ix2 0 ⟨256 * t.val + d.val, by have := t.isLt; have : t.val < 11 := this; omega⟩ := by
  funext b
  fin_cases b <;> apply Fin.ext <;> blk_simp [idx t]
  show t.val * 256 + d.val = 256 * t.val + d.val
  omega
theorem arr11 : (dats m 0 c).arrAt 11 cfg0.N = Ffn.resBu (m ((c : Thread nD τ).loc main_arg0)) (m ((c : Thread nD τ).loc main_arg1))
    (m ((c : Thread nD τ).loc main_arg2)) (m ((c : Thread nD τ).loc main_arg3)) := by
  refine (dats m 0 c).arrAt_eq_of_covers 11 _ (by decide +kernel) fun t hf y => ?_
  blk_simp
  rw [after0_11]
  obtain ⟨r, d, rfl⟩ : ∃ (r : Fin 1) (d : Fin 256), y = ix2 r d := ⟨y 0, y 1, (ix2_eta y).symm⟩
  obtain rfl : r = 0 := Subsingleton.elim _ _
  rw [emb11, out11_at, cols]
  rfl

theorem emb12 (t : Fin cfg0.N) (d : Fin 256) : ((View.whole main_v0_5).slice (win0_12.rect t)).emb (ix2 0 d)
    = ix2 0 ⟨256 * t.val + d.val, by have := t.isLt; have : t.val < 11 := this; omega⟩ := by
  funext b
  fin_cases b <;> apply Fin.ext <;> blk_simp [idx t]
  show t.val * 256 + d.val = 256 * t.val + d.val
  omega
theorem arr12 : (dats m 0 c).arrAt 12 cfg0.N = Ffn.resBv (m ((c : Thread nD τ).loc main_arg0)) (m ((c : Thread nD τ).loc main_arg1))
    (m ((c : Thread nD τ).loc main_arg2)) (m ((c : Thread nD τ).loc main_arg3)) := by
  refine (dats m 0 c).arrAt_eq_of_covers 12 _ (by decide +kernel) fun t hf y => ?_
  blk_simp
  rw [after0_12]
  obtain ⟨r, d, rfl⟩ : ∃ (r : Fin 1) (d : Fin 256), y = ix2 r d := ⟨y 0, y 1, (ix2_eta y).symm⟩
  obtain rfl : r = 0 := Subsingleton.elim _ _
  rw [emb12, out12_at, cols]
  rfl

end Cert.Kernel8Ideal.Value

namespace Cert.Reference8Ideal.Value

open Cert.Reference8Ideal Cert.Reference8Ideal.Read Idealize.ShloMosaic Idealize.ShloMosaic.TcCoe Idealize.SL.Sem
open Cert.Ffn (Col ofArrays s e)

variable (A : Vec Ideal S2048x5632 .f32) (W : Vec Ideal S3x5632 .f32) (B : Vec Ideal S1x5632 .f32) (D : Vec Ideal S2048x2816 .f32)

/-- The rows one above, read from the rows with a zero row on either side, are the column moved down. -/
theorem down_pad (f : Fin 2048 → EReal) (r : Fin 2048) :
    (if h : r.val < 1 then 0 else if h : r.val - 1 < 2048 then f ⟨r.val - 1, h⟩ else 0) = Conv.down s f r := by
  unfold Conv.down
  by_cases h : r.val = 0
  · rw [dif_pos (by omega), if_pos h]
  · rw [dif_neg (by omega), dif_pos (by omega), if_neg h]
    exact congrArg f (Fin.ext (by show r.val - 1 = (r.val + 2048 - 1) % 2048; omega))
/-- The rows one below, likewise. -/
theorem up_pad (f : Fin 2048 → EReal) (r : Fin 2048) :
    (if h : 2 + r.val < 1 then 0 else if h : 2 + r.val - 1 < 2048 then f ⟨2 + r.val - 1, h⟩ else 0) = Conv.up e f r := by
  unfold Conv.up
  by_cases h : r.val = 2047
  · rw [dif_neg (by omega), dif_neg (by omega), if_pos h]
  · rw [dif_neg (by omega), dif_pos (by omega), if_neg h]
    exact congrArg f (Fin.ext (by show 2 + r.val - 1 = (r.val + 2048 - (2048 - 1)) % 2048; omega))
/-- Rows laid two rows lower, read one row lower, are the column moved down. -/
theorem down_low (f : Fin 2048 → EReal) (r : Fin 2048) :
    (if h : 2 ≤ 1 + r.val ∧ 1 + r.val - 2 < 2048 then f ⟨1 + r.val - 2, h.2⟩ else 0) = Conv.down s f r := by
  unfold Conv.down
  by_cases h : r.val = 0
  · rw [dif_neg (by omega), if_pos h]
  · rw [dif_pos (by omega), if_neg h]
    exact congrArg f (Fin.ext (by show 1 + r.val - 2 = (r.val + 2048 - 1) % 2048; omega))
/-- Rows read one row lower are the column moved up. -/
theorem up_low (f : Fin 2048 → EReal) (r : Fin 2048) :
    (if h : 1 + r.val < 2048 then f ⟨1 + r.val, h⟩ else 0) = Conv.up e f r := by
  unfold Conv.up
  by_cases h : r.val = 2047
  · rw [dif_neg (by omega), if_pos h]
  · rw [dif_pos (by omega), if_neg h]
    exact congrArg f (Fin.ext (by show 1 + r.val = (r.val + 2048 - (2048 - 1)) % 2048; omega))

theorem v5_at (r : Fin 2048) (j : Fin 5632) : val_main_v5 (F := Ideal) A (ix2 r j) = Conv.down s (fun r => A (ix2 r j)) r := by
  refine Eq.trans ?_ (down_pad _ r)
  pointwise [val_main_v5, val_main_v2, val_main_v1, val_main_cst, val_main_v3, val_main_cst_0]
theorem v11_at (r : Fin 2048) (j : Fin 5632) : val_main_v11 (F := Ideal) A (ix2 r j) = A (ix2 r j) := by
  pointwise [val_main_v11, val_main_v2, val_main_v1, val_main_cst, val_main_v3, val_main_cst_0]
theorem v18_at (r : Fin 2048) (j : Fin 5632) : val_main_v18 (F := Ideal) A (ix2 r j) = Conv.up e (fun r => A (ix2 r j)) r := by
  refine Eq.trans ?_ (up_pad _ r)
  pointwise [val_main_v18, val_main_v2, val_main_v1, val_main_cst, val_main_v3, val_main_cst_0]

/-- The convolution of the column `j`. -/
theorem v27_at (r : Fin 2048) (j : Fin 5632) : val_main_v27 (F := Ideal) A W B (ix2 r j)
    = Conv.conv s e (fun r => A (ix2 r j)) (fun k => W (ix2 k j)) r + B (ix2 0 j) := by
  pointwise [val_main_v27, val_main_v24, val_main_v26, val_main_v25, val_main_v0, val_main_v17, val_main_v23, val_main_v10, val_main_v16,
    val_main_v9, val_main_v15, val_main_v22, val_main_v8, val_main_v14, val_main_v21, val_main_v7, val_main_v13, val_main_v20,
    val_main_v6, val_main_v12, val_main_v19]
  rw [v5_at, v11_at, v18_at]
  rfl

theorem v30_at (r : Fin 2048) (j : Fin 2816) : val_main_v30_2 (F := Ideal) A W B (ix2 r j) = (ofArrays A W B D j).sg r := by
  pointwise [val_main_v30_2, val_main_call0_v4, val_main_call0_v3, val_main_call0_v2, val_main_call0_v1, val_main_call0_v0,
    val_main_call0_cst, val_main_call0_cst_0, val_main_v28]
  rw [v27_at]
  rfl
/-- The gradient of the convolution, in the gate's half. -/
theorem v35_u (r : Fin 2048) (j : Fin 2816) (h : j.val < 5632) : val_main_v35 (F := Ideal) A W B D (ix2 r ⟨j.val, h⟩) = (ofArrays A W B D j).hu r := by
  pointwise [val_main_v35, val_main_v34, val_main_call1_v2, val_main_call1_v1, val_main_call1_v0, val_main_v33, val_main_v30_1,
    val_main_call0_v7, val_main_call0_v6, val_main_call0_cst_1, val_main_v28, val_main_v29]
  rw [v30_at A W B D, v27_at, v27_at]
  rfl
/-- The gradient of the convolution, in the value's half. -/
theorem v35_v (r : Fin 2048) (j : Fin 2816) (h : 2816 + j.val < 5632) : val_main_v35 (F := Ideal) A W B D (ix2 r ⟨2816 + j.val, h⟩) = (ofArrays A W B D j).hv r := by
  pointwise [val_main_v35, val_main_v32, val_main_v30_0, val_main_v28]
  rw [v30_at A W B D, v27_at]
  rfl

theorem v71_at (r : Fin 2048) (j : Fin 5632) : val_main_v71 (F := Ideal) A W B D (ix2 r j)
    = Conv.dx s e (fun k => W (ix2 k j)) (fun r => val_main_v35 (F := Ideal) A W B D (ix2 r j)) r := by
  unfold Conv.dx
  rw [← down_low, ← up_low]
  pointwise [val_main_v71, val_main_v69, val_main_v68, val_main_v58, val_main_v57, val_main_v47, val_main_v43, val_main_v52, val_main_v63,
    val_main_v42, val_main_v51, val_main_v62, val_main_v21, val_main_v14, val_main_v8, val_main_v20, val_main_v13, val_main_v7,
    val_main_v19, val_main_v12, val_main_v6, val_main_cst_7, val_main_cst_11, val_main_cst_15]
theorem v67_at (k : Fin 3) (j : Fin 5632) : val_main_v67 (F := Ideal) A W B D (ix2 k j)
    = Conv.dw s e (fun r => A (ix2 r j)) (fun r => val_main_v35 (F := Ideal) A W B D (ix2 r j)) k := by
  pointwise [val_main_v67, val_main_v66, val_main_v65, val_main_v64, val_main_v61, val_main_v60, val_main_v59, val_main_v56, val_main_v55,
    val_main_v54, val_main_v53, val_main_v50, val_main_v49, val_main_v48, val_main_v46, val_main_v45, val_main_v44, val_main_v41,
    val_main_v40, val_main_v39, val_main_cst_4, val_main_cst_5, val_main_cst_6, val_main_cst_8, val_main_cst_9, val_main_cst_10,
    val_main_cst_12, val_main_cst_13, val_main_cst_14]
  simp only [v5_at, v11_at, v18_at, Fintype.sum_unique]
  fin_cases k <;> simp [Conv.dw]

theorem v75_eq : val_main_v75 (F := Ideal) A W B D = Ffn.resU A W B D := by
  funext i
  obtain ⟨r, j, rfl⟩ : ∃ (r : Fin 2048) (j : Fin 2816), i = ix2 r j := ⟨i 0, i 1, (ix2_eta i).symm⟩
  pointwise [val_main_v75, val_main_v74]
  rw [v71_at]
  simp only [v35_u]
  rfl
theorem v76_eq : val_main_v76 (F := Ideal) A W B D = Ffn.resV A W B D := by
  funext i
  obtain ⟨r, j, rfl⟩ : ∃ (r : Fin 2048) (j : Fin 2816), i = ix2 r j := ⟨i 0, i 1, (ix2_eta i).symm⟩
  pointwise [val_main_v76, val_main_v74]
  rw [v71_at]
  simp only [v35_v]
  rfl
theorem v77_eq : val_main_v77 (F := Ideal) A W B D = Ffn.resWu A W B D := by
  funext i
  obtain ⟨r, j, rfl⟩ : ∃ (r : Fin 3) (j : Fin 2816), i = ix2 r j := ⟨i 0, i 1, (ix2_eta i).symm⟩
  pointwise [val_main_v77]
  rw [v67_at]
  simp only [v35_u]
  rfl
theorem v78_eq : val_main_v78 (F := Ideal) A W B D = Ffn.resWv A W B D := by
  funext i
  obtain ⟨r, j, rfl⟩ : ∃ (r : Fin 3) (j : Fin 2816), i = ix2 r j := ⟨i 0, i 1, (ix2_eta i).symm⟩
  pointwise [val_main_v78]
  rw [v67_at]
  simp only [v35_v]
  rfl
theorem v79_eq : val_main_v79 (F := Ideal) A W B D = Ffn.resBu A W B D := by
  funext i
  obtain ⟨r, j, rfl⟩ : ∃ (r : Fin 1) (j : Fin 2816), i = ix2 r j := ⟨i 0, i 1, (ix2_eta i).symm⟩
  pointwise [val_main_v79, val_main_v73, val_main_v38, val_main_v37, val_main_v36, val_main_cst_2, val_main_cst_3]
  simp only [v35_u, Fintype.sum_unique]
  rfl
theorem v80_eq : val_main_v80 (F := Ideal) A W B D = Ffn.resBv A W B D := by
  funext i
  obtain ⟨r, j, rfl⟩ : ∃ (r : Fin 1) (j : Fin 2816), i = ix2 r j := ⟨i 0, i 1, (ix2_eta i).symm⟩
  pointwise [val_main_v80, val_main_v73, val_main_v38, val_main_v37, val_main_v36, val_main_cst_2, val_main_cst_3]
  simp only [v35_v, Fintype.sum_unique]
  rfl

end Cert.Reference8Ideal.Value

namespace Cert.Proof

open Idealize.ShloMosaic

theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N,
    fun c => (Cert.Kernel8Ideal.Gen.dats m 0 c).arrAt 11 Cert.Kernel8Ideal.cfg0.N,
    fun c => (Cert.Kernel8Ideal.Gen.dats m 0 c).arrAt 12 Cert.Kernel8Ideal.cfg0.N,
    Cert.Kernel8Ideal.Value.run_blocks m g, θ_run_mono (Cert.Reference8Ideal.Value.run m' g') fun r hr c => ?_⟩
  obtain ⟨h75, h76, h77, h78, h79, h80, hargs⟩ := hr c
  obtain ⟨e0, e1, e2, e3⟩ := hagree c
  refine ⟨?_, ?_, ?_, ?_, ?_, ?_, hargs⟩
  · rw [h75, Cert.Reference8Ideal.Read.val_main_v75_eq, Cert.Reference8Ideal.Value.v75_eq, e0, e1, e2, e3]; exact (Cert.Kernel8Ideal.Value.arr7 m c).symm
  · rw [h76, Cert.Reference8Ideal.Read.val_main_v76_eq, Cert.Reference8Ideal.Value.v76_eq, e0, e1, e2, e3]; exact (Cert.Kernel8Ideal.Value.arr8 m c).symm
  · rw [h77, Cert.Reference8Ideal.Read.val_main_v77_eq, Cert.Reference8Ideal.Value.v77_eq, e0, e1, e2, e3]; exact (Cert.Kernel8Ideal.Value.arr9 m c).symm
  · rw [h78, Cert.Reference8Ideal.Read.val_main_v78_eq, Cert.Reference8Ideal.Value.v78_eq, e0, e1, e2, e3]; exact (Cert.Kernel8Ideal.Value.arr10 m c).symm
  · rw [h79, Cert.Reference8Ideal.Read.val_main_v79_eq, Cert.Reference8Ideal.Value.v79_eq, e0, e1, e2, e3]; exact (Cert.Kernel8Ideal.Value.arr11 m c).symm
  · rw [h80, Cert.Reference8Ideal.Read.val_main_v80_eq, Cert.Reference8Ideal.Value.v80_eq, e0, e1, e2, e3]; exact (Cert.Kernel8Ideal.Value.arr12 m c).symm

/-- The reference runs and leaves its arguments. -/
theorem ref_frame8 : Cert.quiescent_Reference8Ideal (hReference8Ideal := Cert.Reference8Ideal.Gen.facts) := by
  intro m g _
  refine θ_run_mono (Cert.Reference8Ideal.Value.run m g) fun r h => ⟨fun c => (h c).2.2.2.2.2.2, ?_⟩
  exact sem_eq_zero_of_no_sems (by decide) r.2

end Cert.Proof

end
-- ==== Proof.OutDw.lean ====
/- The gradient of the square projections' weights: the blocked product against the derivative of the product. -/
module

public import proofs.«01_k».proof.Defs
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x1024.Idx → EReal) (B : S2048x1024.Idx → EReal) : S1024x1024.Idx → EReal := fun i =>
  ∑ x : Fin 2048, A (ix2 x (i 0)) * B (ix2 x (i 1))

theorem idx : ∀ t : Fin cfg0.N, win0_0.index t = ![0, 0] ∧ win0_1.index t = ![0, 0] ∧ win0_2.index t = ![0, 0] :=
  (by decide +kernel : ∀ t : Fin grid0.N, _)

theorem iblk0 (t : Fin cfg0.N) (r : Fin 1024) (x : Fin 2048) : iblk m c 0 t (ix2 x r)
    = m ((c : Thread nD τ).loc main_arg0) (ix2 x r) := by
  blk_point [iblk, V, idx t]
theorem iblk1 (t : Fin cfg0.N) (d : Fin 1024) (x : Fin 2048) : iblk m c 1 t (ix2 x d)
    = m ((c : Thread nD τ).loc main_arg1) (ix2 x d) := by
  blk_point [iblk, V, idx t]

theorem pay1_at (a : Vec Ideal S2048x1024 .bf16) (b : Vec Ideal S2048x1024 .bf16) (r : Fin 1024) (d : Fin 1024) :
    k0_pay1 (F := Ideal) a b (ix2 r d) = ∑ x : Fin 2048, a (ix2 x r) * b (ix2 x d) := by
  pointwise [k0_pay1]

theorem embOut (t : Fin cfg0.N) (r : Fin 1024) (d : Fin 1024) :
    ((View.whole main_v0).slice (win0_2.rect t)).emb (ix2 r d) = ix2 r d := by
  funext b
  fin_cases b <;> apply Fin.ext <;> blk_simp [idx t]

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel9Ideal.Value

namespace Cert.Reference9Ideal.Value

open Cert.Reference9Ideal Cert.Reference9Ideal.Gen Cert.Reference9Ideal.Read Idealize.ShloMosaic Idealize.SL.Sem

/-- The derivative of the product is the same sum. -/
theorem v6_at (A : S2048x1024.Idx → EReal) (B : S2048x1024.Idx → EReal) :
    val_main_v6 (F := Ideal) A B = Cert.Kernel9Ideal.Value.res A B := by
  funext i
  obtain ⟨r, d, rfl⟩ : ∃ (r : Fin 1024) (d : Fin 1024), i = ix2 r d := ⟨i 0, i 1, (ix2_eta i).symm⟩
  refine Eq.trans ?_ (Finset.sum_congr rfl fun x _ => mul_comm _ _)
  pointwise [val_main_v6, val_main_v5, val_main_v4, val_main_v3, val_main_v1]

end Cert.Reference9Ideal.Value

namespace Cert.Proof

open Idealize.ShloMosaic

theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, Cert.Kernel9Ideal.Value.run_blocks m g,
    θ_run_mono (Cert.Reference9Ideal.Value.run m' g') fun r hr c => ?_⟩
  obtain ⟨h, hargs⟩ := hr c
  obtain ⟨e0, e1⟩ := hagree c
  refine ⟨?_, hargs⟩
  rw [h, Cert.Reference9Ideal.Read.val_main_v6_eq, Cert.Reference9Ideal.Value.v6_at, e0, e1]
  exact (Cert.Kernel9Ideal.Value.arr2 m c).symm

/-- The reference runs and leaves its arguments. -/
theorem ref_frame9 : Cert.quiescent_Reference9Ideal (hReference9Ideal := Cert.Reference9Ideal.Gen.facts) := by
  intro m g _
  refine θ_run_mono (Cert.Reference9Ideal.Value.run m g) fun r h => ⟨fun c => (h c).2, ?_⟩
  exact sem_eq_zero_of_no_sems (by decide) r.2

end Cert.Proof

end
-- ==== Proof.OutDx.lean ====
/- The gradient of the square projections' input: the blocked product against the derivative of the product. -/
module

public import proofs.«01_k».proof.Defs
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x1024.Idx → EReal) (B : S1024x1024.Idx → EReal) : S2048x1024.Idx → EReal := fun i =>
  ∑ x : Fin 1024, A (ix2 (i 0) x) * B (ix2 (i 1) x)

theorem idx : ∀ t : Fin cfg0.N, win0_0.index t = ![t.val, 0] ∧ win0_1.index t = ![0, 0] ∧ win0_2.index t = ![t.val, 0] :=
  (by decide +kernel : ∀ t : Fin grid0.N, _)

theorem iblk0 (t : Fin cfg0.N) (r : Fin 1024) (x : Fin 1024) : iblk m c 0 t (ix2 r x)
    = m ((c : Thread nD τ).loc main_arg0) (ix2 ⟨1024 * (t.val) + r.val, by have := t.isLt; have : t.val < 2 := this; omega⟩ x) := by
  blk_point [iblk, V, idx t]
theorem iblk1 (t : Fin cfg0.N) (d : Fin 1024) (x : Fin 1024) : iblk m c 1 t (ix2 d x)
    = m ((c : Thread nD τ).loc main_arg1) (ix2 d x) := by
  blk_point [iblk, V, idx t]

theorem pay1_at (a : Vec Ideal S1024x1024 .bf16) (b : Vec Ideal S1024x1024 .bf16) (r : Fin 1024) (d : Fin 1024) :
    k0_pay1 (F := Ideal) a b (ix2 r d) = ∑ x : Fin 1024, a (ix2 r x) * b (ix2 d x) := by
  pointwise [k0_pay1]

theorem embOut (t : Fin cfg0.N) (r : Fin 1024) (d : Fin 1024) :
    ((View.whole main_v0).slice (win0_2.rect t)).emb (ix2 r d) = ix2 ⟨1024 * (t.val) + r.val, by have := t.isLt; have : t.val < 2 := this; omega⟩ d := by
  funext b
  fin_cases b <;> apply Fin.ext <;> blk_simp [idx t]
  · show t.val * 1024 + r.val = 1024 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel10Ideal.Value

namespace Cert.Reference10Ideal.Value

open Cert.Reference10Ideal Cert.Reference10Ideal.Gen Cert.Reference10Ideal.Read Idealize.ShloMosaic Idealize.SL.Sem

/-- The derivative of the product is the same sum. -/
theorem v4_at (A : S2048x1024.Idx → EReal) (B : S1024x1024.Idx → EReal) :
    val_main_v4 (F := Ideal) A B = Cert.Kernel10Ideal.Value.res A B := by
  funext i
  obtain ⟨r, d, rfl⟩ : ∃ (r : Fin 2048) (d : Fin 1024), i = ix2 r d := ⟨i 0, i 1, (ix2_eta i).symm⟩
  pointwise [val_main_v4, val_main_v3, val_main_v1]
  rfl

end Cert.Reference10Ideal.Value

namespace Cert.Proof

open Idealize.ShloMosaic

theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 2 Cert.Kernel10Ideal.cfg0.N, Cert.Kernel10Ideal.Value.run_blocks m g,
    θ_run_mono (Cert.Reference10Ideal.Value.run m' g') fun r hr c => ?_⟩
  obtain ⟨h, hargs⟩ := hr c
  obtain ⟨e0, e1⟩ := hagree c
  refine ⟨?_, hargs⟩
  rw [h, Cert.Reference10Ideal.Read.val_main_v4_eq, Cert.Reference10Ideal.Value.v4_at, e0, e1]
  exact (Cert.Kernel10Ideal.Value.arr2 m c).symm

/-- The reference runs and leaves its arguments. -/
theorem ref_frame10 : Cert.quiescent_Reference10Ideal (hReference10Ideal := Cert.Reference10Ideal.Gen.facts) := by
  intro m g _
  refine θ_run_mono (Cert.Reference10Ideal.Value.run m g) fun r h => ⟨fun c => (h c).2, ?_⟩
  exact sem_eq_zero_of_no_sems (by decide) r.2

end Cert.Proof

end
-- ==== Proof.InFwd.lean ====
/- The input projection: the blocked product against the whole one. -/
module

public import proofs.«01_k».proof.Defs
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2304x1024.Idx → EReal) (B : S8192x1024.Idx → EReal) : S2304x8192.Idx → EReal := fun i =>
  ∑ x : Fin 1024, A (ix2 (i 0) x) * B (ix2 (i 1) x)

theorem idx : ∀ t : Fin cfg0.N, win0_0.index t = ![0, 0] ∧ win0_1.index t = ![t.val % 8, 0] ∧ win0_2.index t = ![0, t.val % 8] :=
  (by decide +kernel : ∀ t : Fin grid0.N, _)

theorem iblk0 (t : Fin cfg0.N) (r : Fin 2304) (x : Fin 1024) : iblk m c 0 t (ix2 r x)
    = m ((c : Thread nD τ).loc main_arg0) (ix2 r x) := by
  blk_point [iblk, V, idx t]
theorem iblk1 (t : Fin cfg0.N) (d : Fin 1024) (x : Fin 1024) : iblk m c 1 t (ix2 d x)
    = m ((c : Thread nD τ).loc main_arg1) (ix2 ⟨1024 * (t.val % 8) + d.val, by have := t.isLt; have : t.val < 8 := this; omega⟩ x) := by
  blk_point [iblk, V, idx t]

theorem pay1_at (a : Vec Ideal S2304x1024 .bf16) (b : Vec Ideal S1024x1024 .bf16) (r : Fin 2304) (d : Fin 1024) :
    k0_pay1 (F := Ideal) a b (ix2 r d) = ∑ x : Fin 1024, a (ix2 r x) * b (ix2 d x) := by
  pointwise [k0_pay1]

theorem embOut (t : Fin cfg0.N) (r : Fin 2304) (d : Fin 1024) :
    ((View.whole main_v0).slice (win0_2.rect t)).emb (ix2 r d) = ix2 r ⟨1024 * (t.val % 8) + d.val, by have := t.isLt; have : t.val < 8 := this; omega⟩ := by
  funext b
  fin_cases b <;> apply Fin.ext <;> blk_simp [idx t]
  · rfl
  · show t.val % 8 * 1024 + d.val = 1024 * (t.val % 8) + d.val
    omega

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 2304) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel11Ideal.Value

namespace Cert.Reference11Ideal.Value

open Cert.Reference11Ideal Cert.Reference11Ideal.Gen Cert.Reference11Ideal.Read Idealize.ShloMosaic Idealize.SL.Sem

/-- The derivative of the product is the same sum. -/
theorem v3_at (A : S2304x1024.Idx → EReal) (B : S8192x1024.Idx → EReal) :
    val_main_v3 (F := Ideal) A B = Cert.Kernel11Ideal.Value.res A B := by
  funext i
  obtain ⟨r, d, rfl⟩ : ∃ (r : Fin 2304) (d : Fin 8192), i = ix2 r d := ⟨i 0, i 1, (ix2_eta i).symm⟩
  pointwise [val_main_v3, val_main_v0, val_main_v2, val_main_v1]
  rfl

end Cert.Reference11Ideal.Value

namespace Cert.Proof

open Idealize.ShloMosaic

theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 2 Cert.Kernel11Ideal.cfg0.N, Cert.Kernel11Ideal.Value.run_blocks m g,
    θ_run_mono (Cert.Reference11Ideal.Value.run m' g') fun r hr c => ?_⟩
  obtain ⟨h, hargs⟩ := hr c
  obtain ⟨e0, e1⟩ := hagree c
  refine ⟨?_, hargs⟩
  rw [h, Cert.Reference11Ideal.Read.val_main_v3_eq, Cert.Reference11Ideal.Value.v3_at, e0, e1]
  exact (Cert.Kernel11Ideal.Value.arr2 m c).symm

/-- The reference runs and leaves its arguments. -/
theorem ref_frame11 : Cert.quiescent_Reference11Ideal (hReference11Ideal := Cert.Reference11Ideal.Gen.facts) := by
  intro m g _
  refine θ_run_mono (Cert.Reference11Ideal.Value.run m g) fun r h => ⟨fun c => (h c).2, ?_⟩
  exact sem_eq_zero_of_no_sems (by decide) r.2

end Cert.Proof

end
-- ==== Proof.UpFwd.lean ====
/- The up-projection: the blocked product against the whole one. -/
module

public import proofs.«01_k».proof.Defs
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x1024.Idx → EReal) (B : S5632x1024.Idx → EReal) : S2048x5632.Idx → EReal := fun i =>
  ∑ x : Fin 1024, A (ix2 (i 0) x) * B (ix2 (i 1) x)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem iblk0 (t : Fin cfg0.N) (r : Fin 1024) (x : Fin 1024) : iblk m c 0 t (ix2 r x)
    = m ((c : Thread nD τ).loc main_arg0) (ix2 ⟨1024 * (t.val / 4) + r.val, by have := t.isLt; have : t.val < 8 := this; omega⟩ x) := by
  blk_point [iblk, V, idx t]
theorem iblk1 (t : Fin cfg0.N) (d : Fin 1408) (x : Fin 1024) : iblk m c 1 t (ix2 d x)
    = m ((c : Thread nD τ).loc main_arg1) (ix2 ⟨1408 * (t.val % 4) + d.val, by have := t.isLt; have : t.val < 8 := this; omega⟩ x) := by
  blk_point [iblk, V, idx t]

theorem pay1_at (a : Vec Ideal S1024x1024 .bf16) (b : Vec Ideal S1408x1024 .bf16) (r : Fin 1024) (d : Fin 1408) :
    k0_pay1 (F := Ideal) a b (ix2 r d) = ∑ x : Fin 1024, a (ix2 r x) * b (ix2 d x) := by
  pointwise [k0_pay1]

theorem embOut (t : Fin cfg0.N) (r : Fin 1024) (d : Fin 1408) :
    ((View.whole main_v0).slice (win0_2.rect t)).emb (ix2 r d) = ix2 ⟨1024 * (t.val / 4) + r.val, by have := t.isLt; have : t.val < 8 := this; omega⟩ ⟨1408 * (t.val % 4) + d.val, by have := t.isLt; have : t.val < 8 := this; omega⟩ := by
  funext b
  fin_cases b <;> apply Fin.ext <;> blk_simp [idx t]
  · show t.val / 4 * 1024 + r.val = 1024 * (t.val / 4) + r.val
    omega
  · show t.val % 4 * 1408 + d.val = 1408 * (t.val % 4) + d.val
    omega

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1408), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel12Ideal.Value

namespace Cert.Reference12Ideal.Value

open Cert.Reference12Ideal Cert.Reference12Ideal.Gen Cert.Reference12Ideal.Read Idealize.ShloMosaic Idealize.SL.Sem

/-- The derivative of the product is the same sum. -/
theorem v3_at (A : S2048x1024.Idx → EReal) (B : S5632x1024.Idx → EReal) :
    val_main_v3 (F := Ideal) A B = Cert.Kernel12Ideal.Value.res A B := by
  funext i
  obtain ⟨r, d, rfl⟩ : ∃ (r : Fin 2048) (d : Fin 5632), i = ix2 r d := ⟨i 0, i 1, (ix2_eta i).symm⟩
  pointwise [val_main_v3, val_main_v0, val_main_v2, val_main_v1]
  rfl

end Cert.Reference12Ideal.Value

namespace Cert.Proof

open Idealize.ShloMosaic

theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 2 Cert.Kernel12Ideal.cfg0.N, Cert.Kernel12Ideal.Value.run_blocks m g,
    θ_run_mono (Cert.Reference12Ideal.Value.run m' g') fun r hr c => ?_⟩
  obtain ⟨h, hargs⟩ := hr c
  obtain ⟨e0, e1⟩ := hagree c
  refine ⟨?_, hargs⟩
  rw [h, Cert.Reference12Ideal.Read.val_main_v3_eq, Cert.Reference12Ideal.Value.v3_at, e0, e1]
  exact (Cert.Kernel12Ideal.Value.arr2 m c).symm

/-- The reference runs and leaves its arguments. -/
theorem ref_frame12 : Cert.quiescent_Reference12Ideal (hReference12Ideal := Cert.Reference12Ideal.Gen.facts) := by
  intro m g _
  refine θ_run_mono (Cert.Reference12Ideal.Value.run m g) fun r h => ⟨fun c => (h c).2, ?_⟩
  exact sem_eq_zero_of_no_sems (by decide) r.2

end Cert.Proof

end
-- ==== Proof.DownFwd.lean ====
/- The down-projection: the blocked product against the whole one. -/
module

public import proofs.«01_k».proof.Defs
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x2816.Idx → EReal) (B : S2816x1024.Idx → EReal) : S2048x1024.Idx → EReal := fun i =>
  ∑ x : Fin 2816, A (ix2 (i 0) x) * B (ix2 x (i 1))

theorem idx : ∀ t : Fin cfg0.N, win0_0.index t = ![t.val, 0] ∧ win0_1.index t = ![0, 0] ∧ win0_2.index t = ![t.val, 0] :=
  (by decide +kernel : ∀ t : Fin grid0.N, _)

theorem iblk0 (t : Fin cfg0.N) (r : Fin 1024) (x : Fin 2816) : iblk m c 0 t (ix2 r x)
    = m ((c : Thread nD τ).loc main_arg0) (ix2 ⟨1024 * (t.val) + r.val, by have := t.isLt; have : t.val < 2 := this; omega⟩ x) := by
  blk_point [iblk, V, idx t]
theorem iblk1 (t : Fin cfg0.N) (d : Fin 1024) (x : Fin 2816) : iblk m c 1 t (ix2 x d)
    = m ((c : Thread nD τ).loc main_arg1) (ix2 x d) := by
  blk_point [iblk, V, idx t]

theorem pay1_at (a : Vec Ideal S1024x2816 .bf16) (b : Vec Ideal S2816x1024 .bf16) (r : Fin 1024) (d : Fin 1024) :
    k0_pay1 (F := Ideal) a b (ix2 r d) = ∑ x : Fin 2816, a (ix2 r x) * b (ix2 x d) := by
  pointwise [k0_pay1]

theorem embOut (t : Fin cfg0.N) (r : Fin 1024) (d : Fin 1024) :
    ((View.whole main_v0).slice (win0_2.rect t)).emb (ix2 r d) = ix2 ⟨1024 * (t.val) + r.val, by have := t.isLt; have : t.val < 2 := this; omega⟩ d := by
  funext b
  fin_cases b <;> apply Fin.ext <;> blk_simp [idx t]
  · show t.val * 1024 + r.val = 1024 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel13Ideal.Value

namespace Cert.Reference13Ideal.Value

open Cert.Reference13Ideal Cert.Reference13Ideal.Gen Cert.Reference13Ideal.Read Idealize.ShloMosaic Idealize.SL.Sem

/-- The derivative of the product is the same sum. -/
theorem v2_at (A : S2048x2816.Idx → EReal) (B : S2816x1024.Idx → EReal) :
    val_main_v2 (F := Ideal) A B = Cert.Kernel13Ideal.Value.res A B := by
  funext i
  obtain ⟨r, d, rfl⟩ : ∃ (r : Fin 2048) (d : Fin 1024), i = ix2 r d := ⟨i 0, i 1, (ix2_eta i).symm⟩
  pointwise [val_main_v2, val_main_v0, val_main_v1]
  rfl

end Cert.Reference13Ideal.Value

namespace Cert.Proof

open Idealize.ShloMosaic

theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => (Cert.Kernel13Ideal.Gen.dats m 0 c).arrAt 2 Cert.Kernel13Ideal.cfg0.N, Cert.Kernel13Ideal.Value.run_blocks m g,
    θ_run_mono (Cert.Reference13Ideal.Value.run m' g') fun r hr c => ?_⟩
  obtain ⟨h, hargs⟩ := hr c
  obtain ⟨e0, e1⟩ := hagree c
  refine ⟨?_, hargs⟩
  rw [h, Cert.Reference13Ideal.Read.val_main_v2_eq, Cert.Reference13Ideal.Value.v2_at, e0, e1]
  exact (Cert.Kernel13Ideal.Value.arr2 m c).symm

/-- The reference runs and leaves its arguments. -/
theorem ref_frame13 : Cert.quiescent_Reference13Ideal (hReference13Ideal := Cert.Reference13Ideal.Gen.facts) := by
  intro m g _
  refine θ_run_mono (Cert.Reference13Ideal.Value.run m g) fun r h => ⟨fun c => (h c).2, ?_⟩
  exact sem_eq_zero_of_no_sems (by decide) r.2

end Cert.Proof

end
-- ==== Proof.OutFwd.lean ====
/- The square projections: the blocked product against the whole one. -/
module

public import proofs.«01_k».proof.Defs
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel14Ideal.Value

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product as one function of its two factors. -/
def res (A : S2048x1024.Idx → EReal) (B : S1024x1024.Idx → EReal) : S2048x1024.Idx → EReal := fun i =>
  ∑ x : Fin 1024, A (ix2 (i 0) x) * B (ix2 x (i 1))

theorem idx : ∀ t : Fin cfg0.N, win0_0.index t = ![t.val, 0] ∧ win0_1.index t = ![0, 0] ∧ win0_2.index t = ![t.val, 0] :=
  (by decide +kernel : ∀ t : Fin grid0.N, _)

theorem iblk0 (t : Fin cfg0.N) (r : Fin 1024) (x : Fin 1024) : iblk m c 0 t (ix2 r x)
    = m ((c : Thread nD τ).loc main_arg0) (ix2 ⟨1024 * (t.val) + r.val, by have := t.isLt; have : t.val < 2 := this; omega⟩ x) := by
  blk_point [iblk, V, idx t]
theorem iblk1 (t : Fin cfg0.N) (d : Fin 1024) (x : Fin 1024) : iblk m c 1 t (ix2 x d)
    = m ((c : Thread nD τ).loc main_arg1) (ix2 x d) := by
  blk_point [iblk, V, idx t]

theorem pay1_at (a : Vec Ideal S1024x1024 .bf16) (b : Vec Ideal S1024x1024 .bf16) (r : Fin 1024) (d : Fin 1024) :
    k0_pay1 (F := Ideal) a b (ix2 r d) = ∑ x : Fin 1024, a (ix2 r x) * b (ix2 x d) := by
  pointwise [k0_pay1]

theorem embOut (t : Fin cfg0.N) (r : Fin 1024) (d : Fin 1024) :
    ((View.whole main_v0).slice (win0_2.rect t)).emb (ix2 r d) = ix2 ⟨1024 * (t.val) + r.val, by have := t.isLt; have : t.val < 2 := this; omega⟩ d := by
  funext b
  fin_cases b <;> apply Fin.ext <;> blk_simp [idx t]
  · show t.val * 1024 + r.val = 1024 * (t.val) + r.val
    omega
  · rfl

theorem arr2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨y 0, y 1, (ix2_eta y).symm⟩
  rw [embOut]
  frame_out
  refine (pay1_at _ _ r d).trans (Finset.sum_congr rfl fun x _ => ?_)
  exact congrArg₂ (fun p q : EReal => p * q) (iblk0 m c t r x) (iblk1 m c t d x)

end Cert.Kernel14Ideal.Value

namespace Cert.Reference14Ideal.Value

open Cert.Reference14Ideal Cert.Reference14Ideal.Gen Cert.Reference14Ideal.Read Idealize.ShloMosaic Idealize.SL.Sem

/-- The derivative of the product is the same sum. -/
theorem v2_at (A : S2048x1024.Idx → EReal) (B : S1024x1024.Idx → EReal) :
    val_main_v2 (F := Ideal) A B = Cert.Kernel14Ideal.Value.res A B := by
  funext i
  obtain ⟨r, d, rfl⟩ : ∃ (r : Fin 2048) (d : Fin 1024), i = ix2 r d := ⟨i 0, i 1, (ix2_eta i).symm⟩
  pointwise [val_main_v2, val_main_v0, val_main_v1]
  rfl

end Cert.Reference14Ideal.Value

namespace Cert.Proof

open Idealize.ShloMosaic

theorem algebraic14 : Cert.algebraic_Kernel14Ideal_Reference14Ideal (hKernel14Ideal := Cert.Kernel14Ideal.Gen.facts)
    (hReference14Ideal := Cert.Reference14Ideal.Gen.facts) := by
  intro m g m' g' _ hagree
  refine ⟨fun c => (Cert.Kernel14Ideal.Gen.dats m 0 c).arrAt 2 Cert.Kernel14Ideal.cfg0.N, Cert.Kernel14Ideal.Value.run_blocks m g,
    θ_run_mono (Cert.Reference14Ideal.Value.run m' g') fun r hr c => ?_⟩
  obtain ⟨h, hargs⟩ := hr c
  obtain ⟨e0, e1⟩ := hagree c
  refine ⟨?_, hargs⟩
  rw [h, Cert.Reference14Ideal.Read.val_main_v2_eq, Cert.Reference14Ideal.Value.v2_at, e0, e1]
  exact (Cert.Kernel14Ideal.Value.arr2 m c).symm

/-- The reference runs and leaves its arguments. -/
theorem ref_frame14 : Cert.quiescent_Reference14Ideal (hReference14Ideal := Cert.Reference14Ideal.Gen.facts) := by
  intro m g _
  refine θ_run_mono (Cert.Reference14Ideal.Value.run m g) fun r h => ⟨fun c => (h c).2, ?_⟩
  exact sem_eq_zero_of_no_sems (by decide) r.2

end Cert.Proof

end
-- ==== Proof.Gout.lean ====
/- The gradient of the delta-rule heads' output gate and norm. -/
module

public import proofs.«01_k».proof.Defs
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.IdealHost
public import Idealize.ShloMosaic.Lib.Pipeline.ValueKit
public import Idealize.ShloMosaic.Lib.Claim

@[expose] public section

set_option maxRecDepth 16384

noncomputable section

namespace Cert.Gout

open Idealize.ShloMosaic

/-- One row of one head: what is normed, its gate, the gradient of the gated row, and the norm's weight. -/
structure Row where
  x : Fin 128 → EReal
  z : Fin 128 → EReal
  y : Fin 128 → EReal
  g : Fin 128 → EReal

namespace Row
variable (R : Row)

/-- The mean of the squares and the constant. -/
def var : EReal := Ideal.div (∑ d, R.x d * R.x d) (Ideal.ofBits FTy.f32 0x43000000#32) + Ideal.ofBits FTy.f32 0x358637BD#32
def rs : EReal := Ideal.rsqrt R.var
/-- The derivative of the inverse root. -/
def drs : EReal := Ideal.ofBits FTy.f32 0xBF000000#32 * Ideal.div R.rs R.var
def sg (d : Fin 128) : EReal := Ideal.logistic (R.z d)
/-- The gradient of the normed row. -/
def hy (d : Fin 128) : EReal := R.y d * (R.z d * R.sg d)
/-- The gradient of the gate's silu. -/
def hz (d : Fin 128) : EReal := R.x d * R.rs * R.g d * R.y d
/-- The gradient of the gate. -/
def gz (d : Fin 128) : EReal := R.hz d * R.sg d + R.z d * R.hz d * (R.sg d * (1 - R.sg d))
/-- The row's part of the gradient of the norm's weight. -/
def gg (d : Fin 128) : EReal := R.x d * R.rs * R.hy d
def hn (d : Fin 128) : EReal := R.hy d * R.g d
def q : EReal := Ideal.div ((∑ d, R.x d * R.hn d) * R.drs) (Ideal.ofBits FTy.f32 0x43000000#32)
/-- The gradient of what is normed. -/
def gx (d : Fin 128) : EReal := R.hn d * R.rs + R.x d * R.q + R.q * R.x d
end Row

/-- Row `n` of head `h` of whole arrays: the two parts of the output added, 256 rows skipped. -/
def ofArrays (O : (⟨4, ![2, 8, 2304, 128]⟩ : Shape).Idx → EReal) (P : (⟨2, ![2304, 8192]⟩ : Shape).Idx → EReal)
    (G : (⟨2, ![1, 128]⟩ : Shape).Idx → EReal) (D : (⟨2, ![2048, 1024]⟩ : Shape).Idx → EReal) (h : Fin 8) (n : Fin 2048) : Row where
  x d := O (ix4 0 h ⟨256 + n.val, by omega⟩ d) + O (ix4 1 h ⟨256 + n.val, by omega⟩ d)
  z d := P (ix2 ⟨256 + n.val, by omega⟩ ⟨5120 + (h.val * 128 + d.val), by omega⟩)
  y d := D (ix2 n ⟨h.val * 128 + d.val, by omega⟩)
  g d := G (ix2 0 d)

/-- Row `n` of a grid point's blocks. -/
def ofBlocks (x0 : (⟨4, ![2, 1, 2304, 128]⟩ : Shape).Idx → EReal) (x1 : (⟨2, ![2304, 128]⟩ : Shape).Idx → EReal)
    (x2 : (⟨2, ![1, 128]⟩ : Shape).Idx → EReal) (x3 : (⟨2, ![2048, 128]⟩ : Shape).Idx → EReal) (n : Fin 2048) : Row where
  x d := x0 (ix4 0 0 ⟨256 + n.val, by omega⟩ d) + x0 (ix4 1 0 ⟨256 + n.val, by omega⟩ d)
  z d := x1 (ix2 ⟨256 + n.val, by omega⟩ d)
  y d := x3 (ix2 n d)
  g d := x2 (ix2 0 d)

/-- A function of the 2048 rows over all 2304, zero on the first 256. -/
def late (f : Fin 2048 → EReal) (n : Fin 2304) : EReal := if h : 256 ≤ n.val then f ⟨n.val - 256, by omega⟩ else 0

theorem late_pos (f : Fin 2048 → EReal) (r : Fin 2048) (n : Fin 2304) (h : n.val = 256 + r.val) : late f n = f r := by
  rw [late, dif_pos (by omega)]
  exact congrArg f (Fin.ext (by show n.val - 256 = r.val; omega))
theorem late_neg (f : Fin 2048 → EReal) (n : Fin 2304) (h : n.val < 256) : late f n = 0 := by
  rw [late, dif_neg (by omega)]

section Results
variable (O : (⟨4, ![2, 8, 2304, 128]⟩ : Shape).Idx → EReal) (P : (⟨2, ![2304, 8192]⟩ : Shape).Idx → EReal)
  (G : (⟨2, ![1, 128]⟩ : Shape).Idx → EReal) (D : (⟨2, ![2048, 1024]⟩ : Shape).Idx → EReal) (Q : (⟨2, ![2304, 8192]⟩ : Shape).Idx → EReal)

/-- The gradient of either part of the output. -/
def resO : (⟨3, ![8, 2304, 128]⟩ : Shape).Idx → EReal := fun i => late (fun n => (ofArrays O P G D (i 0) n).gx (i 2)) (i 1)
/-- The gradient of the gate, by the columns of the projection it stands in. -/
def gate : (⟨2, ![2304, 8192]⟩ : Shape).Idx → EReal := fun i =>
  late (fun n => (ofArrays O P G D ⟨((i 1).val / 128) % 8, Nat.mod_lt _ (by decide)⟩ n).gz ⟨(i 1).val % 128, Nat.mod_lt _ (by decide)⟩) (i 0)
/-- The gradient of the projection: the gate's columns written over, the others kept. -/
def resP : (⟨2, ![2304, 8192]⟩ : Shape).Idx → EReal := fun i =>
  if 40 ≤ (i 1).val / 128 ∧ (i 1).val / 128 < 48 then gate O P G D i else Q i
/-- The gradient of the norm's weight. -/
def resG : (⟨2, ![1, 128]⟩ : Shape).Idx → EReal := fun i => ∑ h, ∑ n, (ofArrays O P G D h n).gg (i 1)

end Results

/-- The host's sum over the first two of three axes. -/
theorem sum_two {a b c : ℕ} (h : (⟨3, ![a, b, c]⟩ : Shape).ReducesTo [0, 1] ⟨1, ![c]⟩) (v : (⟨3, ![a, b, c]⟩ : Shape).Idx → EReal) (w : EReal) (d : Fin c) :
    Ideal.hostReduceAdd h v w (ix1 d) = w + ∑ p : Fin a, ∑ q : Fin b, v (ix3 p q d) := by
  rw [Ideal.hostReduceAdd, ← Fintype.sum_prod_type' (f := fun p q => v (ix3 p q d))]
  refine congrArg (w + ·) (Finset.sum_bij' (fun i _ => ((i 0, i 1) : Fin a × Fin b)) (fun k _ => ix3 k.1 k.2 d) (fun _ _ => Finset.mem_univ _) ?_ ?_ ?_ ?_)
  · intro k _
    refine Finset.mem_filter.mpr ⟨Finset.mem_univ _, ?_⟩
    funext x
    obtain rfl : x = 0 := Subsingleton.elim _ _
    rfl
  · intro i hi
    have e : i 2 = d := congrFun (Finset.mem_filter.mp hi).2 0
    rw [← e]
    exact ix3_eta i
  · intro k _; rfl
  · intro i hi
    have e : i 2 = d := congrFun (Finset.mem_filter.mp hi).2 0
    rw [← e]
    exact congrArg v (ix3_eta i).symm

end Cert.Gout

namespace Cert.Kernel15Ideal.Value

open Cert.Kernel15Ideal Cert.Kernel15Ideal.Gen Idealize.ShloMosaic Idealize.ShloMosaic.TcCoe Idealize.SL.Sem
open Idealize.ShloMosaic.Pipeline (Dat)
open Cert.Gout (Row ofArrays ofBlocks late)

section Block

/-- The row that loaded parts hold. -/
def part (a b : (⟨4, ![1, 1, 2048, 128]⟩ : Shape).Idx → EReal) (z : (⟨2, ![2048, 128]⟩ : Shape).Idx → EReal)
    (g : (⟨2, ![1, 128]⟩ : Shape).Idx → EReal) (y : (⟨2, ![2048, 128]⟩ : Shape).Idx → EReal) (n : Fin 2048) : Row where
  x d := a (ix4 0 0 n d) + b (ix4 0 0 n d)
  z d := z (ix2 n d)
  y d := y (ix2 n d)
  g d := g (ix2 0 d)

variable (a b : Vec Ideal S1x1x2048x128 .f32) (z : Vec Ideal S2048x128 .f32) (g : Vec Ideal S1x128 .f32) (y : Vec Ideal S2048x128 .f32)
  (n : Fin 2048) (d : Fin 128)

theorem pay1_at : k0_pay1 (F := Ideal) a b (ix2 n d) = (part a b z g y n).x d := by
  pointwise [k0_pay1]
  rfl
theorem pay3_at : k0_pay3 (F := Ideal) a b (ix2 n 0) = (part a b z g y n).rs := by
  pointwise [k0_pay3, k0_pay2, k0_pay1]
  rfl
theorem pay4_at : k0_pay4 (F := Ideal) a b (ix2 n 0) = (part a b z g y n).drs := by
  pointwise [k0_pay4, k0_pay3, k0_pay2, k0_pay1]
  rfl
theorem pay8_at : k0_pay8 (F := Ideal) a b z g y (ix2 n d) = (part a b z g y n).gz d := by
  pointwise [k0_pay8, k0_pay6, k0_pay5]
  rw [pay3_at a b z g y, pay1_at a b z g y]
  rfl
theorem pay9_at : k0_pay9 (F := Ideal) a b z y (ix2 0 d) = ∑ n, (part a b z g y n).gg d := by
  pointwise [k0_pay9, k0_pay7, k0_pay6, k0_pay5]
  simp only [pay3_at a b z g y, pay1_at a b z g y]
  rfl
theorem pay10_at : k0_pay10 (F := Ideal) z g y (ix2 n d) = (part a b z g y n).hn d := by
  pointwise [k0_pay10, k0_pay7, k0_pay6]
  rfl
theorem pay12_at : k0_pay12 (F := Ideal) (k0_pay1 a b) (k0_pay3 a b) (k0_pay4 a b) (k0_pay10 z g y) (ix3 0 n d) = (part a b z g y n).gx d := by
  pointwise [k0_pay12]
  simp only [Fintype.sum_unique]
  simp only [pay10_at a b, pay1_at a b z g y, pay3_at a b z g y]
  rw [show (default : Fin 1) = 0 from rfl, pay4_at a b z g y]
  rfl

theorem part_eq (x0 : Vec Ideal S2x1x2304x128 .f32) (x1 : Vec Ideal S2304x128 .f32)
    (ha : ∀ (n : Fin 2048) (d : Fin 128), a (ix4 0 0 n d) = x0 (ix4 0 0 ⟨256 + n.val, by omega⟩ d))
    (hb : ∀ (n : Fin 2048) (d : Fin 128), b (ix4 0 0 n d) = x0 (ix4 1 0 ⟨256 + n.val, by omega⟩ d))
    (hz : ∀ (n : Fin 2048) (d : Fin 128), z (ix2 n d) = x1 (ix2 ⟨256 + n.val, by omega⟩ d)) :
    part a b z g y n = ofBlocks x0 x1 g y n := by
  simp only [part, ofBlocks, ha, hb, hz]

theorem pay9_sum (x0 : Vec Ideal S2x1x2304x128 .f32) (x1 : Vec Ideal S2304x128 .f32)
    (ha : ∀ (n : Fin 2048) (d : Fin 128), a (ix4 0 0 n d) = x0 (ix4 0 0 ⟨256 + n.val, by omega⟩ d))
    (hb : ∀ (n : Fin 2048) (d : Fin 128), b (ix4 0 0 n d) = x0 (ix4 1 0 ⟨256 + n.val, by omega⟩ d))
    (hz : ∀ (n : Fin 2048) (d : Fin 128), z (ix2 n d) = x1 (ix2 ⟨256 + n.val, by omega⟩ d)) :
    k0_pay9 (F := Ideal) a b z y (ix2 0 d) = ∑ n, (ofBlocks x0 x1 g y n).gg d :=
  (pay9_at a b z g y d).trans (Finset.sum_congr rfl fun n _ => congrArg (fun R : Row => R.gg d) (part_eq a b z g y n x0 x1 ha hb hz))

end Block

variable (m : (ℓ : Loc nD τ sig) → Buf (Elt Ideal) ℓ) (c : Dev nD)

/-- A point's row. -/
abbrev row (t : Fin cfg0.N) (n : Fin 2048) : Row := ofBlocks (iblk m c 0 t) (iblk m c 1 t) (iblk m c 2 t) (iblk m c 3 t) n

theorem out4 (t : Fin cfg0.N) (n : Fin 2304) (d : Fin 128) :
    (outsAt0 m c t.val t.isLt).1 (ix3 0 n d) = late (fun n => (row m c t n).gx d) n := by
  by_cases h : t.val % 8 = 0
  · rw [outsAt0_A m c t h]
    frame_out
    canon_tiles x hx using (View.cover_of_tiledBy _ ![1, 256, 128] (by sl_kernel_rfl) _)
    · obtain ⟨p, r, e, rfl⟩ : ∃ (p : Fin 1) (r : Fin 2048) (e : Fin 128), x = ix3 p r e := ⟨x 0, x 1, x 2, (ix3_eta x).symm⟩
      obtain rfl : p = 0 := Subsingleton.elim _ _
      obtain rfl : e = d := Fin.ext hx2.symm
      refine (pay12_at _ _ _ _ _ r e).trans ?_
      rw [Gout.late_pos _ r n hx1, part_eq _ _ _ _ _ _ (iblk m c 0 t) (iblk m c 1 t) (fun n d => by pointwise) (fun n d => by pointwise) (fun n d => by pointwise)]
    · obtain ⟨p, r, e, rfl⟩ : ∃ (p : Fin 1) (r : Fin 256) (e : Fin 128), x = ix3 p r e := ⟨x 0, x 1, x 2, (ix3_eta x).symm⟩
      have hr : n.val = r.val := hx1
      rw [Gout.late_neg _ n (by omega)]
      pointwise [k0_pay11]
  · rw [outsAt0_B m c t h]
    frame_out
    canon_tiles x hx using (View.cover_of_tiledBy _ ![1, 256, 128] (by sl_kernel_rfl) _)
    · obtain ⟨p, r, e, rfl⟩ : ∃ (p : Fin 1) (r : Fin 2048) (e : Fin 128), x = ix3 p r e := ⟨x 0, x 1, x 2, (ix3_eta x).symm⟩
      obtain rfl : p = 0 := Subsingleton.elim _ _
      obtain rfl : e = d := Fin.ext hx2.symm
      refine (pay12_at _ _ _ _ _ r e).trans ?_
      rw [Gout.late_pos _ r n hx1, part_eq _ _ _ _ _ _ (iblk m c 0 t) (iblk m c 1 t) (fun n d => by pointwise) (fun n d => by pointwise) (fun n d => by pointwise)]
    · obtain ⟨p, r, e, rfl⟩ : ∃ (p : Fin 1) (r : Fin 256) (e : Fin 128), x = ix3 p r e := ⟨x 0, x 1, x 2, (ix3_eta x).symm⟩
      have hr : n.val = r.val := hx1
      rw [Gout.late_neg _ n (by omega)]
      pointwise [k0_pay11]
theorem out5 (t : Fin cfg0.N) (n : Fin 2304) (d : Fin 128) :
    (outsAt0 m c t.val t.isLt).2.1 (ix2 n d) = late (fun n => (row m c t n).gz d) n := by
  by_cases h : t.val % 8 = 0
  · rw [outsAt0_A m c t h]
    frame_out
    canon_tiles x hx using (View.cover_of_tiledBy _ ![256, 128] (by sl_kernel_rfl) _)
    · obtain ⟨r, e, rfl⟩ : ∃ (r : Fin 2048) (e : Fin 128), x = ix2 r e := ⟨x 0, x 1, (ix2_eta x).symm⟩
      obtain rfl : e = d := Fin.ext hx1.symm
      refine ((rfl : _ = _).trans (pay8_at _ _ _ _ _ r e)).trans ?_
      rw [Gout.late_pos _ r n hx0, part_eq _ _ _ _ _ _ (iblk m c 0 t) (iblk m c 1 t) (fun n d => by pointwise) (fun n d => by pointwise) (fun n d => by pointwise)]
    · obtain ⟨r, e, rfl⟩ : ∃ (r : Fin 256) (e : Fin 128), x = ix2 r e := ⟨x 0, x 1, (ix2_eta x).symm⟩
      have hr : n.val = r.val := hx0
      rw [Gout.late_neg _ n (by omega)]
      pointwise [k0_pay13]
  · rw [outsAt0_B m c t h]
    frame_out
    canon_tiles x hx using (View.cover_of_tiledBy _ ![256, 128] (by sl_kernel_rfl) _)
    · obtain ⟨r, e, rfl⟩ : ∃ (r : Fin 2048) (e : Fin 128), x = ix2 r e := ⟨x 0, x 1, (ix2_eta x).symm⟩
      obtain rfl : e = d := Fin.ext hx1.symm
      refine ((rfl : _ = _).trans (pay8_at _ _ _ _ _ r e)).trans ?_
      rw [Gout.late_pos _ r n hx0, part_eq _ _ _ _ _ _ (iblk m c 0 t) (iblk m c 1 t) (fun n d => by pointwise) (fun n d => by pointwise) (fun n d => by pointwise)]
    · obtain ⟨r, e, rfl⟩ : ∃ (r : Fin 256) (e : Fin 128), x = ix2 r e := ⟨x 0, x 1, (ix2_eta x).symm⟩
      have hr : n.val = r.val := hx0
      rw [Gout.late_neg _ n (by omega)]
      pointwise [k0_pay13]

theorem idx : ∀ t : Fin cfg0.N, win0_0.index t = ![0, t.val, 0, 0] ∧ win0_1.index t = ![0, t.val + 40] ∧ win0_2.index t = ![0, 0]
    ∧ win0_3.index t = ![0, t.val] ∧ win0_4.index t = ![t.val, 0, 0] ∧ win0_5.index t = ![0, t.val + 40] ∧ win0_6.index t = ![0, 0] :=
  (by decide +kernel : ∀ t : Fin grid0.N, _)

theorem iblk0 (t : Fin cfg0.N) (p : Fin 2) (r : Fin 2304) (d : Fin 128) : iblk m c 0 t (ix4 p 0 r d)
    = m ((c : Thread nD τ).loc main_arg0) (ix4 p ⟨t.val, t.isLt⟩ r d) := by
  blk_point [iblk, V, idx t]
theorem iblk1 (t : Fin cfg0.N) (r : Fin 2304) (d : Fin 128) : iblk m c 1 t (ix2 r d)
    = m ((c : Thread nD τ).loc main_arg1) (ix2 r ⟨5120 + (t.val * 128 + d.val), by have := t.isLt; have : t.val < 8 := this; omega⟩) := by
  blk_point [iblk, V, idx t]
theorem iblk2 (t : Fin cfg0.N) (d : Fin 128) : iblk m c 2 t (ix2 0 d) = m ((c : Thread nD τ).loc main_arg2) (ix2 0 d) := by
  blk_point [iblk, V, idx t]
theorem iblk3 (t : Fin cfg0.N) (r : Fin 2048) (d : Fin 128) : iblk m c 3 t (ix2 r d)
    = m ((c : Thread nD τ).loc main_arg3) (ix2 r ⟨t.val * 128 + d.val, by have := t.isLt; have : t.val < 8 := this; omega⟩) := by
  blk_point [iblk, V, idx t]

theorem rows (t : Fin cfg0.N) (n : Fin 2048) : row m c t n = ofArrays (m ((c : Thread nD τ).loc main_arg0)) (m ((c : Thread nD τ).loc main_arg1))
    (m ((c : Thread nD τ).loc main_arg2)) (m ((c : Thread nD τ).loc main_arg3)) ⟨t.val, t.isLt⟩ n := by
  simp only [row, ofBlocks, ofArrays, iblk0, iblk1, iblk2, iblk3]

theorem emb4 (t : Fin cfg0.N) (r : Fin 2304) (d : Fin 128) : ((View.whole main_v0_0).slice (win0_4.rect t)).emb (ix3 0 r d)
    = ix3 ⟨t.val, t.isLt⟩ r d := by
  funext b
  fin_cases b <;> apply Fin.ext <;> blk_simp [idx t] <;> rfl
theorem emb5 (t : Fin cfg0.N) (r : Fin 2304) (d : Fin 128) : ((View.whole main_v0_1).slice (win0_5.rect t)).emb (ix2 r d)
    = ix2 r ⟨5120 + (t.val * 128 + d.val), by have := t.isLt; have : t.val < 8 := this; omega⟩ := by
  funext b
  fin_cases b <;> apply Fin.ext <;> blk_simp [idx t]
  · rfl
  show (t.val + 40) * 128 + d.val = 5120 + (t.val * 128 + d.val)
  omega
theorem emb6 (t : Fin cfg0.N) (d : Fin 128) : ((View.whole main_v0_2).slice (win0_6.rect t)).emb (ix2 0 d) = ix2 0 d := by
  funext b
  fin_cases b <;> apply Fin.ext <;> blk_simp [idx t] <;> rfl

theorem arr4 : (dats m 0 c).arrAt 4 cfg0.N = Gout.resO (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  obtain ⟨p, r, d, rfl⟩ : ∃ (p : Fin 1) (r : Fin 2304) (d : Fin 128), y = ix3 p r d := ⟨y 0, y 1, y 2, (ix3_eta y).symm⟩
  obtain rfl : p = 0 := Subsingleton.elim _ _
  rw [emb4, out4]
  simp only [rows]
  rfl

/-- The array of the gate's gradient starts as the gradient it is written into. -/
theorem entry : V m c main_v0_1 = m ((c : Thread nD τ).loc main_arg4) := by
  unfold V
  after_results
  rfl

theorem arr5 : (dats m 0 c).arrAt 5 cfg0.N = Gout.resP (m ((c : Thread nD τ).loc main_arg0)) (m ((c : Thread nD τ).loc main_arg1))
    (m ((c : Thread nD τ).loc main_arg2)) (m ((c : Thread nD τ).loc main_arg3)) (m ((c : Thread nD τ).loc main_arg4)) := by
  refine ((dats m 0 c).arrAt_eq_of_coversWhere 5 (Gout.gate (m ((c : Thread nD τ).loc main_arg0)) (m ((c : Thread nD τ).loc main_arg1))
    (m ((c : Thread nD τ).loc main_arg2)) (m ((c : Thread nD τ).loc main_arg3))) (P := fun i => 40 ≤ (i (1 : Fin 2)).val / 128 ∧ (i (1 : Fin 2)).val / 128 < 48)
    (fun β => 40 ≤ β (1 : Fin 2) ∧ β (1 : Fin 2) < 48) (by decide +kernel) (fun t hf y => ?_) (fun j => Iff.rfl)).trans ?_
  · blk_simp
    rw [after0_5]
    obtain ⟨r, d, rfl⟩ : ∃ (r : Fin 2304) (d : Fin 128), y = ix2 r d := ⟨y 0, y 1, (ix2_eta y).symm⟩
    have ht : t.val < 8 := t.isLt
    rw [emb5, out5]
    simp only [rows]
    refine congrArg (fun f => late f r) (funext fun n => ?_)
    refine congrArg₂ (fun h e => (ofArrays (m ((c : Thread nD τ).loc main_arg0)) (m ((c : Thread nD τ).loc main_arg1))
      (m ((c : Thread nD τ).loc main_arg2)) (m ((c : Thread nD τ).loc main_arg3)) h n).gz e) (Fin.ext ?_) (Fin.ext ?_)
    · show t.val = (5120 + (t.val * 128 + d.val)) / 128 % 8
      omega
    · show d.val = (5120 + (t.val * 128 + d.val)) % 128
      omega
  · funext i
    show (if _ then _ else V m c main_v0_1 i) = _
    rw [entry]
    rfl

/-- A point's part of the gradient of the norm's weight. -/
def gpart (t : Fin cfg0.N) (y : S1x128.Idx) : EReal := ∑ n, (row m c t n).gg (y 1)

theorem first (t : Fin cfg0.N) (h : t.val % 8 = 0) (y : S1x128.Idx) :
    (outsAt0 m c t.val t.isLt).2.2 y = 0 + gpart m c t y := by
  obtain ⟨p, d, rfl⟩ : ∃ (p : Fin 1) (d : Fin 128), y = ix2 p d := ⟨y 0, y 1, (ix2_eta y).symm⟩
  obtain rfl : p = 0 := Subsingleton.elim _ _
  rw [outsAt0_A m c t h]
  frame_out
  pointwise [k0_pay16, k0_pay15]
  exact pay9_sum _ _ _ _ _ d (iblk m c 0 t) (iblk m c 1 t) (fun n d => by pointwise) (fun n d => by pointwise) (fun n d => by pointwise)
theorem later (t : Fin cfg0.N) (h : ¬t.val % 8 = 0) (y : S1x128.Idx) :
    (outsAt0 m c t.val t.isLt).2.2 y = (outsAt0 m c (t.val - 1) (Nat.lt_of_le_of_lt (Nat.sub_le _ _) t.isLt)).2.2 y + gpart m c t y := by
  obtain ⟨p, d, rfl⟩ : ∃ (p : Fin 1) (d : Fin 128), y = ix2 p d := ⟨y 0, y 1, (ix2_eta y).symm⟩
  obtain rfl : p = 0 := Subsingleton.elim _ _
  rw [outsAt0_B m c t h]
  frame_out
  pointwise [k0_pay16]
  exact congrArg (fun r : EReal => (outsAt0 m c (t.val - 1) (Nat.lt_of_le_of_lt (Nat.sub_le _ _) t.isLt)).2.2 (ix2 0 d) + r)
    (pay9_sum _ _ _ _ _ d (iblk m c 0 t) (iblk m c 1 t) (fun n d => by pointwise) (fun n d => by pointwise) (fun n d => by pointwise))

theorem sum_parts (t : Fin cfg0.N) (h : ∀ s : Fin 8, 8 * (t.val / 8) + s.val < cfg0.N) (d : Fin 128) :
    ∑ s : Fin 8, gpart m c ⟨8 * (t.val / 8) + s.val, h s⟩ (ix2 0 d)
      = Gout.resG (m ((c : Thread nD τ).loc main_arg0)) (m ((c : Thread nD τ).loc main_arg1)) (m ((c : Thread nD τ).loc main_arg2))
        (m ((c : Thread nD τ).loc main_arg3)) (ix2 0 d) := by
  have ht : t.val < 8 := t.isLt
  refine Finset.sum_congr rfl fun s _ => Finset.sum_congr rfl fun n _ => ?_
  rw [rows]
  refine congrArg (fun h => (ofArrays (m ((c : Thread nD τ).loc main_arg0)) (m ((c : Thread nD τ).loc main_arg1))
      (m ((c : Thread nD τ).loc main_arg2)) (m ((c : Thread nD τ).loc main_arg3)) h n).gg d) (Fin.ext ?_)
  show 8 * (t.val / 8) + s.val = s.val
  omega

theorem arr6 : (dats m 0 c).arrAt 6 cfg0.N = Gout.resG (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  have hl : t.val % 8 = 7 := (flush0_6 t).mp hf
  rw [after0_6, Pipeline.eq_sum_fin_of_reset_step_apply_of_flush (fun n h => (outsAt0 m c n h).2.2) 8 (fun _ => 0)
    (gpart m c) (first m c) (later m c) t hl y, zero_add]
  obtain ⟨p, d, rfl⟩ : ∃ (p : Fin 1) (d : Fin 128), y = ix2 p d := ⟨y 0, y 1, (ix2_eta y).symm⟩
  obtain rfl : p = 0 := Subsingleton.elim _ _
  rw [emb6]
  exact sum_parts m c t _ d

end Cert.Kernel15Ideal.Value

namespace Cert.Reference15Ideal.Value

open Cert.Reference15Ideal Cert.Reference15Ideal.Gen Cert.Reference15Ideal.Read Idealize.ShloMosaic Idealize.SL.Sem
open Cert.Gout (Row ofArrays late)

variable (O : Vec Ideal S2x8x2304x128 .f32) (P : Vec Ideal S2304x8192 .f32) (G : Vec Ideal S1x128 .f32) (D : Vec Ideal S2048x1024 .f32)
  (Q : Vec Ideal S2304x8192 .bf16) (n : Fin 2048) (h : Fin 8) (d : Fin 128)

theorem v7_at : val_main_v7 (F := Ideal) O (ix3 n h d) = (ofArrays O P G D h n).x d := by
  pointwise [val_main_v7, val_main_v6, val_main_v4, val_main_v3, val_main_v2, val_main_v1, val_main_v0]
  rfl
theorem v15_at : val_main_v15 (F := Ideal) O (ix3 n h 0) = (ofArrays O P G D h n).var := by
  pointwise [val_main_v15, val_main_v14, val_main_cst_1, val_main_v13, val_main_v12, val_main_v11, val_main_v10, val_main_v9, val_main_cst_0, val_main_cst]
  simp only [v7_at O P G D]
  rfl
theorem v16_at : val_main_v16 (F := Ideal) O (ix3 n h 0) = (ofArrays O P G D h n).rs := by
  pointwise [val_main_v16]
  rw [v15_at O P G D]
  rfl
theorem v26_at : val_main_v26 (F := Ideal) P (ix3 n h d) = (ofArrays O P G D h n).z d := by
  pointwise [val_main_v26, val_main_v25, val_main_v5]
  rfl
theorem v30_at : val_main_v30 (F := Ideal) D (ix3 n h d) = (ofArrays O P G D h n).y d := by
  pointwise [val_main_v30]
  rfl
theorem v21_at : val_main_v21 (F := Ideal) O (ix3 n h d) = (ofArrays O P G D h n).x d * (ofArrays O P G D h n).rs := by
  pointwise [val_main_v21, val_main_v20]
  rw [v7_at O P G D, v16_at O P G D]
theorem v32_at : val_main_v32 (F := Ideal) P D (ix3 n h d) = (ofArrays O P G D h n).hy d := by
  pointwise [val_main_v32, val_main_v27_0, val_main_v27_2, val_main_call0_v4, val_main_call0_cst_0, val_main_call0_v3, val_main_call0_v2, val_main_call0_cst,
    val_main_call0_v1, val_main_call0_v0]
  rw [v26_at O P G D, v30_at O P G D]
  rfl
theorem v40_at : val_main_v40 (F := Ideal) P G D (ix3 n h d) = (ofArrays O P G D h n).hn d := by
  pointwise [val_main_v40, val_main_v39, val_main_v22, val_main_v8]
  rw [v32_at O P G D]
  rfl
/-- The gradient of the gate's row. -/
theorem v33_at : val_main_v33 (F := Ideal) O P G D (ix3 n h d) = (ofArrays O P G D h n).gz d := by
  pointwise [val_main_v33, val_main_call1_v2, val_main_call1_v1, val_main_call1_v0, val_main_v31, val_main_v24, val_main_v23, val_main_v22, val_main_v8,
    val_main_v27_1, val_main_v27_2, val_main_call0_v7, val_main_call0_v6, val_main_call0_cst_1, val_main_call0_v4, val_main_call0_cst_0, val_main_call0_v3,
    val_main_call0_v2, val_main_call0_cst, val_main_call0_v1, val_main_call0_v0]
  rw [v26_at O P G D, v30_at O P G D, v21_at O P G D]
  rfl
/-- The gradient of the normed row. -/
theorem v55_at : val_main_v55 (F := Ideal) O P G D (ix3 n h d) = (ofArrays O P G D h n).gx d := by
  pointwise [val_main_v55, val_main_v54, val_main_v53, val_main_v52, val_main_v51, val_main_v50, val_main_v49, val_main_v48, val_main_v47, val_main_v46,
    val_main_v45, val_main_v44, val_main_v43, val_main_v42, val_main_v19, val_main_v18, val_main_v17, val_main_cst_2, val_main_cst_6, val_main_cst_7, val_main_cst_8]
  simp only [Fintype.sum_unique]
  simp only [v40_at O P G D, v7_at O P G D]
  rw [show (default : Fin 1) = 0 from rfl, v16_at O P G D, v15_at O P G D]
  rfl
theorem v58_eq : val_main_v58 (F := Ideal) O P G D = Gout.resO O P G D := by
  funext i
  obtain ⟨h, n, d, rfl⟩ : ∃ (h : Fin 8) (n : Fin 2304) (d : Fin 128), i = ix3 h n d := ⟨i 0, i 1, i 2, (ix3_eta i).symm⟩
  pointwise [val_main_v58, val_main_v57, val_main_cst_9]
  simp only [v55_at]
  show _ = late (fun n => (ofArrays O P G D h n).gx d) n
  unfold late
  by_cases hn : 256 ≤ n.val
  · rw [dif_pos ⟨hn, by omega⟩, dif_pos hn]
  · rw [dif_neg (fun k => hn k.1), dif_neg hn]
theorem v62_eq : val_main_v62 (F := Ideal) O P G D Q = Gout.resP O P G D Q := by
  funext i
  obtain ⟨n, j, rfl⟩ : ∃ (n : Fin 2304) (j : Fin 8192), i = ix2 n j := ⟨i 0, i 1, (ix2_eta i).symm⟩
  pointwise [val_main_v62, val_main_v61, val_main_v60, val_main_v59, val_main_v35, val_main_v34, val_main_cst_3]
  show _ = if 40 ≤ j.val / 128 ∧ j.val / 128 < 48 then late (fun n => (ofArrays O P G D ⟨j.val / 128 % 8, Nat.mod_lt _ (by decide)⟩ n).gz
    ⟨j.val % 128, Nat.mod_lt _ (by decide)⟩) n else Q (ix2 n j)
  by_cases h1 : j.val < 5120
  · have hq : ¬(40 ≤ j.val / 128 ∧ j.val / 128 < 48) := by omega
    refine Eq.trans ?_ (if_neg hq).symm
    exact dif_pos h1
  rw [dif_neg h1]
  by_cases h2 : j.val - 5120 < 1024
  · have hq : 40 ≤ j.val / 128 ∧ j.val / 128 < 48 := by omega
    refine ((dif_pos h2).trans ?_).trans (if_pos hq).symm
    unfold late
    by_cases hn : 256 ≤ n.val
    · refine (dif_pos ⟨⟨hn, by omega⟩, h2⟩).trans (Eq.trans ?_ (dif_pos hn).symm)
      rw [v33_at]
      refine congrArg₂ (fun h e => (ofArrays O P G D h ⟨n.val - 256, by omega⟩).gz e) (Fin.ext ?_) (Fin.ext ?_)
      · show (j.val - 5120) / 128 = j.val / 128 % 8
        omega
      · show (j.val - 5120) % 128 = j.val % 128
        omega
    · refine (dif_neg (fun k => hn k.1.1)).trans (Eq.trans ?_ (dif_neg hn).symm)
      rfl
  · have hq : ¬(40 ≤ j.val / 128 ∧ j.val / 128 < 48) := by omega
    rw [dif_neg h2, if_neg hq]
    refine congrArg Q (congrArg (fun k => ix2 n k) (Fin.ext ?_))
    show 6144 + (j.val - 5120 - 1024) = j.val
    omega
theorem v37_at : val_main_v37 (F := Ideal) O P D (ix1 d) = ∑ h, ∑ n, (ofArrays O P G D h n).gg d := by
  rw [Finset.sum_comm]
  pointwise [val_main_v37, val_main_cst_4]
  rw [Gout.sum_two, zero_add]
  refine Finset.sum_congr rfl fun n _ => Finset.sum_congr rfl fun h _ => ?_
  pointwise [val_main_v36]
  rw [v21_at O P G D, v32_at O P G D]
  rfl
theorem v56_eq : val_main_v56 (F := Ideal) O P D = Gout.resG O P G D := by
  funext i
  obtain ⟨p, d, rfl⟩ : ∃ (p : Fin 1) (d : Fin 128), i = ix2 p d := ⟨i 0, i 1, (ix2_eta i).symm⟩
  obtain rfl : p = 0 := Subsingleton.elim _ _
  pointwise [val_main_v56, val_main_v41, val_main_v38, val_main_cst_5]
  rw [Gout.sum_two, zero_add]
  simp only [Fintype.sum_unique]
  rw [show (default : Fin 1) = 0 from rfl]
  pointwise
  exact v37_at O P G D d

end Cert.Reference15Ideal.Value

namespace Cert.Proof

open Idealize.ShloMosaic

theorem algebraic15 : Cert.algebraic_Kernel15Ideal_Reference15Ideal (hKernel15Ideal := Cert.Kernel15Ideal.Gen.facts)
    (hReference15Ideal := Cert.Reference15Ideal.Gen.facts) := by
  intro m g m' g' _ hagree
  refine ⟨fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N, Cert.Kernel15Ideal.Value.run_blocks m g,
    θ_run_mono (Cert.Reference15Ideal.Value.run m' g') fun r hr c => ?_⟩
  obtain ⟨h1, h2, h3, hargs⟩ := hr c
  obtain ⟨e0, e1, e2, e3, e4⟩ := hagree c
  refine ⟨?_, ?_, ?_, hargs⟩
  · rw [h1, Cert.Reference15Ideal.Read.val_main_v58_eq, Cert.Reference15Ideal.Value.v58_eq, e0, e1, e2, e3]
    exact (Cert.Kernel15Ideal.Value.arr4 m c).symm
  · rw [h2, Cert.Reference15Ideal.Read.val_main_v62_eq, Cert.Reference15Ideal.Value.v62_eq, e0, e1, e2, e3, e4]
    exact (Cert.Kernel15Ideal.Value.arr5 m c).symm
  · rw [h3, Cert.Reference15Ideal.Read.val_main_v56_eq, Cert.Reference15Ideal.Value.v56_eq _ _ (fun _ => 0), e0, e1, e3]
    refine Eq.trans ?_ (Cert.Kernel15Ideal.Value.arr6 m c).symm
    rfl

/-- The reference runs and leaves its arguments. -/
theorem ref_frame15 : Cert.quiescent_Reference15Ideal (hReference15Ideal := Cert.Reference15Ideal.Gen.facts) := by
  intro m g _
  refine θ_run_mono (Cert.Reference15Ideal.Value.run m g) fun r h => ⟨fun c => (h c).2.2.2, ?_⟩
  exact sem_eq_zero_of_no_sems (by decide) r.2

end Cert.Proof

end
-- ==== Proof.Gprep.lean ====
/- The gradient of the delta rule's q, k and v preparation as functions of columns: the convolution of context and latents apart, silu, the rows' norm. -/
module

public import proofs.«01_k».proof.Proof.Conv
public import Idealize.ShloMosaic.Lib.IdealHost
public import Idealize.ShloMosaic.Lib.Pipeline.ValueKit

@[expose] public section

set_option maxRecDepth 16384

noncomputable section

namespace Cert.Gprep

open Idealize.ShloMosaic

/-- The rows that start a segment: of the context, of the latents. -/
abbrev s (r : ℕ) : Prop := r = 0 ∨ r = 256
/-- The rows that end one. -/
abbrev e (r : ℕ) : Prop := r = 255 ∨ r = 2303

/-- A choice by two equations of row numbers. -/
theorem select_or (a b c : ℕ) (ha : a < 2 ^ 32) (hb : b < 2 ^ 32) (hc : c < 2 ^ 32) (x y : EReal) :
    Scalar.select (IntOp.cmpi CmpIPredicate.eq (BitVec.ofNat 32 a) (BitVec.ofNat 32 b)
      ||| IntOp.cmpi CmpIPredicate.eq (BitVec.ofNat 32 a) (BitVec.ofNat 32 c)) x y = if a = b ∨ a = c then x else y := by
  rw [WordCmp.cmpi_eq_ofNat ha hb, WordCmp.cmpi_eq_ofNat ha hc]
  by_cases h : a = b <;> by_cases k : a = c
  · rw [if_pos (Or.inl h), decide_eq_true h, decide_eq_true k]; rfl
  · rw [if_pos (Or.inl h), decide_eq_true h, decide_eq_false k]; rfl
  · rw [if_pos (Or.inr k), decide_eq_false h, decide_eq_true k]; rfl
  · rw [if_neg (by tauto), decide_eq_false h, decide_eq_false k]; rfl

theorem sel_s (r : Fin 2304) (x y : EReal) : Scalar.select (IntOp.ori (IntOp.cmpi CmpIPredicate.eq (BitVec.ofNat 32 r.val) 0#32)
    (IntOp.cmpi CmpIPredicate.eq (BitVec.ofNat 32 r.val) 256#32)) x y = if s r.val then x else y :=
  select_or r.val 0 256 (by omega) (by decide) (by decide) x y
theorem sel_e (r : Fin 2304) (x y : EReal) : Scalar.select (IntOp.ori (IntOp.cmpi CmpIPredicate.eq (BitVec.ofNat 32 r.val) 255#32)
    (IntOp.cmpi CmpIPredicate.eq (BitVec.ofNat 32 r.val) 2303#32)) x y = if e r.val then x else y :=
  select_or r.val 255 2303 (by omega) (by decide) (by decide) x y

/-- One head's columns: the projection, the convolution's weights, and the gradient of what was prepared. -/
structure Head where
  x : Fin 2304 → Fin 128 → EReal
  w : Fin 3 → Fin 128 → EReal
  g : Fin 2304 → Fin 128 → EReal

namespace Head
variable (H : Head)

def y (r : Fin 2304) (d : Fin 128) : EReal := Conv.conv s e (fun r => H.x r d) (fun k => H.w k d) r
def sg (r : Fin 2304) (d : Fin 128) : EReal := Ideal.logistic (H.y r d)
def a (r : Fin 2304) (d : Fin 128) : EReal := H.y r d * H.sg r d
/-- The squares' sum and the constant. -/
def var (r : Fin 2304) : EReal := (∑ d, H.a r d * H.a r d) + Ideal.ofBits FTy.f32 0x358637BD#32
def rs (r : Fin 2304) : EReal := Ideal.rsqrt (H.var r)
/-- The derivative of the inverse root. -/
def drs (r : Fin 2304) : EReal := Ideal.ofBits FTy.f32 0xBF000000#32 * Ideal.div (H.rs r) (H.var r)
/-- The gradient of `a` from the gradient `h` of the normed rows. -/
def unnorm (h : Fin 2304 → Fin 128 → EReal) (r : Fin 2304) (d : Fin 128) : EReal :=
  h r d * H.rs r + H.a r d * ((∑ d, H.a r d * h r d) * H.drs r) + (∑ d, H.a r d * h r d) * H.drs r * H.a r d
/-- The gradient of the convolution from the gradient `h` of `a`. -/
def back (h : Fin 2304 → Fin 128 → EReal) (r : Fin 2304) (d : Fin 128) : EReal :=
  h r d * H.sg r d + H.y r d * h r d * (H.sg r d * (1 - H.sg r d))

/-- The gradient of the convolution, for q: normed and scaled. -/
def hq : Fin 2304 → Fin 128 → EReal := H.back (H.unnorm fun r d => H.g r d * Ideal.ofBits FTy.f32 0x3DB504F3#32)
/-- For k: normed. -/
def hk : Fin 2304 → Fin 128 → EReal := H.back (H.unnorm H.g)
/-- For v: neither. -/
def hv : Fin 2304 → Fin 128 → EReal := H.back H.g
end Head

/-- The head `h` of whole arrays, its columns from `128 * p` on in the projection and from `128 * q` on in the weights. -/
def ofArrays (p q : ℕ) (hp : p + 8 ≤ 64) (hq : q + 8 ≤ 24) (X : (⟨2, ![2304, 8192]⟩ : Shape).Idx → EReal) (W : (⟨2, ![3, 3072]⟩ : Shape).Idx → EReal)
    (D : (⟨4, ![2, 8, 2304, 128]⟩ : Shape).Idx → EReal) (h : Fin 8) : Head where
  x r d := X (ix2 r ⟨128 * p + (h.val * 128 + d.val), by omega⟩)
  w k d := W (ix2 k ⟨128 * q + (h.val * 128 + d.val), by omega⟩)
  g r d := D (ix4 0 h r d) + D (ix4 1 h r d)

/-- The head that a grid point's blocks hold. -/
def ofBlocks (x0 : (⟨2, ![2304, 128]⟩ : Shape).Idx → EReal) (x1 : (⟨2, ![3, 128]⟩ : Shape).Idx → EReal)
    (x2 : (⟨4, ![2, 1, 2304, 128]⟩ : Shape).Idx → EReal) : Head where
  x r d := x0 (ix2 r d)
  w k d := x1 (ix2 k d)
  g r d := x2 (ix4 0 0 r d) + x2 (ix4 1 0 r d)

section Results
variable (G : Head → Fin 2304 → Fin 128 → EReal) (p q : ℕ) (hp : p + 8 ≤ 64) (hq : q + 8 ≤ 24)
  (X : (⟨2, ![2304, 8192]⟩ : Shape).Idx → EReal) (W : (⟨2, ![3, 3072]⟩ : Shape).Idx → EReal)
  (D : (⟨4, ![2, 8, 2304, 128]⟩ : Shape).Idx → EReal) (Q : (⟨2, ![2304, 8192]⟩ : Shape).Idx → EReal)

/-- The gradients of a head's columns and weights, `G` giving the gradient of the convolution. -/
def headX (H : Head) (r : Fin 2304) (d : Fin 128) : EReal := Conv.dx s e (fun k => H.w k d) (fun r => G H r d) r
def headW (H : Head) (k : Fin 3) (d : Fin 128) : EReal := Conv.dw s e (fun r => H.x r d) (fun r => G H r d) k

/-- The gradient of the columns, by the columns of the projection it stands in. -/
def cols : (⟨2, ![2304, 8192]⟩ : Shape).Idx → EReal := fun i =>
  headX G (ofArrays p q hp hq X W D ⟨((i 1).val / 128 - p) % 8, Nat.mod_lt _ (by decide)⟩) (i 0) ⟨(i 1).val % 128, Nat.mod_lt _ (by decide)⟩
/-- The gradient of the projection: the columns written over, the others kept. -/
def resX : (⟨2, ![2304, 8192]⟩ : Shape).Idx → EReal := fun i =>
  if p ≤ (i 1).val / 128 ∧ (i 1).val / 128 < p + 8 then cols G p q hp hq X W D i else Q i
/-- The gradient of the weights. -/
def resW : (⟨2, ![3, 1024]⟩ : Shape).Idx → EReal := fun i =>
  headW G (ofArrays p q hp hq X W D ⟨(i 1).val / 128, by have : (i 1).val < 1024 := (i 1).isLt; omega⟩) (i 0) ⟨(i 1).val % 128, Nat.mod_lt _ (by decide)⟩

end Results

/-! Rows of the two segments, the context's 256 and the latents' 2048, each with zero rows beyond its ends: the whole column moved down or up. -/

theorem down_ctx (f : Fin 2304 → EReal) (r : Fin 256) :
    (if h : r.val < 1 then 0 else if h : r.val - 1 < 256 then f ⟨r.val - 1, by omega⟩ else 0) = Conv.down s f ⟨r.val, by omega⟩ := by
  unfold Conv.down
  by_cases k : r.val = 0
  · rw [dif_pos (by omega), if_pos (by simp only [s]; omega)]
  · rw [dif_neg (by omega), dif_pos (by omega), if_neg (by simp only [s]; omega)]
    exact congrArg f (Fin.ext (by show r.val - 1 = (r.val + 2304 - 1) % 2304; omega))
theorem up_ctx (f : Fin 2304 → EReal) (r : Fin 256) :
    (if h : 2 + r.val < 1 then 0 else if h : 2 + r.val - 1 < 256 then f ⟨2 + r.val - 1, by omega⟩ else 0) = Conv.up e f ⟨r.val, by omega⟩ := by
  unfold Conv.up
  by_cases k : r.val = 255
  · rw [dif_neg (by omega), dif_neg (by omega), if_pos (by simp only [e]; omega)]
  · rw [dif_neg (by omega), dif_pos (by omega), if_neg (by simp only [e]; omega)]
    exact congrArg f (Fin.ext (by show 2 + r.val - 1 = (r.val + 2304 - (2304 - 1)) % 2304; omega))
theorem down_ctx_low (f : Fin 2304 → EReal) (r : Fin 256) :
    (if h : 2 ≤ 1 + r.val ∧ 1 + r.val - 2 < 256 then f ⟨1 + r.val - 2, by omega⟩ else 0) = Conv.down s f ⟨r.val, by omega⟩ := by
  unfold Conv.down
  by_cases k : r.val = 0
  · rw [dif_neg (by omega), if_pos (by simp only [s]; omega)]
  · rw [dif_pos (by omega), if_neg (by simp only [s]; omega)]
    exact congrArg f (Fin.ext (by show 1 + r.val - 2 = (r.val + 2304 - 1) % 2304; omega))
theorem up_ctx_low (f : Fin 2304 → EReal) (r : Fin 256) :
    (if h : 1 + r.val < 256 then f ⟨1 + r.val, by omega⟩ else 0) = Conv.up e f ⟨r.val, by omega⟩ := by
  unfold Conv.up
  by_cases k : r.val = 255
  · rw [dif_neg (by omega), if_pos (by simp only [e]; omega)]
  · rw [dif_pos (by omega), if_neg (by simp only [e]; omega)]
    exact congrArg f (Fin.ext (by show 1 + r.val = (r.val + 2304 - (2304 - 1)) % 2304; omega))
theorem down_lat (f : Fin 2304 → EReal) (r : Fin 2048) :
    (if h : r.val < 1 then 0 else if h : r.val - 1 < 2048 then f ⟨256 + (r.val - 1), by omega⟩ else 0) = Conv.down s f ⟨256 + r.val, by omega⟩ := by
  unfold Conv.down
  by_cases k : r.val = 0
  · rw [dif_pos (by omega), if_pos (by simp only [s]; omega)]
  · rw [dif_neg (by omega), dif_pos (by omega), if_neg (by simp only [s]; omega)]
    exact congrArg f (Fin.ext (by show 256 + (r.val - 1) = ((256 + r.val) + 2304 - 1) % 2304; omega))
theorem up_lat (f : Fin 2304 → EReal) (r : Fin 2048) :
    (if h : 2 + r.val < 1 then 0 else if h : 2 + r.val - 1 < 2048 then f ⟨256 + (2 + r.val - 1), by omega⟩ else 0) = Conv.up e f ⟨256 + r.val, by omega⟩ := by
  unfold Conv.up
  by_cases k : r.val = 2047
  · rw [dif_neg (by omega), dif_neg (by omega), if_pos (by simp only [e]; omega)]
  · rw [dif_neg (by omega), dif_pos (by omega), if_neg (by simp only [e]; omega)]
    exact congrArg f (Fin.ext (by show 256 + (2 + r.val - 1) = ((256 + r.val) + 2304 - (2304 - 1)) % 2304; omega))
theorem down_lat_low (f : Fin 2304 → EReal) (r : Fin 2048) :
    (if h : 2 ≤ 1 + r.val ∧ 1 + r.val - 2 < 2048 then f ⟨256 + (1 + r.val - 2), by omega⟩ else 0) = Conv.down s f ⟨256 + r.val, by omega⟩ := by
  unfold Conv.down
  by_cases k : r.val = 0
  · rw [dif_neg (by omega), if_pos (by simp only [s]; omega)]
  · rw [dif_pos (by omega), if_neg (by simp only [s]; omega)]
    exact congrArg f (Fin.ext (by show 256 + (1 + r.val - 2) = ((256 + r.val) + 2304 - 1) % 2304; omega))
theorem up_lat_low (f : Fin 2304 → EReal) (r : Fin 2048) :
    (if h : 1 + r.val < 2048 then f ⟨256 + (1 + r.val), by omega⟩ else 0) = Conv.up e f ⟨256 + r.val, by omega⟩ := by
  unfold Conv.up
  by_cases k : r.val = 2047
  · rw [dif_neg (by omega), if_pos (by simp only [e]; omega)]
  · rw [dif_pos (by omega), if_neg (by simp only [e]; omega)]
    exact congrArg f (Fin.ext (by show 256 + (1 + r.val) = ((256 + r.val) + 2304 - (2304 - 1)) % 2304; omega))

/-- A sum over all rows, the latents' first. -/
theorem sum_split (f : Fin 2304 → EReal) : (∑ r : Fin 2048, f ⟨256 + r.val, by omega⟩) + (∑ r : Fin 256, f ⟨r.val, by omega⟩) = ∑ r, f r :=
  (add_comm _ _).trans (Fin.sum_univ_add (a := 256) (b := 2048) f).symm

end Cert.Gprep

end
-- ==== Proof.GprepQ.lean ====
/- The gradient of the delta rule's preparation of q. -/
module

public import proofs.«01_k».proof.Defs
public import proofs.«01_k».proof.Proof.Gprep
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Idealize.ShloMosaic.Pipeline (Dat)
open Cert.Gprep (Head ofArrays ofBlocks s e sel_s sel_e)

section Block

variable (x0 : Vec Ideal S2304x128 .f32) (x1 : Vec Ideal S3x128 .f32) (x2 : Vec Ideal S2x1x2304x128 .f32)
  (b c : Vec Ideal S1x1x2304x128 .f32) (r : Fin 2304) (d : Fin 128)

theorem pay3_at : k0_pay3 (F := Ideal) x0 (ix2 r d) = Conv.down s (fun r => x0 (ix2 r d)) r := by
  refine Eq.trans ?_ (sel_s r _ _)
  pointwise [k0_pay3]
theorem pay6_at : k0_pay6 (F := Ideal) x0 (ix2 r d) = Conv.up e (fun r => x0 (ix2 r d)) r := by
  refine Eq.trans ?_ (sel_e r _ _)
  pointwise [k0_pay6]
theorem pay8_at : k0_pay8 (F := Ideal) x0 x1 (ix2 r d) = (ofBlocks x0 x1 x2).y r d := by
  pointwise [k0_pay8, k0_pay4, k0_pay5, k0_pay7]
  rw [pay3_at, pay6_at]
  rfl
theorem pay9_at : k0_pay9 (F := Ideal) x0 x1 (ix2 r d) = (ofBlocks x0 x1 x2).sg r d := by
  pointwise [k0_pay9]
  rw [pay8_at x0 x1 x2]
  rfl
theorem pay10_at : k0_pay10 (F := Ideal) x0 x1 (ix2 r d) = (ofBlocks x0 x1 x2).sg r d * (1 - (ofBlocks x0 x1 x2).sg r d) := by
  pointwise [k0_pay10]
  rw [pay9_at x0 x1 x2]
theorem pay11_at : k0_pay11 (F := Ideal) x0 x1 (ix2 r d) = (ofBlocks x0 x1 x2).a r d := by
  pointwise [k0_pay11]
  rw [pay8_at x0 x1 x2, pay9_at x0 x1 x2]
  rfl
theorem pay12_at : k0_pay12 (F := Ideal) x0 x1 (ix2 r 0) = (ofBlocks x0 x1 x2).var r := by
  pointwise [k0_pay12]
  simp only [pay11_at x0 x1 x2]
  rfl
theorem pay13_at : k0_pay13 (F := Ideal) x0 x1 (ix2 r 0) = (ofBlocks x0 x1 x2).rs r := by
  pointwise [k0_pay13]
  rw [pay12_at x0 x1 x2]
  rfl
theorem pay14_at : k0_pay14 (F := Ideal) x0 x1 (ix2 r 0) = Ideal.div ((ofBlocks x0 x1 x2).rs r) ((ofBlocks x0 x1 x2).var r) := by
  pointwise [k0_pay14]
  rw [pay12_at x0 x1 x2, pay13_at x0 x1 x2]

/-- The gradient of the convolution. -/
theorem pay15_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay15 (F := Ideal) (k0_pay8 x0 x1) (k0_pay9 x0 x1) (k0_pay10 x0 x1) (k0_pay11 x0 x1) (k0_pay13 x0 x1) (k0_pay14 x0 x1)
      (Ideal.ofBits FTy.f32 0xBF000000#32) b c (ix2 r d) = (ofBlocks x0 x1 x2).hq r d := by
  pointwise [k0_pay15]
  simp only [Fintype.sum_unique, hb, hc, pay8_at x0 x1 x2, pay9_at x0 x1 x2, pay10_at x0 x1 x2, pay11_at x0 x1 x2, pay13_at x0 x1 x2]
  rw [show (default : Fin 1) = 0 from rfl, pay14_at x0 x1 x2]
  rfl

theorem pay2_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay2 (F := Ideal) (k0_pay4 x1) (k0_pay5 x1) (k0_pay15 (k0_pay8 x0 x1) (k0_pay9 x0 x1) (k0_pay10 x0 x1) (k0_pay11 x0 x1) (k0_pay13 x0 x1) (k0_pay14 x0 x1)
      (Ideal.ofBits FTy.f32 0xBF000000#32) b c)
      (k0_pay17 (k0_pay7 x1) (k0_pay8 x0 x1) (k0_pay9 x0 x1) (k0_pay10 x0 x1) (k0_pay11 x0 x1) (k0_pay13 x0 x1) (k0_pay14 x0 x1)
      (Ideal.ofBits FTy.f32 0xBF000000#32) b c) (ix2 r d) = Gprep.headX Head.hq (ofBlocks x0 x1 x2) r d := by
  pointwise [k0_pay2, k0_pay17, k0_pay4, k0_pay5, k0_pay7]
  simp only [sel_s, sel_e, pay15_at x0 x1 x2 b c _ _ hb hc]
  rfl
theorem pay1_at (hb : ∀ (r : Fin 2304) (d : Fin 128), b (ix4 0 0 r d) = x2 (ix4 0 0 r d))
    (hc : ∀ (r : Fin 2304) (d : Fin 128), c (ix4 0 0 r d) = x2 (ix4 1 0 r d)) (k : Fin 3) :
    k0_pay1 (F := Ideal) (k0_pay3 x0) (k0_pay15 (k0_pay8 x0 x1) (k0_pay9 x0 x1) (k0_pay10 x0 x1) (k0_pay11 x0 x1) (k0_pay13 x0 x1) (k0_pay14 x0 x1)
      (Ideal.ofBits FTy.f32 0xBF000000#32) b c)
      (k0_pay16 (k0_pay6 x0) (k0_pay8 x0 x1) (k0_pay9 x0 x1) (k0_pay10 x0 x1) (k0_pay11 x0 x1) (k0_pay13 x0 x1) (k0_pay14 x0 x1)
      (Ideal.ofBits FTy.f32 0xBF000000#32) b c)
      (k0_pay18 x0 (k0_pay8 x0 x1) (k0_pay9 x0 x1) (k0_pay10 x0 x1) (k0_pay11 x0 x1) (k0_pay13 x0 x1) (k0_pay14 x0 x1)
      (Ideal.ofBits FTy.f32 0xBF000000#32) b c) (ix2 k d) = Gprep.headW Head.hq (ofBlocks x0 x1 x2) k d := by
  unfold Gprep.headW
  rw [← Conv.dw_rows]
  pointwise [k0_pay1, k0_pay16, k0_pay18]
  simp only [pay15_at x0 x1 x2 b c _ _ hb hc, pay3_at, pay6_at]
  rfl

end Block

variable (m : (ℓ : Loc nD τ sig) → Buf (Elt Ideal) ℓ) (c : Dev nD)

/-- A point's head. -/
abbrev head (t : Fin cfg0.N) : Head := ofBlocks (iblk m c 0 t) (iblk m c 1 t) (iblk m c 2 t)

theorem out3 (t : Fin cfg0.N) (r : Fin 2304) (d : Fin 128) : (outsAt0 m c t).1 (ix2 r d) = Gprep.headX Head.hq (head m c t) r d := by
  dsimp only [outsAt0]
  frame_out
  exact pay2_at (iblk m c 0 t) (iblk m c 1 t) (iblk m c 2 t) _ _ r d (fun r d => by pointwise) (fun r d => by pointwise)
theorem out4 (t : Fin cfg0.N) (k : Fin 3) (d : Fin 128) : (outsAt0 m c t).2 (ix2 k d) = Gprep.headW Head.hq (head m c t) k d := by
  dsimp only [outsAt0]
  frame_out
  exact pay1_at (iblk m c 0 t) (iblk m c 1 t) (iblk m c 2 t) _ _ d (fun r d => by pointwise) (fun r d => by pointwise) k

theorem idx : ∀ t : Fin cfg0.N, win0_0.index t = ![0, t.val + 12] ∧ win0_1.index t = ![0, t.val] ∧ win0_2.index t = ![0, t.val, 0, 0]
    ∧ win0_3.index t = ![0, t.val + 12] ∧ win0_4.index t = ![0, t.val] :=
  (by decide +kernel : ∀ t : Fin grid0.N, _)

theorem iblk0 (t : Fin cfg0.N) (r : Fin 2304) (d : Fin 128) : iblk m c 0 t (ix2 r d)
    = m ((c : Thread nD τ).loc main_arg0) (ix2 r ⟨1536 + (t.val * 128 + d.val), by have := t.isLt; have : t.val < 8 := this; omega⟩) := by
  blk_point [iblk, V, idx t]
theorem iblk1 (t : Fin cfg0.N) (k : Fin 3) (d : Fin 128) : iblk m c 1 t (ix2 k d)
    = m ((c : Thread nD τ).loc main_arg1) (ix2 k ⟨0 + (t.val * 128 + d.val), by have := t.isLt; have : t.val < 8 := this; omega⟩) := by
  blk_point [iblk, V, idx t]
theorem iblk2 (t : Fin cfg0.N) (p : Fin 2) (r : Fin 2304) (d : Fin 128) : iblk m c 2 t (ix4 p 0 r d)
    = m ((c : Thread nD τ).loc main_arg2) (ix4 p ⟨t.val, t.isLt⟩ r d) := by
  blk_point [iblk, V, idx t]

/-- The head that a grid point's blocks hold. -/
theorem heads (t : Fin cfg0.N) : head m c t = ofArrays 12 0 (by decide) (by decide) (m ((c : Thread nD τ).loc main_arg0)) (m ((c : Thread nD τ).loc main_arg1))
    (m ((c : Thread nD τ).loc main_arg2)) ⟨t.val, t.isLt⟩ := by
  simp only [head, ofBlocks, ofArrays, iblk0, iblk1, iblk2]

theorem emb3 (t : Fin cfg0.N) (r : Fin 2304) (d : Fin 128) : ((View.whole main_v0_0).slice (win0_3.rect t)).emb (ix2 r d)
    = ix2 r ⟨1536 + (t.val * 128 + d.val), by have := t.isLt; have : t.val < 8 := this; omega⟩ := by
  funext b
  fin_cases b <;> apply Fin.ext <;> blk_simp [idx t]
  · rfl
  show (t.val + 12) * 128 + d.val = 1536 + (t.val * 128 + d.val)
  omega
theorem emb4 (t : Fin cfg0.N) (k : Fin 3) (d : Fin 128) : ((View.whole main_v0_1).slice (win0_4.rect t)).emb (ix2 k d)
    = ix2 k ⟨t.val * 128 + d.val, by have := t.isLt; have : t.val < 8 := this; omega⟩ := by
  funext b
  fin_cases b <;> apply Fin.ext <;> blk_simp [idx t] <;> rfl

/-- The projection's gradient starts as the one it is written into. -/
theorem entry : V m c main_v0_0 = m ((c : Thread nD τ).loc main_arg3) := by
  unfold V
  after_results
  rfl

theorem arr3 : (dats m 0 c).arrAt 3 cfg0.N = Gprep.resX Head.hq 12 0 (by decide) (by decide) (m ((c : Thread nD τ).loc main_arg0))
    (m ((c : Thread nD τ).loc main_arg1)) (m ((c : Thread nD τ).loc main_arg2)) (m ((c : Thread nD τ).loc main_arg3)) := by
  refine ((dats m 0 c).arrAt_eq_of_coversWhere 3 (Gprep.cols Head.hq 12 0 (by decide) (by decide) (m ((c : Thread nD τ).loc main_arg0))
    (m ((c : Thread nD τ).loc main_arg1)) (m ((c : Thread nD τ).loc main_arg2))) (P := fun i => 12 ≤ (i (1 : Fin 2)).val / 128 ∧ (i (1 : Fin 2)).val / 128 < 12 + 8)
    (fun β => 12 ≤ β (1 : Fin 2) ∧ β (1 : Fin 2) < 12 + 8) (by decide +kernel) (fun t hf y => ?_) (fun j => Iff.rfl)).trans ?_
  · blk_simp
    rw [after0_3]
    obtain ⟨r, d, rfl⟩ : ∃ (r : Fin 2304) (d : Fin 128), y = ix2 r d := ⟨y 0, y 1, (ix2_eta y).symm⟩
    have ht : t.val < 8 := t.isLt
    rw [emb3, out3, heads]
    refine congrArg₂ (fun h e => Gprep.headX Head.hq (ofArrays 12 0 (by decide) (by decide) (m ((c : Thread nD τ).loc main_arg0))
      (m ((c : Thread nD τ).loc main_arg1)) (m ((c : Thread nD τ).loc main_arg2)) h) r e) (Fin.ext ?_) (Fin.ext ?_)
    · show t.val = ((1536 + (t.val * 128 + d.val)) / 128 - 12) % 8
      omega
    · show d.val = (1536 + (t.val * 128 + d.val)) % 128
      omega
  · funext i
    show (if _ then _ else V m c main_v0_0 i) = _
    rw [entry]
    rfl

theorem arr4 : (dats m 0 c).arrAt 4 cfg0.N = Gprep.resW Head.hq 12 0 (by decide) (by decide) (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  obtain ⟨k, d, rfl⟩ : ∃ (k : Fin 3) (d : Fin 128), y = ix2 k d := ⟨y 0, y 1, (ix2_eta y).symm⟩
  have ht : t.val < 8 := t.isLt
  rw [emb4, out4, heads]
  refine congrArg₂ (fun h e => Gprep.headW Head.hq (ofArrays 12 0 (by decide) (by decide) (m ((c : Thread nD τ).loc main_arg0))
    (m ((c : Thread nD τ).loc main_arg1)) (m ((c : Thread nD τ).loc main_arg2)) h) k e) (Fin.ext ?_) (Fin.ext ?_)
  · show t.val = (t.val * 128 + d.val) / 128
    omega
  · show d.val = (t.val * 128 + d.val) % 128
    omega

end Cert.Kernel16Ideal.Value

namespace Cert.Reference16Ideal.Value

open Cert.Reference16Ideal Cert.Reference16Ideal.Read Idealize.ShloMosaic Idealize.ShloMosaic.TcCoe Idealize.SL.Sem
open Cert.Gprep (Head ofArrays s e)

variable (X : Vec Ideal S2304x8192 .f32) (W : Vec Ideal S3x3072 .f32) (D : Vec Ideal S2x8x2304x128 .f32) (Q : Vec Ideal S2304x8192 .bf16)

/-- The head `h` of the arrays. -/
abbrev hd (h : Fin 8) : Head := ofArrays 12 0 (by decide) (by decide) X W D h

theorem v0_at (r : Fin 2304) (h : Fin 8) (d : Fin 128) : val_main_v0 (F := Ideal) X (ix2 r ⟨h.val * 128 + d.val, by omega⟩) = (hd X W D h).x r d := by
  pointwise [val_main_v0]
  rfl
theorem v1_at (k : Fin 3) (h : Fin 8) (d : Fin 128) : val_main_v1 (F := Ideal) W (ix2 k ⟨h.val * 128 + d.val, by omega⟩) = (hd X W D h).w k d := by
  pointwise [val_main_v1]
  exact congrArg (fun j => W (ix2 k j)) (Fin.ext (by show h.val * 128 + d.val = 128 * 0 + (h.val * 128 + d.val); omega))

theorem v7_at (r : Fin 256) (j : Fin 1024) : val_main_v7 (F := Ideal) X (ix2 r j)
    = Conv.down s (fun r => val_main_v0 (F := Ideal) X (ix2 r j)) ⟨r.val, by omega⟩ := by
  refine Eq.trans ?_ (Gprep.down_ctx _ r)
  pointwise [val_main_v7, val_main_v4, val_main_v3, val_main_cst, val_main_v5, val_main_cst_0, val_main_v6, val_main_cst_1, val_main_v2]
theorem v13_at (r : Fin 256) (j : Fin 1024) : val_main_v13 (F := Ideal) X (ix2 r j) = val_main_v0 (F := Ideal) X (ix2 ⟨r.val, by omega⟩ j) := by
  pointwise [val_main_v13, val_main_v4, val_main_v3, val_main_cst, val_main_v5, val_main_cst_0, val_main_v6, val_main_cst_1, val_main_v2]
theorem v20_at (r : Fin 256) (j : Fin 1024) : val_main_v20 (F := Ideal) X (ix2 r j)
    = Conv.up e (fun r => val_main_v0 (F := Ideal) X (ix2 r j)) ⟨r.val, by omega⟩ := by
  refine Eq.trans ?_ (Gprep.up_ctx _ r)
  pointwise [val_main_v20, val_main_v4, val_main_v3, val_main_cst, val_main_v5, val_main_cst_0, val_main_v6, val_main_cst_1, val_main_v2]
theorem v32_at (r : Fin 2048) (j : Fin 1024) : val_main_v32 (F := Ideal) X (ix2 r j)
    = Conv.down s (fun r => val_main_v0 (F := Ideal) X (ix2 r j)) ⟨256 + r.val, by omega⟩ := by
  refine Eq.trans ?_ (Gprep.down_lat _ r)
  pointwise [val_main_v32, val_main_v29, val_main_v28, val_main_cst_2, val_main_v30, val_main_cst_3, val_main_v31, val_main_cst_4, val_main_v27]
theorem v38_at (r : Fin 2048) (j : Fin 1024) : val_main_v38 (F := Ideal) X (ix2 r j) = val_main_v0 (F := Ideal) X (ix2 ⟨256 + r.val, by omega⟩ j) := by
  pointwise [val_main_v38, val_main_v29, val_main_v28, val_main_cst_2, val_main_v30, val_main_cst_3, val_main_v31, val_main_cst_4, val_main_v27]
theorem v45_at (r : Fin 2048) (j : Fin 1024) : val_main_v45 (F := Ideal) X (ix2 r j)
    = Conv.up e (fun r => val_main_v0 (F := Ideal) X (ix2 r j)) ⟨256 + r.val, by omega⟩ := by
  refine Eq.trans ?_ (Gprep.up_lat _ r)
  pointwise [val_main_v45, val_main_v29, val_main_v28, val_main_cst_2, val_main_v30, val_main_cst_3, val_main_v31, val_main_cst_4, val_main_v27]

theorem v26_at (r : Fin 256) (j : Fin 1024) : val_main_v26 (F := Ideal) X W (ix2 r j)
    = Conv.conv s e (fun r => val_main_v0 (F := Ideal) X (ix2 r j)) (fun k => val_main_v1 (F := Ideal) W (ix2 k j)) ⟨r.val, by omega⟩ := by
  pointwise [val_main_v26, val_main_v25, val_main_v24, val_main_v23, val_main_v22, val_main_v21, val_main_v19, val_main_v18, val_main_v17, val_main_v16,
    val_main_v15, val_main_v14, val_main_v12, val_main_v11, val_main_v10, val_main_v9, val_main_v8]
  rw [v7_at, v13_at, v20_at]
  rfl
theorem v51_at (r : Fin 2048) (j : Fin 1024) : val_main_v51 (F := Ideal) X W (ix2 r j)
    = Conv.conv s e (fun r => val_main_v0 (F := Ideal) X (ix2 r j)) (fun k => val_main_v1 (F := Ideal) W (ix2 k j)) ⟨256 + r.val, by omega⟩ := by
  pointwise [val_main_v51, val_main_v50, val_main_v49, val_main_v48, val_main_v47, val_main_v46, val_main_v44, val_main_v43, val_main_v42, val_main_v41,
    val_main_v40, val_main_v39, val_main_v37, val_main_v36, val_main_v35, val_main_v34, val_main_v33]
  rw [v32_at, v38_at, v45_at]
  rfl
/-- The convolution. -/
theorem v52_at (r : Fin 2304) (h : Fin 8) (d : Fin 128) :
    val_main_v52 (F := Ideal) X W (ix2 r ⟨h.val * 128 + d.val, by omega⟩) = (hd X W D h).y r d := by
  unfold Head.y
  simp only [← v0_at, ← v1_at]
  pointwise [val_main_v52]
  by_cases k : r.val < 256
  · rw [dif_pos k]
    exact v26_at X W ⟨r.val, k⟩ _
  · rw [dif_neg k, v51_at]
    exact congrArg (Conv.conv s e _ _) (Fin.ext (by show 256 + (r.val - 256) = r.val; omega))
theorem v53_at (r : Fin 2304) (h : Fin 8) (d : Fin 128) :
    val_main_v53_2 (F := Ideal) X W (ix2 r ⟨h.val * 128 + d.val, by omega⟩) = (hd X W D h).sg r d := by
  pointwise [val_main_v53_2, val_main_call0_v4, val_main_call0_v3, val_main_call0_v2, val_main_call0_v1, val_main_call0_v0,
    val_main_call0_cst, val_main_call0_cst_0]
  rw [v52_at X W D]
  rfl
theorem v54_at (r : Fin 2304) (h : Fin 8) (d : Fin 128) : val_main_v54 (F := Ideal) X W (ix3 r h d) = (hd X W D h).a r d := by
  pointwise [val_main_v54, val_main_v53_0]
  rw [v53_at X W D, v52_at X W D]
  rfl
theorem v59_at (r : Fin 2304) (h : Fin 8) : val_main_v59 (F := Ideal) X W (ix3 r h 0) = (hd X W D h).var r := by
  pointwise [val_main_v59, val_main_v58, val_main_v57, val_main_v56, val_main_v55, val_main_cst_5, val_main_cst_6]
  simp only [v54_at X W D]
  rfl
theorem v63_at (r : Fin 2304) (h : Fin 8) : val_main_v63 (F := Ideal) X W (ix3 r h 0) = (hd X W D h).drs r := by
  pointwise [val_main_v63, val_main_v62, val_main_v61, val_main_v60, val_main_cst_7]
  rw [v59_at X W D]
  rfl
theorem v88_at (r : Fin 2304) (h : Fin 8) (d : Fin 128) : val_main_v88 (F := Ideal) X W D (ix3 r h d) = (hd X W D h).unnorm (fun r d => (hd X W D h).g r d * Ideal.ofBits FTy.f32 0x3DB504F3#32) r d := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v66, val_main_v60, val_main_cst_9, val_main_cst_10, val_main_cst_11]
  simp only [Fintype.sum_unique, v54_at X W D]
  rw [show (default : Fin 1) = 0 from rfl, v63_at X W D, v59_at X W D]
  rfl
theorem v89_at (r : Fin 2304) (h : Fin 8) (d : Fin 128) :
    val_main_v89 (F := Ideal) X W D (ix2 r ⟨h.val * 128 + d.val, by omega⟩) = (hd X W D h).unnorm (fun r d => (hd X W D h).g r d * Ideal.ofBits FTy.f32 0x3DB504F3#32) r d := by
  rw [← v88_at]
  pointwise [val_main_v89]
/-- The gradient of the convolution. -/
theorem v90_at (r : Fin 2304) (h : Fin 8) (d : Fin 128) :
    val_main_v90 (F := Ideal) X W D (ix2 r ⟨h.val * 128 + d.val, by omega⟩) = (hd X W D h).hq r d := by
  pointwise [val_main_v90, val_main_call1_v2, val_main_call1_v1, val_main_call1_v0, val_main_v53_1, val_main_call0_v7, val_main_call0_v6, val_main_call0_cst_1]
  rw [v89_at, v53_at X W D, v52_at X W D]
  rfl

/-- The gradient of the latents' rows. -/
theorem v125_at (r : Fin 2048) (j : Fin 1024) : val_main_v125 (F := Ideal) X W D (ix2 r j)
    = Conv.dx s e (fun k => val_main_v1 (F := Ideal) W (ix2 k j)) (fun r => val_main_v90 (F := Ideal) X W D (ix2 r j)) ⟨256 + r.val, by omega⟩ := by
  unfold Conv.dx
  rw [← Gprep.down_lat_low, ← Gprep.up_lat_low]
  pointwise [val_main_v125, val_main_v123, val_main_v122, val_main_v112, val_main_v111, val_main_v101, val_main_v97, val_main_v106, val_main_v117,
    val_main_v96, val_main_v105, val_main_v116, val_main_v48, val_main_v41, val_main_v35, val_main_v47, val_main_v40, val_main_v34,
    val_main_v46, val_main_v39, val_main_v33, val_main_cst_15, val_main_cst_19, val_main_cst_23, val_main_v92]
/-- The gradient of the context's rows. -/
theorem v161_at (r : Fin 256) (j : Fin 1024) : val_main_v161 (F := Ideal) X W D (ix2 r j)
    = Conv.dx s e (fun k => val_main_v1 (F := Ideal) W (ix2 k j)) (fun r => val_main_v90 (F := Ideal) X W D (ix2 r j)) ⟨r.val, by omega⟩ := by
  unfold Conv.dx
  rw [← Gprep.down_ctx_low, ← Gprep.up_ctx_low]
  pointwise [val_main_v161, val_main_v159, val_main_v158, val_main_v148, val_main_v147, val_main_v137, val_main_v132, val_main_v142, val_main_v153,
    val_main_v131, val_main_v141, val_main_v152, val_main_v23, val_main_v16, val_main_v10, val_main_v22, val_main_v15, val_main_v9,
    val_main_v21, val_main_v14, val_main_v8, val_main_cst_28, val_main_cst_32, val_main_cst_36, val_main_v91]
theorem v164_at (r : Fin 2304) (j : Fin 1024) : val_main_v164 (F := Ideal) X W D (ix2 r j)
    = Conv.dx s e (fun k => val_main_v1 (F := Ideal) W (ix2 k j)) (fun r => val_main_v90 (F := Ideal) X W D (ix2 r j)) r := by
  pointwise [val_main_v164, val_main_v163, val_main_v127, val_main_cst_24, val_main_cst_37]
  by_cases k : r.val < 256
  · rw [dif_neg (by omega), dif_pos k, zero_add]
    exact v161_at X W D ⟨r.val, k⟩ j
  · rw [dif_pos (by omega), dif_neg k, add_zero, v125_at]
    exact congrArg (Conv.dx s e _ _) (Fin.ext (by show 256 + (r.val - 256) = r.val; omega))

/-- The gradient of the weights. -/
theorem v157_at (k : Fin 3) (j : Fin 1024) : val_main_v157 (F := Ideal) X W D (ix2 k j)
    = Conv.dw s e (fun r => val_main_v0 (F := Ideal) X (ix2 r j)) (fun r => val_main_v90 (F := Ideal) X W D (ix2 r j)) k := by
  unfold Conv.dw
  simp only [← Gprep.sum_split]
  pointwise [val_main_v157, val_main_v156, val_main_v155, val_main_v154, val_main_v151, val_main_v150, val_main_v149, val_main_v146, val_main_v145,
    val_main_v144, val_main_v143, val_main_v140, val_main_v139, val_main_v138, val_main_v136, val_main_v135, val_main_v134, val_main_v133,
    val_main_v130, val_main_v129, val_main_v128, val_main_v121, val_main_v120, val_main_v119, val_main_v118, val_main_v115, val_main_v114,
    val_main_v113, val_main_v110, val_main_v109, val_main_v108, val_main_v107, val_main_v104, val_main_v103, val_main_v102, val_main_v100,
    val_main_v99, val_main_v98, val_main_v95, val_main_v94, val_main_v93, val_main_v92, val_main_v91,
    val_main_cst_12, val_main_cst_13, val_main_cst_14, val_main_cst_16, val_main_cst_17, val_main_cst_18, val_main_cst_20, val_main_cst_21, val_main_cst_22,
    val_main_cst_25, val_main_cst_26, val_main_cst_27, val_main_cst_29, val_main_cst_30, val_main_cst_31, val_main_cst_33, val_main_cst_34, val_main_cst_35]
  simp only [v7_at, v13_at, v20_at, v32_at, v38_at, v45_at, Fintype.sum_unique]
  fin_cases k <;> simp

theorem v157_eq : val_main_v157 (F := Ideal) X W D = Gprep.resW Head.hq 12 0 (by decide) (by decide) X W D := by
  funext i
  obtain ⟨k, j, rfl⟩ : ∃ (k : Fin 3) (j : Fin 1024), i = ix2 k j := ⟨i 0, i 1, (ix2_eta i).symm⟩
  obtain ⟨h, d, rfl⟩ : ∃ (h : Fin 8) (d : Fin 128), j = ⟨h.val * 128 + d.val, by omega⟩ :=
    ⟨⟨j.val / 128, by omega⟩, ⟨j.val % 128, by omega⟩, Fin.ext (by show j.val = j.val / 128 * 128 + j.val % 128; omega)⟩
  rw [v157_at]
  simp only [v0_at X W D, v90_at]
  refine congrArg₂ (fun h d => Gprep.headW Head.hq (hd X W D h) k d) (Fin.ext ?_) (Fin.ext ?_)
  · show h.val = (h.val * 128 + d.val) / 128
    omega
  · show d.val = (h.val * 128 + d.val) % 128
    omega
theorem v168_eq : val_main_v168 (F := Ideal) X W D Q = Gprep.resX Head.hq 12 0 (by decide) (by decide) X W D Q := by
  funext i
  obtain ⟨r, q, rfl⟩ : ∃ (r : Fin 2304) (q : Fin 8192), i = ix2 r q := ⟨i 0, i 1, (ix2_eta i).symm⟩
  unfold Gprep.resX
  pointwise [val_main_v168, val_main_v167, val_main_v166, val_main_v165]
  by_cases h1 : q.val < 1536
  · exact (dif_pos h1).trans (if_neg (by omega)).symm
  refine (dif_neg h1).trans ?_
  by_cases h2 : q.val - 1536 < 1024
  · refine (dif_pos h2).trans (Eq.trans ?_ (if_pos ⟨by omega, by omega⟩).symm)
    obtain ⟨h, d, hb, rfl⟩ : ∃ (h : Fin 8) (d : Fin 128) (hb : 1536 + (h.val * 128 + d.val) < 8192), q = ⟨1536 + (h.val * 128 + d.val), hb⟩ :=
      ⟨⟨(q.val - 1536) / 128, by omega⟩, ⟨(q.val - 1536) % 128, by omega⟩, by show 1536 + ((q.val - 1536) / 128 * 128 + (q.val - 1536) % 128) < 8192; omega,
        Fin.ext (by show q.val = 1536 + ((q.val - 1536) / 128 * 128 + (q.val - 1536) % 128); omega)⟩
    refine (congrArg (fun j => val_main_v164 (F := Ideal) X W D (ix2 r j)) (Fin.ext (?_ : _ = h.val * 128 + d.val))).trans
      ((v164_at X W D r ⟨h.val * 128 + d.val, by omega⟩).trans ?_)
    · show 1536 + (h.val * 128 + d.val) - 1536 = h.val * 128 + d.val
      omega
    · simp only [v1_at X W D, v90_at]
      refine congrArg₂ (fun h d => Gprep.headX Head.hq (hd X W D h) r d) (Fin.ext ?_) (Fin.ext ?_)
      · show h.val = ((1536 + (h.val * 128 + d.val)) / 128 - 12) % 8
        omega
      · show d.val = (1536 + (h.val * 128 + d.val)) % 128
        omega
  · refine (dif_neg h2).trans (Eq.trans ?_ (if_neg (by omega)).symm)
    exact congrArg (fun j => Q (ix2 r j)) (Fin.ext (by show 2560 + (q.val - 1536 - 1024) = q.val; omega))

end Cert.Reference16Ideal.Value

namespace Cert.Proof

open Idealize.ShloMosaic

theorem algebraic16 : Cert.algebraic_Kernel16Ideal_Reference16Ideal (hKernel16Ideal := Cert.Kernel16Ideal.Gen.facts)
    (hReference16Ideal := Cert.Reference16Ideal.Gen.facts) := by
  intro m g m' g' _ hagree
  refine ⟨fun c => (Cert.Kernel16Ideal.Gen.dats m 0 c).arrAt 3 Cert.Kernel16Ideal.cfg0.N,
    fun c => (Cert.Kernel16Ideal.Gen.dats m 0 c).arrAt 4 Cert.Kernel16Ideal.cfg0.N,
    Cert.Kernel16Ideal.Value.run_blocks m g, θ_run_mono (Cert.Reference16Ideal.Value.run m' g') fun r hr c => ?_⟩
  obtain ⟨h1, h2, hargs⟩ := hr c
  obtain ⟨e0, e1, e2, e3⟩ := hagree c
  refine ⟨?_, ?_, hargs⟩
  · rw [h1, Cert.Reference16Ideal.Read.val_main_v168_eq, Cert.Reference16Ideal.Value.v168_eq]
    exact (congr (congr (congrArg₂ (Gprep.resX Gprep.Head.hq 12 0 (by decide) (by decide)) e0 e1) e2) e3).trans (Cert.Kernel16Ideal.Value.arr3 m c).symm
  · rw [h2, Cert.Reference16Ideal.Read.val_main_v157_eq, Cert.Reference16Ideal.Value.v157_eq]
    exact (congr (congrArg₂ (Gprep.resW Gprep.Head.hq 12 0 (by decide) (by decide)) e0 e1) e2).trans (Cert.Kernel16Ideal.Value.arr4 m c).symm

/-- The reference runs and leaves its arguments. -/
theorem ref_frame16 : Cert.quiescent_Reference16Ideal (hReference16Ideal := Cert.Reference16Ideal.Gen.facts) := by
  intro m g _
  refine θ_run_mono (Cert.Reference16Ideal.Value.run m g) fun r h => ⟨fun c => (h c).2.2, ?_⟩
  exact sem_eq_zero_of_no_sems (by decide) r.2

end Cert.Proof

end
-- ==== Proof.GprepK.lean ====
/- The gradient of the delta rule's preparation of k. -/
module

public import proofs.«01_k».proof.Defs
public import proofs.«01_k».proof.Proof.Gprep
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel17Ideal.Value

open Cert.Kernel17Ideal Cert.Kernel17Ideal.Gen Idealize.ShloMosaic Idealize.ShloMosaic.TcCoe Idealize.SL.Sem
open Idealize.ShloMosaic.Pipeline (Dat)
open Cert.Gprep (Head ofArrays ofBlocks s e sel_s sel_e)

section Block

variable (x0 : Vec Ideal S2304x128 .f32) (x1 : Vec Ideal S3x128 .f32) (x2 : Vec Ideal S2x1x2304x128 .f32)
  (b c : Vec Ideal S1x1x2304x128 .f32) (r : Fin 2304) (d : Fin 128)

theorem pay3_at : k0_pay3 (F := Ideal) x0 (ix2 r d) = Conv.down s (fun r => x0 (ix2 r d)) r := by
  refine Eq.trans ?_ (sel_s r _ _)
  pointwise [k0_pay3]
theorem pay6_at : k0_pay6 (F := Ideal) x0 (ix2 r d) = Conv.up e (fun r => x0 (ix2 r d)) r := by
  refine Eq.trans ?_ (sel_e r _ _)
  pointwise [k0_pay6]
theorem pay8_at : k0_pay8 (F := Ideal) x0 x1 (ix2 r d) = (ofBlocks x0 x1 x2).y r d := by
  pointwise [k0_pay8, k0_pay4, k0_pay5, k0_pay7]
  rw [pay3_at, pay6_at]
  rfl
theorem pay9_at : k0_pay9 (F := Ideal) x0 x1 (ix2 r d) = (ofBlocks x0 x1 x2).sg r d := by
  pointwise [k0_pay9]
  rw [pay8_at x0 x1 x2]
  rfl
theorem pay10_at : k0_pay10 (F := Ideal) x0 x1 (ix2 r d) = (ofBlocks x0 x1 x2).sg r d * (1 - (ofBlocks x0 x1 x2).sg r d) := by
  pointwise [k0_pay10]
  rw [pay9_at x0 x1 x2]
theorem pay11_at : k0_pay11 (F := Ideal) x0 x1 (ix2 r d) = (ofBlocks x0 x1 x2).a r d := by
  pointwise [k0_pay11]
  rw [pay8_at x0 x1 x2, pay9_at x0 x1 x2]
  rfl
theorem pay12_at : k0_pay12 (F := Ideal) x0 x1 (ix2 r 0) = (ofBlocks x0 x1 x2).var r := by
  pointwise [k0_pay12]
  simp only [pay11_at x0 x1 x2]
  rfl
theorem pay13_at : k0_pay13 (F := Ideal) x0 x1 (ix2 r 0) = (ofBlocks x0 x1 x2).rs r := by
  pointwise [k0_pay13]
  rw [pay12_at x0 x1 x2]
  rfl
theorem pay14_at : k0_pay14 (F := Ideal) x0 x1 (ix2 r 0) = Ideal.div ((ofBlocks x0 x1 x2).rs r) ((ofBlocks x0 x1 x2).var r) := by
  pointwise [k0_pay14]
  rw [pay12_at x0 x1 x2, pay13_at x0 x1 x2]

/-- The gradient of the convolution. -/
theorem pay15_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay15 (F := Ideal) (k0_pay8 x0 x1) (k0_pay9 x0 x1) (k0_pay10 x0 x1) (k0_pay11 x0 x1) (k0_pay13 x0 x1) (k0_pay14 x0 x1)
      (Ideal.ofBits FTy.f32 0xBF000000#32) b c (ix2 r d) = (ofBlocks x0 x1 x2).hk r d := by
  pointwise [k0_pay15]
  simp only [Fintype.sum_unique, hb, hc, pay8_at x0 x1 x2, pay9_at x0 x1 x2, pay10_at x0 x1 x2, pay11_at x0 x1 x2, pay13_at x0 x1 x2]
  rw [show (default : Fin 1) = 0 from rfl, pay14_at x0 x1 x2]
  rfl

theorem pay2_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay2 (F := Ideal) (k0_pay4 x1) (k0_pay5 x1) (k0_pay15 (k0_pay8 x0 x1) (k0_pay9 x0 x1) (k0_pay10 x0 x1) (k0_pay11 x0 x1) (k0_pay13 x0 x1) (k0_pay14 x0 x1)
      (Ideal.ofBits FTy.f32 0xBF000000#32) b c)
      (k0_pay17 (k0_pay7 x1) (k0_pay8 x0 x1) (k0_pay9 x0 x1) (k0_pay10 x0 x1) (k0_pay11 x0 x1) (k0_pay13 x0 x1) (k0_pay14 x0 x1)
      (Ideal.ofBits FTy.f32 0xBF000000#32) b c) (ix2 r d) = Gprep.headX Head.hk (ofBlocks x0 x1 x2) r d := by
  pointwise [k0_pay2, k0_pay17, k0_pay4, k0_pay5, k0_pay7]
  simp only [sel_s, sel_e, pay15_at x0 x1 x2 b c _ _ hb hc]
  rfl
theorem pay1_at (hb : ∀ (r : Fin 2304) (d : Fin 128), b (ix4 0 0 r d) = x2 (ix4 0 0 r d))
    (hc : ∀ (r : Fin 2304) (d : Fin 128), c (ix4 0 0 r d) = x2 (ix4 1 0 r d)) (k : Fin 3) :
    k0_pay1 (F := Ideal) (k0_pay3 x0) (k0_pay15 (k0_pay8 x0 x1) (k0_pay9 x0 x1) (k0_pay10 x0 x1) (k0_pay11 x0 x1) (k0_pay13 x0 x1) (k0_pay14 x0 x1)
      (Ideal.ofBits FTy.f32 0xBF000000#32) b c)
      (k0_pay16 (k0_pay6 x0) (k0_pay8 x0 x1) (k0_pay9 x0 x1) (k0_pay10 x0 x1) (k0_pay11 x0 x1) (k0_pay13 x0 x1) (k0_pay14 x0 x1)
      (Ideal.ofBits FTy.f32 0xBF000000#32) b c)
      (k0_pay18 x0 (k0_pay8 x0 x1) (k0_pay9 x0 x1) (k0_pay10 x0 x1) (k0_pay11 x0 x1) (k0_pay13 x0 x1) (k0_pay14 x0 x1)
      (Ideal.ofBits FTy.f32 0xBF000000#32) b c) (ix2 k d) = Gprep.headW Head.hk (ofBlocks x0 x1 x2) k d := by
  unfold Gprep.headW
  rw [← Conv.dw_rows]
  pointwise [k0_pay1, k0_pay16, k0_pay18]
  simp only [pay15_at x0 x1 x2 b c _ _ hb hc, pay3_at, pay6_at]
  rfl

end Block

variable (m : (ℓ : Loc nD τ sig) → Buf (Elt Ideal) ℓ) (c : Dev nD)

/-- A point's head. -/
abbrev head (t : Fin cfg0.N) : Head := ofBlocks (iblk m c 0 t) (iblk m c 1 t) (iblk m c 2 t)

theorem out3 (t : Fin cfg0.N) (r : Fin 2304) (d : Fin 128) : (outsAt0 m c t).1 (ix2 r d) = Gprep.headX Head.hk (head m c t) r d := by
  dsimp only [outsAt0]
  frame_out
  exact pay2_at (iblk m c 0 t) (iblk m c 1 t) (iblk m c 2 t) _ _ r d (fun r d => by pointwise) (fun r d => by pointwise)
theorem out4 (t : Fin cfg0.N) (k : Fin 3) (d : Fin 128) : (outsAt0 m c t).2 (ix2 k d) = Gprep.headW Head.hk (head m c t) k d := by
  dsimp only [outsAt0]
  frame_out
  exact pay1_at (iblk m c 0 t) (iblk m c 1 t) (iblk m c 2 t) _ _ d (fun r d => by pointwise) (fun r d => by pointwise) k

theorem idx : ∀ t : Fin cfg0.N, win0_0.index t = ![0, t.val + 20] ∧ win0_1.index t = ![0, t.val + 8] ∧ win0_2.index t = ![0, t.val, 0, 0]
    ∧ win0_3.index t = ![0, t.val + 20] ∧ win0_4.index t = ![0, t.val] :=
  (by decide +kernel : ∀ t : Fin grid0.N, _)

theorem iblk0 (t : Fin cfg0.N) (r : Fin 2304) (d : Fin 128) : iblk m c 0 t (ix2 r d)
    = m ((c : Thread nD τ).loc main_arg0) (ix2 r ⟨2560 + (t.val * 128 + d.val), by have := t.isLt; have : t.val < 8 := this; omega⟩) := by
  blk_point [iblk, V, idx t]
theorem iblk1 (t : Fin cfg0.N) (k : Fin 3) (d : Fin 128) : iblk m c 1 t (ix2 k d)
    = m ((c : Thread nD τ).loc main_arg1) (ix2 k ⟨1024 + (t.val * 128 + d.val), by have := t.isLt; have : t.val < 8 := this; omega⟩) := by
  blk_point [iblk, V, idx t]
theorem iblk2 (t : Fin cfg0.N) (p : Fin 2) (r : Fin 2304) (d : Fin 128) : iblk m c 2 t (ix4 p 0 r d)
    = m ((c : Thread nD τ).loc main_arg2) (ix4 p ⟨t.val, t.isLt⟩ r d) := by
  blk_point [iblk, V, idx t]

/-- The head that a grid point's blocks hold. -/
theorem heads (t : Fin cfg0.N) : head m c t = ofArrays 20 8 (by decide) (by decide) (m ((c : Thread nD τ).loc main_arg0)) (m ((c : Thread nD τ).loc main_arg1))
    (m ((c : Thread nD τ).loc main_arg2)) ⟨t.val, t.isLt⟩ := by
  simp only [head, ofBlocks, ofArrays, iblk0, iblk1, iblk2]

theorem emb3 (t : Fin cfg0.N) (r : Fin 2304) (d : Fin 128) : ((View.whole main_v0_0).slice (win0_3.rect t)).emb (ix2 r d)
    = ix2 r ⟨2560 + (t.val * 128 + d.val), by have := t.isLt; have : t.val < 8 := this; omega⟩ := by
  funext b
  fin_cases b <;> apply Fin.ext <;> blk_simp [idx t]
  · rfl
  show (t.val + 20) * 128 + d.val = 2560 + (t.val * 128 + d.val)
  omega
theorem emb4 (t : Fin cfg0.N) (k : Fin 3) (d : Fin 128) : ((View.whole main_v0_1).slice (win0_4.rect t)).emb (ix2 k d)
    = ix2 k ⟨t.val * 128 + d.val, by have := t.isLt; have : t.val < 8 := this; omega⟩ := by
  funext b
  fin_cases b <;> apply Fin.ext <;> blk_simp [idx t] <;> rfl

/-- The projection's gradient starts as the one it is written into. -/
theorem entry : V m c main_v0_0 = m ((c : Thread nD τ).loc main_arg3) := by
  unfold V
  after_results
  rfl

theorem arr3 : (dats m 0 c).arrAt 3 cfg0.N = Gprep.resX Head.hk 20 8 (by decide) (by decide) (m ((c : Thread nD τ).loc main_arg0))
    (m ((c : Thread nD τ).loc main_arg1)) (m ((c : Thread nD τ).loc main_arg2)) (m ((c : Thread nD τ).loc main_arg3)) := by
  refine ((dats m 0 c).arrAt_eq_of_coversWhere 3 (Gprep.cols Head.hk 20 8 (by decide) (by decide) (m ((c : Thread nD τ).loc main_arg0))
    (m ((c : Thread nD τ).loc main_arg1)) (m ((c : Thread nD τ).loc main_arg2))) (P := fun i => 20 ≤ (i (1 : Fin 2)).val / 128 ∧ (i (1 : Fin 2)).val / 128 < 20 + 8)
    (fun β => 20 ≤ β (1 : Fin 2) ∧ β (1 : Fin 2) < 20 + 8) (by decide +kernel) (fun t hf y => ?_) (fun j => Iff.rfl)).trans ?_
  · blk_simp
    rw [after0_3]
    obtain ⟨r, d, rfl⟩ : ∃ (r : Fin 2304) (d : Fin 128), y = ix2 r d := ⟨y 0, y 1, (ix2_eta y).symm⟩
    have ht : t.val < 8 := t.isLt
    rw [emb3, out3, heads]
    refine congrArg₂ (fun h e => Gprep.headX Head.hk (ofArrays 20 8 (by decide) (by decide) (m ((c : Thread nD τ).loc main_arg0))
      (m ((c : Thread nD τ).loc main_arg1)) (m ((c : Thread nD τ).loc main_arg2)) h) r e) (Fin.ext ?_) (Fin.ext ?_)
    · show t.val = ((2560 + (t.val * 128 + d.val)) / 128 - 20) % 8
      omega
    · show d.val = (2560 + (t.val * 128 + d.val)) % 128
      omega
  · funext i
    show (if _ then _ else V m c main_v0_0 i) = _
    rw [entry]
    rfl

theorem arr4 : (dats m 0 c).arrAt 4 cfg0.N = Gprep.resW Head.hk 20 8 (by decide) (by decide) (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  obtain ⟨k, d, rfl⟩ : ∃ (k : Fin 3) (d : Fin 128), y = ix2 k d := ⟨y 0, y 1, (ix2_eta y).symm⟩
  have ht : t.val < 8 := t.isLt
  rw [emb4, out4, heads]
  refine congrArg₂ (fun h e => Gprep.headW Head.hk (ofArrays 20 8 (by decide) (by decide) (m ((c : Thread nD τ).loc main_arg0))
    (m ((c : Thread nD τ).loc main_arg1)) (m ((c : Thread nD τ).loc main_arg2)) h) k e) (Fin.ext ?_) (Fin.ext ?_)
  · show t.val = (t.val * 128 + d.val) / 128
    omega
  · show d.val = (t.val * 128 + d.val) % 128
    omega

end Cert.Kernel17Ideal.Value

namespace Cert.Reference17Ideal.Value

open Cert.Reference17Ideal Cert.Reference17Ideal.Read Idealize.ShloMosaic Idealize.ShloMosaic.TcCoe Idealize.SL.Sem
open Cert.Gprep (Head ofArrays s e)

variable (X : Vec Ideal S2304x8192 .f32) (W : Vec Ideal S3x3072 .f32) (D : Vec Ideal S2x8x2304x128 .f32) (Q : Vec Ideal S2304x8192 .bf16)

/-- The head `h` of the arrays. -/
abbrev hd (h : Fin 8) : Head := ofArrays 20 8 (by decide) (by decide) X W D h

theorem v0_at (r : Fin 2304) (h : Fin 8) (d : Fin 128) : val_main_v0 (F := Ideal) X (ix2 r ⟨h.val * 128 + d.val, by omega⟩) = (hd X W D h).x r d := by
  pointwise [val_main_v0]
  rfl
theorem v1_at (k : Fin 3) (h : Fin 8) (d : Fin 128) : val_main_v1 (F := Ideal) W (ix2 k ⟨h.val * 128 + d.val, by omega⟩) = (hd X W D h).w k d := by
  pointwise [val_main_v1]
  rfl

theorem v7_at (r : Fin 256) (j : Fin 1024) : val_main_v7 (F := Ideal) X (ix2 r j)
    = Conv.down s (fun r => val_main_v0 (F := Ideal) X (ix2 r j)) ⟨r.val, by omega⟩ := by
  refine Eq.trans ?_ (Gprep.down_ctx _ r)
  pointwise [val_main_v7, val_main_v4, val_main_v3, val_main_cst, val_main_v5, val_main_cst_0, val_main_v6, val_main_cst_1, val_main_v2]
theorem v13_at (r : Fin 256) (j : Fin 1024) : val_main_v13 (F := Ideal) X (ix2 r j) = val_main_v0 (F := Ideal) X (ix2 ⟨r.val, by omega⟩ j) := by
  pointwise [val_main_v13, val_main_v4, val_main_v3, val_main_cst, val_main_v5, val_main_cst_0, val_main_v6, val_main_cst_1, val_main_v2]
theorem v20_at (r : Fin 256) (j : Fin 1024) : val_main_v20 (F := Ideal) X (ix2 r j)
    = Conv.up e (fun r => val_main_v0 (F := Ideal) X (ix2 r j)) ⟨r.val, by omega⟩ := by
  refine Eq.trans ?_ (Gprep.up_ctx _ r)
  pointwise [val_main_v20, val_main_v4, val_main_v3, val_main_cst, val_main_v5, val_main_cst_0, val_main_v6, val_main_cst_1, val_main_v2]
theorem v32_at (r : Fin 2048) (j : Fin 1024) : val_main_v32 (F := Ideal) X (ix2 r j)
    = Conv.down s (fun r => val_main_v0 (F := Ideal) X (ix2 r j)) ⟨256 + r.val, by omega⟩ := by
  refine Eq.trans ?_ (Gprep.down_lat _ r)
  pointwise [val_main_v32, val_main_v29, val_main_v28, val_main_cst_2, val_main_v30, val_main_cst_3, val_main_v31, val_main_cst_4, val_main_v27]
theorem v38_at (r : Fin 2048) (j : Fin 1024) : val_main_v38 (F := Ideal) X (ix2 r j) = val_main_v0 (F := Ideal) X (ix2 ⟨256 + r.val, by omega⟩ j) := by
  pointwise [val_main_v38, val_main_v29, val_main_v28, val_main_cst_2, val_main_v30, val_main_cst_3, val_main_v31, val_main_cst_4, val_main_v27]
theorem v45_at (r : Fin 2048) (j : Fin 1024) : val_main_v45 (F := Ideal) X (ix2 r j)
    = Conv.up e (fun r => val_main_v0 (F := Ideal) X (ix2 r j)) ⟨256 + r.val, by omega⟩ := by
  refine Eq.trans ?_ (Gprep.up_lat _ r)
  pointwise [val_main_v45, val_main_v29, val_main_v28, val_main_cst_2, val_main_v30, val_main_cst_3, val_main_v31, val_main_cst_4, val_main_v27]

theorem v26_at (r : Fin 256) (j : Fin 1024) : val_main_v26 (F := Ideal) X W (ix2 r j)
    = Conv.conv s e (fun r => val_main_v0 (F := Ideal) X (ix2 r j)) (fun k => val_main_v1 (F := Ideal) W (ix2 k j)) ⟨r.val, by omega⟩ := by
  pointwise [val_main_v26, val_main_v25, val_main_v24, val_main_v23, val_main_v22, val_main_v21, val_main_v19, val_main_v18, val_main_v17, val_main_v16,
    val_main_v15, val_main_v14, val_main_v12, val_main_v11, val_main_v10, val_main_v9, val_main_v8]
  rw [v7_at, v13_at, v20_at]
  rfl
theorem v51_at (r : Fin 2048) (j : Fin 1024) : val_main_v51 (F := Ideal) X W (ix2 r j)
    = Conv.conv s e (fun r => val_main_v0 (F := Ideal) X (ix2 r j)) (fun k => val_main_v1 (F := Ideal) W (ix2 k j)) ⟨256 + r.val, by omega⟩ := by
  pointwise [val_main_v51, val_main_v50, val_main_v49, val_main_v48, val_main_v47, val_main_v46, val_main_v44, val_main_v43, val_main_v42, val_main_v41,
    val_main_v40, val_main_v39, val_main_v37, val_main_v36, val_main_v35, val_main_v34, val_main_v33]
  rw [v32_at, v38_at, v45_at]
  rfl
/-- The convolution. -/
theorem v52_at (r : Fin 2304) (h : Fin 8) (d : Fin 128) :
    val_main_v52 (F := Ideal) X W (ix2 r ⟨h.val * 128 + d.val, by omega⟩) = (hd X W D h).y r d := by
  unfold Head.y
  simp only [← v0_at, ← v1_at]
  pointwise [val_main_v52]
  by_cases k : r.val < 256
  · rw [dif_pos k]
    exact v26_at X W ⟨r.val, k⟩ _
  · rw [dif_neg k, v51_at]
    exact congrArg (Conv.conv s e _ _) (Fin.ext (by show 256 + (r.val - 256) = r.val; omega))
theorem v53_at (r : Fin 2304) (h : Fin 8) (d : Fin 128) :
    val_main_v53_2 (F := Ideal) X W (ix2 r ⟨h.val * 128 + d.val, by omega⟩) = (hd X W D h).sg r d := by
  pointwise [val_main_v53_2, val_main_call0_v4, val_main_call0_v3, val_main_call0_v2, val_main_call0_v1, val_main_call0_v0,
    val_main_call0_cst, val_main_call0_cst_0]
  rw [v52_at X W D]
  rfl
theorem v54_at (r : Fin 2304) (h : Fin 8) (d : Fin 128) : val_main_v54 (F := Ideal) X W (ix3 r h d) = (hd X W D h).a r d := by
  pointwise [val_main_v54, val_main_v53_0]
  rw [v53_at X W D, v52_at X W D]
  rfl
theorem v59_at (r : Fin 2304) (h : Fin 8) : val_main_v59 (F := Ideal) X W (ix3 r h 0) = (hd X W D h).var r := by
  pointwise [val_main_v59, val_main_v58, val_main_v57, val_main_v56, val_main_v55, val_main_cst_5, val_main_cst_6]
  simp only [v54_at X W D]
  rfl
theorem v63_at (r : Fin 2304) (h : Fin 8) : val_main_v63 (F := Ideal) X W (ix3 r h 0) = (hd X W D h).drs r := by
  pointwise [val_main_v63, val_main_v62, val_main_v61, val_main_v60, val_main_cst_7]
  rw [v59_at X W D]
  rfl
theorem v84_at (r : Fin 2304) (h : Fin 8) (d : Fin 128) : val_main_v84 (F := Ideal) X W D (ix3 r h d) = (hd X W D h).unnorm (hd X W D h).g r d := by
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v60, val_main_cst_8, val_main_cst_9]
  simp only [Fintype.sum_unique, v54_at X W D]
  rw [show (default : Fin 1) = 0 from rfl, v63_at X W D, v59_at X W D]
  rfl
theorem v85_at (r : Fin 2304) (h : Fin 8) (d : Fin 128) :
    val_main_v85 (F := Ideal) X W D (ix2 r ⟨h.val * 128 + d.val, by omega⟩) = (hd X W D h).unnorm (hd X W D h).g r d := by
  rw [← v84_at]
  pointwise [val_main_v85]
/-- The gradient of the convolution. -/
theorem v86_at (r : Fin 2304) (h : Fin 8) (d : Fin 128) :
    val_main_v86 (F := Ideal) X W D (ix2 r ⟨h.val * 128 + d.val, by omega⟩) = (hd X W D h).hk r d := by
  pointwise [val_main_v86, val_main_call1_v2, val_main_call1_v1, val_main_call1_v0, val_main_v53_1, val_main_call0_v7, val_main_call0_v6, val_main_call0_cst_1]
  rw [v85_at, v53_at X W D, v52_at X W D]
  rfl

/-- The gradient of the latents' rows. -/
theorem v121_at (r : Fin 2048) (j : Fin 1024) : val_main_v121 (F := Ideal) X W D (ix2 r j)
    = Conv.dx s e (fun k => val_main_v1 (F := Ideal) W (ix2 k j)) (fun r => val_main_v86 (F := Ideal) X W D (ix2 r j)) ⟨256 + r.val, by omega⟩ := by
  unfold Conv.dx
  rw [← Gprep.down_lat_low, ← Gprep.up_lat_low]
  pointwise [val_main_v121, val_main_v119, val_main_v118, val_main_v108, val_main_v107, val_main_v97, val_main_v93, val_main_v102, val_main_v113,
    val_main_v92, val_main_v101, val_main_v112, val_main_v48, val_main_v41, val_main_v35, val_main_v47, val_main_v40, val_main_v34,
    val_main_v46, val_main_v39, val_main_v33, val_main_cst_13, val_main_cst_17, val_main_cst_21, val_main_v88]
/-- The gradient of the context's rows. -/
theorem v157_at (r : Fin 256) (j : Fin 1024) : val_main_v157 (F := Ideal) X W D (ix2 r j)
    = Conv.dx s e (fun k => val_main_v1 (F := Ideal) W (ix2 k j)) (fun r => val_main_v86 (F := Ideal) X W D (ix2 r j)) ⟨r.val, by omega⟩ := by
  unfold Conv.dx
  rw [← Gprep.down_ctx_low, ← Gprep.up_ctx_low]
  pointwise [val_main_v157, val_main_v155, val_main_v154, val_main_v144, val_main_v143, val_main_v133, val_main_v128, val_main_v138, val_main_v149,
    val_main_v127, val_main_v137, val_main_v148, val_main_v23, val_main_v16, val_main_v10, val_main_v22, val_main_v15, val_main_v9,
    val_main_v21, val_main_v14, val_main_v8, val_main_cst_26, val_main_cst_30, val_main_cst_34, val_main_v87]
theorem v160_at (r : Fin 2304) (j : Fin 1024) : val_main_v160 (F := Ideal) X W D (ix2 r j)
    = Conv.dx s e (fun k => val_main_v1 (F := Ideal) W (ix2 k j)) (fun r => val_main_v86 (F := Ideal) X W D (ix2 r j)) r := by
  pointwise [val_main_v160, val_main_v159, val_main_v123, val_main_cst_22, val_main_cst_35]
  by_cases k : r.val < 256
  · rw [dif_neg (by omega), dif_pos k, zero_add]
    exact v157_at X W D ⟨r.val, k⟩ j
  · rw [dif_pos (by omega), dif_neg k, add_zero, v121_at]
    exact congrArg (Conv.dx s e _ _) (Fin.ext (by show 256 + (r.val - 256) = r.val; omega))

/-- The gradient of the weights. -/
theorem v153_at (k : Fin 3) (j : Fin 1024) : val_main_v153 (F := Ideal) X W D (ix2 k j)
    = Conv.dw s e (fun r => val_main_v0 (F := Ideal) X (ix2 r j)) (fun r => val_main_v86 (F := Ideal) X W D (ix2 r j)) k := by
  unfold Conv.dw
  simp only [← Gprep.sum_split]
  pointwise [val_main_v153, val_main_v152, val_main_v151, val_main_v150, val_main_v147, val_main_v146, val_main_v145, val_main_v142, val_main_v141,
    val_main_v140, val_main_v139, val_main_v136, val_main_v135, val_main_v134, val_main_v132, val_main_v131, val_main_v130, val_main_v129,
    val_main_v126, val_main_v125, val_main_v124, val_main_v117, val_main_v116, val_main_v115, val_main_v114, val_main_v111, val_main_v110,
    val_main_v109, val_main_v106, val_main_v105, val_main_v104, val_main_v103, val_main_v100, val_main_v99, val_main_v98, val_main_v96,
    val_main_v95, val_main_v94, val_main_v91, val_main_v90, val_main_v89, val_main_v88, val_main_v87,
    val_main_cst_10, val_main_cst_11, val_main_cst_12, val_main_cst_14, val_main_cst_15, val_main_cst_16, val_main_cst_18, val_main_cst_19, val_main_cst_20,
    val_main_cst_23, val_main_cst_24, val_main_cst_25, val_main_cst_27, val_main_cst_28, val_main_cst_29, val_main_cst_31, val_main_cst_32, val_main_cst_33]
  simp only [v7_at, v13_at, v20_at, v32_at, v38_at, v45_at, Fintype.sum_unique]
  fin_cases k <;> simp

theorem v153_eq : val_main_v153 (F := Ideal) X W D = Gprep.resW Head.hk 20 8 (by decide) (by decide) X W D := by
  funext i
  obtain ⟨k, j, rfl⟩ : ∃ (k : Fin 3) (j : Fin 1024), i = ix2 k j := ⟨i 0, i 1, (ix2_eta i).symm⟩
  obtain ⟨h, d, rfl⟩ : ∃ (h : Fin 8) (d : Fin 128), j = ⟨h.val * 128 + d.val, by omega⟩ :=
    ⟨⟨j.val / 128, by omega⟩, ⟨j.val % 128, by omega⟩, Fin.ext (by show j.val = j.val / 128 * 128 + j.val % 128; omega)⟩
  rw [v153_at]
  simp only [v0_at X W D, v86_at]
  refine congrArg₂ (fun h d => Gprep.headW Head.hk (hd X W D h) k d) (Fin.ext ?_) (Fin.ext ?_)
  · show h.val = (h.val * 128 + d.val) / 128
    omega
  · show d.val = (h.val * 128 + d.val) % 128
    omega
theorem v164_eq : val_main_v164 (F := Ideal) X W D Q = Gprep.resX Head.hk 20 8 (by decide) (by decide) X W D Q := by
  funext i
  obtain ⟨r, q, rfl⟩ : ∃ (r : Fin 2304) (q : Fin 8192), i = ix2 r q := ⟨i 0, i 1, (ix2_eta i).symm⟩
  unfold Gprep.resX
  pointwise [val_main_v164, val_main_v163, val_main_v162, val_main_v161]
  by_cases h1 : q.val < 2560
  · exact (dif_pos h1).trans (if_neg (by omega)).symm
  refine (dif_neg h1).trans ?_
  by_cases h2 : q.val - 2560 < 1024
  · refine (dif_pos h2).trans (Eq.trans ?_ (if_pos ⟨by omega, by omega⟩).symm)
    obtain ⟨h, d, hb, rfl⟩ : ∃ (h : Fin 8) (d : Fin 128) (hb : 2560 + (h.val * 128 + d.val) < 8192), q = ⟨2560 + (h.val * 128 + d.val), hb⟩ :=
      ⟨⟨(q.val - 2560) / 128, by omega⟩, ⟨(q.val - 2560) % 128, by omega⟩, by show 2560 + ((q.val - 2560) / 128 * 128 + (q.val - 2560) % 128) < 8192; omega,
        Fin.ext (by show q.val = 2560 + ((q.val - 2560) / 128 * 128 + (q.val - 2560) % 128); omega)⟩
    refine (congrArg (fun j => val_main_v160 (F := Ideal) X W D (ix2 r j)) (Fin.ext (?_ : _ = h.val * 128 + d.val))).trans
      ((v160_at X W D r ⟨h.val * 128 + d.val, by omega⟩).trans ?_)
    · show 2560 + (h.val * 128 + d.val) - 2560 = h.val * 128 + d.val
      omega
    · simp only [v1_at X W D, v86_at]
      refine congrArg₂ (fun h d => Gprep.headX Head.hk (hd X W D h) r d) (Fin.ext ?_) (Fin.ext ?_)
      · show h.val = ((2560 + (h.val * 128 + d.val)) / 128 - 20) % 8
        omega
      · show d.val = (2560 + (h.val * 128 + d.val)) % 128
        omega
  · refine (dif_neg h2).trans (Eq.trans ?_ (if_neg (by omega)).symm)
    exact congrArg (fun j => Q (ix2 r j)) (Fin.ext (by show 3584 + (q.val - 2560 - 1024) = q.val; omega))

end Cert.Reference17Ideal.Value

namespace Cert.Proof

open Idealize.ShloMosaic

theorem algebraic17 : Cert.algebraic_Kernel17Ideal_Reference17Ideal (hKernel17Ideal := Cert.Kernel17Ideal.Gen.facts)
    (hReference17Ideal := Cert.Reference17Ideal.Gen.facts) := by
  intro m g m' g' _ hagree
  refine ⟨fun c => (Cert.Kernel17Ideal.Gen.dats m 0 c).arrAt 3 Cert.Kernel17Ideal.cfg0.N,
    fun c => (Cert.Kernel17Ideal.Gen.dats m 0 c).arrAt 4 Cert.Kernel17Ideal.cfg0.N,
    Cert.Kernel17Ideal.Value.run_blocks m g, θ_run_mono (Cert.Reference17Ideal.Value.run m' g') fun r hr c => ?_⟩
  obtain ⟨h1, h2, hargs⟩ := hr c
  obtain ⟨e0, e1, e2, e3⟩ := hagree c
  refine ⟨?_, ?_, hargs⟩
  · rw [h1, Cert.Reference17Ideal.Read.val_main_v164_eq, Cert.Reference17Ideal.Value.v164_eq]
    exact (congr (congr (congrArg₂ (Gprep.resX Gprep.Head.hk 20 8 (by decide) (by decide)) e0 e1) e2) e3).trans (Cert.Kernel17Ideal.Value.arr3 m c).symm
  · rw [h2, Cert.Reference17Ideal.Read.val_main_v153_eq, Cert.Reference17Ideal.Value.v153_eq]
    exact (congr (congrArg₂ (Gprep.resW Gprep.Head.hk 20 8 (by decide) (by decide)) e0 e1) e2).trans (Cert.Kernel17Ideal.Value.arr4 m c).symm

/-- The reference runs and leaves its arguments. -/
theorem ref_frame17 : Cert.quiescent_Reference17Ideal (hReference17Ideal := Cert.Reference17Ideal.Gen.facts) := by
  intro m g _
  refine θ_run_mono (Cert.Reference17Ideal.Value.run m g) fun r h => ⟨fun c => (h c).2.2, ?_⟩
  exact sem_eq_zero_of_no_sems (by decide) r.2

end Cert.Proof

end
-- ==== Proof.GprepV.lean ====
/- The gradient of the delta rule's preparation of v. -/
module

public import proofs.«01_k».proof.Defs
public import proofs.«01_k».proof.Proof.Gprep
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel18Ideal.Value

open Cert.Kernel18Ideal Cert.Kernel18Ideal.Gen Idealize.ShloMosaic Idealize.ShloMosaic.TcCoe Idealize.SL.Sem
open Idealize.ShloMosaic.Pipeline (Dat)
open Cert.Gprep (Head ofArrays ofBlocks s e sel_s sel_e)

section Block

variable (x0 : Vec Ideal S2304x128 .f32) (x1 : Vec Ideal S3x128 .f32) (x2 : Vec Ideal S2x1x2304x128 .f32)
  (b c : Vec Ideal S1x1x2304x128 .f32) (r : Fin 2304) (d : Fin 128)

theorem pay2_at : k0_pay2 (F := Ideal) x0 (ix2 r d) = Conv.down s (fun r => x0 (ix2 r d)) r := by
  refine Eq.trans ?_ (sel_s r _ _)
  pointwise [k0_pay2]
theorem pay5_at : k0_pay5 (F := Ideal) x0 (ix2 r d) = Conv.up e (fun r => x0 (ix2 r d)) r := by
  refine Eq.trans ?_ (sel_e r _ _)
  pointwise [k0_pay5]
theorem pay7_at : k0_pay7 (F := Ideal) x0 x1 (ix2 r d) = (ofBlocks x0 x1 x2).y r d := by
  pointwise [k0_pay7, k0_pay3, k0_pay4, k0_pay6]
  rw [pay2_at, pay5_at]
  rfl
theorem pay8_at : k0_pay8 (F := Ideal) x0 x1 (ix2 r d) = (ofBlocks x0 x1 x2).sg r d := by
  pointwise [k0_pay8]
  rw [pay7_at x0 x1 x2]
  rfl
theorem pay9_at : k0_pay9 (F := Ideal) x0 x1 (ix2 r d) = (ofBlocks x0 x1 x2).sg r d * (1 - (ofBlocks x0 x1 x2).sg r d) := by
  pointwise [k0_pay9]
  rw [pay8_at x0 x1 x2]

/-- The gradient of the convolution. -/
theorem pay11_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay11 (F := Ideal) (k0_pay7 x0 x1) (k0_pay8 x0 x1) (k0_pay9 x0 x1) (k0_pay10 b) c (ix2 r d) = (ofBlocks x0 x1 x2).hv r d := by
  pointwise [k0_pay11, k0_pay10]
  rw [pay7_at x0 x1 x2, pay8_at x0 x1 x2, pay9_at x0 x1 x2, hb, hc]
  rfl
theorem pay1_at (hb : ∀ (r : Fin 2304) (d : Fin 128), b (ix4 0 0 r d) = x2 (ix4 0 0 r d))
    (hc : ∀ (r : Fin 2304) (d : Fin 128), c (ix4 0 0 r d) = x2 (ix4 1 0 r d)) :
    k0_pay1 (F := Ideal) (k0_pay12 (k0_pay4 x1) (k0_pay6 x1) (k0_pay7 x0 x1) (k0_pay8 x0 x1) (k0_pay9 x0 x1) (k0_pay10 b) c)
      (k0_pay14 (k0_pay3 x1) (k0_pay7 x0 x1) (k0_pay8 x0 x1) (k0_pay9 x0 x1) (k0_pay10 b) c) k0_pay15 k0_pay16 (ix2 r d)
      = Gprep.headX Head.hv (ofBlocks x0 x1 x2) r d := by
  pointwise [k0_pay1, k0_pay12, k0_pay14, k0_pay15, k0_pay16, k0_pay3, k0_pay4, k0_pay6]
  simp only [sel_s, sel_e, pay11_at x0 x1 x2 b c _ _ hb hc]
  rfl
theorem pay13_at (hb : ∀ (r : Fin 2304) (d : Fin 128), b (ix4 0 0 r d) = x2 (ix4 0 0 r d))
    (hc : ∀ (r : Fin 2304) (d : Fin 128), c (ix4 0 0 r d) = x2 (ix4 1 0 r d)) (k : Fin 3) :
    k0_pay13 (F := Ideal) x0 (k0_pay2 x0) (k0_pay5 x0) (k0_pay7 x0 x1) (k0_pay8 x0 x1) (k0_pay9 x0 x1) (k0_pay10 b) c (ix2 k d)
      = Gprep.headW Head.hv (ofBlocks x0 x1 x2) k d := by
  unfold Gprep.headW
  rw [← Conv.dw_rows]
  pointwise [k0_pay13]
  simp only [pay11_at x0 x1 x2 b c _ _ hb hc, pay2_at, pay5_at]
  rfl

end Block

variable (m : (ℓ : Loc nD τ sig) → Buf (Elt Ideal) ℓ) (c : Dev nD)

/-- A point's head. -/
abbrev head (t : Fin cfg0.N) : Head := ofBlocks (iblk m c 0 t) (iblk m c 1 t) (iblk m c 2 t)

theorem out3 (t : Fin cfg0.N) (r : Fin 2304) (d : Fin 128) : (outsAt0 m c t).1 (ix2 r d) = Gprep.headX Head.hv (head m c t) r d := by
  dsimp only [outsAt0]
  frame_out
  exact pay1_at (iblk m c 0 t) (iblk m c 1 t) (iblk m c 2 t) _ _ r d (fun r d => by pointwise) (fun r d => by pointwise)
theorem out4 (t : Fin cfg0.N) (k : Fin 3) (d : Fin 128) : (outsAt0 m c t).2 (ix2 k d) = Gprep.headW Head.hv (head m c t) k d := by
  dsimp only [outsAt0]
  frame_out
  exact pay13_at (iblk m c 0 t) (iblk m c 1 t) (iblk m c 2 t) _ _ d (fun r d => by pointwise) (fun r d => by pointwise) k

theorem idx : ∀ t : Fin cfg0.N, win0_0.index t = ![0, t.val + 28] ∧ win0_1.index t = ![0, t.val + 16] ∧ win0_2.index t = ![0, t.val, 0, 0]
    ∧ win0_3.index t = ![0, t.val + 28] ∧ win0_4.index t = ![0, t.val] :=
  (by decide +kernel : ∀ t : Fin grid0.N, _)

theorem iblk0 (t : Fin cfg0.N) (r : Fin 2304) (d : Fin 128) : iblk m c 0 t (ix2 r d)
    = m ((c : Thread nD τ).loc main_arg0) (ix2 r ⟨3584 + (t.val * 128 + d.val), by have := t.isLt; have : t.val < 8 := this; omega⟩) := by
  blk_point [iblk, V, idx t]
theorem iblk1 (t : Fin cfg0.N) (k : Fin 3) (d : Fin 128) : iblk m c 1 t (ix2 k d)
    = m ((c : Thread nD τ).loc main_arg1) (ix2 k ⟨2048 + (t.val * 128 + d.val), by have := t.isLt; have : t.val < 8 := this; omega⟩) := by
  blk_point [iblk, V, idx t]
theorem iblk2 (t : Fin cfg0.N) (p : Fin 2) (r : Fin 2304) (d : Fin 128) : iblk m c 2 t (ix4 p 0 r d)
    = m ((c : Thread nD τ).loc main_arg2) (ix4 p ⟨t.val, t.isLt⟩ r d) := by
  blk_point [iblk, V, idx t]

/-- The head that a grid point's blocks hold. -/
theorem heads (t : Fin cfg0.N) : head m c t = ofArrays 28 16 (by decide) (by decide) (m ((c : Thread nD τ).loc main_arg0)) (m ((c : Thread nD τ).loc main_arg1))
    (m ((c : Thread nD τ).loc main_arg2)) ⟨t.val, t.isLt⟩ := by
  simp only [head, ofBlocks, ofArrays, iblk0, iblk1, iblk2]

theorem emb3 (t : Fin cfg0.N) (r : Fin 2304) (d : Fin 128) : ((View.whole main_v0_0).slice (win0_3.rect t)).emb (ix2 r d)
    = ix2 r ⟨3584 + (t.val * 128 + d.val), by have := t.isLt; have : t.val < 8 := this; omega⟩ := by
  funext b
  fin_cases b <;> apply Fin.ext <;> blk_simp [idx t]
  · rfl
  show (t.val + 28) * 128 + d.val = 3584 + (t.val * 128 + d.val)
  omega
theorem emb4 (t : Fin cfg0.N) (k : Fin 3) (d : Fin 128) : ((View.whole main_v0_1).slice (win0_4.rect t)).emb (ix2 k d)
    = ix2 k ⟨t.val * 128 + d.val, by have := t.isLt; have : t.val < 8 := this; omega⟩ := by
  funext b
  fin_cases b <;> apply Fin.ext <;> blk_simp [idx t] <;> rfl

/-- The projection's gradient starts as the one it is written into. -/
theorem entry : V m c main_v0_0 = m ((c : Thread nD τ).loc main_arg3) := by
  unfold V
  after_results
  rfl

theorem arr3 : (dats m 0 c).arrAt 3 cfg0.N = Gprep.resX Head.hv 28 16 (by decide) (by decide) (m ((c : Thread nD τ).loc main_arg0))
    (m ((c : Thread nD τ).loc main_arg1)) (m ((c : Thread nD τ).loc main_arg2)) (m ((c : Thread nD τ).loc main_arg3)) := by
  refine ((dats m 0 c).arrAt_eq_of_coversWhere 3 (Gprep.cols Head.hv 28 16 (by decide) (by decide) (m ((c : Thread nD τ).loc main_arg0))
    (m ((c : Thread nD τ).loc main_arg1)) (m ((c : Thread nD τ).loc main_arg2))) (P := fun i => 28 ≤ (i (1 : Fin 2)).val / 128 ∧ (i (1 : Fin 2)).val / 128 < 28 + 8)
    (fun β => 28 ≤ β (1 : Fin 2) ∧ β (1 : Fin 2) < 28 + 8) (by decide +kernel) (fun t hf y => ?_) (fun j => Iff.rfl)).trans ?_
  · blk_simp
    rw [after0_3]
    obtain ⟨r, d, rfl⟩ : ∃ (r : Fin 2304) (d : Fin 128), y = ix2 r d := ⟨y 0, y 1, (ix2_eta y).symm⟩
    have ht : t.val < 8 := t.isLt
    rw [emb3, out3, heads]
    refine congrArg₂ (fun h e => Gprep.headX Head.hv (ofArrays 28 16 (by decide) (by decide) (m ((c : Thread nD τ).loc main_arg0))
      (m ((c : Thread nD τ).loc main_arg1)) (m ((c : Thread nD τ).loc main_arg2)) h) r e) (Fin.ext ?_) (Fin.ext ?_)
    · show t.val = ((3584 + (t.val * 128 + d.val)) / 128 - 28) % 8
      omega
    · show d.val = (3584 + (t.val * 128 + d.val)) % 128
      omega
  · funext i
    show (if _ then _ else V m c main_v0_0 i) = _
    rw [entry]
    rfl

theorem arr4 : (dats m 0 c).arrAt 4 cfg0.N = Gprep.resW Head.hv 28 16 (by decide) (by decide) (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  obtain ⟨k, d, rfl⟩ : ∃ (k : Fin 3) (d : Fin 128), y = ix2 k d := ⟨y 0, y 1, (ix2_eta y).symm⟩
  have ht : t.val < 8 := t.isLt
  rw [emb4, out4, heads]
  refine congrArg₂ (fun h e => Gprep.headW Head.hv (ofArrays 28 16 (by decide) (by decide) (m ((c : Thread nD τ).loc main_arg0))
    (m ((c : Thread nD τ).loc main_arg1)) (m ((c : Thread nD τ).loc main_arg2)) h) k e) (Fin.ext ?_) (Fin.ext ?_)
  · show t.val = (t.val * 128 + d.val) / 128
    omega
  · show d.val = (t.val * 128 + d.val) % 128
    omega

end Cert.Kernel18Ideal.Value

namespace Cert.Reference18Ideal.Value

open Cert.Reference18Ideal Cert.Reference18Ideal.Read Idealize.ShloMosaic Idealize.ShloMosaic.TcCoe Idealize.SL.Sem
open Cert.Gprep (Head ofArrays s e)

variable (X : Vec Ideal S2304x8192 .f32) (W : Vec Ideal S3x3072 .f32) (D : Vec Ideal S2x8x2304x128 .f32) (Q : Vec Ideal S2304x8192 .bf16)

/-- The head `h` of the arrays. -/
abbrev hd (h : Fin 8) : Head := ofArrays 28 16 (by decide) (by decide) X W D h

theorem v0_at (r : Fin 2304) (h : Fin 8) (d : Fin 128) : val_main_v0 (F := Ideal) X (ix2 r ⟨h.val * 128 + d.val, by omega⟩) = (hd X W D h).x r d := by
  pointwise [val_main_v0]
  rfl
theorem v1_at (k : Fin 3) (h : Fin 8) (d : Fin 128) : val_main_v1 (F := Ideal) W (ix2 k ⟨h.val * 128 + d.val, by omega⟩) = (hd X W D h).w k d := by
  pointwise [val_main_v1]
  rfl

theorem v7_at (r : Fin 256) (j : Fin 1024) : val_main_v7 (F := Ideal) X (ix2 r j)
    = Conv.down s (fun r => val_main_v0 (F := Ideal) X (ix2 r j)) ⟨r.val, by omega⟩ := by
  refine Eq.trans ?_ (Gprep.down_ctx _ r)
  pointwise [val_main_v7, val_main_v4, val_main_v3, val_main_cst, val_main_v5, val_main_cst_0, val_main_v6, val_main_cst_1, val_main_v2]
theorem v13_at (r : Fin 256) (j : Fin 1024) : val_main_v13 (F := Ideal) X (ix2 r j) = val_main_v0 (F := Ideal) X (ix2 ⟨r.val, by omega⟩ j) := by
  pointwise [val_main_v13, val_main_v4, val_main_v3, val_main_cst, val_main_v5, val_main_cst_0, val_main_v6, val_main_cst_1, val_main_v2]
theorem v20_at (r : Fin 256) (j : Fin 1024) : val_main_v20 (F := Ideal) X (ix2 r j)
    = Conv.up e (fun r => val_main_v0 (F := Ideal) X (ix2 r j)) ⟨r.val, by omega⟩ := by
  refine Eq.trans ?_ (Gprep.up_ctx _ r)
  pointwise [val_main_v20, val_main_v4, val_main_v3, val_main_cst, val_main_v5, val_main_cst_0, val_main_v6, val_main_cst_1, val_main_v2]
theorem v32_at (r : Fin 2048) (j : Fin 1024) : val_main_v32 (F := Ideal) X (ix2 r j)
    = Conv.down s (fun r => val_main_v0 (F := Ideal) X (ix2 r j)) ⟨256 + r.val, by omega⟩ := by
  refine Eq.trans ?_ (Gprep.down_lat _ r)
  pointwise [val_main_v32, val_main_v29, val_main_v28, val_main_cst_2, val_main_v30, val_main_cst_3, val_main_v31, val_main_cst_4, val_main_v27]
theorem v38_at (r : Fin 2048) (j : Fin 1024) : val_main_v38 (F := Ideal) X (ix2 r j) = val_main_v0 (F := Ideal) X (ix2 ⟨256 + r.val, by omega⟩ j) := by
  pointwise [val_main_v38, val_main_v29, val_main_v28, val_main_cst_2, val_main_v30, val_main_cst_3, val_main_v31, val_main_cst_4, val_main_v27]
theorem v45_at (r : Fin 2048) (j : Fin 1024) : val_main_v45 (F := Ideal) X (ix2 r j)
    = Conv.up e (fun r => val_main_v0 (F := Ideal) X (ix2 r j)) ⟨256 + r.val, by omega⟩ := by
  refine Eq.trans ?_ (Gprep.up_lat _ r)
  pointwise [val_main_v45, val_main_v29, val_main_v28, val_main_cst_2, val_main_v30, val_main_cst_3, val_main_v31, val_main_cst_4, val_main_v27]

theorem v26_at (r : Fin 256) (j : Fin 1024) : val_main_v26 (F := Ideal) X W (ix2 r j)
    = Conv.conv s e (fun r => val_main_v0 (F := Ideal) X (ix2 r j)) (fun k => val_main_v1 (F := Ideal) W (ix2 k j)) ⟨r.val, by omega⟩ := by
  pointwise [val_main_v26, val_main_v25, val_main_v24, val_main_v23, val_main_v22, val_main_v21, val_main_v19, val_main_v18, val_main_v17, val_main_v16,
    val_main_v15, val_main_v14, val_main_v12, val_main_v11, val_main_v10, val_main_v9, val_main_v8]
  rw [v7_at, v13_at, v20_at]
  rfl
theorem v51_at (r : Fin 2048) (j : Fin 1024) : val_main_v51 (F := Ideal) X W (ix2 r j)
    = Conv.conv s e (fun r => val_main_v0 (F := Ideal) X (ix2 r j)) (fun k => val_main_v1 (F := Ideal) W (ix2 k j)) ⟨256 + r.val, by omega⟩ := by
  pointwise [val_main_v51, val_main_v50, val_main_v49, val_main_v48, val_main_v47, val_main_v46, val_main_v44, val_main_v43, val_main_v42, val_main_v41,
    val_main_v40, val_main_v39, val_main_v37, val_main_v36, val_main_v35, val_main_v34, val_main_v33]
  rw [v32_at, v38_at, v45_at]
  rfl
/-- The convolution. -/
theorem v52_at (r : Fin 2304) (h : Fin 8) (d : Fin 128) :
    val_main_v52 (F := Ideal) X W (ix2 r ⟨h.val * 128 + d.val, by omega⟩) = (hd X W D h).y r d := by
  unfold Head.y
  simp only [← v0_at, ← v1_at]
  pointwise [val_main_v52]
  by_cases k : r.val < 256
  · rw [dif_pos k]
    exact v26_at X W ⟨r.val, k⟩ _
  · rw [dif_neg k, v51_at]
    exact congrArg (Conv.conv s e _ _) (Fin.ext (by show 256 + (r.val - 256) = r.val; omega))
theorem v53_at (r : Fin 2304) (h : Fin 8) (d : Fin 128) :
    val_main_v53_2 (F := Ideal) X W (ix2 r ⟨h.val * 128 + d.val, by omega⟩) = (hd X W D h).sg r d := by
  pointwise [val_main_v53_2, val_main_call0_v4, val_main_call0_v3, val_main_call0_v2, val_main_call0_v1, val_main_call0_v0,
    val_main_call0_cst, val_main_call0_cst_0]
  rw [v52_at X W D]
  rfl
theorem v62_at (r : Fin 2304) (h : Fin 8) (d : Fin 128) :
    val_main_v62 (F := Ideal) D (ix2 r ⟨h.val * 128 + d.val, by omega⟩) = (hd X W D h).g r d := by
  pointwise [val_main_v62, val_main_v61, val_main_v60, val_main_v59, val_main_v58, val_main_v57, val_main_v56]
  rfl
/-- The gradient of the convolution. -/
theorem v63_at (r : Fin 2304) (h : Fin 8) (d : Fin 128) :
    val_main_v63 (F := Ideal) X W D (ix2 r ⟨h.val * 128 + d.val, by omega⟩) = (hd X W D h).hv r d := by
  pointwise [val_main_v63, val_main_call1_v2, val_main_call1_v1, val_main_call1_v0, val_main_v53_1, val_main_call0_v7, val_main_call0_v6, val_main_call0_cst_1]
  rw [v62_at, v53_at X W D, v52_at X W D]
  rfl

/-- The gradient of the latents' rows. -/
theorem v98_at (r : Fin 2048) (j : Fin 1024) : val_main_v98 (F := Ideal) X W D (ix2 r j)
    = Conv.dx s e (fun k => val_main_v1 (F := Ideal) W (ix2 k j)) (fun r => val_main_v63 (F := Ideal) X W D (ix2 r j)) ⟨256 + r.val, by omega⟩ := by
  unfold Conv.dx
  rw [← Gprep.down_lat_low, ← Gprep.up_lat_low]
  pointwise [val_main_v98, val_main_v96, val_main_v95, val_main_v85, val_main_v84, val_main_v74, val_main_v70, val_main_v79, val_main_v90,
    val_main_v69, val_main_v78, val_main_v89, val_main_v48, val_main_v41, val_main_v35, val_main_v47, val_main_v40, val_main_v34,
    val_main_v46, val_main_v39, val_main_v33, val_main_cst_8, val_main_cst_12, val_main_cst_16, val_main_v65]
/-- The gradient of the context's rows. -/
theorem v134_at (r : Fin 256) (j : Fin 1024) : val_main_v134 (F := Ideal) X W D (ix2 r j)
    = Conv.dx s e (fun k => val_main_v1 (F := Ideal) W (ix2 k j)) (fun r => val_main_v63 (F := Ideal) X W D (ix2 r j)) ⟨r.val, by omega⟩ := by
  unfold Conv.dx
  rw [← Gprep.down_ctx_low, ← Gprep.up_ctx_low]
  pointwise [val_main_v134, val_main_v132, val_main_v131, val_main_v121, val_main_v120, val_main_v110, val_main_v105, val_main_v115, val_main_v126,
    val_main_v104, val_main_v114, val_main_v125, val_main_v23, val_main_v16, val_main_v10, val_main_v22, val_main_v15, val_main_v9,
    val_main_v21, val_main_v14, val_main_v8, val_main_cst_21, val_main_cst_25, val_main_cst_29, val_main_v64]
theorem v137_at (r : Fin 2304) (j : Fin 1024) : val_main_v137 (F := Ideal) X W D (ix2 r j)
    = Conv.dx s e (fun k => val_main_v1 (F := Ideal) W (ix2 k j)) (fun r => val_main_v63 (F := Ideal) X W D (ix2 r j)) r := by
  pointwise [val_main_v137, val_main_v136, val_main_v100, val_main_cst_17, val_main_cst_30]
  by_cases k : r.val < 256
  · rw [dif_neg (by omega), dif_pos k, zero_add]
    exact v134_at X W D ⟨r.val, k⟩ j
  · rw [dif_pos (by omega), dif_neg k, add_zero, v98_at]
    exact congrArg (Conv.dx s e _ _) (Fin.ext (by show 256 + (r.val - 256) = r.val; omega))

/-- The gradient of the weights. -/
theorem v130_at (k : Fin 3) (j : Fin 1024) : val_main_v130 (F := Ideal) X W D (ix2 k j)
    = Conv.dw s e (fun r => val_main_v0 (F := Ideal) X (ix2 r j)) (fun r => val_main_v63 (F := Ideal) X W D (ix2 r j)) k := by
  unfold Conv.dw
  simp only [← Gprep.sum_split]
  pointwise [val_main_v130, val_main_v129, val_main_v128, val_main_v127, val_main_v124, val_main_v123, val_main_v122, val_main_v119, val_main_v118,
    val_main_v117, val_main_v116, val_main_v113, val_main_v112, val_main_v111, val_main_v109, val_main_v108, val_main_v107, val_main_v106,
    val_main_v103, val_main_v102, val_main_v101, val_main_v94, val_main_v93, val_main_v92, val_main_v91, val_main_v88, val_main_v87,
    val_main_v86, val_main_v83, val_main_v82, val_main_v81, val_main_v80, val_main_v77, val_main_v76, val_main_v75, val_main_v73,
    val_main_v72, val_main_v71, val_main_v68, val_main_v67, val_main_v66, val_main_v65, val_main_v64,
    val_main_cst_5, val_main_cst_6, val_main_cst_7, val_main_cst_9, val_main_cst_10, val_main_cst_11, val_main_cst_13, val_main_cst_14, val_main_cst_15,
    val_main_cst_18, val_main_cst_19, val_main_cst_20, val_main_cst_22, val_main_cst_23, val_main_cst_24, val_main_cst_26, val_main_cst_27, val_main_cst_28]
  simp only [v7_at, v13_at, v20_at, v32_at, v38_at, v45_at, Fintype.sum_unique]
  fin_cases k <;> simp

theorem v130_eq : val_main_v130 (F := Ideal) X W D = Gprep.resW Head.hv 28 16 (by decide) (by decide) X W D := by
  funext i
  obtain ⟨k, j, rfl⟩ : ∃ (k : Fin 3) (j : Fin 1024), i = ix2 k j := ⟨i 0, i 1, (ix2_eta i).symm⟩
  obtain ⟨h, d, rfl⟩ : ∃ (h : Fin 8) (d : Fin 128), j = ⟨h.val * 128 + d.val, by omega⟩ :=
    ⟨⟨j.val / 128, by omega⟩, ⟨j.val % 128, by omega⟩, Fin.ext (by show j.val = j.val / 128 * 128 + j.val % 128; omega)⟩
  rw [v130_at]
  simp only [v0_at X W D, v63_at]
  refine congrArg₂ (fun h d => Gprep.headW Head.hv (hd X W D h) k d) (Fin.ext ?_) (Fin.ext ?_)
  · show h.val = (h.val * 128 + d.val) / 128
    omega
  · show d.val = (h.val * 128 + d.val) % 128
    omega
theorem v141_eq : val_main_v141 (F := Ideal) X W D Q = Gprep.resX Head.hv 28 16 (by decide) (by decide) X W D Q := by
  funext i
  obtain ⟨r, q, rfl⟩ : ∃ (r : Fin 2304) (q : Fin 8192), i = ix2 r q := ⟨i 0, i 1, (ix2_eta i).symm⟩
  unfold Gprep.resX
  pointwise [val_main_v141, val_main_v140, val_main_v139, val_main_v138]
  by_cases h1 : q.val < 3584
  · exact (dif_pos h1).trans (if_neg (by omega)).symm
  refine (dif_neg h1).trans ?_
  by_cases h2 : q.val - 3584 < 1024
  · refine (dif_pos h2).trans (Eq.trans ?_ (if_pos ⟨by omega, by omega⟩).symm)
    obtain ⟨h, d, hb, rfl⟩ : ∃ (h : Fin 8) (d : Fin 128) (hb : 3584 + (h.val * 128 + d.val) < 8192), q = ⟨3584 + (h.val * 128 + d.val), hb⟩ :=
      ⟨⟨(q.val - 3584) / 128, by omega⟩, ⟨(q.val - 3584) % 128, by omega⟩, by show 3584 + ((q.val - 3584) / 128 * 128 + (q.val - 3584) % 128) < 8192; omega,
        Fin.ext (by show q.val = 3584 + ((q.val - 3584) / 128 * 128 + (q.val - 3584) % 128); omega)⟩
    refine (congrArg (fun j => val_main_v137 (F := Ideal) X W D (ix2 r j)) (Fin.ext (?_ : _ = h.val * 128 + d.val))).trans
      ((v137_at X W D r ⟨h.val * 128 + d.val, by omega⟩).trans ?_)
    · show 3584 + (h.val * 128 + d.val) - 3584 = h.val * 128 + d.val
      omega
    · simp only [v1_at X W D, v63_at]
      refine congrArg₂ (fun h d => Gprep.headX Head.hv (hd X W D h) r d) (Fin.ext ?_) (Fin.ext ?_)
      · show h.val = ((3584 + (h.val * 128 + d.val)) / 128 - 28) % 8
        omega
      · show d.val = (3584 + (h.val * 128 + d.val)) % 128
        omega
  · refine (dif_neg h2).trans (Eq.trans ?_ (if_neg (by omega)).symm)
    exact congrArg (fun j => Q (ix2 r j)) (Fin.ext (by show 4608 + (q.val - 3584 - 1024) = q.val; omega))

end Cert.Reference18Ideal.Value

namespace Cert.Proof

open Idealize.ShloMosaic

theorem algebraic18 : Cert.algebraic_Kernel18Ideal_Reference18Ideal (hKernel18Ideal := Cert.Kernel18Ideal.Gen.facts)
    (hReference18Ideal := Cert.Reference18Ideal.Gen.facts) := by
  intro m g m' g' _ hagree
  refine ⟨fun c => (Cert.Kernel18Ideal.Gen.dats m 0 c).arrAt 3 Cert.Kernel18Ideal.cfg0.N,
    fun c => (Cert.Kernel18Ideal.Gen.dats m 0 c).arrAt 4 Cert.Kernel18Ideal.cfg0.N,
    Cert.Kernel18Ideal.Value.run_blocks m g, θ_run_mono (Cert.Reference18Ideal.Value.run m' g') fun r hr c => ?_⟩
  obtain ⟨h1, h2, hargs⟩ := hr c
  obtain ⟨e0, e1, e2, e3⟩ := hagree c
  refine ⟨?_, ?_, hargs⟩
  · rw [h1, Cert.Reference18Ideal.Read.val_main_v141_eq, Cert.Reference18Ideal.Value.v141_eq]
    exact (congr (congr (congrArg₂ (Gprep.resX Gprep.Head.hv 28 16 (by decide) (by decide)) e0 e1) e2) e3).trans (Cert.Kernel18Ideal.Value.arr3 m c).symm
  · rw [h2, Cert.Reference18Ideal.Read.val_main_v130_eq, Cert.Reference18Ideal.Value.v130_eq]
    exact (congr (congrArg₂ (Gprep.resW Gprep.Head.hv 28 16 (by decide) (by decide)) e0 e1) e2).trans (Cert.Kernel18Ideal.Value.arr4 m c).symm

/-- The reference runs and leaves its arguments. -/
theorem ref_frame18 : Cert.quiescent_Reference18Ideal (hReference18Ideal := Cert.Reference18Ideal.Gen.facts) := by
  intro m g _
  refine θ_run_mono (Cert.Reference18Ideal.Value.run m g) fun r h => ⟨fun c => (h c).2.2, ?_⟩
  exact sem_eq_zero_of_no_sems (by decide) r.2

end Cert.Proof

end
-- ==== Proof.Norm.lean ====
/- The gradient of a row normed, scaled and shifted. -/
module

public import Idealize.ShloMosaic.Lib.IdealHost
public import Idealize.ShloMosaic.Lib.Pipeline.ValueKit
public import proofs.«01_k».proof.Proof.Tiles

@[expose] public section

noncomputable section

namespace Cert.Norm

open Idealize.ShloMosaic

/-- One row: what is normed, the scale added to one, and the gradient of the modulated row. -/
structure Row where
  x : Fin 1024 → EReal
  s : Fin 1024 → EReal
  y : Fin 1024 → EReal

namespace Row
variable (R : Row)

/-- The mean of the squares and the constant. -/
def var : EReal := Ideal.div (∑ d, R.x d * R.x d) (Ideal.ofBits FTy.f32 0x44800000#32) + Ideal.ofBits FTy.f32 0x358637BD#32
def rs : EReal := Ideal.rsqrt R.var
/-- The derivative of the inverse root. -/
def drs : EReal := Ideal.ofBits FTy.f32 0xBF000000#32 * Ideal.div R.rs R.var
/-- The gradient of the normed row. -/
def hn (d : Fin 1024) : EReal := R.y d * (1 + R.s d)
/-- The row's part of the gradient of the scale. -/
def gs (d : Fin 1024) : EReal := R.x d * R.rs * R.y d
def q : EReal := Ideal.div ((∑ d, R.x d * R.hn d) * R.drs) (Ideal.ofBits FTy.f32 0x44800000#32)
/-- The gradient of what is normed. -/
def gx (d : Fin 1024) : EReal := R.hn d * R.rs + R.x d * R.q + R.q * R.x d
end Row

section Arrays
variable {a b : ℕ} (o : ℕ) (ho : o + a ≤ b) (k : Fin 6)
  (X : (⟨2, ![a, 1024]⟩ : Shape).Idx → EReal) (M : (⟨2, ![6, 1024]⟩ : Shape).Idx → EReal) (D : (⟨2, ![b, 1024]⟩ : Shape).Idx → EReal)
  (Q : (⟨2, ![a, 1024]⟩ : Shape).Idx → EReal)

/-- Row `n` of whole arrays: the scale is row `k`, and the gradient skips `o` rows. -/
def ofArrays (n : Fin a) : Row where
  x d := X (ix2 n d)
  s d := M (ix2 k d)
  y d := D (ix2 ⟨o + n.val, by omega⟩ d)

/-- The gradient of what is normed. -/
def grad : (⟨2, ![a, 1024]⟩ : Shape).Idx → EReal := fun i => (ofArrays o ho k X M D (i 0)).gx (i 1)
/-- The same with the gradient that went past the norm. -/
def resX : (⟨2, ![a, 1024]⟩ : Shape).Idx → EReal := fun i => grad o ho k X M D i + Q i
/-- The gradient of the shift. -/
def shift : (⟨2, ![1, 1024]⟩ : Shape).Idx → EReal := fun i => ∑ n, (ofArrays o ho k X M D n).y (i 1)
/-- The gradient of the scale. -/
def scale : (⟨2, ![1, 1024]⟩ : Shape).Idx → EReal := fun i => ∑ n, (ofArrays o ho k X M D n).gs (i 1)
end Arrays

/-- Row `n` of the parts that a grid point loads. -/
def part (x : (⟨2, ![256, 1024]⟩ : Shape).Idx → EReal) (s : Fin 1024 → EReal) (y : (⟨2, ![256, 1024]⟩ : Shape).Idx → EReal) (n : Fin 256) : Row where
  x d := x (ix2 n d)
  s d := s d
  y d := y (ix2 n d)

/-- Eight blocks of 256 rows, summed one by one. -/
theorem sum_rows (f : Fin 2048 → EReal) (h : ∀ (s : Fin 8) (r : Fin 256), s.val * 256 + r.val < 2048) :
    ∑ s : Fin 8, ∑ r : Fin 256, f ⟨s.val * 256 + r.val, h s r⟩ = ∑ n, f n := by
  rw [← Tiles.sum_tiles 8 256 2048 rfl f (fun s r => by have := h s r; omega)]
  exact Finset.sum_congr rfl fun s _ => Finset.sum_congr rfl fun r _ => congrArg f (Fin.ext (by show s.val * 256 + r.val = 256 * s.val + r.val; omega))

end Cert.Norm

end
-- ==== Proof.NormX.lean ====
/- The gradient of the first norm of the latents. -/
module

public import proofs.«01_k».proof.Defs
public import proofs.«01_k».proof.Proof.Norm
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel19Ideal.Value

open Cert.Kernel19Ideal Cert.Kernel19Ideal.Gen Idealize.ShloMosaic Idealize.ShloMosaic.TcCoe Idealize.SL.Sem
open Idealize.ShloMosaic.Pipeline (Dat)
open Cert.Norm (Row ofArrays part)

section Block

variable (x : Vec Ideal S256x1024 .f32) (s : Vec Ideal S1x1024 .f32) (y : Vec Ideal S256x1024 .f32) (w : Fin 1024 → EReal)
  (r : Fin 256) (d : Fin 1024)

theorem pay6_at : k0_pay6 (F := Ideal) x (ix2 r 0) = (part x w y r).var := by
  pointwise [k0_pay6]
  rfl
theorem pay7_at : k0_pay7 (F := Ideal) x (ix2 r 0) = (part x w y r).rs := by
  pointwise [k0_pay7]
  rw [pay6_at x y w]
  rfl
theorem pay9_at : k0_pay9 (F := Ideal) y (ix2 0 d) = ∑ r, (part x w y r).y d := by
  pointwise [k0_pay9]
  rfl
theorem pay10_at : k0_pay10 (F := Ideal) x y (ix2 0 d) = ∑ r, (part x w y r).gs d := by
  pointwise [k0_pay10, k0_pay8]
  simp only [pay7_at x y w]
  rfl
theorem pay11_at (hs : ∀ d, s (ix2 0 d) = w d) : k0_pay11 (F := Ideal) s x y (ix2 r d) = (part x w y r).gx d := by
  pointwise [k0_pay11, k0_pay8]
  simp only [Fintype.sum_unique]
  simp only [hs]
  rw [show (default : Fin 1) = 0 from rfl, pay7_at x y w, pay6_at x y w]
  rfl
theorem pay1_at (hs : ∀ d, s (ix2 0 d) = w d) (q : Vec Ideal S256x1024 .f32) :
    k0_pay1 (F := Ideal) (k0_pay11 s x y) q (ix2 r d) = (part x w y r).gx d + q (ix2 r d) := by
  pointwise [k0_pay1]
  rw [pay11_at x s y w r d hs]

end Block

variable (m : (ℓ : Loc nD τ sig) → Buf (Elt Ideal) ℓ) (c : Dev nD)

/-- A point's row. -/
abbrev row (t : Fin cfg0.N) (r : Fin 256) : Row := part (iblk m c 0 t) (fun d => iblk m c 1 t (ix2 1 d)) (iblk m c 2 t) r

theorem out4 (t : Fin cfg0.N) (r : Fin 256) (d : Fin 1024) :
    (outsAt0 m c t.val t.isLt).1 (ix2 r d) = (row m c t r).gx d + iblk m c 3 t (ix2 r d) := by
  by_cases h : t.val % 8 = 0
  · rw [outsAt0_A m c t h]
    frame_out
    exact pay1_at (iblk m c 0 t) _ (iblk m c 2 t) (fun d => iblk m c 1 t (ix2 1 d)) r d (fun d => by pointwise) (iblk m c 3 t)
  · rw [outsAt0_B m c t h]
    frame_out
    exact pay1_at (iblk m c 0 t) _ (iblk m c 2 t) (fun d => iblk m c 1 t (ix2 1 d)) r d (fun d => by pointwise) (iblk m c 3 t)

theorem idx : ∀ t : Fin cfg0.N, win0_0.index t = ![t.val, 0] ∧ win0_1.index t = ![0, 0] ∧ win0_2.index t = ![t.val + 1, 0]
    ∧ win0_3.index t = ![t.val, 0] ∧ win0_4.index t = ![t.val, 0] ∧ win0_5.index t = ![0, 0] ∧ win0_6.index t = ![0, 0] :=
  (by decide +kernel : ∀ t : Fin grid0.N, _)

theorem lt (t : Fin cfg0.N) : t.val < 8 := t.isLt

theorem iblk0 (t : Fin cfg0.N) (r : Fin 256) (d : Fin 1024) : iblk m c 0 t (ix2 r d)
    = m ((c : Thread nD τ).loc main_arg0) (ix2 ⟨t.val * 256 + r.val, by have := lt t; omega⟩ d) := by
  blk_point [iblk, V, idx t]
theorem iblk1 (t : Fin cfg0.N) (k : Fin 6) (d : Fin 1024) : iblk m c 1 t (ix2 k d) = m ((c : Thread nD τ).loc main_arg1) (ix2 k d) := by
  blk_point [iblk, V, idx t]
theorem iblk2 (t : Fin cfg0.N) (r : Fin 256) (d : Fin 1024) : iblk m c 2 t (ix2 r d)
    = m ((c : Thread nD τ).loc main_arg2) (ix2 ⟨256 + (t.val * 256 + r.val), by have := lt t; omega⟩ d) := by
  blk_point [iblk, V, idx t]
theorem iblk3 (t : Fin cfg0.N) (r : Fin 256) (d : Fin 1024) : iblk m c 3 t (ix2 r d)
    = m ((c : Thread nD τ).loc main_arg3) (ix2 ⟨t.val * 256 + r.val, by have := lt t; omega⟩ d) := by
  blk_point [iblk, V, idx t]

theorem fits : 256 + 2048 ≤ 2304 := by decide

/-- Row `n` of the arguments. -/
abbrev whole (n : Fin 2048) : Row := ofArrays 256 fits 1 (m ((c : Thread nD τ).loc main_arg0)) (m ((c : Thread nD τ).loc main_arg1))
    (m ((c : Thread nD τ).loc main_arg2)) n

theorem rows (t : Fin cfg0.N) (r : Fin 256) : row m c t r = whole m c ⟨t.val * 256 + r.val, by have := lt t; omega⟩ := by
  simp only [row, whole, part, ofArrays, iblk0, iblk1, iblk2]

theorem emb4 (t : Fin cfg0.N) (r : Fin 256) (d : Fin 1024) : ((View.whole main_v0_0).slice (win0_4.rect t)).emb (ix2 r d)
    = ix2 ⟨t.val * 256 + r.val, by have := lt t; omega⟩ d := by
  funext b
  fin_cases b <;> apply Fin.ext <;> blk_simp [idx t] <;> rfl
theorem emb5 (t : Fin cfg0.N) (d : Fin 1024) : ((View.whole main_v0_1).slice (win0_5.rect t)).emb (ix2 0 d) = ix2 0 d := by
  funext b
  fin_cases b <;> apply Fin.ext <;> blk_simp [idx t] <;> rfl
theorem emb6 (t : Fin cfg0.N) (d : Fin 1024) : ((View.whole main_v0_2).slice (win0_6.rect t)).emb (ix2 0 d) = ix2 0 d := by
  funext b
  fin_cases b <;> apply Fin.ext <;> blk_simp [idx t] <;> rfl

theorem arr4 : (dats m 0 c).arrAt 4 cfg0.N = Norm.resX 256 fits 1 (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, d, rfl⟩ : ∃ (r : Fin 256) (d : Fin 1024), y = ix2 r d := ⟨y 0, y 1, (ix2_eta y).symm⟩
  rw [emb4, out4, rows, iblk3]
  rfl

/-- A point's parts of the gradients of the shift and of the scale. -/
def part5 (t : Fin cfg0.N) (y : S1x1024.Idx) : EReal := ∑ r, (row m c t r).y (y 1)
def part6 (t : Fin cfg0.N) (y : S1x1024.Idx) : EReal := ∑ r, (row m c t r).gs (y 1)

theorem first (t : Fin cfg0.N) (h : t.val % 8 = 0) (y : S1x1024.Idx) :
    (outsAt0 m c t.val t.isLt).2.1 y = 0 + part5 m c t y ∧ (outsAt0 m c t.val t.isLt).2.2 y = 0 + part6 m c t y := by
  obtain ⟨p, d, rfl⟩ : ∃ (p : Fin 1) (d : Fin 1024), y = ix2 p d := ⟨y 0, y 1, (ix2_eta y).symm⟩
  obtain rfl : p = 0 := Subsingleton.elim _ _
  rw [outsAt0_A m c t h]
  refine ⟨?_, ?_⟩
  · frame_out
    pointwise [k0_pay4, k0_pay2]
    exact pay9_at (iblk m c 0 t) (iblk m c 2 t) _ d
  · frame_out
    pointwise [k0_pay5, k0_pay3]
    exact pay10_at (iblk m c 0 t) (iblk m c 2 t) _ d
theorem later (t : Fin cfg0.N) (h : ¬t.val % 8 = 0) (y : S1x1024.Idx) :
    (outsAt0 m c t.val t.isLt).2.1 y = (outsAt0 m c (t.val - 1) (Nat.lt_of_le_of_lt (Nat.sub_le _ _) t.isLt)).2.1 y + part5 m c t y
    ∧ (outsAt0 m c t.val t.isLt).2.2 y = (outsAt0 m c (t.val - 1) (Nat.lt_of_le_of_lt (Nat.sub_le _ _) t.isLt)).2.2 y + part6 m c t y := by
  obtain ⟨p, d, rfl⟩ : ∃ (p : Fin 1) (d : Fin 1024), y = ix2 p d := ⟨y 0, y 1, (ix2_eta y).symm⟩
  obtain rfl : p = 0 := Subsingleton.elim _ _
  rw [outsAt0_B m c t h]
  refine ⟨?_, ?_⟩
  · frame_out
    pointwise [k0_pay4]
    exact congrArg (fun r : EReal => (outsAt0 m c (t.val - 1) (Nat.lt_of_le_of_lt (Nat.sub_le _ _) t.isLt)).2.1 (ix2 0 d) + r)
      (pay9_at (iblk m c 0 t) (iblk m c 2 t) _ d)
  · frame_out
    pointwise [k0_pay5]
    exact congrArg (fun r : EReal => (outsAt0 m c (t.val - 1) (Nat.lt_of_le_of_lt (Nat.sub_le _ _) t.isLt)).2.2 (ix2 0 d) + r)
      (pay10_at (iblk m c 0 t) (iblk m c 2 t) _ d)

/-- The blocks' sums of a quantity are the sum over all rows. -/
theorem sum_parts (f : Row → EReal) (t : Fin cfg0.N) (h : ∀ s : Fin 8, 8 * (t.val / 8) + s.val < cfg0.N) :
    ∑ s : Fin 8, ∑ r, f (row m c ⟨8 * (t.val / 8) + s.val, h s⟩ r) = ∑ n, f (whole m c n) := by
  have ht := lt t
  rw [← Norm.sum_rows (fun n => f (whole m c n)) (fun s r => by omega)]
  refine Finset.sum_congr rfl fun s _ => Finset.sum_congr rfl fun r _ => ?_
  rw [rows]
  refine congrArg (fun n => f (whole m c n)) (Fin.ext ?_)
  show (8 * (t.val / 8) + s.val) * 256 + r.val = s.val * 256 + r.val
  omega

theorem arr5 : (dats m 0 c).arrAt 5 cfg0.N = Norm.shift 256 fits 1 (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  have hl : t.val % 8 = 7 := (flush0_5 t).mp hf
  rw [after0_5, Pipeline.eq_sum_fin_of_reset_step_apply_of_flush (fun n h => (outsAt0 m c n h).2.1) 8 (fun _ => 0)
    (part5 m c) (fun t h y => (first m c t h y).1) (fun t h y => (later m c t h y).1) t hl y, zero_add]
  obtain ⟨p, d, rfl⟩ : ∃ (p : Fin 1) (d : Fin 1024), y = ix2 p d := ⟨y 0, y 1, (ix2_eta y).symm⟩
  obtain rfl : p = 0 := Subsingleton.elim _ _
  rw [emb5]
  exact sum_parts m c (fun R => R.y d) t _
theorem arr6 : (dats m 0 c).arrAt 6 cfg0.N = Norm.scale 256 fits 1 (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  have hl : t.val % 8 = 7 := (flush0_6 t).mp hf
  rw [after0_6, Pipeline.eq_sum_fin_of_reset_step_apply_of_flush (fun n h => (outsAt0 m c n h).2.2) 8 (fun _ => 0)
    (part6 m c) (fun t h y => (first m c t h y).2) (fun t h y => (later m c t h y).2) t hl y, zero_add]
  obtain ⟨p, d, rfl⟩ : ∃ (p : Fin 1) (d : Fin 1024), y = ix2 p d := ⟨y 0, y 1, (ix2_eta y).symm⟩
  obtain rfl : p = 0 := Subsingleton.elim _ _
  rw [emb6]
  exact sum_parts m c (fun R => R.gs d) t _

end Cert.Kernel19Ideal.Value

namespace Cert.Reference19Ideal.Value

open Cert.Reference19Ideal Cert.Reference19Ideal.Gen Cert.Reference19Ideal.Read Idealize.ShloMosaic Idealize.SL.Sem
open Cert.Norm (Row ofArrays)

variable (X : Vec Ideal S2048x1024 .f32) (M : Vec Ideal S6x1024 .f32) (D : Vec Ideal S2304x1024 .f32) (Q : Vec Ideal S2048x1024 .f32)
  (n : Fin 2048) (d : Fin 1024)

theorem fits : 256 + 2048 ≤ 2304 := by decide

/-- Row `n` of the arguments. -/
abbrev row (n : Fin 2048) : Row := ofArrays 256 fits 1 X M D n

theorem y_at : val_main_v0 (F := Ideal) D (ix2 n d) = (row X M D n).y d := by
  pointwise [val_main_v0]
  first
  | rfl
  | exact congrArg D (congrArg (fun k => ix2 k d) (Fin.ext (Nat.zero_add n.val).symm))
theorem var_at : val_main_v9 (F := Ideal) X (ix2 n 0) = (row X M D n).var := by
  pointwise [val_main_v9, val_main_v8, val_main_cst_1, val_main_v7, val_main_v6, val_main_v5, val_main_v4, val_main_v3, val_main_cst_0, val_main_cst]
  rfl
theorem rs_at : val_main_v10 (F := Ideal) X (ix2 n 0) = (row X M D n).rs := by
  pointwise [val_main_v10]
  rw [var_at X M D]
  rfl
theorem hn_at : val_main_v28 (F := Ideal) M D (ix2 n d) = (row X M D n).hn d := by
  pointwise [val_main_v28, val_main_v27, val_main_v17, val_main_v16, val_main_cst_3, val_main_v2]
  rw [y_at X M D]
  rfl
theorem v43_eq : val_main_v43 (F := Ideal) X M D Q = Norm.resX 256 fits 1 X M D Q := by
  funext i
  obtain ⟨n, d, rfl⟩ : ∃ (n : Fin 2048) (d : Fin 1024), i = ix2 n d := ⟨i 0, i 1, (ix2_eta i).symm⟩
  pointwise [val_main_v43, val_main_v42, val_main_v41, val_main_v40, val_main_v39, val_main_v38, val_main_v37, val_main_v36, val_main_v35,
    val_main_v34, val_main_v33, val_main_v32, val_main_v31, val_main_v30, val_main_v29, val_main_v13, val_main_v12, val_main_v11, val_main_cst_2, val_main_cst_6, val_main_cst_7, val_main_cst_8]
  simp only [Fintype.sum_unique]
  simp only [hn_at X M D]
  rw [show (default : Fin 1) = 0 from rfl, rs_at X M D, var_at X M D]
  rfl
theorem v23_eq : val_main_v23 (F := Ideal) D = Norm.shift 256 fits 1 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v23, val_main_v22, val_main_cst_4]
  simp only [y_at X M D]
  rfl
theorem v26_eq : val_main_v26 (F := Ideal) X D = Norm.scale 256 fits 1 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v26, val_main_v25, val_main_v24, val_main_v15, val_main_v14, val_main_cst_5]
  simp only [y_at X M D, rs_at X M D]
  rfl

end Cert.Reference19Ideal.Value

namespace Cert.Proof

open Idealize.ShloMosaic

theorem algebraic19 : Cert.algebraic_Kernel19Ideal_Reference19Ideal (hKernel19Ideal := Cert.Kernel19Ideal.Gen.facts)
    (hReference19Ideal := Cert.Reference19Ideal.Gen.facts) := by
  intro m g m' g' _ hagree
  refine ⟨fun c => (Cert.Kernel19Ideal.Gen.dats m 0 c).arrAt 4 Cert.Kernel19Ideal.cfg0.N,
    fun c => (Cert.Kernel19Ideal.Gen.dats m 0 c).arrAt 5 Cert.Kernel19Ideal.cfg0.N,
    fun c => (Cert.Kernel19Ideal.Gen.dats m 0 c).arrAt 6 Cert.Kernel19Ideal.cfg0.N, Cert.Kernel19Ideal.Value.run_blocks m g,
    θ_run_mono (Cert.Reference19Ideal.Value.run m' g') fun r hr c => ?_⟩
  obtain ⟨h1, h2, h3, hargs⟩ := hr c
  obtain ⟨e0, e1, e2, e3⟩ := hagree c
  refine ⟨?_, ?_, ?_, hargs⟩
  · rw [h1, Cert.Reference19Ideal.Read.val_main_v43_eq, Cert.Reference19Ideal.Value.v43_eq, e0, e1, e2, e3]
    exact (Cert.Kernel19Ideal.Value.arr4 m c).symm
  · rw [h2, Cert.Reference19Ideal.Read.val_main_v23_eq, Cert.Reference19Ideal.Value.v23_eq (fun _ => 0) (fun _ => 0), e2]
    refine Eq.trans ?_ (Cert.Kernel19Ideal.Value.arr5 m c).symm
    rfl
  · rw [h3, Cert.Reference19Ideal.Read.val_main_v26_eq, Cert.Reference19Ideal.Value.v26_eq _ (fun _ => 0), e0, e2]
    refine Eq.trans ?_ (Cert.Kernel19Ideal.Value.arr6 m c).symm
    rfl

/-- The reference runs and leaves its arguments. -/
theorem ref_frame19 : Cert.quiescent_Reference19Ideal (hReference19Ideal := Cert.Reference19Ideal.Gen.facts) := by
  intro m g _
  refine θ_run_mono (Cert.Reference19Ideal.Value.run m g) fun r h => ⟨fun c => (h c).2.2.2, ?_⟩
  exact sem_eq_zero_of_no_sems (by decide) r.2

end Cert.Proof

end
-- ==== Proof.NormX1.lean ====
/- The gradient of the second norm of the latents. -/
module

public import proofs.«01_k».proof.Defs
public import proofs.«01_k».proof.Proof.Norm
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Idealize.ShloMosaic.Pipeline (Dat)
open Cert.Norm (Row ofArrays part)

section Block

variable (x : Vec Ideal S256x1024 .f32) (s : Vec Ideal S1x1024 .f32) (y : Vec Ideal S256x1024 .f32) (w : Fin 1024 → EReal)
  (r : Fin 256) (d : Fin 1024)

theorem pay6_at : k0_pay6 (F := Ideal) x (ix2 r 0) = (part x w y r).var := by
  pointwise [k0_pay6]
  rfl
theorem pay7_at : k0_pay7 (F := Ideal) x (ix2 r 0) = (part x w y r).rs := by
  pointwise [k0_pay7]
  rw [pay6_at x y w]
  rfl
theorem pay9_at : k0_pay9 (F := Ideal) y (ix2 0 d) = ∑ r, (part x w y r).y d := by
  pointwise [k0_pay9]
  rfl
theorem pay10_at : k0_pay10 (F := Ideal) x y (ix2 0 d) = ∑ r, (part x w y r).gs d := by
  pointwise [k0_pay10, k0_pay8]
  simp only [pay7_at x y w]
  rfl
theorem pay11_at (hs : ∀ d, s (ix2 0 d) = w d) : k0_pay11 (F := Ideal) s x y (ix2 r d) = (part x w y r).gx d := by
  pointwise [k0_pay11, k0_pay8]
  simp only [Fintype.sum_unique]
  simp only [hs]
  rw [show (default : Fin 1) = 0 from rfl, pay7_at x y w, pay6_at x y w]
  rfl
theorem pay1_at (hs : ∀ d, s (ix2 0 d) = w d) (q : Vec Ideal S256x1024 .f32) :
    k0_pay1 (F := Ideal) (k0_pay11 s x y) q (ix2 r d) = (part x w y r).gx d + q (ix2 r d) := by
  pointwise [k0_pay1]
  rw [pay11_at x s y w r d hs]

end Block

variable (m : (ℓ : Loc nD τ sig) → Buf (Elt Ideal) ℓ) (c : Dev nD)

/-- A point's row. -/
abbrev row (t : Fin cfg0.N) (r : Fin 256) : Row := part (iblk m c 0 t) (fun d => iblk m c 1 t (ix2 4 d)) (iblk m c 2 t) r

theorem out4 (t : Fin cfg0.N) (r : Fin 256) (d : Fin 1024) :
    (outsAt0 m c t.val t.isLt).1 (ix2 r d) = (row m c t r).gx d + iblk m c 3 t (ix2 r d) := by
  by_cases h : t.val % 8 = 0
  · rw [outsAt0_A m c t h]
    frame_out
    exact pay1_at (iblk m c 0 t) _ (iblk m c 2 t) (fun d => iblk m c 1 t (ix2 4 d)) r d (fun d => by pointwise) (iblk m c 3 t)
  · rw [outsAt0_B m c t h]
    frame_out
    exact pay1_at (iblk m c 0 t) _ (iblk m c 2 t) (fun d => iblk m c 1 t (ix2 4 d)) r d (fun d => by pointwise) (iblk m c 3 t)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem lt (t : Fin cfg0.N) : t.val < 8 := t.isLt

theorem iblk0 (t : Fin cfg0.N) (r : Fin 256) (d : Fin 1024) : iblk m c 0 t (ix2 r d)
    = m ((c : Thread nD τ).loc main_arg0) (ix2 ⟨t.val * 256 + r.val, by have := lt t; omega⟩ d) := by
  blk_point [iblk, V, idx t]
theorem iblk1 (t : Fin cfg0.N) (k : Fin 6) (d : Fin 1024) : iblk m c 1 t (ix2 k d) = m ((c : Thread nD τ).loc main_arg1) (ix2 k d) := by
  blk_point [iblk, V, idx t]
theorem iblk2 (t : Fin cfg0.N) (r : Fin 256) (d : Fin 1024) : iblk m c 2 t (ix2 r d)
    = m ((c : Thread nD τ).loc main_arg2) (ix2 ⟨0 + (t.val * 256 + r.val), by have := lt t; omega⟩ d) := by
  blk_point [iblk, V, idx t]
theorem iblk3 (t : Fin cfg0.N) (r : Fin 256) (d : Fin 1024) : iblk m c 3 t (ix2 r d)
    = m ((c : Thread nD τ).loc main_arg3) (ix2 ⟨t.val * 256 + r.val, by have := lt t; omega⟩ d) := by
  blk_point [iblk, V, idx t]

theorem fits : 0 + 2048 ≤ 2048 := by decide

/-- Row `n` of the arguments. -/
abbrev whole (n : Fin 2048) : Row := ofArrays 0 fits 4 (m ((c : Thread nD τ).loc main_arg0)) (m ((c : Thread nD τ).loc main_arg1))
    (m ((c : Thread nD τ).loc main_arg2)) n

theorem rows (t : Fin cfg0.N) (r : Fin 256) : row m c t r = whole m c ⟨t.val * 256 + r.val, by have := lt t; omega⟩ := by
  simp only [row, whole, part, ofArrays, iblk0, iblk1, iblk2]

theorem emb4 (t : Fin cfg0.N) (r : Fin 256) (d : Fin 1024) : ((View.whole main_v0_0).slice (win0_4.rect t)).emb (ix2 r d)
    = ix2 ⟨t.val * 256 + r.val, by have := lt t; omega⟩ d := by
  funext b
  fin_cases b <;> apply Fin.ext <;> blk_simp [idx t] <;> rfl
theorem emb5 (t : Fin cfg0.N) (d : Fin 1024) : ((View.whole main_v0_1).slice (win0_5.rect t)).emb (ix2 0 d) = ix2 0 d := by
  funext b
  fin_cases b <;> apply Fin.ext <;> blk_simp [idx t] <;> rfl
theorem emb6 (t : Fin cfg0.N) (d : Fin 1024) : ((View.whole main_v0_2).slice (win0_6.rect t)).emb (ix2 0 d) = ix2 0 d := by
  funext b
  fin_cases b <;> apply Fin.ext <;> blk_simp [idx t] <;> rfl

theorem arr4 : (dats m 0 c).arrAt 4 cfg0.N = Norm.resX 0 fits 4 (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, d, rfl⟩ : ∃ (r : Fin 256) (d : Fin 1024), y = ix2 r d := ⟨y 0, y 1, (ix2_eta y).symm⟩
  rw [emb4, out4, rows, iblk3]
  rfl

/-- A point's parts of the gradients of the shift and of the scale. -/
def part5 (t : Fin cfg0.N) (y : S1x1024.Idx) : EReal := ∑ r, (row m c t r).y (y 1)
def part6 (t : Fin cfg0.N) (y : S1x1024.Idx) : EReal := ∑ r, (row m c t r).gs (y 1)

theorem first (t : Fin cfg0.N) (h : t.val % 8 = 0) (y : S1x1024.Idx) :
    (outsAt0 m c t.val t.isLt).2.1 y = 0 + part5 m c t y ∧ (outsAt0 m c t.val t.isLt).2.2 y = 0 + part6 m c t y := by
  obtain ⟨p, d, rfl⟩ : ∃ (p : Fin 1) (d : Fin 1024), y = ix2 p d := ⟨y 0, y 1, (ix2_eta y).symm⟩
  obtain rfl : p = 0 := Subsingleton.elim _ _
  rw [outsAt0_A m c t h]
  refine ⟨?_, ?_⟩
  · frame_out
    pointwise [k0_pay4, k0_pay2]
    exact pay9_at (iblk m c 0 t) (iblk m c 2 t) _ d
  · frame_out
    pointwise [k0_pay5, k0_pay3]
    exact pay10_at (iblk m c 0 t) (iblk m c 2 t) _ d
theorem later (t : Fin cfg0.N) (h : ¬t.val % 8 = 0) (y : S1x1024.Idx) :
    (outsAt0 m c t.val t.isLt).2.1 y = (outsAt0 m c (t.val - 1) (Nat.lt_of_le_of_lt (Nat.sub_le _ _) t.isLt)).2.1 y + part5 m c t y
    ∧ (outsAt0 m c t.val t.isLt).2.2 y = (outsAt0 m c (t.val - 1) (Nat.lt_of_le_of_lt (Nat.sub_le _ _) t.isLt)).2.2 y + part6 m c t y := by
  obtain ⟨p, d, rfl⟩ : ∃ (p : Fin 1) (d : Fin 1024), y = ix2 p d := ⟨y 0, y 1, (ix2_eta y).symm⟩
  obtain rfl : p = 0 := Subsingleton.elim _ _
  rw [outsAt0_B m c t h]
  refine ⟨?_, ?_⟩
  · frame_out
    pointwise [k0_pay4]
    exact congrArg (fun r : EReal => (outsAt0 m c (t.val - 1) (Nat.lt_of_le_of_lt (Nat.sub_le _ _) t.isLt)).2.1 (ix2 0 d) + r)
      (pay9_at (iblk m c 0 t) (iblk m c 2 t) _ d)
  · frame_out
    pointwise [k0_pay5]
    exact congrArg (fun r : EReal => (outsAt0 m c (t.val - 1) (Nat.lt_of_le_of_lt (Nat.sub_le _ _) t.isLt)).2.2 (ix2 0 d) + r)
      (pay10_at (iblk m c 0 t) (iblk m c 2 t) _ d)

/-- The blocks' sums of a quantity are the sum over all rows. -/
theorem sum_parts (f : Row → EReal) (t : Fin cfg0.N) (h : ∀ s : Fin 8, 8 * (t.val / 8) + s.val < cfg0.N) :
    ∑ s : Fin 8, ∑ r, f (row m c ⟨8 * (t.val / 8) + s.val, h s⟩ r) = ∑ n, f (whole m c n) := by
  have ht := lt t
  rw [← Norm.sum_rows (fun n => f (whole m c n)) (fun s r => by omega)]
  refine Finset.sum_congr rfl fun s _ => Finset.sum_congr rfl fun r _ => ?_
  rw [rows]
  refine congrArg (fun n => f (whole m c n)) (Fin.ext ?_)
  show (8 * (t.val / 8) + s.val) * 256 + r.val = s.val * 256 + r.val
  omega

theorem arr5 : (dats m 0 c).arrAt 5 cfg0.N = Norm.shift 0 fits 4 (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  have hl : t.val % 8 = 7 := (flush0_5 t).mp hf
  rw [after0_5, Pipeline.eq_sum_fin_of_reset_step_apply_of_flush (fun n h => (outsAt0 m c n h).2.1) 8 (fun _ => 0)
    (part5 m c) (fun t h y => (first m c t h y).1) (fun t h y => (later m c t h y).1) t hl y, zero_add]
  obtain ⟨p, d, rfl⟩ : ∃ (p : Fin 1) (d : Fin 1024), y = ix2 p d := ⟨y 0, y 1, (ix2_eta y).symm⟩
  obtain rfl : p = 0 := Subsingleton.elim _ _
  rw [emb5]
  exact sum_parts m c (fun R => R.y d) t _
theorem arr6 : (dats m 0 c).arrAt 6 cfg0.N = Norm.scale 0 fits 4 (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  have hl : t.val % 8 = 7 := (flush0_6 t).mp hf
  rw [after0_6, Pipeline.eq_sum_fin_of_reset_step_apply_of_flush (fun n h => (outsAt0 m c n h).2.2) 8 (fun _ => 0)
    (part6 m c) (fun t h y => (first m c t h y).2) (fun t h y => (later m c t h y).2) t hl y, zero_add]
  obtain ⟨p, d, rfl⟩ : ∃ (p : Fin 1) (d : Fin 1024), y = ix2 p d := ⟨y 0, y 1, (ix2_eta y).symm⟩
  obtain rfl : p = 0 := Subsingleton.elim _ _
  rw [emb6]
  exact sum_parts m c (fun R => R.gs d) t _

end Cert.Kernel20Ideal.Value

namespace Cert.Reference20Ideal.Value

open Cert.Reference20Ideal Cert.Reference20Ideal.Gen Cert.Reference20Ideal.Read Idealize.ShloMosaic Idealize.SL.Sem
open Cert.Norm (Row ofArrays)

variable (X : Vec Ideal S2048x1024 .f32) (M : Vec Ideal S6x1024 .f32) (D : Vec Ideal S2048x1024 .f32) (Q : Vec Ideal S2048x1024 .f32)
  (n : Fin 2048) (d : Fin 1024)

theorem fits : 0 + 2048 ≤ 2048 := by decide

/-- Row `n` of the arguments. -/
abbrev row (n : Fin 2048) : Row := ofArrays 0 fits 4 X M D n

theorem y_at : val_main_v21 (F := Ideal) D (ix2 n d) = (row X M D n).y d := by
  pointwise [val_main_v21]
  first
  | rfl
  | exact congrArg D (congrArg (fun k => ix2 k d) (Fin.ext (Nat.zero_add n.val).symm))
theorem var_at : val_main_v8 (F := Ideal) X (ix2 n 0) = (row X M D n).var := by
  pointwise [val_main_v8, val_main_v7, val_main_cst_1, val_main_v6, val_main_v5, val_main_v4, val_main_v3, val_main_v2, val_main_cst_0, val_main_cst]
  rfl
theorem rs_at : val_main_v9 (F := Ideal) X (ix2 n 0) = (row X M D n).rs := by
  pointwise [val_main_v9]
  rw [var_at X M D]
  rfl
theorem hn_at : val_main_v28 (F := Ideal) M D (ix2 n d) = (row X M D n).hn d := by
  pointwise [val_main_v28, val_main_v27, val_main_v16, val_main_v15, val_main_cst_3, val_main_v1]
  rw [y_at X M D]
  rfl
theorem v43_eq : val_main_v43 (F := Ideal) X M D Q = Norm.resX 0 fits 4 X M D Q := by
  funext i
  obtain ⟨n, d, rfl⟩ : ∃ (n : Fin 2048) (d : Fin 1024), i = ix2 n d := ⟨i 0, i 1, (ix2_eta i).symm⟩
  pointwise [val_main_v43, val_main_v42, val_main_v41, val_main_v40, val_main_v39, val_main_v38, val_main_v37, val_main_v36, val_main_v35,
    val_main_v34, val_main_v33, val_main_v32, val_main_v31, val_main_v30, val_main_v29, val_main_v12, val_main_v11, val_main_v10, val_main_cst_2, val_main_cst_6, val_main_cst_7, val_main_cst_8]
  simp only [Fintype.sum_unique]
  simp only [hn_at X M D]
  rw [show (default : Fin 1) = 0 from rfl, rs_at X M D, var_at X M D]
  rfl
theorem v23_eq : val_main_v23 (F := Ideal) D = Norm.shift 0 fits 4 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v23, val_main_v22, val_main_cst_4]
  exact Finset.sum_congr rfl fun n _ => congrArg D (congrArg (fun k => ix2 k d) (Fin.ext (Nat.zero_add n.val).symm))
theorem v26_eq : val_main_v26 (F := Ideal) X D = Norm.scale 0 fits 4 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v26, val_main_v25, val_main_v24, val_main_v14, val_main_v13, val_main_cst_5]
  simp only [y_at X M D, rs_at X M D]
  rfl

end Cert.Reference20Ideal.Value

namespace Cert.Proof

open Idealize.ShloMosaic

theorem algebraic20 : Cert.algebraic_Kernel20Ideal_Reference20Ideal (hKernel20Ideal := Cert.Kernel20Ideal.Gen.facts)
    (hReference20Ideal := Cert.Reference20Ideal.Gen.facts) := by
  intro m g m' g' _ hagree
  refine ⟨fun c => (Cert.Kernel20Ideal.Gen.dats m 0 c).arrAt 4 Cert.Kernel20Ideal.cfg0.N,
    fun c => (Cert.Kernel20Ideal.Gen.dats m 0 c).arrAt 5 Cert.Kernel20Ideal.cfg0.N,
    fun c => (Cert.Kernel20Ideal.Gen.dats m 0 c).arrAt 6 Cert.Kernel20Ideal.cfg0.N, Cert.Kernel20Ideal.Value.run_blocks m g,
    θ_run_mono (Cert.Reference20Ideal.Value.run m' g') fun r hr c => ?_⟩
  obtain ⟨h1, h2, h3, hargs⟩ := hr c
  obtain ⟨e0, e1, e2, e3⟩ := hagree c
  refine ⟨?_, ?_, ?_, hargs⟩
  · rw [h1, Cert.Reference20Ideal.Read.val_main_v43_eq, Cert.Reference20Ideal.Value.v43_eq, e0, e1, e2, e3]
    exact (Cert.Kernel20Ideal.Value.arr4 m c).symm
  · rw [h2, Cert.Reference20Ideal.Read.val_main_v23_eq, Cert.Reference20Ideal.Value.v23_eq (fun _ => 0) (fun _ => 0), e2]
    refine Eq.trans ?_ (Cert.Kernel20Ideal.Value.arr5 m c).symm
    rfl
  · refine (h3.trans (Cert.Reference20Ideal.Read.val_main_v26_eq _ _)).trans ?_
    rw [Cert.Reference20Ideal.Value.v26_eq _ (fun _ => 0), e0, e2]
    refine Eq.trans ?_ (Cert.Kernel20Ideal.Value.arr6 m c).symm
    rfl

/-- The reference runs and leaves its arguments. -/
theorem ref_frame20 : Cert.quiescent_Reference20Ideal (hReference20Ideal := Cert.Reference20Ideal.Gen.facts) := by
  intro m g _
  refine θ_run_mono (Cert.Reference20Ideal.Value.run m g) fun r h => ⟨fun c => (h c).2.2.2, ?_⟩
  exact sem_eq_zero_of_no_sems (by decide) r.2

end Cert.Proof

end
-- ==== Proof.NormCtx.lean ====
/- The gradient of the norm of the context. -/
module

public import proofs.«01_k».proof.Defs
public import proofs.«01_k».proof.Proof.Norm
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel21Ideal.Value

open Cert.Kernel21Ideal Cert.Kernel21Ideal.Gen Idealize.ShloMosaic Idealize.ShloMosaic.TcCoe Idealize.SL.Sem
open Idealize.ShloMosaic.Pipeline (Dat)
open Cert.Norm (Row ofArrays part)

section Block

variable (x : Vec Ideal S256x1024 .f32) (s : Vec Ideal S1x1024 .f32) (y : Vec Ideal S256x1024 .f32) (w : Fin 1024 → EReal)
  (r : Fin 256) (d : Fin 1024)

theorem pay5_at : k0_pay5 (F := Ideal) x (ix2 r 0) = (part x w y r).var := by
  pointwise [k0_pay5]
  rfl
theorem pay6_at : k0_pay6 (F := Ideal) x (ix2 r 0) = (part x w y r).rs := by
  pointwise [k0_pay6]
  rw [pay5_at x y w]
  rfl
theorem pay8_at : k0_pay8 (F := Ideal) y (ix2 0 d) = ∑ r, (part x w y r).y d := by
  pointwise [k0_pay8]
  rfl
theorem pay9_at : k0_pay9 (F := Ideal) x y (ix2 0 d) = ∑ r, (part x w y r).gs d := by
  pointwise [k0_pay9, k0_pay7]
  simp only [pay6_at x y w]
  rfl
theorem pay10_at (hs : ∀ d, s (ix2 0 d) = w d) : k0_pay10 (F := Ideal) s x y (ix2 r d) = (part x w y r).gx d := by
  pointwise [k0_pay10, k0_pay7]
  simp only [Fintype.sum_unique]
  simp only [hs]
  rw [show (default : Fin 1) = 0 from rfl, pay6_at x y w, pay5_at x y w]
  rfl
end Block

variable (m : (ℓ : Loc nD τ sig) → Buf (Elt Ideal) ℓ) (c : Dev nD)

/-- A point's row. -/
abbrev row (t : Fin cfg0.N) (r : Fin 256) : Row := part (iblk m c 0 t) (fun d => iblk m c 1 t (ix2 1 d)) (iblk m c 2 t) r

theorem outs (t : Fin cfg0.N) (r : Fin 256) (d : Fin 1024) :
    (outsAt0 m c t).1 (ix2 r d) = (row m c t r).gx d
      ∧ (outsAt0 m c t).2.1 (ix2 0 d) = 0 + ∑ r, (row m c t r).y d ∧ (outsAt0 m c t).2.2 (ix2 0 d) = 0 + ∑ r, (row m c t r).gs d := by
  dsimp only [outsAt0]
  refine ⟨?_, ?_, ?_⟩
  · frame_out
    exact pay10_at (iblk m c 0 t) _ (iblk m c 2 t) (fun d => iblk m c 1 t (ix2 1 d)) r d (fun d => by pointwise)
  · frame_out
    pointwise [k0_pay3, k0_pay1]
    exact pay8_at (iblk m c 0 t) (iblk m c 2 t) _ d
  · frame_out
    pointwise [k0_pay4, k0_pay2]
    exact pay9_at (iblk m c 0 t) (iblk m c 2 t) _ d

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem iblk0 (t : Fin cfg0.N) (r : Fin 256) (d : Fin 1024) : iblk m c 0 t (ix2 r d) = m ((c : Thread nD τ).loc main_arg0) (ix2 r d) := by
  blk_point [iblk, V, idx t]
theorem iblk1 (t : Fin cfg0.N) (k : Fin 6) (d : Fin 1024) : iblk m c 1 t (ix2 k d) = m ((c : Thread nD τ).loc main_arg1) (ix2 k d) := by
  blk_point [iblk, V, idx t]
theorem iblk2 (t : Fin cfg0.N) (r : Fin 256) (d : Fin 1024) : iblk m c 2 t (ix2 r d)
    = m ((c : Thread nD τ).loc main_arg2) (ix2 ⟨0 + r.val, by omega⟩ d) := by
  blk_point [iblk, V, idx t]

theorem fits : 0 + 256 ≤ 2304 := by decide

/-- Row `n` of the arguments. -/
abbrev whole (n : Fin 256) : Row := ofArrays 0 fits 1 (m ((c : Thread nD τ).loc main_arg0)) (m ((c : Thread nD τ).loc main_arg1))
    (m ((c : Thread nD τ).loc main_arg2)) n

theorem rows (t : Fin cfg0.N) (r : Fin 256) : row m c t r = whole m c r := by
  simp only [row, whole, part, ofArrays, iblk0, iblk1, iblk2]

theorem emb3 (t : Fin cfg0.N) (r : Fin 256) (d : Fin 1024) : ((View.whole main_v0_0).slice (win0_3.rect t)).emb (ix2 r d) = ix2 r d := by
  funext b
  fin_cases b <;> apply Fin.ext <;> blk_simp [idx t] <;> rfl
theorem emb4 (t : Fin cfg0.N) (d : Fin 1024) : ((View.whole main_v0_1).slice (win0_4.rect t)).emb (ix2 0 d) = ix2 0 d := by
  funext b
  fin_cases b <;> apply Fin.ext <;> blk_simp [idx t] <;> rfl
theorem emb5 (t : Fin cfg0.N) (d : Fin 1024) : ((View.whole main_v0_2).slice (win0_5.rect t)).emb (ix2 0 d) = ix2 0 d := by
  funext b
  fin_cases b <;> apply Fin.ext <;> blk_simp [idx t] <;> rfl

theorem arr3 : (dats m 0 c).arrAt 3 cfg0.N = Norm.grad 0 fits 1 (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  obtain ⟨r, d, rfl⟩ : ∃ (r : Fin 256) (d : Fin 1024), y = ix2 r d := ⟨y 0, y 1, (ix2_eta y).symm⟩
  rw [emb3, (outs m c t r d).1, rows]
  rfl
theorem arr4 : (dats m 0 c).arrAt 4 cfg0.N = Norm.shift 0 fits 1 (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4]
  obtain ⟨p, d, rfl⟩ : ∃ (p : Fin 1) (d : Fin 1024), y = ix2 p d := ⟨y 0, y 1, (ix2_eta y).symm⟩
  obtain rfl : p = 0 := Subsingleton.elim _ _
  rw [emb4, (outs m c t 0 d).2.1, zero_add]
  simp only [rows]
  rfl
theorem arr5 : (dats m 0 c).arrAt 5 cfg0.N = Norm.scale 0 fits 1 (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  obtain ⟨p, d, rfl⟩ : ∃ (p : Fin 1) (d : Fin 1024), y = ix2 p d := ⟨y 0, y 1, (ix2_eta y).symm⟩
  obtain rfl : p = 0 := Subsingleton.elim _ _
  rw [emb5, (outs m c t 0 d).2.2, zero_add]
  simp only [rows]
  rfl

end Cert.Kernel21Ideal.Value

namespace Cert.Reference21Ideal.Value

open Cert.Reference21Ideal Cert.Reference21Ideal.Gen Cert.Reference21Ideal.Read Idealize.ShloMosaic Idealize.SL.Sem
open Cert.Norm (Row ofArrays)

variable (X : Vec Ideal S256x1024 .f32) (M : Vec Ideal S6x1024 .f32) (D : Vec Ideal S2304x1024 .f32)
  (n : Fin 256) (d : Fin 1024)

theorem fits : 0 + 256 ≤ 2304 := by decide

/-- Row `n` of the arguments. -/
abbrev row (n : Fin 256) : Row := ofArrays 0 fits 1 X M D n

theorem y_at : val_main_v0 (F := Ideal) D (ix2 n d) = (row X M D n).y d := by
  pointwise [val_main_v0]
  first
  | rfl
  | exact congrArg D (congrArg (fun k => ix2 k d) (Fin.ext (Nat.zero_add n.val).symm))
theorem var_at : val_main_v9 (F := Ideal) X (ix2 n 0) = (row X M D n).var := by
  pointwise [val_main_v9, val_main_v8, val_main_cst_1, val_main_v7, val_main_v6, val_main_v5, val_main_v4, val_main_v3, val_main_cst_0, val_main_cst]
  rfl
theorem rs_at : val_main_v10 (F := Ideal) X (ix2 n 0) = (row X M D n).rs := by
  pointwise [val_main_v10]
  rw [var_at X M D]
  rfl
theorem hn_at : val_main_v28 (F := Ideal) M D (ix2 n d) = (row X M D n).hn d := by
  pointwise [val_main_v28, val_main_v27, val_main_v17, val_main_v16, val_main_cst_3, val_main_v2]
  rw [y_at X M D]
  rfl
theorem v42_eq : val_main_v42 (F := Ideal) X M D = Norm.grad 0 fits 1 X M D := by
  funext i
  obtain ⟨n, d, rfl⟩ : ∃ (n : Fin 256) (d : Fin 1024), i = ix2 n d := ⟨i 0, i 1, (ix2_eta i).symm⟩
  pointwise [val_main_v42, val_main_v41, val_main_v40, val_main_v39, val_main_v38, val_main_v37, val_main_v36, val_main_v35,
    val_main_v34, val_main_v33, val_main_v32, val_main_v31, val_main_v30, val_main_v29, val_main_v13, val_main_v12, val_main_v11, val_main_cst_2, val_main_cst_6, val_main_cst_7, val_main_cst_8]
  simp only [Fintype.sum_unique]
  simp only [hn_at X M D]
  rw [show (default : Fin 1) = 0 from rfl, rs_at X M D, var_at X M D]
  rfl
theorem v23_eq : val_main_v23 (F := Ideal) D = Norm.shift 0 fits 1 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v23, val_main_v22, val_main_cst_4]
  simp only [y_at X M D]
  rfl
theorem v26_eq : val_main_v26 (F := Ideal) X D = Norm.scale 0 fits 1 X M D := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v26, val_main_v25, val_main_v24, val_main_v15, val_main_v14, val_main_cst_5]
  simp only [y_at X M D, rs_at X M D]
  rfl

end Cert.Reference21Ideal.Value

namespace Cert.Proof

open Idealize.ShloMosaic

theorem algebraic21 : Cert.algebraic_Kernel21Ideal_Reference21Ideal (hKernel21Ideal := Cert.Kernel21Ideal.Gen.facts)
    (hReference21Ideal := Cert.Reference21Ideal.Gen.facts) := by
  intro m g m' g' _ hagree
  refine ⟨fun c => (Cert.Kernel21Ideal.Gen.dats m 0 c).arrAt 3 Cert.Kernel21Ideal.cfg0.N,
    fun c => (Cert.Kernel21Ideal.Gen.dats m 0 c).arrAt 4 Cert.Kernel21Ideal.cfg0.N,
    fun c => (Cert.Kernel21Ideal.Gen.dats m 0 c).arrAt 5 Cert.Kernel21Ideal.cfg0.N, Cert.Kernel21Ideal.Value.run_blocks m g,
    θ_run_mono (Cert.Reference21Ideal.Value.run m' g') fun r hr c => ?_⟩
  obtain ⟨h1, h2, h3, hargs⟩ := hr c
  obtain ⟨e0, e1, e2⟩ := hagree c
  refine ⟨?_, ?_, ?_, hargs⟩
  · rw [h1, Cert.Reference21Ideal.Read.val_main_v42_eq, Cert.Reference21Ideal.Value.v42_eq, e0, e1, e2]
    exact (Cert.Kernel21Ideal.Value.arr3 m c).symm
  · rw [h2, Cert.Reference21Ideal.Read.val_main_v23_eq, Cert.Reference21Ideal.Value.v23_eq (fun _ => 0) (fun _ => 0), e2]
    refine Eq.trans ?_ (Cert.Kernel21Ideal.Value.arr4 m c).symm
    rfl
  · rw [h3, Cert.Reference21Ideal.Read.val_main_v26_eq, Cert.Reference21Ideal.Value.v26_eq _ (fun _ => 0), e0, e2]
    refine Eq.trans ?_ (Cert.Kernel21Ideal.Value.arr5 m c).symm
    rfl

/-- The reference runs and leaves its arguments. -/
theorem ref_frame21 : Cert.quiescent_Reference21Ideal (hReference21Ideal := Cert.Reference21Ideal.Gen.facts) := by
  intro m g _
  refine θ_run_mono (Cert.Reference21Ideal.Value.run m g) fun r h => ⟨fun c => (h c).2.2.2, ?_⟩
  exact sem_eq_zero_of_no_sems (by decide) r.2

end Cert.Proof

end
-- ==== Proof.Resid.lean ====
/- The gradient of the gated branch added to the latents. -/
module

public import proofs.«01_k».proof.Defs
public import proofs.«01_k».proof.Proof.Norm
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.IdealHost
public import Idealize.ShloMosaic.Lib.Pipeline.ValueKit
public import Idealize.ShloMosaic.Lib.Claim

@[expose] public section

set_option maxRecDepth 16384

noncomputable section

namespace Cert.Resid

open Idealize.ShloMosaic

variable (X B : (⟨2, ![2048, 1024]⟩ : Shape).Idx → EReal) (M : (⟨2, ![6, 1024]⟩ : Shape).Idx → EReal)

/-- The gradient of the branch: the gradient times the gate, which is row 2. -/
def resB : (⟨2, ![2048, 1024]⟩ : Shape).Idx → EReal := fun i => X i * M (ix2 2 (i 1))
/-- A row's part of the gradient of the gate. -/
def prod (d : Fin 1024) (n : Fin 2048) : EReal := X (ix2 n d) * B (ix2 n d)
/-- The gradient of the gate. -/
def resG : (⟨2, ![1, 1024]⟩ : Shape).Idx → EReal := fun i => ∑ n, prod X B (i 1) n

end Cert.Resid

namespace Cert.Kernel22Ideal.Value

open Cert.Kernel22Ideal Cert.Kernel22Ideal.Gen Idealize.ShloMosaic Idealize.ShloMosaic.TcCoe Idealize.SL.Sem
open Idealize.ShloMosaic.Pipeline (Dat)

theorem pay1_at (x : Vec Ideal S256x1024 .f32) (g : Vec Ideal S1x1024 .f32) (w : Fin 1024 → EReal) (r : Fin 256) (d : Fin 1024)
    (hg : ∀ d, g (ix2 0 d) = w d) : k0_pay1 (F := Ideal) x g (ix2 r d) = x (ix2 r d) * w d := by
  pointwise [k0_pay1]
  rw [hg]
theorem pay3_at (x b : Vec Ideal S256x1024 .f32) (a : Vec Ideal S1x1024 .f32) (d : Fin 1024) :
    k0_pay3 (F := Ideal) x a b (ix2 0 d) = a (ix2 0 d) + ∑ r : Fin 256, x (ix2 r d) * b (ix2 r d) := by
  pointwise [k0_pay3]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem lt (t : Fin cfg0.N) : t.val < 8 := t.isLt

theorem iblk0 (t : Fin cfg0.N) (r : Fin 256) (d : Fin 1024) : iblk m c 0 t (ix2 r d)
    = m ((c : Thread nD τ).loc main_arg0) (ix2 ⟨t.val * 256 + r.val, by have := lt t; omega⟩ d) := by
  blk_point [iblk, V, idx t]
theorem iblk1 (t : Fin cfg0.N) (r : Fin 256) (d : Fin 1024) : iblk m c 1 t (ix2 r d)
    = m ((c : Thread nD τ).loc main_arg1) (ix2 ⟨t.val * 256 + r.val, by have := lt t; omega⟩ d) := by
  blk_point [iblk, V, idx t]
theorem iblk2 (t : Fin cfg0.N) (k : Fin 6) (d : Fin 1024) : iblk m c 2 t (ix2 k d) = m ((c : Thread nD τ).loc main_arg2) (ix2 k d) := by
  blk_point [iblk, V, idx t]

/-- A point's blocks, as arrays of numbers. -/
abbrev bx (t : Fin cfg0.N) : Vec Ideal S256x1024 .f32 := iblk m c 0 t
abbrev bb (t : Fin cfg0.N) : Vec Ideal S256x1024 .f32 := iblk m c 1 t
abbrev bg (t : Fin cfg0.N) : Vec Ideal S6x1024 .f32 := iblk m c 2 t

theorem bx_at (t : Fin cfg0.N) (r : Fin 256) (d : Fin 1024) : bx m c t (ix2 r d)
    = m ((c : Thread nD τ).loc main_arg0) (ix2 ⟨t.val * 256 + r.val, by have := lt t; omega⟩ d) := iblk0 m c t r d
theorem bb_at (t : Fin cfg0.N) (r : Fin 256) (d : Fin 1024) : bb m c t (ix2 r d)
    = m ((c : Thread nD τ).loc main_arg1) (ix2 ⟨t.val * 256 + r.val, by have := lt t; omega⟩ d) := iblk1 m c t r d
theorem bg_at (t : Fin cfg0.N) (k : Fin 6) (d : Fin 1024) : bg m c t (ix2 k d) = m ((c : Thread nD τ).loc main_arg2) (ix2 k d) := iblk2 m c t k d

theorem out3 (t : Fin cfg0.N) (r : Fin 256) (d : Fin 1024) :
    (outsAt0 m c t.val t.isLt).1 (ix2 r d) = bx m c t (ix2 r d) * bg m c t (ix2 2 d) := by
  by_cases h : t.val % 8 = 0
  · rw [outsAt0_A m c t h]
    frame_out
    exact pay1_at (bx m c t) _ (fun d => bg m c t (ix2 2 d)) r d (fun d => by pointwise)
  · rw [outsAt0_B m c t h]
    frame_out
    exact pay1_at (bx m c t) _ (fun d => bg m c t (ix2 2 d)) r d (fun d => by pointwise)

/-- A point's part of the gradient of the gate. -/
def part (t : Fin cfg0.N) (y : S1x1024.Idx) : EReal := ∑ r : Fin 256, bx m c t (ix2 r (y 1)) * bb m c t (ix2 r (y 1))

theorem first (t : Fin cfg0.N) (h : t.val % 8 = 0) (y : S1x1024.Idx) :
    (outsAt0 m c t.val t.isLt).2 y = 0 + part m c t y := by
  obtain ⟨p, d, rfl⟩ : ∃ (p : Fin 1) (d : Fin 1024), y = ix2 p d := ⟨y 0, y 1, (ix2_eta y).symm⟩
  obtain rfl : p = 0 := Subsingleton.elim _ _
  rw [outsAt0_A m c t h]
  frame_out
  refine (pay3_at (bx m c t) (bb m c t) _ d).trans ?_
  pointwise [k0_pay2]
  rfl
theorem later (t : Fin cfg0.N) (h : ¬t.val % 8 = 0) (y : S1x1024.Idx) :
    (outsAt0 m c t.val t.isLt).2 y = (outsAt0 m c (t.val - 1) (Nat.lt_of_le_of_lt (Nat.sub_le _ _) t.isLt)).2 y + part m c t y := by
  obtain ⟨p, d, rfl⟩ : ∃ (p : Fin 1) (d : Fin 1024), y = ix2 p d := ⟨y 0, y 1, (ix2_eta y).symm⟩
  obtain rfl : p = 0 := Subsingleton.elim _ _
  rw [outsAt0_B m c t h]
  frame_out
  refine (pay3_at (bx m c t) (bb m c t) _ d).trans ?_
  rfl

theorem emb3 (t : Fin cfg0.N) (r : Fin 256) (d : Fin 1024) : ((View.whole main_v0_0).slice (win0_3.rect t)).emb (ix2 r d)
    = ix2 ⟨t.val * 256 + r.val, by have := lt t; omega⟩ d := by
  funext b
  fin_cases b <;> apply Fin.ext <;> blk_simp [idx t] <;> rfl
theorem emb4 (t : Fin cfg0.N) (d : Fin 1024) : ((View.whole main_v0_1).slice (win0_4.rect t)).emb (ix2 0 d) = ix2 0 d := by
  funext b
  fin_cases b <;> apply Fin.ext <;> blk_simp [idx t] <;> rfl

theorem arr3 : (dats m 0 c).arrAt 3 cfg0.N = Resid.resB (m ((c : Thread nD τ).loc main_arg0)) (m ((c : Thread nD τ).loc main_arg2)) := by
  refine (dats m 0 c).arrAt_eq_of_covers 3 _ (by decide +kernel) fun t hf y => ?_
  blk_simp
  rw [after0_3]
  obtain ⟨r, d, rfl⟩ : ∃ (r : Fin 256) (d : Fin 1024), y = ix2 r d := ⟨y 0, y 1, (ix2_eta y).symm⟩
  rw [emb3, out3, bx_at, bg_at]
  rfl
theorem sum_parts (t : Fin cfg0.N) (h : ∀ s : Fin 8, 8 * (t.val / 8) + s.val < cfg0.N) (d : Fin 1024) :
    ∑ s : Fin 8, part m c ⟨8 * (t.val / 8) + s.val, h s⟩ (ix2 0 d)
      = Resid.resG (m ((c : Thread nD τ).loc main_arg0)) (m ((c : Thread nD τ).loc main_arg1)) (ix2 0 d) := by
  have ht := lt t
  refine Eq.trans ?_ (Norm.sum_rows (Resid.prod (m ((c : Thread nD τ).loc main_arg0)) (m ((c : Thread nD τ).loc main_arg1)) d)
    (fun s r => by omega))
  refine Finset.sum_congr rfl fun s _ => Finset.sum_congr rfl fun r _ => ?_
  show bx m c _ (ix2 r d) * bb m c _ (ix2 r d) = _
  rw [bx_at, bb_at]
  refine congrArg (Resid.prod (m ((c : Thread nD τ).loc main_arg0)) (m ((c : Thread nD τ).loc main_arg1)) d) (Fin.ext ?_)
  show (8 * (t.val / 8) + s.val) * 256 + r.val = s.val * 256 + r.val
  omega

theorem arr4 : (dats m 0 c).arrAt 4 cfg0.N = Resid.resG (m ((c : Thread nD τ).loc main_arg0)) (m ((c : Thread nD τ).loc main_arg1)) := by
  refine (dats m 0 c).arrAt_eq_of_covers 4 _ (by decide +kernel) fun t hf y => ?_
  blk_simp
  have hl : t.val % 8 = 7 := (flush0_4 t).mp hf
  rw [after0_4, Pipeline.eq_sum_fin_of_reset_step_apply_of_flush (fun n h => (outsAt0 m c n h).2) 8 (fun _ => 0)
    (part m c) (first m c) (later m c) t hl y, zero_add]
  obtain ⟨p, d, rfl⟩ : ∃ (p : Fin 1) (d : Fin 1024), y = ix2 p d := ⟨y 0, y 1, (ix2_eta y).symm⟩
  obtain rfl : p = 0 := Subsingleton.elim _ _
  rw [emb4]
  exact sum_parts m c t _ d

end Cert.Kernel22Ideal.Value

namespace Cert.Reference22Ideal.Value

open Cert.Reference22Ideal Cert.Reference22Ideal.Gen Cert.Reference22Ideal.Read Idealize.ShloMosaic Idealize.SL.Sem

variable (X B : Vec Ideal S2048x1024 .f32) (M : Vec Ideal S6x1024 .f32)

theorem v8_eq : val_main_v8 (F := Ideal) X M = Resid.resB X M := by
  funext i
  obtain ⟨n, d, rfl⟩ : ∃ (n : Fin 2048) (d : Fin 1024), i = ix2 n d := ⟨i 0, i 1, (ix2_eta i).symm⟩
  pointwise [val_main_v8, val_main_v4, val_main_v3, val_main_v0]
  first
  | rfl
  | exact mul_comm _ _
theorem v7_eq : val_main_v7 (F := Ideal) X B = Resid.resG X B := by
  funext i
  obtain ⟨p, d, rfl⟩ : ∃ (p : Fin 1) (d : Fin 1024), i = ix2 p d := ⟨i 0, i 1, (ix2_eta i).symm⟩
  obtain rfl : p = 0 := Subsingleton.elim _ _
  pointwise [val_main_v7, val_main_v6, val_main_v5, val_main_cst]
  first
  | rfl
  | exact Finset.sum_congr rfl fun n _ => mul_comm _ _

end Cert.Reference22Ideal.Value

namespace Cert.Proof

open Idealize.ShloMosaic

theorem algebraic22 : Cert.algebraic_Kernel22Ideal_Reference22Ideal (hKernel22Ideal := Cert.Kernel22Ideal.Gen.facts)
    (hReference22Ideal := Cert.Reference22Ideal.Gen.facts) := by
  intro m g m' g' _ hagree
  refine ⟨fun c => (Cert.Kernel22Ideal.Gen.dats m 0 c).arrAt 3 Cert.Kernel22Ideal.cfg0.N,
    fun c => (Cert.Kernel22Ideal.Gen.dats m 0 c).arrAt 4 Cert.Kernel22Ideal.cfg0.N, Cert.Kernel22Ideal.Value.run_blocks m g,
    θ_run_mono (Cert.Reference22Ideal.Value.run m' g') fun r hr c => ?_⟩
  obtain ⟨h1, h2, hargs⟩ := hr c
  obtain ⟨e0, e1, e2⟩ := hagree c
  refine ⟨?_, ?_, hargs⟩
  · refine (h1.trans (Cert.Reference22Ideal.Read.val_main_v8_eq _ _)).trans ?_
    rw [Cert.Reference22Ideal.Value.v8_eq, e0, e2]
    exact (Cert.Kernel22Ideal.Value.arr3 m c).symm
  · refine (h2.trans (Cert.Reference22Ideal.Read.val_main_v7_eq _ _)).trans ?_
    rw [Cert.Reference22Ideal.Value.v7_eq, e0, e1]
    exact (Cert.Kernel22Ideal.Value.arr4 m c).symm

/-- The reference runs and leaves its arguments. -/
theorem ref_frame22 : Cert.quiescent_Reference22Ideal (hReference22Ideal := Cert.Reference22Ideal.Gen.facts) := by
  intro m g _
  refine θ_run_mono (Cert.Reference22Ideal.Value.run m g) fun r h => ⟨fun c => (h c).2.2, ?_⟩
  exact sem_eq_zero_of_no_sems (by decide) r.2

end Cert.Proof

end
-- ==== Proof.Adam.lean ====
/- The optimiser's step on one weight, and on arrays of weights. -/
module

public import Idealize.ShloMosaic.Lib.IdealHost
public import Idealize.ShloMosaic.Lib.Pipeline.ValueKit

@[expose] public section

noncomputable section

namespace Cert.Adam

open Idealize.ShloMosaic

/-- The new first moment. -/
def mom (g m : EReal) : EReal := Ideal.ofBits FTy.f32 0x3F666666#32 * m + Ideal.ofBits FTy.f32 0x3DCCCCCD#32 * g
/-- The new second moment. -/
def vel (g v : EReal) : EReal := Ideal.ofBits FTy.f32 0x3F7FBE77#32 * v + Ideal.ofBits FTy.f32 0x3A83126F#32 * (g * g)
/-- The change of the weight. -/
def delta (w g m v : EReal) : EReal :=
  Ideal.ofBits FTy.f32 0xBA83126F#32
    * (Ideal.div (Ideal.div (mom g m) (Ideal.ofBits FTy.f32 0x3F26BD02#32))
        (Ideal.sqrt (Ideal.div (vel g v) (Ideal.ofBits FTy.f32 0x3C231ACC#32)) + Ideal.ofBits FTy.f32 0x322BCC77#32)
      + Ideal.ofBits FTy.f32 0x3C23D70A#32 * w)

section Arrays
variable {a b : ℕ} (W G M V O : (⟨2, ![a, b]⟩ : Shape).Idx → EReal) (R : (⟨3, ![8, a, b]⟩ : Shape).Idx → EReal)

/-- The devices' parts of a gradient, added. -/
def grad : (⟨2, ![a, b]⟩ : Shape).Idx → EReal := fun i => ∑ s : Fin 8, R (ix3 s (i 0) (i 1))
/-- The parts, the first of them replaced by the device's own. -/
def parts : (⟨3, ![8, a, b]⟩ : Shape).Idx → EReal := fun i => if (i 0).val < 1 then O (ix2 (i 1) (i 2)) else R i
def resM : (⟨2, ![a, b]⟩ : Shape).Idx → EReal := fun i => mom (G i) (M i)
def resV : (⟨2, ![a, b]⟩ : Shape).Idx → EReal := fun i => vel (G i) (V i)
def resD : (⟨2, ![a, b]⟩ : Shape).Idx → EReal := fun i => delta (W i) (G i) (M i) (V i)
end Arrays

end Cert.Adam

end
-- ==== Proof.AdamPa.lean ====
/- The optimiser's step of the weights of a branch or of the output. -/
module

public import proofs.«01_k».proof.Defs
public import proofs.«01_k».proof.Proof.Adam
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel23Ideal.Value

open Cert.Kernel23Ideal Cert.Kernel23Ideal.Gen Idealize.ShloMosaic Idealize.ShloMosaic.TcCoe Idealize.SL.Sem
open Idealize.ShloMosaic.Pipeline (Dat)

section Block
variable (x0 : Vec Ideal S128x256 .f32) (x1 : Vec Ideal S8x128x256 .bf16) (x2 x3 : Vec Ideal S128x256 .f32) (r : Fin 128) (d : Fin 256)

theorem grad_at : Adam.grad x1 (ix2 r d) = x1 (ix3 0 r d) + x1 (ix3 1 r d) + x1 (ix3 2 r d) + x1 (ix3 3 r d) + x1 (ix3 4 r d) + x1 (ix3 5 r d) + x1 (ix3 6 r d) + x1 (ix3 7 r d) :=
  Fin.sum_univ_eight _
theorem out4_at : out0_4 (F := Ideal) x0 x1 x2 x3 (ix2 r d) = Adam.grad x1 (ix2 r d) := by
  rw [grad_at x1 r d]
  frame_out
  pointwise [k0_pay5, k0_pay4]
theorem out5_at : out0_5 (F := Ideal) x0 x1 x2 x3 (ix2 r d) = Adam.delta (x0 (ix2 r d)) (Adam.grad x1 (ix2 r d)) (x2 (ix2 r d)) (x3 (ix2 r d)) := by
  rw [grad_at x1 r d]
  frame_out
  pointwise [k0_pay3, k0_pay1, k0_pay2, k0_pay5, k0_pay4]
  rfl
theorem out6_at : out0_6 (F := Ideal) x0 x1 x2 x3 (ix2 r d) = Adam.mom (Adam.grad x1 (ix2 r d)) (x2 (ix2 r d)) := by
  rw [grad_at x1 r d]
  frame_out
  pointwise [k0_pay1, k0_pay5, k0_pay4]
  rfl
theorem out7_at : out0_7 (F := Ideal) x0 x1 x2 x3 (ix2 r d) = Adam.vel (Adam.grad x1 (ix2 r d)) (x3 (ix2 r d)) := by
  rw [grad_at x1 r d]
  frame_out
  pointwise [k0_pay2, k0_pay5, k0_pay4]
  rfl
end Block

variable (m : (ℓ : Loc nD τ sig) → Buf (Elt Ideal) ℓ) (c : Dev nD)

theorem idx : ∀ t : Fin cfg0.N, win0_0.index t = ![0, t.val] ∧ win0_1.index t = ![0, 0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

theorem lt (t : Fin cfg0.N) : t.val < 4 := t.isLt

theorem iblk0 (t : Fin cfg0.N) (r : Fin 128) (d : Fin 256) : iblk m c 0 t (ix2 r d)
    = m ((c : Thread nD τ).loc main_arg0) (ix2 r ⟨t.val * 256 + d.val, by have := lt t; omega⟩) := by
  blk_point [iblk, V, idx t]
theorem iblk1 (t : Fin cfg0.N) (s : Fin 8) (r : Fin 128) (d : Fin 256) : iblk m c 1 t (ix3 s r d)
    = m ((c : Thread nD τ).loc main_arg1) (ix3 s r ⟨t.val * 256 + d.val, by have := lt t; omega⟩) := by
  blk_point [iblk, V, idx t]
theorem iblk2 (t : Fin cfg0.N) (r : Fin 128) (d : Fin 256) : iblk m c 2 t (ix2 r d)
    = m ((c : Thread nD τ).loc main_arg2) (ix2 r ⟨t.val * 256 + d.val, by have := lt t; omega⟩) := by
  blk_point [iblk, V, idx t]
theorem iblk3 (t : Fin cfg0.N) (r : Fin 128) (d : Fin 256) : iblk m c 3 t (ix2 r d)
    = m ((c : Thread nD τ).loc main_arg3) (ix2 r ⟨t.val * 256 + d.val, by have := lt t; omega⟩) := by
  blk_point [iblk, V, idx t]
theorem emb4 (t : Fin cfg0.N) (r : Fin 128) (d : Fin 256) : ((View.whole main_v0_0).slice (win0_4.rect t)).emb (ix2 r d)
    = ix2 r ⟨t.val * 256 + d.val, by have := lt t; omega⟩ := by
  funext b
  fin_cases b <;> apply Fin.ext <;> blk_simp [idx t] <;> rfl
theorem emb5 (t : Fin cfg0.N) (r : Fin 128) (d : Fin 256) : ((View.whole main_v0_1).slice (win0_5.rect t)).emb (ix2 r d)
    = ix2 r ⟨t.val * 256 + d.val, by have := lt t; omega⟩ := by
  funext b
  fin_cases b <;> apply Fin.ext <;> blk_simp [idx t] <;> rfl
theorem emb6 (t : Fin cfg0.N) (r : Fin 128) (d : Fin 256) : ((View.whole main_v0_2).slice (win0_6.rect t)).emb (ix2 r d)
    = ix2 r ⟨t.val * 256 + d.val, by have := lt t; omega⟩ := by
  funext b
  fin_cases b <;> apply Fin.ext <;> blk_simp [idx t] <;> rfl
theorem emb7 (t : Fin cfg0.N) (r : Fin 128) (d : Fin 256) : ((View.whole main_v0_3).slice (win0_7.rect t)).emb (ix2 r d)
    = ix2 r ⟨t.val * 256 + d.val, by have := lt t; omega⟩ := by
  funext b
  fin_cases b <;> apply Fin.ext <;> blk_simp [idx t] <;> rfl
theorem grads (t : Fin cfg0.N) (r : Fin 128) (d : Fin 256) : Adam.grad (a := 128) (b := 256) (iblk m c 1 t) (ix2 r d)
    = Adam.grad (m ((c : Thread nD τ).loc main_arg1)) (ix2 r ⟨t.val * 256 + d.val, by have := lt t; omega⟩) := by
  exact Finset.sum_congr rfl fun s _ => iblk1 m c t s r d

theorem arr4 : (dats m 0 c).arrAt 4 cfg0.N = Adam.grad (m ((c : Thread nD τ).loc main_arg1)) := by
  refine (dats m 0 c).arrAt_eq_of_covers 4 _ (by decide +kernel) fun t hf y => ?_
  blk_simp
  rw [after0_4]
  obtain ⟨r, d, rfl⟩ : ∃ (r : Fin 128) (d : Fin 256), y = ix2 r d := ⟨y 0, y 1, (ix2_eta y).symm⟩
  rw [emb4, out4_at, grads]
theorem arr5 : (dats m 0 c).arrAt 5 cfg0.N = Adam.resD (m ((c : Thread nD τ).loc main_arg0)) (Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, d, rfl⟩ : ∃ (r : Fin 128) (d : Fin 256), y = ix2 r d := ⟨y 0, y 1, (ix2_eta y).symm⟩
  rw [emb5, out5_at, iblk0, grads, iblk2, iblk3]
  rfl
theorem arr6 : (dats m 0 c).arrAt 6 cfg0.N = Adam.resM (Adam.grad (m ((c : Thread nD τ).loc main_arg1))) (m ((c : Thread nD τ).loc main_arg2)) := by
  refine (dats m 0 c).arrAt_eq_of_covers 6 _ (by decide +kernel) fun t hf y => ?_
  blk_simp
  rw [after0_6]
  obtain ⟨r, d, rfl⟩ : ∃ (r : Fin 128) (d : Fin 256), y = ix2 r d := ⟨y 0, y 1, (ix2_eta y).symm⟩
  rw [emb6, out6_at, grads, iblk2]
  rfl
theorem arr7 : (dats m 0 c).arrAt 7 cfg0.N = Adam.resV (Adam.grad (m ((c : Thread nD τ).loc main_arg1))) (m ((c : Thread nD τ).loc main_arg3)) := by
  refine (dats m 0 c).arrAt_eq_of_covers 7 _ (by decide +kernel) fun t hf y => ?_
  blk_simp
  rw [after0_7]
  obtain ⟨r, d, rfl⟩ : ∃ (r : Fin 128) (d : Fin 256), y = ix2 r d := ⟨y 0, y 1, (ix2_eta y).symm⟩
  rw [emb7, out7_at, grads, iblk3]
  rfl

end Cert.Kernel23Ideal.Value

namespace Cert.Reference23Ideal.Value

open Cert.Reference23Ideal Cert.Reference23Ideal.Gen Cert.Reference23Ideal.Read Idealize.ShloMosaic Idealize.SL.Sem

variable (X0 : Vec Ideal S128x1024 .f32) (X1 : Vec Ideal S8x128x1024 .bf16) (X2 X3 : Vec Ideal S128x1024 .f32)

theorem v1_eq : val_main_v1 (F := Ideal) X1 = Adam.grad X1 := by
  funext i
  obtain ⟨r, d, rfl⟩ : ∃ (r : Fin 128) (d : Fin 1024), i = ix2 r d := ⟨i 0, i 1, (ix2_eta i).symm⟩
  pointwise [val_main_v1, val_main_cst, val_main_v0]
  rfl
theorem v6_eq : val_main_v6 (F := Ideal) X1 X2 = Adam.resM (Adam.grad X1) X2 := by
  funext i
  obtain ⟨r, d, rfl⟩ : ∃ (r : Fin 128) (d : Fin 1024), i = ix2 r d := ⟨i 0, i 1, (ix2_eta i).symm⟩
  pointwise [val_main_v6, val_main_v5, val_main_v4, val_main_v3, val_main_v2, val_main_cst_0, val_main_cst_1]
  rw [v1_eq]
  rfl
theorem v12_eq : val_main_v12 (F := Ideal) X1 X3 = Adam.resV (Adam.grad X1) X3 := by
  funext i
  obtain ⟨r, d, rfl⟩ : ∃ (r : Fin 128) (d : Fin 1024), i = ix2 r d := ⟨i 0, i 1, (ix2_eta i).symm⟩
  pointwise [val_main_v12, val_main_v11, val_main_v10, val_main_v9, val_main_v8, val_main_v7, val_main_cst_2, val_main_cst_3]
  rw [v1_eq]
  rfl
theorem v25_eq : val_main_v25 (F := Ideal) X0 X1 X2 X3 = Adam.resD X0 (Adam.grad X1) X2 X3 := by
  funext i
  obtain ⟨r, d, rfl⟩ : ∃ (r : Fin 128) (d : Fin 1024), i = ix2 r d := ⟨i 0, i 1, (ix2_eta i).symm⟩
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7]
  rw [v6_eq, v12_eq]
  rfl

end Cert.Reference23Ideal.Value

namespace Cert.Proof

open Idealize.ShloMosaic

theorem algebraic23 : Cert.algebraic_Kernel23Ideal_Reference23Ideal (hKernel23Ideal := Cert.Kernel23Ideal.Gen.facts)
    (hReference23Ideal := Cert.Reference23Ideal.Gen.facts) := by
  intro m g m' g' _ hagree
  refine ⟨fun c => (Cert.Kernel23Ideal.Gen.dats m 0 c).arrAt 4 Cert.Kernel23Ideal.cfg0.N,
    fun c => (Cert.Kernel23Ideal.Gen.dats m 0 c).arrAt 5 Cert.Kernel23Ideal.cfg0.N,
    fun c => (Cert.Kernel23Ideal.Gen.dats m 0 c).arrAt 6 Cert.Kernel23Ideal.cfg0.N,
    fun c => (Cert.Kernel23Ideal.Gen.dats m 0 c).arrAt 7 Cert.Kernel23Ideal.cfg0.N, Cert.Kernel23Ideal.Value.run_blocks m g,
    θ_run_mono (Cert.Reference23Ideal.Value.run m' g') fun r hr c => ?_⟩
  obtain ⟨h0, h1, h2, h3, hargs⟩ := hr c
  obtain ⟨e0, e1, e2, e3⟩ := hagree c
  refine ⟨?_, ?_, ?_, ?_, hargs⟩
  · refine (h0.trans (Cert.Reference23Ideal.Read.val_main_v1_eq _)).trans ?_
    rw [Cert.Reference23Ideal.Value.v1_eq, e1]
    exact (Cert.Kernel23Ideal.Value.arr4 m c).symm
  · refine (h1.trans (Cert.Reference23Ideal.Read.val_main_v25_eq _ _ _ _)).trans ?_
    rw [Cert.Reference23Ideal.Value.v25_eq, e0, e1, e2, e3]
    exact (Cert.Kernel23Ideal.Value.arr5 m c).symm
  · refine (h2.trans (Cert.Reference23Ideal.Read.val_main_v6_eq _ _)).trans ?_
    rw [Cert.Reference23Ideal.Value.v6_eq, e1, e2]
    exact (Cert.Kernel23Ideal.Value.arr6 m c).symm
  · refine (h3.trans (Cert.Reference23Ideal.Read.val_main_v12_eq _ _)).trans ?_
    rw [Cert.Reference23Ideal.Value.v12_eq, e1, e3]
    exact (Cert.Kernel23Ideal.Value.arr7 m c).symm

/-- The reference runs and leaves its arguments. -/
theorem ref_frame23 : Cert.quiescent_Reference23Ideal (hReference23Ideal := Cert.Reference23Ideal.Gen.facts) := by
  intro m g _
  refine θ_run_mono (Cert.Reference23Ideal.Value.run m g) fun r h => ⟨fun c => (h c).2.2.2.2, ?_⟩
  exact sem_eq_zero_of_no_sems (by decide) r.2

end Cert.Proof

end
-- ==== Proof.AdamUp.lean ====
/- The optimiser's step of the weights of the feed-forward block that widen. -/
module

public import proofs.«01_k».proof.Defs
public import proofs.«01_k».proof.Proof.Adam
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel24Ideal.Value

open Cert.Kernel24Ideal Cert.Kernel24Ideal.Gen Idealize.ShloMosaic Idealize.ShloMosaic.TcCoe Idealize.SL.Sem
open Idealize.ShloMosaic.Pipeline (Dat)

section Block
variable (x0 : Vec Ideal S704x256 .f32) (x1 : Vec Ideal S8x704x256 .bf16) (x2 x3 : Vec Ideal S704x256 .f32) (r : Fin 704) (d : Fin 256)

theorem grad_at : Adam.grad x1 (ix2 r d) = x1 (ix3 0 r d) + x1 (ix3 1 r d) + x1 (ix3 2 r d) + x1 (ix3 3 r d) + x1 (ix3 4 r d) + x1 (ix3 5 r d) + x1 (ix3 6 r d) + x1 (ix3 7 r d) :=
  Fin.sum_univ_eight _
theorem out4_at : out0_4 (F := Ideal) x0 x1 x2 x3 (ix2 r d) = Adam.grad x1 (ix2 r d) := by
  rw [grad_at x1 r d]
  frame_out
  pointwise [k0_pay5, k0_pay4]
theorem out5_at : out0_5 (F := Ideal) x0 x1 x2 x3 (ix2 r d) = Adam.delta (x0 (ix2 r d)) (Adam.grad x1 (ix2 r d)) (x2 (ix2 r d)) (x3 (ix2 r d)) := by
  rw [grad_at x1 r d]
  frame_out
  pointwise [k0_pay3, k0_pay1, k0_pay2, k0_pay5, k0_pay4]
  rfl
theorem out6_at : out0_6 (F := Ideal) x0 x1 x2 x3 (ix2 r d) = Adam.mom (Adam.grad x1 (ix2 r d)) (x2 (ix2 r d)) := by
  rw [grad_at x1 r d]
  frame_out
  pointwise [k0_pay1, k0_pay5, k0_pay4]
  rfl
theorem out7_at : out0_7 (F := Ideal) x0 x1 x2 x3 (ix2 r d) = Adam.vel (Adam.grad x1 (ix2 r d)) (x3 (ix2 r d)) := by
  rw [grad_at x1 r d]
  frame_out
  pointwise [k0_pay2, k0_pay5, k0_pay4]
  rfl
end Block

variable (m : (ℓ : Loc nD τ sig) → Buf (Elt Ideal) ℓ) (c : Dev nD)

theorem idx : ∀ t : Fin cfg0.N, win0_0.index t = ![0, t.val] ∧ win0_1.index t = ![0, 0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

theorem lt (t : Fin cfg0.N) : t.val < 4 := t.isLt

theorem iblk0 (t : Fin cfg0.N) (r : Fin 704) (d : Fin 256) : iblk m c 0 t (ix2 r d)
    = m ((c : Thread nD τ).loc main_arg0) (ix2 r ⟨t.val * 256 + d.val, by have := lt t; omega⟩) := by
  blk_point [iblk, V, idx t]
theorem iblk1 (t : Fin cfg0.N) (s : Fin 8) (r : Fin 704) (d : Fin 256) : iblk m c 1 t (ix3 s r d)
    = m ((c : Thread nD τ).loc main_arg1) (ix3 s r ⟨t.val * 256 + d.val, by have := lt t; omega⟩) := by
  blk_point [iblk, V, idx t]
theorem iblk2 (t : Fin cfg0.N) (r : Fin 704) (d : Fin 256) : iblk m c 2 t (ix2 r d)
    = m ((c : Thread nD τ).loc main_arg2) (ix2 r ⟨t.val * 256 + d.val, by have := lt t; omega⟩) := by
  blk_point [iblk, V, idx t]
theorem iblk3 (t : Fin cfg0.N) (r : Fin 704) (d : Fin 256) : iblk m c 3 t (ix2 r d)
    = m ((c : Thread nD τ).loc main_arg3) (ix2 r ⟨t.val * 256 + d.val, by have := lt t; omega⟩) := by
  blk_point [iblk, V, idx t]
theorem emb4 (t : Fin cfg0.N) (r : Fin 704) (d : Fin 256) : ((View.whole main_v0_0).slice (win0_4.rect t)).emb (ix2 r d)
    = ix2 r ⟨t.val * 256 + d.val, by have := lt t; omega⟩ := by
  funext b
  fin_cases b <;> apply Fin.ext <;> blk_simp [idx t] <;> rfl
theorem emb5 (t : Fin cfg0.N) (r : Fin 704) (d : Fin 256) : ((View.whole main_v0_1).slice (win0_5.rect t)).emb (ix2 r d)
    = ix2 r ⟨t.val * 256 + d.val, by have := lt t; omega⟩ := by
  funext b
  fin_cases b <;> apply Fin.ext <;> blk_simp [idx t] <;> rfl
theorem emb6 (t : Fin cfg0.N) (r : Fin 704) (d : Fin 256) : ((View.whole main_v0_2).slice (win0_6.rect t)).emb (ix2 r d)
    = ix2 r ⟨t.val * 256 + d.val, by have := lt t; omega⟩ := by
  funext b
  fin_cases b <;> apply Fin.ext <;> blk_simp [idx t] <;> rfl
theorem emb7 (t : Fin cfg0.N) (r : Fin 704) (d : Fin 256) : ((View.whole main_v0_3).slice (win0_7.rect t)).emb (ix2 r d)
    = ix2 r ⟨t.val * 256 + d.val, by have := lt t; omega⟩ := by
  funext b
  fin_cases b <;> apply Fin.ext <;> blk_simp [idx t] <;> rfl
theorem grads (t : Fin cfg0.N) (r : Fin 704) (d : Fin 256) : Adam.grad (a := 704) (b := 256) (iblk m c 1 t) (ix2 r d)
    = Adam.grad (m ((c : Thread nD τ).loc main_arg1)) (ix2 r ⟨t.val * 256 + d.val, by have := lt t; omega⟩) := by
  exact Finset.sum_congr rfl fun s _ => iblk1 m c t s r d

theorem arr4 : (dats m 0 c).arrAt 4 cfg0.N = Adam.grad (m ((c : Thread nD τ).loc main_arg1)) := by
  refine (dats m 0 c).arrAt_eq_of_covers 4 _ (by decide +kernel) fun t hf y => ?_
  blk_simp
  rw [after0_4]
  obtain ⟨r, d, rfl⟩ : ∃ (r : Fin 704) (d : Fin 256), y = ix2 r d := ⟨y 0, y 1, (ix2_eta y).symm⟩
  rw [emb4, out4_at, grads]
theorem arr5 : (dats m 0 c).arrAt 5 cfg0.N = Adam.resD (m ((c : Thread nD τ).loc main_arg0)) (Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, d, rfl⟩ : ∃ (r : Fin 704) (d : Fin 256), y = ix2 r d := ⟨y 0, y 1, (ix2_eta y).symm⟩
  rw [emb5, out5_at, iblk0, grads, iblk2, iblk3]
  rfl
theorem arr6 : (dats m 0 c).arrAt 6 cfg0.N = Adam.resM (Adam.grad (m ((c : Thread nD τ).loc main_arg1))) (m ((c : Thread nD τ).loc main_arg2)) := by
  refine (dats m 0 c).arrAt_eq_of_covers 6 _ (by decide +kernel) fun t hf y => ?_
  blk_simp
  rw [after0_6]
  obtain ⟨r, d, rfl⟩ : ∃ (r : Fin 704) (d : Fin 256), y = ix2 r d := ⟨y 0, y 1, (ix2_eta y).symm⟩
  rw [emb6, out6_at, grads, iblk2]
  rfl
theorem arr7 : (dats m 0 c).arrAt 7 cfg0.N = Adam.resV (Adam.grad (m ((c : Thread nD τ).loc main_arg1))) (m ((c : Thread nD τ).loc main_arg3)) := by
  refine (dats m 0 c).arrAt_eq_of_covers 7 _ (by decide +kernel) fun t hf y => ?_
  blk_simp
  rw [after0_7]
  obtain ⟨r, d, rfl⟩ : ∃ (r : Fin 704) (d : Fin 256), y = ix2 r d := ⟨y 0, y 1, (ix2_eta y).symm⟩
  rw [emb7, out7_at, grads, iblk3]
  rfl

end Cert.Kernel24Ideal.Value

namespace Cert.Reference24Ideal.Value

open Cert.Reference24Ideal Cert.Reference24Ideal.Gen Cert.Reference24Ideal.Read Idealize.ShloMosaic Idealize.SL.Sem

variable (X0 : Vec Ideal S704x1024 .f32) (X1 : Vec Ideal S8x704x1024 .bf16) (X2 X3 : Vec Ideal S704x1024 .f32)

theorem v1_eq : val_main_v1 (F := Ideal) X1 = Adam.grad X1 := by
  funext i
  obtain ⟨r, d, rfl⟩ : ∃ (r : Fin 704) (d : Fin 1024), i = ix2 r d := ⟨i 0, i 1, (ix2_eta i).symm⟩
  pointwise [val_main_v1, val_main_cst, val_main_v0]
  rfl
theorem v6_eq : val_main_v6 (F := Ideal) X1 X2 = Adam.resM (Adam.grad X1) X2 := by
  funext i
  obtain ⟨r, d, rfl⟩ : ∃ (r : Fin 704) (d : Fin 1024), i = ix2 r d := ⟨i 0, i 1, (ix2_eta i).symm⟩
  pointwise [val_main_v6, val_main_v5, val_main_v4, val_main_v3, val_main_v2, val_main_cst_0, val_main_cst_1]
  rw [v1_eq]
  rfl
theorem v12_eq : val_main_v12 (F := Ideal) X1 X3 = Adam.resV (Adam.grad X1) X3 := by
  funext i
  obtain ⟨r, d, rfl⟩ : ∃ (r : Fin 704) (d : Fin 1024), i = ix2 r d := ⟨i 0, i 1, (ix2_eta i).symm⟩
  pointwise [val_main_v12, val_main_v11, val_main_v10, val_main_v9, val_main_v8, val_main_v7, val_main_cst_2, val_main_cst_3]
  rw [v1_eq]
  rfl
theorem v25_eq : val_main_v25 (F := Ideal) X0 X1 X2 X3 = Adam.resD X0 (Adam.grad X1) X2 X3 := by
  funext i
  obtain ⟨r, d, rfl⟩ : ∃ (r : Fin 704) (d : Fin 1024), i = ix2 r d := ⟨i 0, i 1, (ix2_eta i).symm⟩
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7]
  rw [v6_eq, v12_eq]
  rfl

end Cert.Reference24Ideal.Value

namespace Cert.Proof

open Idealize.ShloMosaic

theorem algebraic24 : Cert.algebraic_Kernel24Ideal_Reference24Ideal (hKernel24Ideal := Cert.Kernel24Ideal.Gen.facts)
    (hReference24Ideal := Cert.Reference24Ideal.Gen.facts) := by
  intro m g m' g' _ hagree
  refine ⟨fun c => (Cert.Kernel24Ideal.Gen.dats m 0 c).arrAt 4 Cert.Kernel24Ideal.cfg0.N,
    fun c => (Cert.Kernel24Ideal.Gen.dats m 0 c).arrAt 5 Cert.Kernel24Ideal.cfg0.N,
    fun c => (Cert.Kernel24Ideal.Gen.dats m 0 c).arrAt 6 Cert.Kernel24Ideal.cfg0.N,
    fun c => (Cert.Kernel24Ideal.Gen.dats m 0 c).arrAt 7 Cert.Kernel24Ideal.cfg0.N, Cert.Kernel24Ideal.Value.run_blocks m g,
    θ_run_mono (Cert.Reference24Ideal.Value.run m' g') fun r hr c => ?_⟩
  obtain ⟨h0, h1, h2, h3, hargs⟩ := hr c
  obtain ⟨e0, e1, e2, e3⟩ := hagree c
  refine ⟨?_, ?_, ?_, ?_, hargs⟩
  · refine (h0.trans (Cert.Reference24Ideal.Read.val_main_v1_eq _)).trans ?_
    rw [Cert.Reference24Ideal.Value.v1_eq, e1]
    exact (Cert.Kernel24Ideal.Value.arr4 m c).symm
  · refine (h1.trans (Cert.Reference24Ideal.Read.val_main_v25_eq _ _ _ _)).trans ?_
    rw [Cert.Reference24Ideal.Value.v25_eq, e0, e1, e2, e3]
    exact (Cert.Kernel24Ideal.Value.arr5 m c).symm
  · refine (h2.trans (Cert.Reference24Ideal.Read.val_main_v6_eq _ _)).trans ?_
    rw [Cert.Reference24Ideal.Value.v6_eq, e1, e2]
    exact (Cert.Kernel24Ideal.Value.arr6 m c).symm
  · refine (h3.trans (Cert.Reference24Ideal.Read.val_main_v12_eq _ _)).trans ?_
    rw [Cert.Reference24Ideal.Value.v12_eq, e1, e3]
    exact (Cert.Kernel24Ideal.Value.arr7 m c).symm

/-- The reference runs and leaves its arguments. -/
theorem ref_frame24 : Cert.quiescent_Reference24Ideal (hReference24Ideal := Cert.Reference24Ideal.Gen.facts) := by
  intro m g _
  refine θ_run_mono (Cert.Reference24Ideal.Value.run m g) fun r h => ⟨fun c => (h c).2.2.2.2, ?_⟩
  exact sem_eq_zero_of_no_sems (by decide) r.2

end Cert.Proof

end
-- ==== Proof.AdamDown.lean ====
/- The optimiser's step of the weights of the feed-forward block that narrow. -/
module

public import proofs.«01_k».proof.Defs
public import proofs.«01_k».proof.Proof.Adam
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel25Ideal.Value

open Cert.Kernel25Ideal Cert.Kernel25Ideal.Gen Idealize.ShloMosaic Idealize.ShloMosaic.TcCoe Idealize.SL.Sem
open Idealize.ShloMosaic.Pipeline (Dat)

section Block
variable (x0 : Vec Ideal S352x256 .f32) (x1 : Vec Ideal S8x352x256 .bf16) (x2 x3 : Vec Ideal S352x256 .f32) (r : Fin 352) (d : Fin 256)

theorem grad_at : Adam.grad x1 (ix2 r d) = x1 (ix3 0 r d) + x1 (ix3 1 r d) + x1 (ix3 2 r d) + x1 (ix3 3 r d) + x1 (ix3 4 r d) + x1 (ix3 5 r d) + x1 (ix3 6 r d) + x1 (ix3 7 r d) :=
  Fin.sum_univ_eight _
theorem out4_at : out0_4 (F := Ideal) x0 x1 x2 x3 (ix2 r d) = Adam.grad x1 (ix2 r d) := by
  rw [grad_at x1 r d]
  frame_out
  pointwise [k0_pay5, k0_pay4]
theorem out5_at : out0_5 (F := Ideal) x0 x1 x2 x3 (ix2 r d) = Adam.delta (x0 (ix2 r d)) (Adam.grad x1 (ix2 r d)) (x2 (ix2 r d)) (x3 (ix2 r d)) := by
  rw [grad_at x1 r d]
  frame_out
  pointwise [k0_pay3, k0_pay1, k0_pay2, k0_pay5, k0_pay4]
  rfl
theorem out6_at : out0_6 (F := Ideal) x0 x1 x2 x3 (ix2 r d) = Adam.mom (Adam.grad x1 (ix2 r d)) (x2 (ix2 r d)) := by
  rw [grad_at x1 r d]
  frame_out
  pointwise [k0_pay1, k0_pay5, k0_pay4]
  rfl
theorem out7_at : out0_7 (F := Ideal) x0 x1 x2 x3 (ix2 r d) = Adam.vel (Adam.grad x1 (ix2 r d)) (x3 (ix2 r d)) := by
  rw [grad_at x1 r d]
  frame_out
  pointwise [k0_pay2, k0_pay5, k0_pay4]
  rfl
end Block

variable (m : (ℓ : Loc nD τ sig) → Buf (Elt Ideal) ℓ) (c : Dev nD)

theorem idx : ∀ t : Fin cfg0.N, win0_0.index t = ![0, t.val] ∧ win0_1.index t = ![0, 0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

theorem lt (t : Fin cfg0.N) : t.val < 4 := t.isLt

theorem iblk0 (t : Fin cfg0.N) (r : Fin 352) (d : Fin 256) : iblk m c 0 t (ix2 r d)
    = m ((c : Thread nD τ).loc main_arg0) (ix2 r ⟨t.val * 256 + d.val, by have := lt t; omega⟩) := by
  blk_point [iblk, V, idx t]
theorem iblk1 (t : Fin cfg0.N) (s : Fin 8) (r : Fin 352) (d : Fin 256) : iblk m c 1 t (ix3 s r d)
    = m ((c : Thread nD τ).loc main_arg1) (ix3 s r ⟨t.val * 256 + d.val, by have := lt t; omega⟩) := by
  blk_point [iblk, V, idx t]
theorem iblk2 (t : Fin cfg0.N) (r : Fin 352) (d : Fin 256) : iblk m c 2 t (ix2 r d)
    = m ((c : Thread nD τ).loc main_arg2) (ix2 r ⟨t.val * 256 + d.val, by have := lt t; omega⟩) := by
  blk_point [iblk, V, idx t]
theorem iblk3 (t : Fin cfg0.N) (r : Fin 352) (d : Fin 256) : iblk m c 3 t (ix2 r d)
    = m ((c : Thread nD τ).loc main_arg3) (ix2 r ⟨t.val * 256 + d.val, by have := lt t; omega⟩) := by
  blk_point [iblk, V, idx t]
theorem emb4 (t : Fin cfg0.N) (r : Fin 352) (d : Fin 256) : ((View.whole main_v0_0).slice (win0_4.rect t)).emb (ix2 r d)
    = ix2 r ⟨t.val * 256 + d.val, by have := lt t; omega⟩ := by
  funext b
  fin_cases b <;> apply Fin.ext <;> blk_simp [idx t] <;> rfl
theorem emb5 (t : Fin cfg0.N) (r : Fin 352) (d : Fin 256) : ((View.whole main_v0_1).slice (win0_5.rect t)).emb (ix2 r d)
    = ix2 r ⟨t.val * 256 + d.val, by have := lt t; omega⟩ := by
  funext b
  fin_cases b <;> apply Fin.ext <;> blk_simp [idx t] <;> rfl
theorem emb6 (t : Fin cfg0.N) (r : Fin 352) (d : Fin 256) : ((View.whole main_v0_2).slice (win0_6.rect t)).emb (ix2 r d)
    = ix2 r ⟨t.val * 256 + d.val, by have := lt t; omega⟩ := by
  funext b
  fin_cases b <;> apply Fin.ext <;> blk_simp [idx t] <;> rfl
theorem emb7 (t : Fin cfg0.N) (r : Fin 352) (d : Fin 256) : ((View.whole main_v0_3).slice (win0_7.rect t)).emb (ix2 r d)
    = ix2 r ⟨t.val * 256 + d.val, by have := lt t; omega⟩ := by
  funext b
  fin_cases b <;> apply Fin.ext <;> blk_simp [idx t] <;> rfl
theorem grads (t : Fin cfg0.N) (r : Fin 352) (d : Fin 256) : Adam.grad (a := 352) (b := 256) (iblk m c 1 t) (ix2 r d)
    = Adam.grad (m ((c : Thread nD τ).loc main_arg1)) (ix2 r ⟨t.val * 256 + d.val, by have := lt t; omega⟩) := by
  exact Finset.sum_congr rfl fun s _ => iblk1 m c t s r d

theorem arr4 : (dats m 0 c).arrAt 4 cfg0.N = Adam.grad (m ((c : Thread nD τ).loc main_arg1)) := by
  refine (dats m 0 c).arrAt_eq_of_covers 4 _ (by decide +kernel) fun t hf y => ?_
  blk_simp
  rw [after0_4]
  obtain ⟨r, d, rfl⟩ : ∃ (r : Fin 352) (d : Fin 256), y = ix2 r d := ⟨y 0, y 1, (ix2_eta y).symm⟩
  rw [emb4, out4_at, grads]
theorem arr5 : (dats m 0 c).arrAt 5 cfg0.N = Adam.resD (m ((c : Thread nD τ).loc main_arg0)) (Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, d, rfl⟩ : ∃ (r : Fin 352) (d : Fin 256), y = ix2 r d := ⟨y 0, y 1, (ix2_eta y).symm⟩
  rw [emb5, out5_at, iblk0, grads, iblk2, iblk3]
  rfl
theorem arr6 : (dats m 0 c).arrAt 6 cfg0.N = Adam.resM (Adam.grad (m ((c : Thread nD τ).loc main_arg1))) (m ((c : Thread nD τ).loc main_arg2)) := by
  refine (dats m 0 c).arrAt_eq_of_covers 6 _ (by decide +kernel) fun t hf y => ?_
  blk_simp
  rw [after0_6]
  obtain ⟨r, d, rfl⟩ : ∃ (r : Fin 352) (d : Fin 256), y = ix2 r d := ⟨y 0, y 1, (ix2_eta y).symm⟩
  rw [emb6, out6_at, grads, iblk2]
  rfl
theorem arr7 : (dats m 0 c).arrAt 7 cfg0.N = Adam.resV (Adam.grad (m ((c : Thread nD τ).loc main_arg1))) (m ((c : Thread nD τ).loc main_arg3)) := by
  refine (dats m 0 c).arrAt_eq_of_covers 7 _ (by decide +kernel) fun t hf y => ?_
  blk_simp
  rw [after0_7]
  obtain ⟨r, d, rfl⟩ : ∃ (r : Fin 352) (d : Fin 256), y = ix2 r d := ⟨y 0, y 1, (ix2_eta y).symm⟩
  rw [emb7, out7_at, grads, iblk3]
  rfl

end Cert.Kernel25Ideal.Value

namespace Cert.Reference25Ideal.Value

open Cert.Reference25Ideal Cert.Reference25Ideal.Gen Cert.Reference25Ideal.Read Idealize.ShloMosaic Idealize.SL.Sem

variable (X0 : Vec Ideal S352x1024 .f32) (X1 : Vec Ideal S8x352x1024 .bf16) (X2 X3 : Vec Ideal S352x1024 .f32)

theorem v1_eq : val_main_v1 (F := Ideal) X1 = Adam.grad X1 := by
  funext i
  obtain ⟨r, d, rfl⟩ : ∃ (r : Fin 352) (d : Fin 1024), i = ix2 r d := ⟨i 0, i 1, (ix2_eta i).symm⟩
  pointwise [val_main_v1, val_main_cst, val_main_v0]
  rfl
theorem v6_eq : val_main_v6 (F := Ideal) X1 X2 = Adam.resM (Adam.grad X1) X2 := by
  funext i
  obtain ⟨r, d, rfl⟩ : ∃ (r : Fin 352) (d : Fin 1024), i = ix2 r d := ⟨i 0, i 1, (ix2_eta i).symm⟩
  pointwise [val_main_v6, val_main_v5, val_main_v4, val_main_v3, val_main_v2, val_main_cst_0, val_main_cst_1]
  rw [v1_eq]
  rfl
theorem v12_eq : val_main_v12 (F := Ideal) X1 X3 = Adam.resV (Adam.grad X1) X3 := by
  funext i
  obtain ⟨r, d, rfl⟩ : ∃ (r : Fin 352) (d : Fin 1024), i = ix2 r d := ⟨i 0, i 1, (ix2_eta i).symm⟩
  pointwise [val_main_v12, val_main_v11, val_main_v10, val_main_v9, val_main_v8, val_main_v7, val_main_cst_2, val_main_cst_3]
  rw [v1_eq]
  rfl
theorem v25_eq : val_main_v25 (F := Ideal) X0 X1 X2 X3 = Adam.resD X0 (Adam.grad X1) X2 X3 := by
  funext i
  obtain ⟨r, d, rfl⟩ : ∃ (r : Fin 352) (d : Fin 1024), i = ix2 r d := ⟨i 0, i 1, (ix2_eta i).symm⟩
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7]
  rw [v6_eq, v12_eq]
  rfl

end Cert.Reference25Ideal.Value

namespace Cert.Proof

open Idealize.ShloMosaic

theorem algebraic25 : Cert.algebraic_Kernel25Ideal_Reference25Ideal (hKernel25Ideal := Cert.Kernel25Ideal.Gen.facts)
    (hReference25Ideal := Cert.Reference25Ideal.Gen.facts) := by
  intro m g m' g' _ hagree
  refine ⟨fun c => (Cert.Kernel25Ideal.Gen.dats m 0 c).arrAt 4 Cert.Kernel25Ideal.cfg0.N,
    fun c => (Cert.Kernel25Ideal.Gen.dats m 0 c).arrAt 5 Cert.Kernel25Ideal.cfg0.N,
    fun c => (Cert.Kernel25Ideal.Gen.dats m 0 c).arrAt 6 Cert.Kernel25Ideal.cfg0.N,
    fun c => (Cert.Kernel25Ideal.Gen.dats m 0 c).arrAt 7 Cert.Kernel25Ideal.cfg0.N, Cert.Kernel25Ideal.Value.run_blocks m g,
    θ_run_mono (Cert.Reference25Ideal.Value.run m' g') fun r hr c => ?_⟩
  obtain ⟨h0, h1, h2, h3, hargs⟩ := hr c
  obtain ⟨e0, e1, e2, e3⟩ := hagree c
  refine ⟨?_, ?_, ?_, ?_, hargs⟩
  · refine (h0.trans (Cert.Reference25Ideal.Read.val_main_v1_eq _)).trans ?_
    rw [Cert.Reference25Ideal.Value.v1_eq, e1]
    exact (Cert.Kernel25Ideal.Value.arr4 m c).symm
  · refine (h1.trans (Cert.Reference25Ideal.Read.val_main_v25_eq _ _ _ _)).trans ?_
    rw [Cert.Reference25Ideal.Value.v25_eq, e0, e1, e2, e3]
    exact (Cert.Kernel25Ideal.Value.arr5 m c).symm
  · refine (h2.trans (Cert.Reference25Ideal.Read.val_main_v6_eq _ _)).trans ?_
    rw [Cert.Reference25Ideal.Value.v6_eq, e1, e2]
    exact (Cert.Kernel25Ideal.Value.arr6 m c).symm
  · refine (h3.trans (Cert.Reference25Ideal.Read.val_main_v12_eq _ _)).trans ?_
    rw [Cert.Reference25Ideal.Value.v12_eq, e1, e3]
    exact (Cert.Kernel25Ideal.Value.arr7 m c).symm

/-- The reference runs and leaves its arguments. -/
theorem ref_frame25 : Cert.quiescent_Reference25Ideal (hReference25Ideal := Cert.Reference25Ideal.Gen.facts) := by
  intro m g _
  refine θ_run_mono (Cert.Reference25Ideal.Value.run m g) fun r h => ⟨fun c => (h c).2.2.2.2, ?_⟩
  exact sem_eq_zero_of_no_sems (by decide) r.2

end Cert.Proof

end
-- ==== Proof.AdamIn.lean ====
/- The optimiser's step of the weights of the input projection. -/
module

public import proofs.«01_k».proof.Defs
public import proofs.«01_k».proof.Proof.Adam
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel26Ideal.Value

open Cert.Kernel26Ideal Cert.Kernel26Ideal.Gen Idealize.ShloMosaic Idealize.ShloMosaic.TcCoe Idealize.SL.Sem
open Idealize.ShloMosaic.Pipeline (Dat)

section Block
variable (x0 : Vec Ideal S964x256 .f32) (x1 : Vec Ideal S8x964x256 .bf16) (x2 x3 : Vec Ideal S964x256 .f32) (x4 : Vec Ideal S964x256 .bf16) (r : Fin 964) (d : Fin 256)

theorem grad_at : Adam.grad (Adam.parts x4 x1) (ix2 r d) = x4 (ix2 r d) + x1 (ix3 1 r d) + x1 (ix3 2 r d) + x1 (ix3 3 r d) + x1 (ix3 4 r d) + x1 (ix3 5 r d) + x1 (ix3 6 r d) + x1 (ix3 7 r d) :=
  Fin.sum_univ_eight _
theorem out5_at : out0_5 (F := Ideal) x0 x1 x2 x3 x4 (ix2 r d) = Adam.grad (Adam.parts x4 x1) (ix2 r d) := by
  rw [grad_at x1 x4 r d]
  frame_out
  pointwise [k0_pay3, k0_pay6, k0_pay2]
theorem out6_at : out0_6 (F := Ideal) x0 x1 x2 x3 x4 (ix2 r d) = Adam.delta (x0 (ix2 r d)) (Adam.grad (Adam.parts x4 x1) (ix2 r d)) (x2 (ix2 r d)) (x3 (ix2 r d)) := by
  rw [grad_at x1 x4 r d]
  frame_out
  pointwise [k0_pay1, k0_pay7, k0_pay8, k0_pay4, k0_pay5, k0_pay3, k0_pay6, k0_pay2]
  rfl
theorem out7_at : out0_7 (F := Ideal) x0 x1 x2 x3 x4 (ix2 r d) = Adam.mom (Adam.grad (Adam.parts x4 x1) (ix2 r d)) (x2 (ix2 r d)) := by
  rw [grad_at x1 x4 r d]
  frame_out
  pointwise [k0_pay7, k0_pay4, k0_pay3, k0_pay6, k0_pay2]
  rfl
theorem out8_at : out0_8 (F := Ideal) x0 x1 x2 x3 x4 (ix2 r d) = Adam.vel (Adam.grad (Adam.parts x4 x1) (ix2 r d)) (x3 (ix2 r d)) := by
  rw [grad_at x1 x4 r d]
  frame_out
  pointwise [k0_pay8, k0_pay5, k0_pay3, k0_pay6, k0_pay2]
  rfl
end Block

variable (m : (ℓ : Loc nD τ sig) → Buf (Elt Ideal) ℓ) (c : Dev nD)

theorem idx : ∀ t : Fin cfg0.N, win0_0.index t = ![0, t.val] ∧ win0_1.index t = ![0, 0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

theorem lt (t : Fin cfg0.N) : t.val < 4 := t.isLt

theorem iblk0 (t : Fin cfg0.N) (r : Fin 964) (d : Fin 256) : iblk m c 0 t (ix2 r d)
    = m ((c : Thread nD τ).loc main_arg0) (ix2 r ⟨t.val * 256 + d.val, by have := lt t; omega⟩) := by
  blk_point [iblk, V, idx t]
theorem iblk1 (t : Fin cfg0.N) (s : Fin 8) (r : Fin 964) (d : Fin 256) : iblk m c 1 t (ix3 s r d)
    = m ((c : Thread nD τ).loc main_arg1) (ix3 s r ⟨t.val * 256 + d.val, by have := lt t; omega⟩) := by
  blk_point [iblk, V, idx t]
theorem iblk2 (t : Fin cfg0.N) (r : Fin 964) (d : Fin 256) : iblk m c 2 t (ix2 r d)
    = m ((c : Thread nD τ).loc main_arg2) (ix2 r ⟨t.val * 256 + d.val, by have := lt t; omega⟩) := by
  blk_point [iblk, V, idx t]
theorem iblk3 (t : Fin cfg0.N) (r : Fin 964) (d : Fin 256) : iblk m c 3 t (ix2 r d)
    = m ((c : Thread nD τ).loc main_arg3) (ix2 r ⟨t.val * 256 + d.val, by have := lt t; omega⟩) := by
  blk_point [iblk, V, idx t]
theorem iblk4 (t : Fin cfg0.N) (r : Fin 964) (d : Fin 256) : iblk m c 4 t (ix2 r d)
    = m ((c : Thread nD τ).loc main_arg4) (ix2 r ⟨t.val * 256 + d.val, by have := lt t; omega⟩) := by
  blk_point [iblk, V, idx t]
theorem emb5 (t : Fin cfg0.N) (r : Fin 964) (d : Fin 256) : ((View.whole main_v0_0).slice (win0_5.rect t)).emb (ix2 r d)
    = ix2 r ⟨t.val * 256 + d.val, by have := lt t; omega⟩ := by
  funext b
  fin_cases b <;> apply Fin.ext <;> blk_simp [idx t] <;> rfl
theorem emb6 (t : Fin cfg0.N) (r : Fin 964) (d : Fin 256) : ((View.whole main_v0_1).slice (win0_6.rect t)).emb (ix2 r d)
    = ix2 r ⟨t.val * 256 + d.val, by have := lt t; omega⟩ := by
  funext b
  fin_cases b <;> apply Fin.ext <;> blk_simp [idx t] <;> rfl
theorem emb7 (t : Fin cfg0.N) (r : Fin 964) (d : Fin 256) : ((View.whole main_v0_2).slice (win0_7.rect t)).emb (ix2 r d)
    = ix2 r ⟨t.val * 256 + d.val, by have := lt t; omega⟩ := by
  funext b
  fin_cases b <;> apply Fin.ext <;> blk_simp [idx t] <;> rfl
theorem emb8 (t : Fin cfg0.N) (r : Fin 964) (d : Fin 256) : ((View.whole main_v0_3).slice (win0_8.rect t)).emb (ix2 r d)
    = ix2 r ⟨t.val * 256 + d.val, by have := lt t; omega⟩ := by
  funext b
  fin_cases b <;> apply Fin.ext <;> blk_simp [idx t] <;> rfl
theorem grads (t : Fin cfg0.N) (r : Fin 964) (d : Fin 256) : Adam.grad (a := 964) (b := 256) (Adam.parts (iblk m c 4 t) (iblk m c 1 t)) (ix2 r d)
    = Adam.grad (Adam.parts (m ((c : Thread nD τ).loc main_arg4)) (m ((c : Thread nD τ).loc main_arg1))) (ix2 r ⟨t.val * 256 + d.val, by have := lt t; omega⟩) := by
  refine Finset.sum_congr rfl fun s _ => ?_
  show (if s.val < 1 then iblk m c 4 t (ix2 r d) else iblk m c 1 t (ix3 s r d)) = if s.val < 1 then _ else _
  rw [iblk4, iblk1]
  rfl

theorem arr5 : (dats m 0 c).arrAt 5 cfg0.N = Adam.grad (Adam.parts (m ((c : Thread nD τ).loc main_arg4)) (m ((c : Thread nD τ).loc main_arg1))) := by
  refine (dats m 0 c).arrAt_eq_of_covers 5 _ (by decide +kernel) fun t hf y => ?_
  blk_simp
  rw [after0_5]
  obtain ⟨r, d, rfl⟩ : ∃ (r : Fin 964) (d : Fin 256), y = ix2 r d := ⟨y 0, y 1, (ix2_eta y).symm⟩
  rw [emb5, out5_at, grads]
theorem arr6 : (dats m 0 c).arrAt 6 cfg0.N = Adam.resD (m ((c : Thread nD τ).loc main_arg0)) (Adam.grad (Adam.parts (m ((c : Thread nD τ).loc main_arg4)) (m ((c : Thread nD τ).loc main_arg1)))) (m ((c : Thread nD τ).loc main_arg2)) (m ((c : Thread nD τ).loc main_arg3)) := by
  refine (dats m 0 c).arrAt_eq_of_covers 6 _ (by decide +kernel) fun t hf y => ?_
  blk_simp
  rw [after0_6]
  obtain ⟨r, d, rfl⟩ : ∃ (r : Fin 964) (d : Fin 256), y = ix2 r d := ⟨y 0, y 1, (ix2_eta y).symm⟩
  rw [emb6, out6_at, iblk0, grads, iblk2, iblk3]
  rfl
theorem arr7 : (dats m 0 c).arrAt 7 cfg0.N = Adam.resM (Adam.grad (Adam.parts (m ((c : Thread nD τ).loc main_arg4)) (m ((c : Thread nD τ).loc main_arg1)))) (m ((c : Thread nD τ).loc main_arg2)) := by
  refine (dats m 0 c).arrAt_eq_of_covers 7 _ (by decide +kernel) fun t hf y => ?_
  blk_simp
  rw [after0_7]
  obtain ⟨r, d, rfl⟩ : ∃ (r : Fin 964) (d : Fin 256), y = ix2 r d := ⟨y 0, y 1, (ix2_eta y).symm⟩
  rw [emb7, out7_at, grads, iblk2]
  rfl
theorem arr8 : (dats m 0 c).arrAt 8 cfg0.N = Adam.resV (Adam.grad (Adam.parts (m ((c : Thread nD τ).loc main_arg4)) (m ((c : Thread nD τ).loc main_arg1)))) (m ((c : Thread nD τ).loc main_arg3)) := by
  refine (dats m 0 c).arrAt_eq_of_covers 8 _ (by decide +kernel) fun t hf y => ?_
  blk_simp
  rw [after0_8]
  obtain ⟨r, d, rfl⟩ : ∃ (r : Fin 964) (d : Fin 256), y = ix2 r d := ⟨y 0, y 1, (ix2_eta y).symm⟩
  rw [emb8, out8_at, grads, iblk3]
  rfl

end Cert.Kernel26Ideal.Value

namespace Cert.Reference26Ideal.Value

open Cert.Reference26Ideal Cert.Reference26Ideal.Gen Cert.Reference26Ideal.Read Idealize.ShloMosaic Idealize.SL.Sem

variable (X0 : Vec Ideal S964x1024 .f32) (X1 : Vec Ideal S8x964x1024 .bf16) (X2 X3 : Vec Ideal S964x1024 .f32) (X4 : Vec Ideal S964x1024 .bf16)

theorem v4_eq : val_main_v4 (F := Ideal) X1 X4 = Adam.grad (Adam.parts X4 X1) := by
  funext i
  obtain ⟨r, d, rfl⟩ : ∃ (r : Fin 964) (d : Fin 1024), i = ix2 r d := ⟨i 0, i 1, (ix2_eta i).symm⟩
  pointwise [val_main_v4, val_main_cst, val_main_v3]
  refine Finset.sum_congr rfl fun s _ => ?_
  pointwise [val_main_v2, val_main_v1, val_main_v0]
  show _ = if s.val < 1 then X4 (ix2 r d) else X1 (ix3 s r d)
  by_cases h : s.val < 1
  · refine (dif_pos h).trans (Eq.trans ?_ (if_pos h).symm)
    rfl
  · refine (dif_neg h).trans (Eq.trans ?_ (if_neg h).symm)
    refine congrArg (fun k => X1 (ix3 k r d)) (Fin.ext ?_)
    show 1 + (s.val - 1) = s.val
    omega
theorem v9_eq : val_main_v9 (F := Ideal) X1 X2 X4 = Adam.resM (Adam.grad (Adam.parts X4 X1)) X2 := by
  funext i
  obtain ⟨r, d, rfl⟩ : ∃ (r : Fin 964) (d : Fin 1024), i = ix2 r d := ⟨i 0, i 1, (ix2_eta i).symm⟩
  pointwise [val_main_v9, val_main_v8, val_main_v7, val_main_v6, val_main_v5, val_main_cst_0, val_main_cst_1]
  rw [v4_eq]
  rfl
theorem v15_eq : val_main_v15 (F := Ideal) X1 X3 X4 = Adam.resV (Adam.grad (Adam.parts X4 X1)) X3 := by
  funext i
  obtain ⟨r, d, rfl⟩ : ∃ (r : Fin 964) (d : Fin 1024), i = ix2 r d := ⟨i 0, i 1, (ix2_eta i).symm⟩
  pointwise [val_main_v15, val_main_v14, val_main_v13, val_main_v12, val_main_v11, val_main_v10, val_main_cst_2, val_main_cst_3]
  rw [v4_eq]
  rfl
theorem v28_eq : val_main_v28 (F := Ideal) X0 X1 X2 X3 X4 = Adam.resD X0 (Adam.grad (Adam.parts X4 X1)) X2 X3 := by
  funext i
  obtain ⟨r, d, rfl⟩ : ∃ (r : Fin 964) (d : Fin 1024), i = ix2 r d := ⟨i 0, i 1, (ix2_eta i).symm⟩
  pointwise [val_main_v28, val_main_v27, val_main_v26, val_main_v25, val_main_v24, val_main_v23, val_main_v22, val_main_v21, val_main_v20, val_main_v19, val_main_v18, val_main_v17, val_main_v16, val_main_cst_4, val_main_cst_5, val_main_cst_6, val_main_cst_7]
  rw [v9_eq, v15_eq]
  rfl

end Cert.Reference26Ideal.Value

namespace Cert.Proof

open Idealize.ShloMosaic

theorem algebraic26 : Cert.algebraic_Kernel26Ideal_Reference26Ideal (hKernel26Ideal := Cert.Kernel26Ideal.Gen.facts)
    (hReference26Ideal := Cert.Reference26Ideal.Gen.facts) := by
  intro m g m' g' _ hagree
  refine ⟨fun c => (Cert.Kernel26Ideal.Gen.dats m 0 c).arrAt 5 Cert.Kernel26Ideal.cfg0.N,
    fun c => (Cert.Kernel26Ideal.Gen.dats m 0 c).arrAt 6 Cert.Kernel26Ideal.cfg0.N,
    fun c => (Cert.Kernel26Ideal.Gen.dats m 0 c).arrAt 7 Cert.Kernel26Ideal.cfg0.N,
    fun c => (Cert.Kernel26Ideal.Gen.dats m 0 c).arrAt 8 Cert.Kernel26Ideal.cfg0.N, Cert.Kernel26Ideal.Value.run_blocks m g,
    θ_run_mono (Cert.Reference26Ideal.Value.run m' g') fun r hr c => ?_⟩
  obtain ⟨h0, h1, h2, h3, hargs⟩ := hr c
  obtain ⟨e0, e1, e2, e3, e4⟩ := hagree c
  refine ⟨?_, ?_, ?_, ?_, hargs⟩
  · refine (h0.trans (Cert.Reference26Ideal.Read.val_main_v4_eq _ _)).trans ?_
    rw [Cert.Reference26Ideal.Value.v4_eq, e1, e4]
    exact (Cert.Kernel26Ideal.Value.arr5 m c).symm
  · refine (h1.trans (Cert.Reference26Ideal.Read.val_main_v28_eq _ _ _ _ _)).trans ?_
    rw [Cert.Reference26Ideal.Value.v28_eq, e0, e1, e2, e3, e4]
    exact (Cert.Kernel26Ideal.Value.arr6 m c).symm
  · refine (h2.trans (Cert.Reference26Ideal.Read.val_main_v9_eq _ _ _)).trans ?_
    rw [Cert.Reference26Ideal.Value.v9_eq, e1, e2, e4]
    exact (Cert.Kernel26Ideal.Value.arr7 m c).symm
  · refine (h3.trans (Cert.Reference26Ideal.Read.val_main_v15_eq _ _ _)).trans ?_
    rw [Cert.Reference26Ideal.Value.v15_eq, e1, e3, e4]
    exact (Cert.Kernel26Ideal.Value.arr8 m c).symm

/-- The reference runs and leaves its arguments. -/
theorem ref_frame26 : Cert.quiescent_Reference26Ideal (hReference26Ideal := Cert.Reference26Ideal.Gen.facts) := by
  intro m g _
  refine θ_run_mono (Cert.Reference26Ideal.Value.run m g) fun r h => ⟨fun c => (h c).2.2.2.2, ?_⟩
  exact sem_eq_zero_of_no_sems (by decide) r.2

end Cert.Proof

end
-- ==== Proof.AdamMod.lean ====
/- The optimiser's step of the weights of the modulation. -/
module

public import proofs.«01_k».proof.Defs
public import proofs.«01_k».proof.Proof.Adam
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel27Ideal.Value

open Cert.Kernel27Ideal Cert.Kernel27Ideal.Gen Idealize.ShloMosaic Idealize.ShloMosaic.TcCoe Idealize.SL.Sem
open Idealize.ShloMosaic.Pipeline (Dat)

section Block
variable (x0 : Vec Ideal S256x768 .f32) (x1 : Vec Ideal S256x768 .f32) (x2 x3 : Vec Ideal S256x768 .f32) (r : Fin 256) (d : Fin 768)

theorem out4_at : out0_4 (F := Ideal) x0 x1 x2 x3 (ix2 r d) = Adam.delta (x0 (ix2 r d)) (x1 (ix2 r d)) (x2 (ix2 r d)) (x3 (ix2 r d)) := by
  frame_out
  pointwise [k0_pay3, k0_pay1, k0_pay2]
  rfl
theorem out5_at : out0_5 (F := Ideal) x0 x1 x2 x3 (ix2 r d) = Adam.mom (x1 (ix2 r d)) (x2 (ix2 r d)) := by
  frame_out
  pointwise [k0_pay1]
  rfl
theorem out6_at : out0_6 (F := Ideal) x0 x1 x2 x3 (ix2 r d) = Adam.vel (x1 (ix2 r d)) (x3 (ix2 r d)) := by
  frame_out
  pointwise [k0_pay2]
  rfl
end Block

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt (t : Fin cfg0.N) : t.val < 4 := t.isLt

theorem iblk0 (t : Fin cfg0.N) (r : Fin 256) (d : Fin 768) : iblk m c 0 t (ix2 r d)
    = m ((c : Thread nD τ).loc main_arg0) (ix2 ⟨t.val * 256 + r.val, by have := lt t; omega⟩ d) := by
  blk_point [iblk, V, idx t]
theorem iblk1 (t : Fin cfg0.N) (r : Fin 256) (d : Fin 768) : iblk m c 1 t (ix2 r d)
    = m ((c : Thread nD τ).loc main_arg1) (ix2 ⟨t.val * 256 + r.val, by have := lt t; omega⟩ d) := by
  blk_point [iblk, V, idx t]
theorem iblk2 (t : Fin cfg0.N) (r : Fin 256) (d : Fin 768) : iblk m c 2 t (ix2 r d)
    = m ((c : Thread nD τ).loc main_arg2) (ix2 ⟨t.val * 256 + r.val, by have := lt t; omega⟩ d) := by
  blk_point [iblk, V, idx t]
theorem iblk3 (t : Fin cfg0.N) (r : Fin 256) (d : Fin 768) : iblk m c 3 t (ix2 r d)
    = m ((c : Thread nD τ).loc main_arg3) (ix2 ⟨t.val * 256 + r.val, by have := lt t; omega⟩ d) := by
  blk_point [iblk, V, idx t]
theorem emb4 (t : Fin cfg0.N) (r : Fin 256) (d : Fin 768) : ((View.whole main_v0_0).slice (win0_4.rect t)).emb (ix2 r d)
    = ix2 ⟨t.val * 256 + r.val, by have := lt t; omega⟩ d := by
  funext b
  fin_cases b <;> apply Fin.ext <;> blk_simp [idx t] <;> rfl
theorem emb5 (t : Fin cfg0.N) (r : Fin 256) (d : Fin 768) : ((View.whole main_v0_1).slice (win0_5.rect t)).emb (ix2 r d)
    = ix2 ⟨t.val * 256 + r.val, by have := lt t; omega⟩ d := by
  funext b
  fin_cases b <;> apply Fin.ext <;> blk_simp [idx t] <;> rfl
theorem emb6 (t : Fin cfg0.N) (r : Fin 256) (d : Fin 768) : ((View.whole main_v0_2).slice (win0_6.rect t)).emb (ix2 r d)
    = ix2 ⟨t.val * 256 + r.val, by have := lt t; omega⟩ d := by
  funext b
  fin_cases b <;> apply Fin.ext <;> blk_simp [idx t] <;> rfl

theorem arr4 : (dats m 0 c).arrAt 4 cfg0.N = Adam.resD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, d, rfl⟩ : ∃ (r : Fin 256) (d : Fin 768), y = ix2 r d := ⟨y 0, y 1, (ix2_eta y).symm⟩
  rw [emb4, out4_at, iblk0, iblk1, iblk2, iblk3]
  rfl
theorem arr5 : (dats m 0 c).arrAt 5 cfg0.N = Adam.resM (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, d, rfl⟩ : ∃ (r : Fin 256) (d : Fin 768), y = ix2 r d := ⟨y 0, y 1, (ix2_eta y).symm⟩
  rw [emb5, out5_at, iblk1, iblk2]
  rfl
theorem arr6 : (dats m 0 c).arrAt 6 cfg0.N = Adam.resV (m ((c : Thread nD τ).loc main_arg1)) (m ((c : Thread nD τ).loc main_arg3)) := by
  refine (dats m 0 c).arrAt_eq_of_covers 6 _ (by decide +kernel) fun t hf y => ?_
  blk_simp
  rw [after0_6]
  obtain ⟨r, d, rfl⟩ : ∃ (r : Fin 256) (d : Fin 768), y = ix2 r d := ⟨y 0, y 1, (ix2_eta y).symm⟩
  rw [emb6, out6_at, iblk1, iblk3]
  rfl

end Cert.Kernel27Ideal.Value

namespace Cert.Reference27Ideal.Value

open Cert.Reference27Ideal Cert.Reference27Ideal.Gen Cert.Reference27Ideal.Read Idealize.ShloMosaic Idealize.SL.Sem

variable (X0 : Vec Ideal S1024x768 .f32) (X1 : Vec Ideal S1024x768 .f32) (X2 X3 : Vec Ideal S1024x768 .f32)

theorem v4_eq : val_main_v4 (F := Ideal) X1 X2 = Adam.resM X1 X2 := by
  funext i
  obtain ⟨r, d, rfl⟩ : ∃ (r : Fin 1024) (d : Fin 768), i = ix2 r d := ⟨i 0, i 1, (ix2_eta i).symm⟩
  pointwise [val_main_v4, val_main_v3, val_main_v2, val_main_v1, val_main_v0, val_main_cst, val_main_cst_0]
  rfl
theorem v10_eq : val_main_v10 (F := Ideal) X1 X3 = Adam.resV X1 X3 := by
  funext i
  obtain ⟨r, d, rfl⟩ : ∃ (r : Fin 1024) (d : Fin 768), i = ix2 r d := ⟨i 0, i 1, (ix2_eta i).symm⟩
  pointwise [val_main_v10, val_main_v9, val_main_v8, val_main_v7, val_main_v6, val_main_v5, val_main_cst_1, val_main_cst_2]
  rfl
theorem v23_eq : val_main_v23 (F := Ideal) X0 X1 X2 X3 = Adam.resD X0 X1 X2 X3 := by
  funext i
  obtain ⟨r, d, rfl⟩ : ∃ (r : Fin 1024) (d : Fin 768), i = ix2 r d := ⟨i 0, i 1, (ix2_eta i).symm⟩
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6]
  rw [v4_eq, v10_eq]
  rfl

end Cert.Reference27Ideal.Value

namespace Cert.Proof

open Idealize.ShloMosaic

theorem algebraic27 : Cert.algebraic_Kernel27Ideal_Reference27Ideal (hKernel27Ideal := Cert.Kernel27Ideal.Gen.facts)
    (hReference27Ideal := Cert.Reference27Ideal.Gen.facts) := by
  intro m g m' g' _ hagree
  refine ⟨fun c => (Cert.Kernel27Ideal.Gen.dats m 0 c).arrAt 4 Cert.Kernel27Ideal.cfg0.N,
    fun c => (Cert.Kernel27Ideal.Gen.dats m 0 c).arrAt 5 Cert.Kernel27Ideal.cfg0.N,
    fun c => (Cert.Kernel27Ideal.Gen.dats m 0 c).arrAt 6 Cert.Kernel27Ideal.cfg0.N, Cert.Kernel27Ideal.Value.run_blocks m g,
    θ_run_mono (Cert.Reference27Ideal.Value.run m' g') fun r hr c => ?_⟩
  obtain ⟨h0, h1, h2, hargs⟩ := hr c
  obtain ⟨e0, e1, e2, e3⟩ := hagree c
  refine ⟨?_, ?_, ?_, hargs⟩
  · refine (h0.trans (Cert.Reference27Ideal.Read.val_main_v23_eq _ _ _ _)).trans ?_
    rw [Cert.Reference27Ideal.Value.v23_eq, e0, e1, e2, e3]
    exact (Cert.Kernel27Ideal.Value.arr4 m c).symm
  · refine (h1.trans (Cert.Reference27Ideal.Read.val_main_v4_eq _ _)).trans ?_
    rw [Cert.Reference27Ideal.Value.v4_eq, e1, e2]
    exact (Cert.Kernel27Ideal.Value.arr5 m c).symm
  · refine (h2.trans (Cert.Reference27Ideal.Read.val_main_v10_eq _ _)).trans ?_
    rw [Cert.Reference27Ideal.Value.v10_eq, e1, e3]
    exact (Cert.Kernel27Ideal.Value.arr6 m c).symm

/-- The reference runs and leaves its arguments. -/
theorem ref_frame27 : Cert.quiescent_Reference27Ideal (hReference27Ideal := Cert.Reference27Ideal.Gen.facts) := by
  intro m g _
  refine θ_run_mono (Cert.Reference27Ideal.Value.run m g) fun r h => ⟨fun c => (h c).2.2.2, ?_⟩
  exact sem_eq_zero_of_no_sems (by decide) r.2

end Cert.Proof

end
-- ==== Proof.ModBwd.lean ====
/- The gradients of the modulation's weights and biases, and of its input for the context. -/
module

public import proofs.«01_k».proof.Defs
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.IdealHost
public import Idealize.ShloMosaic.Lib.Pipeline.ValueKit
public import Idealize.ShloMosaic.Lib.Claim

@[expose] public section

set_option maxRecDepth 16384

noncomputable section

namespace Cert.ModBwd

open Idealize.ShloMosaic

def silu (x : EReal) : EReal := x * Ideal.logistic x

/-- Rows 0 to 7 and row 8, each masked out of sixteen, are the first nine rows. -/
theorem sum_rows (p : Fin 16 → EReal) :
    (∑ x : Fin 16, if x.val < 8 then p x else 0) + ∑ x : Fin 16, (if x.val = 8 then p x else 0)
    = ∑ x : Fin 9, p ⟨x.val, by omega⟩ := by
  simp [Fin.sum_univ_succ, add_assoc]

theorem sel_lt (x : Fin 16) (a : EReal) :
    Scalar.select (IntOp.cmpi CmpIPredicate.slt (BitVec.ofNat 32 x.val) 8#32) (Scalar.select (IntOp.cmpi CmpIPredicate.slt (BitVec.ofNat 32 x.val) 8#32) a 0) 0
      = if x.val < 8 then a else 0 := by
  fin_cases x <;> rfl
theorem sel_eq (x : Fin 16) (a : EReal) :
    Scalar.select (IntOp.cmpi CmpIPredicate.eq (BitVec.ofNat 32 x.val) 8#32) a 0 = if x.val = 8 then a else 0 := by
  fin_cases x <;> rfl
theorem sel_eq2 (x : Fin 16) (a : EReal) :
    Scalar.select (IntOp.cmpi CmpIPredicate.eq (BitVec.ofNat 32 x.val) 8#32) (Scalar.select (IntOp.cmpi CmpIPredicate.eq (BitVec.ofNat 32 x.val) 8#32) a 0) 0
      = if x.val = 8 then a else 0 := by
  fin_cases x <;> rfl

end Cert.ModBwd

namespace Cert.Kernel29Ideal.Value

open Cert.Kernel29Ideal Cert.Kernel29Ideal.Gen Idealize.ShloMosaic Idealize.ShloMosaic.TcCoe Idealize.SL.Sem
open Idealize.ShloMosaic.Pipeline (Dat)

variable (x0 : Vec Ideal S16x1024 .f32) (x1 : Vec Ideal S16x768 .f32) (x2 : Vec Ideal S16x6144 .f32) (x3 : Vec Ideal S1024x768 .f32)

/-- The product of the first two factors in row x. -/
abbrev term (r : Fin 1024) (d : Fin 768) (x : Fin 16) : EReal := x0 (ix2 x r) * Ideal.logistic (x0 (ix2 x r)) * x1 (ix2 x d)

theorem G4_raw (r : Fin 1024) (d : Fin 768) : G4 (F := Ideal) x0 x1 x2 x3 (ix2 r d)
    = (∑ x : Fin 16, Scalar.select (IntOp.cmpi CmpIPredicate.slt (BitVec.ofNat 32 x.val) 8#32)
        (Scalar.select (IntOp.cmpi CmpIPredicate.slt (BitVec.ofNat 32 x.val) 8#32) (term x0 x1 r d x) 0) 0)
      + ∑ x : Fin 16, Scalar.select (IntOp.cmpi CmpIPredicate.eq (BitVec.ofNat 32 x.val) 8#32)
        (Scalar.select (IntOp.cmpi CmpIPredicate.eq (BitVec.ofNat 32 x.val) 8#32) (term x0 x1 r d x) 0) 0 := by
  rw [← out4_eq]
  frame_out
  pointwise [k0_pay3, k0_pay2]

theorem G4_at (r : Fin 1024) (d : Fin 768) : G4 (F := Ideal) x0 x1 x2 x3 (ix2 r d)
    = ∑ x : Fin 9, x1 (ix2 ⟨x.val, by omega⟩ d) * ModBwd.silu (x0 (ix2 ⟨x.val, by omega⟩ r)) := by
  refine (G4_raw x0 x1 x2 x3 r d).trans (Eq.trans ?_ ((ModBwd.sum_rows (term x0 x1 r d)).trans
    (Finset.sum_congr rfl fun x _ => mul_comm _ _)))
  exact congrArg₂ (fun p q : EReal => p + q) (Finset.sum_congr rfl fun x _ => ModBwd.sel_lt x _) (Finset.sum_congr rfl fun x _ => ModBwd.sel_eq2 x _)

theorem G5_at (r : Fin 1) (d : Fin 6144) : G5 (F := Ideal) x0 x1 x2 x3 (ix2 r d) = ∑ x : Fin 16, x2 (ix2 x d) := by
  rw [← out5_eq]
  frame_out
  pointwise [k0_pay4]

theorem G6_raw (r : Fin 1) (d : Fin 1024) : G6 (F := Ideal) x0 x1 x2 x3 (ix2 r d)
    = ∑ x : Fin 16, ∑ y : Fin 768, Scalar.select (IntOp.cmpi CmpIPredicate.eq (BitVec.ofNat 32 x.val) 8#32) (x1 (ix2 x y) * x3 (ix2 d y)) 0 := by
  rw [← out6_eq]
  frame_out
  pointwise [k0_pay1, k0_pay2]

theorem G6_at (r : Fin 1) (d : Fin 1024) : G6 (F := Ideal) x0 x1 x2 x3 (ix2 r d) = ∑ y : Fin 768, x1 (ix2 8 y) * x3 (ix2 d y) := by
  refine (G6_raw x0 x1 x2 x3 r d).trans ?_
  rw [Finset.sum_comm]
  refine Finset.sum_congr rfl fun y _ => ?_
  rw [Finset.sum_congr rfl fun x _ => ModBwd.sel_eq x _]
  exact (Finset.sum_eq_single (8 : Fin 16) (fun x _ hx => if_neg fun h => hx (Fin.ext h))
    (fun h => absurd (Finset.mem_univ _) h)).trans (if_pos rfl)

end Cert.Kernel29Ideal.Value

namespace Cert.Reference29Ideal.Value

open Cert.Reference29Ideal Cert.Reference29Ideal.Gen Cert.Reference29Ideal.Read Idealize.ShloMosaic Idealize.SL.Sem

variable (X0 : Vec Ideal S16x1024 .f32) (X1 : Vec Ideal S16x768 .f32) (X2 : Vec Ideal S16x6144 .f32) (X3 : Vec Ideal S1024x768 .f32)

theorem v5_at (r : Fin 1024) (d : Fin 768) : val_main_v5 (F := Ideal) X0 X1 (ix2 r d)
    = ∑ x : Fin 9, X1 (ix2 ⟨x.val, by omega⟩ d) * ModBwd.silu (X0 (ix2 ⟨x.val, by omega⟩ r)) := by
  pointwise [val_main_v5, val_main_v4, val_main_v2, val_main_v1, val_main_v0, val_main_call0_v5, val_main_call0_v4, val_main_call0_cst_0, val_main_call0_v3, val_main_call0_v2, val_main_call0_cst, val_main_call0_v1, val_main_call0_v0]
  rfl

theorem v12_at (r : Fin 1) (d : Fin 6144) : val_main_v12 (F := Ideal) X2 (ix2 r d) = ∑ x : Fin 16, X2 (ix2 x d) := by
  pointwise [val_main_v12, val_main_v11, val_main_cst]

theorem v10_at (r : Fin 1) (d : Fin 1024) : val_main_v10 (F := Ideal) X1 X3 (ix2 r d) = ∑ x : Fin 768, X1 (ix2 8 x) * X3 (ix2 d x) := by
  pointwise [val_main_v10, val_main_v9, val_main_v1]

end Cert.Reference29Ideal.Value

namespace Cert.Proof

open Idealize.ShloMosaic

theorem algebraic29 : Cert.algebraic_Kernel29Ideal_Reference29Ideal (hKernel29Ideal := Cert.Kernel29Ideal.Gen.facts)
    (hReference29Ideal := Cert.Reference29Ideal.Gen.facts) := by
  intro m g m' g' _ hagree
  refine ⟨_, _, _, Cert.Kernel29Ideal.Value.run m g,
    θ_run_mono (Cert.Reference29Ideal.Value.run m' g') fun r hr c => ?_⟩
  obtain ⟨h0, h1, h2, hargs⟩ := hr c
  obtain ⟨e0, e1, e2, e3⟩ := hagree c
  refine ⟨?_, ?_, ?_, hargs⟩
  · refine (h0.trans (Cert.Reference29Ideal.Read.val_main_v5_eq _ _)).trans ?_
    rw [e0, e1]
    funext i
    obtain ⟨r, d, rfl⟩ : ∃ (r : Fin 1024) (d : Fin 768), i = ix2 r d := ⟨i 0, i 1, (ix2_eta i).symm⟩
    exact (Cert.Reference29Ideal.Value.v5_at _ _ r d).trans (Cert.Kernel29Ideal.Value.G4_at _ _ _ _ r d).symm
  · refine (h1.trans (Cert.Reference29Ideal.Read.val_main_v12_eq _)).trans ?_
    rw [e2]
    funext i
    obtain ⟨r, d, rfl⟩ : ∃ (r : Fin 1) (d : Fin 6144), i = ix2 r d := ⟨i 0, i 1, (ix2_eta i).symm⟩
    exact (Cert.Reference29Ideal.Value.v12_at _ r d).trans (Cert.Kernel29Ideal.Value.G5_at _ _ _ _ r d).symm
  · refine (h2.trans (Cert.Reference29Ideal.Read.val_main_v10_eq _ _)).trans ?_
    rw [e1, e3]
    funext i
    obtain ⟨r, d, rfl⟩ : ∃ (r : Fin 1) (d : Fin 1024), i = ix2 r d := ⟨i 0, i 1, (ix2_eta i).symm⟩
    exact (Cert.Reference29Ideal.Value.v10_at _ _ r d).trans (Cert.Kernel29Ideal.Value.G6_at _ _ _ _ r d).symm

/-- The reference runs and leaves its arguments. -/
theorem ref_frame29 : Cert.quiescent_Reference29Ideal (hReference29Ideal := Cert.Reference29Ideal.Gen.facts) := by
  intro m g _
  refine θ_run_mono (Cert.Reference29Ideal.Value.run m g) fun r h => ⟨fun c => (h c).2.2.2, ?_⟩
  exact sem_eq_zero_of_no_sems (by decide) r.2

end Cert.Proof

end
-- ==== Proof.Cctx.lean ====
/- The gradient of c_ctx: the sum of the devices' parts through the derivative of silu. -/
module

public import proofs.«01_k».proof.Defs
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.IdealHost
public import Idealize.ShloMosaic.Lib.Pipeline.ValueKit
public import Idealize.ShloMosaic.Lib.Claim

@[expose] public section

set_option maxRecDepth 16384

noncomputable section

namespace Cert.Cctx

open Idealize.ShloMosaic

/-- The derivative of silu at x, times t. -/
def dsilu (t x : EReal) : EReal :=
  t * Ideal.logistic x + x * t * (Ideal.logistic x * (1 - Ideal.logistic x))
/-- The sum of the parts, then the derivative. -/
def res (P : (⟨3, ![8, 1, 1024]⟩ : Shape).Idx → EReal) (C : (⟨2, ![1, 1024]⟩ : Shape).Idx → EReal) : (⟨2, ![1, 1024]⟩ : Shape).Idx → EReal :=
  fun i => dsilu (∑ s : Fin 8, P (ix3 s (i 0) (i 1))) (C i)

end Cert.Cctx

namespace Cert.Kernel30Ideal.Value

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] :=
  (by decide +kernel : ∀ t : Fin grid0.N, _)

theorem iblk0 (t : Fin cfg0.N) (s : Fin 8) (r : Fin 1) (d : Fin 1024) : iblk m c 0 t (ix3 s r d) = m ((c : Thread nD τ).loc main_arg0) (ix3 s r d) := by
  blk_point [iblk, V, idx t]
theorem iblk1 (t : Fin cfg0.N) (r : Fin 1) (d : Fin 1024) : iblk m c 1 t (ix2 r d) = m ((c : Thread nD τ).loc main_arg1) (ix2 r d) := by
  blk_point [iblk, V, idx t]
theorem emb2 (t : Fin cfg0.N) (r : Fin 1) (d : Fin 1024) : ((View.whole main_v0).slice (win0_2.rect t)).emb (ix2 r d) = ix2 r d := by
  funext b
  fin_cases b <;> apply Fin.ext <;> blk_simp [idx t]

theorem outs_at (t : Fin cfg0.N) (r : Fin 1) (d : Fin 1024) : outsAt0 m c t (ix2 r d)
    = Cctx.res (iblk m c 0 t) (iblk m c 1 t) (ix2 r d) := by
  refine Eq.trans ?_ (congrArg (fun q => Cctx.dsilu q (iblk m c 1 t (ix2 r d))) (Fin.sum_univ_eight _).symm)
  obtain rfl : r = 0 := Subsingleton.elim _ _
  unfold outsAt0
  frame_out
  rw [(Memref.isWhole_whole _).read_unread, (Memref.isWhole_whole _).read_unread]
  pointwise [k0_pay1]
  rfl

theorem arr2 : (dats m 0 c).arrAt 2 cfg0.N = Cctx.res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, d, rfl⟩ : ∃ (r : Fin 1) (d : Fin 1024), y = ix2 r d := ⟨y 0, y 1, (ix2_eta y).symm⟩
  rw [emb2, outs_at]
  exact congrArg₂ Cctx.dsilu (Finset.sum_congr rfl fun s _ => iblk0 m c t s r d) (iblk1 m c t r d)

end Cert.Kernel30Ideal.Value

namespace Cert.Reference30Ideal.Value

open Cert.Reference30Ideal Cert.Reference30Ideal.Gen Cert.Reference30Ideal.Read Idealize.ShloMosaic Idealize.SL.Sem

theorem v2_eq (P : Vec Ideal S8x1x1024 .f32) (C : Vec Ideal S1x1024 .f32) : val_main_v2 (F := Ideal) P C = Cctx.res P C := by
  funext i
  obtain ⟨r, d, rfl⟩ : ∃ (r : Fin 1) (d : Fin 1024), i = ix2 r d := ⟨i 0, i 1, (ix2_eta i).symm⟩
  obtain rfl : r = 0 := Subsingleton.elim _ _
  pointwise [val_main_v2, val_main_v1, val_main_cst, val_main_v0_0, val_main_v0_1, val_main_v0_2, val_main_call1_v0, val_main_call1_v1, val_main_call1_v2, val_main_call0_v7, val_main_call0_v6, val_main_call0_cst_1, val_main_call0_v4, val_main_call0_cst_0, val_main_call0_v3, val_main_call0_v2, val_main_call0_cst, val_main_call0_v1, val_main_call0_v0]
  rfl

end Cert.Reference30Ideal.Value

namespace Cert.Proof

open Idealize.ShloMosaic

theorem algebraic30 : Cert.algebraic_Kernel30Ideal_Reference30Ideal (hKernel30Ideal := Cert.Kernel30Ideal.Gen.facts)
    (hReference30Ideal := Cert.Reference30Ideal.Gen.facts) := by
  intro m g m' g' _ hagree
  refine ⟨fun c => (Cert.Kernel30Ideal.Gen.dats m 0 c).arrAt 2 Cert.Kernel30Ideal.cfg0.N, Cert.Kernel30Ideal.Value.run_blocks m g,
    θ_run_mono (Cert.Reference30Ideal.Value.run m' g') fun r hr c => ?_⟩
  obtain ⟨h0, hargs⟩ := hr c
  obtain ⟨e0, e1, e2⟩ := hagree c
  refine ⟨?_, hargs⟩
  · refine (h0.trans (Cert.Reference30Ideal.Read.val_main_v2_eq _ _)).trans ?_
    rw [Cert.Reference30Ideal.Value.v2_eq, e0, e1]
    exact (Cert.Kernel30Ideal.Value.arr2 m c).symm

/-- The reference runs and leaves its arguments. -/
theorem ref_frame30 : Cert.quiescent_Reference30Ideal (hReference30Ideal := Cert.Reference30Ideal.Gen.facts) := by
  intro m g _
  refine θ_run_mono (Cert.Reference30Ideal.Value.run m g) fun r h => ⟨fun c => (h c).2, ?_⟩
  exact sem_eq_zero_of_no_sems (by decide) r.2

end Cert.Proof

end
-- ==== Proof.SumPack.lean ====
/- The sum over the devices of the packed small gradients and losses. -/
module

public import proofs.«01_k».proof.Defs
public import proofs.«01_k».proof.Proof.Adam
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import Idealize.ShloMosaic.Lib.IdealHost
public import Idealize.ShloMosaic.Lib.Pipeline.ValueKit
public import Idealize.ShloMosaic.Lib.Claim

@[expose] public section

set_option maxRecDepth 16384

noncomputable section

namespace Cert.Kernel31Ideal.Value

open Cert.Kernel31Ideal Cert.Kernel31Ideal.Gen Idealize.ShloMosaic Idealize.ShloMosaic.TcCoe Idealize.SL.Sem
open Idealize.ShloMosaic.Pipeline (Dat)

theorem G1_eq (x : Vec Ideal S8x80x1024 .f32) : G1 (F := Ideal) x = Adam.grad x := by
  funext i
  obtain ⟨r, d, rfl⟩ : ∃ (r : Fin 80) (d : Fin 1024), i = ix2 r d := ⟨i 0, i 1, (ix2_eta i).symm⟩
  refine Eq.trans ?_ (Fin.sum_univ_eight _).symm
  rw [← out1_eq]
  frame_out
  pointwise [k0_pay1]

end Cert.Kernel31Ideal.Value

namespace Cert.Reference31Ideal.Value

open Cert.Reference31Ideal Cert.Reference31Ideal.Gen Cert.Reference31Ideal.Read Idealize.ShloMosaic Idealize.SL.Sem

theorem v0_eq (X : Vec Ideal S8x80x1024 .f32) : val_main_v0 (F := Ideal) X = Adam.grad X := by
  funext i
  obtain ⟨r, d, rfl⟩ : ∃ (r : Fin 80) (d : Fin 1024), i = ix2 r d := ⟨i 0, i 1, (ix2_eta i).symm⟩
  pointwise [val_main_v0, val_main_cst]
  rfl

end Cert.Reference31Ideal.Value

namespace Cert.Proof

open Idealize.ShloMosaic

theorem algebraic31 : Cert.algebraic_Kernel31Ideal_Reference31Ideal (hKernel31Ideal := Cert.Kernel31Ideal.Gen.facts)
    (hReference31Ideal := Cert.Reference31Ideal.Gen.facts) := by
  intro m g m' g' _ hagree
  refine ⟨_, Cert.Kernel31Ideal.Value.run m g,
    θ_run_mono (Cert.Reference31Ideal.Value.run m' g') fun r hr c => ?_⟩
  obtain ⟨h0, hargs⟩ := hr c
  have e0 := hagree c
  refine ⟨?_, hargs⟩
  · refine (h0.trans (Cert.Reference31Ideal.Read.val_main_v0_eq _)).trans ?_
    rw [Cert.Reference31Ideal.Value.v0_eq, e0]
    exact (Cert.Kernel31Ideal.Value.G1_eq _).symm

/-- The reference runs and leaves its arguments. -/
theorem ref_frame31 : Cert.quiescent_Reference31Ideal (hReference31Ideal := Cert.Reference31Ideal.Gen.facts) := by
  intro m g _
  refine θ_run_mono (Cert.Reference31Ideal.Value.run m g) fun r h => ⟨fun c => (h c).2, ?_⟩
  exact sem_eq_zero_of_no_sems (by decide) r.2

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Final
public import proofs.«01_k».proof.Proof.RefAt
public import proofs.«01_k».proof.Proof.Pre
public import proofs.«01_k».proof.Proof.InDw
public import proofs.«01_k».proof.Proof.InDx
public import proofs.«01_k».proof.Proof.UpDw
public import proofs.«01_k».proof.Proof.UpDx
public import proofs.«01_k».proof.Proof.DownDw
public import proofs.«01_k».proof.Proof.DownDx
public import proofs.«01_k».proof.Proof.Ffn
public import proofs.«01_k».proof.Proof.OutDw
public import proofs.«01_k».proof.Proof.OutDx
public import proofs.«01_k».proof.Proof.InFwd
public import proofs.«01_k».proof.Proof.UpFwd
public import proofs.«01_k».proof.Proof.DownFwd
public import proofs.«01_k».proof.Proof.OutFwd
public import proofs.«01_k».proof.Proof.Gout
public import proofs.«01_k».proof.Proof.GprepQ
public import proofs.«01_k».proof.Proof.GprepK
public import proofs.«01_k».proof.Proof.GprepV
public import proofs.«01_k».proof.Proof.NormX
public import proofs.«01_k».proof.Proof.NormX1
public import proofs.«01_k».proof.Proof.NormCtx
public import proofs.«01_k».proof.Proof.Resid
public import proofs.«01_k».proof.Proof.AdamPa
public import proofs.«01_k».proof.Proof.AdamUp
public import proofs.«01_k».proof.Proof.AdamDown
public import proofs.«01_k».proof.Proof.AdamIn
public import proofs.«01_k».proof.Proof.AdamMod
public import proofs.«01_k».proof.Proof.ModBwd
public import proofs.«01_k».proof.Proof.Cctx
public import proofs.«01_k».proof.Proof.SumPack
public import Idealize.ShloMosaic.Lib.Claim

@[expose] public section

noncomputable section

namespace Cert.Proof

open Idealize.ShloMosaic

/-- The reference's gradient of the queries is the kernel's. -/
theorem dq_eq {q dout k v} {x0 x1 x2 x3} (hx : Soft.Holds q dout k v x0 x1 x2 x3) :
    Cert.ReferenceIdeal.Read.val_main_v62 (F := Ideal) x0 x1 x2 x3 = Cert.KernelIdeal.Value.resQ q dout k v := by
  funext i
  obtain ⟨h, n, d, rfl⟩ : ∃ (h : Fin 8) (n : Fin 2048) (d : Fin 128), i = ix3 h n d := ⟨i 0, i 1, i 2, (ix3_eta i).symm⟩
  obtain ⟨g, a, rfl⟩ : ∃ (g : Fin 2) (a : Fin 4), h = ⟨4 * g.val + a.val, by omega⟩ :=
    ⟨⟨h.val / 4, by omega⟩, ⟨h.val % 4, by omega⟩, Fin.ext (by show h.val = 4 * (h.val / 4) + h.val % 4; omega)⟩
  exact (Cert.ReferenceIdeal.Value.v62_at hx g a n d).trans (Cert.KernelIdeal.Value.resQ_at g a n d).symm

/-- The reference's gradient of the keys is the kernel's. -/
theorem dk_eq {q dout k v} {x0 x1 x2 x3} (hx : Soft.Holds q dout k v x0 x1 x2 x3) :
    Cert.ReferenceIdeal.Read.val_main_v58 (F := Ideal) x0 x1 x2 x3 = Cert.KernelIdeal.Value.resK q dout k v := by
  funext i
  obtain ⟨g, j, d, rfl⟩ : ∃ (g : Fin 2) (j : Fin 2304) (d : Fin 128), i = ix3 g j d := ⟨i 0, i 1, i 2, (ix3_eta i).symm⟩
  exact Cert.ReferenceIdeal.Value.v58_at hx g j d

/-- The reference's gradient of the values is the kernel's. -/
theorem dv_eq {q dout k v} {x0 x1 x2 x3} (hx : Soft.Holds q dout k v x0 x1 x2 x3) :
    Cert.ReferenceIdeal.Read.val_main_v43 (F := Ideal) x0 x1 x3 = Cert.KernelIdeal.Value.resV q dout k := by
  funext i
  obtain ⟨g, j, d, rfl⟩ : ∃ (g : Fin 2) (j : Fin 2304) (d : Fin 128), i = ix3 g j d := ⟨i 0, i 1, i 2, (ix3_eta i).symm⟩
  exact Cert.ReferenceIdeal.Value.v43_at hx g j d

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, θ_run_mono (Cert.ReferenceIdeal.Value.run m' g') fun r hr c => ?_⟩
  obtain ⟨h62, h58, h43, hargs⟩ := hr c
  obtain ⟨e0, e1, e2, e3⟩ := hagree c
  obtain ⟨q, dout, k, v, hx⟩ := Cert.Pre_finite.holds _ _ _ _ _ (congrFun (hpre c) (fun a => a.elim0))
  have hx' : Soft.Holds q dout k v (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) := by
    rw [e0, e1, e2, e3]; exact hx
  refine ⟨?_, ?_, ?_, hargs⟩
  · rw [h62, Cert.ReferenceIdeal.Read.val_main_v62_eq, dq_eq hx']; exact (Cert.KernelIdeal.Value.arr6 hx).symm
  · rw [h58, Cert.ReferenceIdeal.Read.val_main_v58_eq, dk_eq hx']; exact (Cert.KernelIdeal.Value.arr7 hx).symm
  · rw [h43, Cert.ReferenceIdeal.Read.val_main_v43_eq, dv_eq hx']; exact (Cert.KernelIdeal.Value.arr8 hx).symm

/-- The reference runs and leaves its arguments. -/
theorem ref_frame : Cert.quiescent_ReferenceIdeal (hReferenceIdeal := Cert.ReferenceIdeal.Gen.facts) := by
  intro m g _
  refine θ_run_mono (Cert.ReferenceIdeal.Value.run m g) fun r h => ⟨fun c => (h c).2.2.2, ?_⟩
  exact sem_eq_zero_of_no_sems (by decide) r.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, ref_frame, fun m ρ _ => ref_frame m ρ trivial,
    fun m ρ _ => Cert.Kernel2.Gen.frame m ρ, fun m ρ _ => Cert.Kernel2Ideal.Gen.frame m ρ, ref_frame2,
    fun m ρ _ => Cert.Kernel3.Gen.frame m ρ, fun m ρ _ => Cert.Kernel3Ideal.Gen.frame m ρ, ref_frame3,
    fun m ρ _ => Cert.Kernel4.Gen.frame m ρ, fun m ρ _ => Cert.Kernel4Ideal.Gen.frame m ρ, ref_frame4,
    fun m ρ _ => Cert.Kernel5.Gen.frame m ρ, fun m ρ _ => Cert.Kernel5Ideal.Gen.frame m ρ, ref_frame5,
    fun m ρ _ => Cert.Kernel6.Gen.frame m ρ, fun m ρ _ => Cert.Kernel6Ideal.Gen.frame m ρ, ref_frame6,
    fun m ρ _ => Cert.Kernel7.Gen.frame m ρ, fun m ρ _ => Cert.Kernel7Ideal.Gen.frame m ρ, ref_frame7,
    fun m ρ _ => Cert.Kernel8.Gen.frame m ρ, fun m ρ _ => Cert.Kernel8Ideal.Gen.frame m ρ, ref_frame8,
    fun m ρ _ => Cert.Kernel9.Gen.frame m ρ, fun m ρ _ => Cert.Kernel9Ideal.Gen.frame m ρ, ref_frame9,
    fun m ρ _ => Cert.Kernel10.Gen.frame m ρ, fun m ρ _ => Cert.Kernel10Ideal.Gen.frame m ρ, ref_frame10,
    fun m ρ _ => Cert.Kernel11.Gen.frame m ρ, fun m ρ _ => Cert.Kernel11Ideal.Gen.frame m ρ, ref_frame11,
    fun m ρ _ => Cert.Kernel12.Gen.frame m ρ, fun m ρ _ => Cert.Kernel12Ideal.Gen.frame m ρ, ref_frame12,
    fun m ρ _ => Cert.Kernel13.Gen.frame m ρ, fun m ρ _ => Cert.Kernel13Ideal.Gen.frame m ρ, ref_frame13,
    fun m ρ _ => Cert.Kernel14.Gen.frame m ρ, fun m ρ _ => Cert.Kernel14Ideal.Gen.frame m ρ, ref_frame14,
    fun m ρ _ => Cert.Kernel15.Gen.frame m ρ, fun m ρ _ => Cert.Kernel15Ideal.Gen.frame m ρ, ref_frame15,
    fun m ρ _ => Cert.Kernel16.Gen.frame m ρ, fun m ρ _ => Cert.Kernel16Ideal.Gen.frame m ρ, ref_frame16,
    fun m ρ _ => Cert.Kernel17.Gen.frame m ρ, fun m ρ _ => Cert.Kernel17Ideal.Gen.frame m ρ, ref_frame17,
    fun m ρ _ => Cert.Kernel18.Gen.frame m ρ, fun m ρ _ => Cert.Kernel18Ideal.Gen.frame m ρ, ref_frame18,
    fun m ρ _ => Cert.Kernel19.Gen.frame m ρ, fun m ρ _ => Cert.Kernel19Ideal.Gen.frame m ρ, ref_frame19,
    fun m ρ _ => Cert.Kernel20.Gen.frame m ρ, fun m ρ _ => Cert.Kernel20Ideal.Gen.frame m ρ, ref_frame20,
    fun m ρ _ => Cert.Kernel21.Gen.frame m ρ, fun m ρ _ => Cert.Kernel21Ideal.Gen.frame m ρ, ref_frame21,
    fun m ρ _ => Cert.Kernel22.Gen.frame m ρ, fun m ρ _ => Cert.Kernel22Ideal.Gen.frame m ρ, ref_frame22,
    fun m ρ _ => Cert.Kernel23.Gen.frame m ρ, fun m ρ _ => Cert.Kernel23Ideal.Gen.frame m ρ, ref_frame23,
    fun m ρ _ => Cert.Kernel24.Gen.frame m ρ, fun m ρ _ => Cert.Kernel24Ideal.Gen.frame m ρ, ref_frame24,
    fun m ρ _ => Cert.Kernel25.Gen.frame m ρ, fun m ρ _ => Cert.Kernel25Ideal.Gen.frame m ρ, ref_frame25,
    fun m ρ _ => Cert.Kernel26.Gen.frame m ρ, fun m ρ _ => Cert.Kernel26Ideal.Gen.frame m ρ, ref_frame26,
    fun m ρ _ => Cert.Kernel27.Gen.frame m ρ, fun m ρ _ => Cert.Kernel27Ideal.Gen.frame m ρ, ref_frame27,
    fun m ρ _ => Cert.Kernel29.Gen.frame m ρ, fun m ρ _ => Cert.Kernel29Ideal.Gen.frame m ρ, ref_frame29,
    fun m ρ _ => Cert.Kernel30.Gen.frame m ρ, fun m ρ _ => Cert.Kernel30Ideal.Gen.frame m ρ, ref_frame30,
    fun m ρ _ => Cert.Kernel31.Gen.frame m ρ, fun m ρ _ => Cert.Kernel31Ideal.Gen.frame m ρ, ref_frame31,
    IdealRules.named_const.statement Cert.KernelIdeal.κ "scale_log2e" .f32 0x3E0293EE#32 _ rfl, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic29,
    trivial, algebraic30,
    trivial, algebraic31⟩

end Cert.Proof

end
